-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelOnline (m : (ℓ : Loc Cert.KernelOnline.nD Cert.KernelOnline.τ Cert.KernelOnline.sig) → Buf (Elt Bits) ℓ) : Prop :=
  True

def Pre_KernelOnlineIdeal (m : (ℓ : Loc Cert.KernelOnlineIdeal.nD Cert.KernelOnlineIdeal.τ Cert.KernelOnlineIdeal.sig) → Buf (Elt Ideal) ℓ) : Prop :=
  True

def Pre_KernelOnlineIdeal_finite [hPre_finite : Cert.Pre_finite.Facts] (m : (ℓ : Loc Cert.KernelOnlineIdeal.nD Cert.KernelOnlineIdeal.τ Cert.KernelOnlineIdeal.sig) → Buf (Elt Ideal) ℓ) : Prop :=
  ∀ c : Dev Cert.KernelOnlineIdeal.nD,
    (Cert.Pre_finite.fn (F := Ideal) (m ((c.tc : Thread Cert.KernelOnlineIdeal.nD Cert.KernelOnlineIdeal.τ).loc Cert.KernelOnlineIdeal.main_arg0)) (m ((c.tc : Thread Cert.KernelOnlineIdeal.nD Cert.KernelOnlineIdeal.τ).loc Cert.KernelOnlineIdeal.main_arg1)) (m ((c.tc : Thread Cert.KernelOnlineIdeal.nD Cert.KernelOnlineIdeal.τ).loc Cert.KernelOnlineIdeal.main_arg2))) = (fun _ => 1#1)

def Pre_KernelMergeSample (m : (ℓ : Loc Cert.KernelMergeSample.nD Cert.KernelMergeSample.τ Cert.KernelMergeSample.sig) → Buf (Elt Bits) ℓ) : Prop :=
  True

def Pre_KernelMergeSampleIdeal (m : (ℓ : Loc Cert.KernelMergeSampleIdeal.nD Cert.KernelMergeSampleIdeal.τ Cert.KernelMergeSampleIdeal.sig) → Buf (Elt Ideal) ℓ) : Prop :=
  True

def Pre_ReferenceMergeSampleIdeal (m : (ℓ : Loc Cert.ReferenceMergeSampleIdeal.nD Cert.ReferenceMergeSampleIdeal.τ Cert.ReferenceMergeSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8))
      ∧ r.2.sem = fun _ => 0)

def quiescent_KernelOnline [hKernelOnline : Cert.KernelOnline.Facts] : Prop :=
  ∀ (m : (ℓ : Loc Cert.KernelOnline.nD Cert.KernelOnline.τ Cert.KernelOnline.sig) → Buf (Elt Bits) ℓ) (g : Dev Cert.KernelOnline.nD → PrngReg), Pre_KernelOnline m →
    θ_run (Cert.KernelOnline.defs (F := Bits)) (onTc (τ := Cert.KernelOnline.τ) (Cert.KernelOnline.main (F := Bits))) ⟨m, fun _ => 0, g⟩ (fun r => (∀ c : Dev Cert.KernelOnline.nD,
      r.2.mem ((c.tc : Thread Cert.KernelOnline.nD Cert.KernelOnline.τ).loc Cert.KernelOnline.main_arg0) = m ((c.tc : Thread Cert.KernelOnline.nD Cert.KernelOnline.τ).loc Cert.KernelOnline.main_arg0)
      ∧ r.2.mem ((c.tc : Thread Cert.KernelOnline.nD Cert.KernelOnline.τ).loc Cert.KernelOnline.main_arg1) = m ((c.tc : Thread Cert.KernelOnline.nD Cert.KernelOnline.τ).loc Cert.KernelOnline.main_arg1)
      ∧ r.2.mem ((c.tc : Thread Cert.KernelOnline.nD Cert.KernelOnline.τ).loc Cert.KernelOnline.main_arg2) = m ((c.tc : Thread Cert.KernelOnline.nD Cert.KernelOnline.τ).loc Cert.KernelOnline.main_arg2))
      ∧ r.2.sem = fun _ => 0)

def quiescent_KernelOnlineIdeal [hKernelOnlineIdeal : Cert.KernelOnlineIdeal.Facts] : Prop :=
  ∀ (m : (ℓ : Loc Cert.KernelOnlineIdeal.nD Cert.KernelOnlineIdeal.τ Cert.KernelOnlineIdeal.sig) → Buf (Elt Ideal) ℓ) (g : Dev Cert.KernelOnlineIdeal.nD → PrngReg), Pre_KernelOnlineIdeal m →
    θ_run (Cert.KernelOnlineIdeal.defs (F := Ideal)) (onTc (τ := Cert.KernelOnlineIdeal.τ) (Cert.KernelOnlineIdeal.main (F := Ideal))) ⟨m, fun _ => 0, g⟩ (fun r => (∀ c : Dev Cert.KernelOnlineIdeal.nD,
      r.2.mem ((c.tc : Thread Cert.KernelOnlineIdeal.nD Cert.KernelOnlineIdeal.τ).loc Cert.KernelOnlineIdeal.main_arg0) = m ((c.tc : Thread Cert.KernelOnlineIdeal.nD Cert.KernelOnlineIdeal.τ).loc Cert.KernelOnlineIdeal.main_arg0)
      ∧ r.2.mem ((c.tc : Thread Cert.KernelOnlineIdeal.nD Cert.KernelOnlineIdeal.τ).loc Cert.KernelOnlineIdeal.main_arg1) = m ((c.tc : Thread Cert.KernelOnlineIdeal.nD Cert.KernelOnlineIdeal.τ).loc Cert.KernelOnlineIdeal.main_arg1)
      ∧ r.2.mem ((c.tc : Thread Cert.KernelOnlineIdeal.nD Cert.KernelOnlineIdeal.τ).loc Cert.KernelOnlineIdeal.main_arg2) = m ((c.tc : Thread Cert.KernelOnlineIdeal.nD Cert.KernelOnlineIdeal.τ).loc Cert.KernelOnlineIdeal.main_arg2))
      ∧ r.2.sem = fun _ => 0)

def quiescent_KernelOnlineIdeal_pre_finite [hKernelOnlineIdeal : Cert.KernelOnlineIdeal.Facts] [hPre_finite : Cert.Pre_finite.Facts] : Prop :=
  ∀ (m : (ℓ : Loc Cert.KernelOnlineIdeal.nD Cert.KernelOnlineIdeal.τ Cert.KernelOnlineIdeal.sig) → Buf (Elt Ideal) ℓ) (g : Dev Cert.KernelOnlineIdeal.nD → PrngReg), Pre_KernelOnlineIdeal_finite m →
    θ_run (Cert.KernelOnlineIdeal.defs (F := Ideal)) (onTc (τ := Cert.KernelOnlineIdeal.τ) (Cert.KernelOnlineIdeal.main (F := Ideal))) ⟨m, fun _ => 0, g⟩ (fun r => (∀ c : Dev Cert.KernelOnlineIdeal.nD,
      r.2.mem ((c.tc : Thread Cert.KernelOnlineIdeal.nD Cert.KernelOnlineIdeal.τ).loc Cert.KernelOnlineIdeal.main_arg0) = m ((c.tc : Thread Cert.KernelOnlineIdeal.nD Cert.KernelOnlineIdeal.τ).loc Cert.KernelOnlineIdeal.main_arg0)
      ∧ r.2.mem ((c.tc : Thread Cert.KernelOnlineIdeal.nD Cert.KernelOnlineIdeal.τ).loc Cert.KernelOnlineIdeal.main_arg1) = m ((c.tc : Thread Cert.KernelOnlineIdeal.nD Cert.KernelOnlineIdeal.τ).loc Cert.KernelOnlineIdeal.main_arg1)
      ∧ r.2.mem ((c.tc : Thread Cert.KernelOnlineIdeal.nD Cert.KernelOnlineIdeal.τ).loc Cert.KernelOnlineIdeal.main_arg2) = m ((c.tc : Thread Cert.KernelOnlineIdeal.nD Cert.KernelOnlineIdeal.τ).loc Cert.KernelOnlineIdeal.main_arg2))
      ∧ r.2.sem = fun _ => 0)

def quiescent_KernelMergeSample [hKernelMergeSample : Cert.KernelMergeSample.Facts] : Prop :=
  ∀ (m : (ℓ : Loc Cert.KernelMergeSample.nD Cert.KernelMergeSample.τ Cert.KernelMergeSample.sig) → Buf (Elt Bits) ℓ) (g : Dev Cert.KernelMergeSample.nD → PrngReg), Pre_KernelMergeSample m →
    θ_run (Cert.KernelMergeSample.defs (F := Bits)) (onTc (τ := Cert.KernelMergeSample.τ) (Cert.KernelMergeSample.main (F := Bits))) ⟨m, fun _ => 0, g⟩ (fun r => (∀ c : Dev Cert.KernelMergeSample.nD,
      r.2.mem ((c.tc : Thread Cert.KernelMergeSample.nD Cert.KernelMergeSample.τ).loc Cert.KernelMergeSample.main_arg0) = m ((c.tc : Thread Cert.KernelMergeSample.nD Cert.KernelMergeSample.τ).loc Cert.KernelMergeSample.main_arg0)
      ∧ r.2.mem ((c.tc : Thread Cert.KernelMergeSample.nD Cert.KernelMergeSample.τ).loc Cert.KernelMergeSample.main_arg1) = m ((c.tc : Thread Cert.KernelMergeSample.nD Cert.KernelMergeSample.τ).loc Cert.KernelMergeSample.main_arg1)
      ∧ r.2.mem ((c.tc : Thread Cert.KernelMergeSample.nD Cert.KernelMergeSample.τ).loc Cert.KernelMergeSample.main_arg2) = m ((c.tc : Thread Cert.KernelMergeSample.nD Cert.KernelMergeSample.τ).loc Cert.KernelMergeSample.main_arg2)
      ∧ r.2.mem ((c.tc : Thread Cert.KernelMergeSample.nD Cert.KernelMergeSample.τ).loc Cert.KernelMergeSample.main_arg3) = m ((c.tc : Thread Cert.KernelMergeSample.nD Cert.KernelMergeSample.τ).loc Cert.KernelMergeSample.main_arg3)
      ∧ r.2.mem ((c.tc : Thread Cert.KernelMergeSample.nD Cert.KernelMergeSample.τ).loc Cert.KernelMergeSample.main_arg4) = m ((c.tc : Thread Cert.KernelMergeSample.nD Cert.KernelMergeSample.τ).loc Cert.KernelMergeSample.main_arg4)
      ∧ r.2.mem ((c.tc : Thread Cert.KernelMergeSample.nD Cert.KernelMergeSample.τ).loc Cert.KernelMergeSample.main_arg5) = m ((c.tc : Thread Cert.KernelMergeSample.nD Cert.KernelMergeSample.τ).loc Cert.KernelMergeSample.main_arg5)
      ∧ r.2.mem ((c.tc : Thread Cert.KernelMergeSample.nD Cert.KernelMergeSample.τ).loc Cert.KernelMergeSample.main_arg6) = m ((c.tc : Thread Cert.KernelMergeSample.nD Cert.KernelMergeSample.τ).loc Cert.KernelMergeSample.main_arg6)
      ∧ r.2.mem ((c.tc : Thread Cert.KernelMergeSample.nD Cert.KernelMergeSample.τ).loc Cert.KernelMergeSample.main_arg7) = m ((c.tc : Thread Cert.KernelMergeSample.nD Cert.KernelMergeSample.τ).loc Cert.KernelMergeSample.main_arg7)
      ∧ r.2.mem ((c.tc : Thread Cert.KernelMergeSample.nD Cert.KernelMergeSample.τ).loc Cert.KernelMergeSample.main_arg8) = m ((c.tc : Thread Cert.KernelMergeSample.nD Cert.KernelMergeSample.τ).loc Cert.KernelMergeSample.main_arg8)
      ∧ r.2.mem ((c.tc : Thread Cert.KernelMergeSample.nD Cert.KernelMergeSample.τ).loc Cert.KernelMergeSample.main_arg9) = m ((c.tc : Thread Cert.KernelMergeSample.nD Cert.KernelMergeSample.τ).loc Cert.KernelMergeSample.main_arg9)
      ∧ r.2.mem ((c.tc : Thread Cert.KernelMergeSample.nD Cert.KernelMergeSample.τ).loc Cert.KernelMergeSample.main_arg10) = m ((c.tc : Thread Cert.KernelMergeSample.nD Cert.KernelMergeSample.τ).loc Cert.KernelMergeSample.main_arg10))
      ∧ r.2.sem = fun _ => 0)

def quiescent_KernelMergeSampleIdeal [hKernelMergeSampleIdeal : Cert.KernelMergeSampleIdeal.Facts] : Prop :=
  ∀ (m : (ℓ : Loc Cert.KernelMergeSampleIdeal.nD Cert.KernelMergeSampleIdeal.τ Cert.KernelMergeSampleIdeal.sig) → Buf (Elt Ideal) ℓ) (g : Dev Cert.KernelMergeSampleIdeal.nD → PrngReg), Pre_KernelMergeSampleIdeal m →
    θ_run (Cert.KernelMergeSampleIdeal.defs (F := Ideal)) (onTc (τ := Cert.KernelMergeSampleIdeal.τ) (Cert.KernelMergeSampleIdeal.main (F := Ideal))) ⟨m, fun _ => 0, g⟩ (fun r => (∀ c : Dev Cert.KernelMergeSampleIdeal.nD,
      r.2.mem ((c.tc : Thread Cert.KernelMergeSampleIdeal.nD Cert.KernelMergeSampleIdeal.τ).loc Cert.KernelMergeSampleIdeal.main_arg0) = m ((c.tc : Thread Cert.KernelMergeSampleIdeal.nD Cert.KernelMergeSampleIdeal.τ).loc Cert.KernelMergeSampleIdeal.main_arg0)
      ∧ r.2.mem ((c.tc : Thread Cert.KernelMergeSampleIdeal.nD Cert.KernelMergeSampleIdeal.τ).loc Cert.KernelMergeSampleIdeal.main_arg1) = m ((c.tc : Thread Cert.KernelMergeSampleIdeal.nD Cert.KernelMergeSampleIdeal.τ).loc Cert.KernelMergeSampleIdeal.main_arg1)
      ∧ r.2.mem ((c.tc : Thread Cert.KernelMergeSampleIdeal.nD Cert.KernelMergeSampleIdeal.τ).loc Cert.KernelMergeSampleIdeal.main_arg2) = m ((c.tc : Thread Cert.KernelMergeSampleIdeal.nD Cert.KernelMergeSampleIdeal.τ).loc Cert.KernelMergeSampleIdeal.main_arg2)
      ∧ r.2.mem ((c.tc : Thread Cert.KernelMergeSampleIdeal.nD Cert.KernelMergeSampleIdeal.τ).loc Cert.KernelMergeSampleIdeal.main_arg3) = m ((c.tc : Thread Cert.KernelMergeSampleIdeal.nD Cert.KernelMergeSampleIdeal.τ).loc Cert.KernelMergeSampleIdeal.main_arg3)
      ∧ r.2.mem ((c.tc : Thread Cert.KernelMergeSampleIdeal.nD Cert.KernelMergeSampleIdeal.τ).loc Cert.KernelMergeSampleIdeal.main_arg4) = m ((c.tc : Thread Cert.KernelMergeSampleIdeal.nD Cert.KernelMergeSampleIdeal.τ).loc Cert.KernelMergeSampleIdeal.main_arg4)
      ∧ r.2.mem ((c.tc : Thread Cert.KernelMergeSampleIdeal.nD Cert.KernelMergeSampleIdeal.τ).loc Cert.KernelMergeSampleIdeal.main_arg5) = m ((c.tc : Thread Cert.KernelMergeSampleIdeal.nD Cert.KernelMergeSampleIdeal.τ).loc Cert.KernelMergeSampleIdeal.main_arg5)
      ∧ r.2.mem ((c.tc : Thread Cert.KernelMergeSampleIdeal.nD Cert.KernelMergeSampleIdeal.τ).loc Cert.KernelMergeSampleIdeal.main_arg6) = m ((c.tc : Thread Cert.KernelMergeSampleIdeal.nD Cert.KernelMergeSampleIdeal.τ).loc Cert.KernelMergeSampleIdeal.main_arg6)
      ∧ r.2.mem ((c.tc : Thread Cert.KernelMergeSampleIdeal.nD Cert.KernelMergeSampleIdeal.τ).loc Cert.KernelMergeSampleIdeal.main_arg7) = m ((c.tc : Thread Cert.KernelMergeSampleIdeal.nD Cert.KernelMergeSampleIdeal.τ).loc Cert.KernelMergeSampleIdeal.main_arg7)
      ∧ r.2.mem ((c.tc : Thread Cert.KernelMergeSampleIdeal.nD Cert.KernelMergeSampleIdeal.τ).loc Cert.KernelMergeSampleIdeal.main_arg8) = m ((c.tc : Thread Cert.KernelMergeSampleIdeal.nD Cert.KernelMergeSampleIdeal.τ).loc Cert.KernelMergeSampleIdeal.main_arg8)
      ∧ r.2.mem ((c.tc : Thread Cert.KernelMergeSampleIdeal.nD Cert.KernelMergeSampleIdeal.τ).loc Cert.KernelMergeSampleIdeal.main_arg9) = m ((c.tc : Thread Cert.KernelMergeSampleIdeal.nD Cert.KernelMergeSampleIdeal.τ).loc Cert.KernelMergeSampleIdeal.main_arg9)
      ∧ r.2.mem ((c.tc : Thread Cert.KernelMergeSampleIdeal.nD Cert.KernelMergeSampleIdeal.τ).loc Cert.KernelMergeSampleIdeal.main_arg10) = m ((c.tc : Thread Cert.KernelMergeSampleIdeal.nD Cert.KernelMergeSampleIdeal.τ).loc Cert.KernelMergeSampleIdeal.main_arg10))
      ∧ r.2.sem = fun _ => 0)

def quiescent_ReferenceMergeSampleIdeal [hReferenceMergeSampleIdeal : Cert.ReferenceMergeSampleIdeal.Facts] : Prop :=
  ∀ (m : (ℓ : Loc Cert.ReferenceMergeSampleIdeal.nD Cert.ReferenceMergeSampleIdeal.τ Cert.ReferenceMergeSampleIdeal.sig) → Buf (Elt Ideal) ℓ) (g : Dev Cert.ReferenceMergeSampleIdeal.nD → PrngReg), Pre_ReferenceMergeSampleIdeal m →
    θ_run (Cert.ReferenceMergeSampleIdeal.defs (F := Ideal)) (onTc (τ := Cert.ReferenceMergeSampleIdeal.τ) (Cert.ReferenceMergeSampleIdeal.main (F := Ideal))) ⟨m, fun _ => 0, g⟩ (fun r => (∀ c : Dev Cert.ReferenceMergeSampleIdeal.nD,
      r.2.mem ((c.tc : Thread Cert.ReferenceMergeSampleIdeal.nD Cert.ReferenceMergeSampleIdeal.τ).loc Cert.ReferenceMergeSampleIdeal.main_arg0) = m ((c.tc : Thread Cert.ReferenceMergeSampleIdeal.nD Cert.ReferenceMergeSampleIdeal.τ).loc Cert.ReferenceMergeSampleIdeal.main_arg0)
      ∧ r.2.mem ((c.tc : Thread Cert.ReferenceMergeSampleIdeal.nD Cert.ReferenceMergeSampleIdeal.τ).loc Cert.ReferenceMergeSampleIdeal.main_arg1) = m ((c.tc : Thread Cert.ReferenceMergeSampleIdeal.nD Cert.ReferenceMergeSampleIdeal.τ).loc Cert.ReferenceMergeSampleIdeal.main_arg1)
      ∧ r.2.mem ((c.tc : Thread Cert.ReferenceMergeSampleIdeal.nD Cert.ReferenceMergeSampleIdeal.τ).loc Cert.ReferenceMergeSampleIdeal.main_arg2) = m ((c.tc : Thread Cert.ReferenceMergeSampleIdeal.nD Cert.ReferenceMergeSampleIdeal.τ).loc Cert.ReferenceMergeSampleIdeal.main_arg2)
      ∧ r.2.mem ((c.tc : Thread Cert.ReferenceMergeSampleIdeal.nD Cert.ReferenceMergeSampleIdeal.τ).loc Cert.ReferenceMergeSampleIdeal.main_arg3) = m ((c.tc : Thread Cert.ReferenceMergeSampleIdeal.nD Cert.ReferenceMergeSampleIdeal.τ).loc Cert.ReferenceMergeSampleIdeal.main_arg3)
      ∧ r.2.mem ((c.tc : Thread Cert.ReferenceMergeSampleIdeal.nD Cert.ReferenceMergeSampleIdeal.τ).loc Cert.ReferenceMergeSampleIdeal.main_arg4) = m ((c.tc : Thread Cert.ReferenceMergeSampleIdeal.nD Cert.ReferenceMergeSampleIdeal.τ).loc Cert.ReferenceMergeSampleIdeal.main_arg4)
      ∧ r.2.mem ((c.tc : Thread Cert.ReferenceMergeSampleIdeal.nD Cert.ReferenceMergeSampleIdeal.τ).loc Cert.ReferenceMergeSampleIdeal.main_arg5) = m ((c.tc : Thread Cert.ReferenceMergeSampleIdeal.nD Cert.ReferenceMergeSampleIdeal.τ).loc Cert.ReferenceMergeSampleIdeal.main_arg5)
      ∧ r.2.mem ((c.tc : Thread Cert.ReferenceMergeSampleIdeal.nD Cert.ReferenceMergeSampleIdeal.τ).loc Cert.ReferenceMergeSampleIdeal.main_arg6) = m ((c.tc : Thread Cert.ReferenceMergeSampleIdeal.nD Cert.ReferenceMergeSampleIdeal.τ).loc Cert.ReferenceMergeSampleIdeal.main_arg6)
      ∧ r.2.mem ((c.tc : Thread Cert.ReferenceMergeSampleIdeal.nD Cert.ReferenceMergeSampleIdeal.τ).loc Cert.ReferenceMergeSampleIdeal.main_arg7) = m ((c.tc : Thread Cert.ReferenceMergeSampleIdeal.nD Cert.ReferenceMergeSampleIdeal.τ).loc Cert.ReferenceMergeSampleIdeal.main_arg7)
      ∧ r.2.mem ((c.tc : Thread Cert.ReferenceMergeSampleIdeal.nD Cert.ReferenceMergeSampleIdeal.τ).loc Cert.ReferenceMergeSampleIdeal.main_arg8) = m ((c.tc : Thread Cert.ReferenceMergeSampleIdeal.nD Cert.ReferenceMergeSampleIdeal.τ).loc Cert.ReferenceMergeSampleIdeal.main_arg8)
      ∧ r.2.mem ((c.tc : Thread Cert.ReferenceMergeSampleIdeal.nD Cert.ReferenceMergeSampleIdeal.τ).loc Cert.ReferenceMergeSampleIdeal.main_arg9) = m ((c.tc : Thread Cert.ReferenceMergeSampleIdeal.nD Cert.ReferenceMergeSampleIdeal.τ).loc Cert.ReferenceMergeSampleIdeal.main_arg9)
      ∧ r.2.mem ((c.tc : Thread Cert.ReferenceMergeSampleIdeal.nD Cert.ReferenceMergeSampleIdeal.τ).loc Cert.ReferenceMergeSampleIdeal.main_arg10) = m ((c.tc : Thread Cert.ReferenceMergeSampleIdeal.nD Cert.ReferenceMergeSampleIdeal.τ).loc Cert.ReferenceMergeSampleIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v4_0)) (v1 : (c : Dev Cert.KernelFfnIdeal.nD) → Buf (Elt Ideal) ((c.tc : Thread Cert.KernelFfnIdeal.nD Cert.KernelFfnIdeal.τ).loc Cert.KernelFfnIdeal.main_v4_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4_0) = v0 c
          ∧ r.2.mem ((c.tc : Thread Cert.KernelFfnIdeal.nD Cert.KernelFfnIdeal.τ).loc Cert.KernelFfnIdeal.main_v4_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v21) = v0 c
          ∧ r.2.mem ((c.tc : Thread Cert.ReferenceFfnIdeal.nD Cert.ReferenceFfnIdeal.τ).loc Cert.ReferenceFfnIdeal.main_v35) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)) →
    ∃ (v0 : (c : Dev Cert.KernelMergeIdeal.nD) → Buf (Elt Ideal) ((c.tc : Thread Cert.KernelMergeIdeal.nD Cert.KernelMergeIdeal.τ).loc Cert.KernelMergeIdeal.main_v7)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v7) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v45) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)) →
    ∃ (v0 : (c : Dev Cert.KernelProjIdeal.nD) → Buf (Elt Ideal) ((c.tc : Thread Cert.KernelProjIdeal.nD Cert.KernelProjIdeal.τ).loc Cert.KernelProjIdeal.main_v82_0)) (v1 : (c : Dev Cert.KernelProjIdeal.nD) → Buf (Elt Ideal) ((c.tc : Thread Cert.KernelProjIdeal.nD Cert.KernelProjIdeal.τ).loc Cert.KernelProjIdeal.main_v82_1)) (v2 : (c : Dev Cert.KernelProjIdeal.nD) → Buf (Elt Ideal) ((c.tc : Thread Cert.KernelProjIdeal.nD Cert.KernelProjIdeal.τ).loc Cert.KernelProjIdeal.main_v82_2)) (v3 : (c : Dev Cert.KernelProjIdeal.nD) → Buf (Elt Ideal) ((c.tc : Thread Cert.KernelProjIdeal.nD Cert.KernelProjIdeal.τ).loc Cert.KernelProjIdeal.main_v82_3)) (v4 : (c : Dev Cert.KernelProjIdeal.nD) → Buf (Elt Ideal) ((c.tc : Thread Cert.KernelProjIdeal.nD Cert.KernelProjIdeal.τ).loc Cert.KernelProjIdeal.main_v82_4)) (v5 : (c : Dev Cert.KernelProjIdeal.nD) → Buf (Elt Ideal) ((c.tc : Thread Cert.KernelProjIdeal.nD Cert.KernelProjIdeal.τ).loc Cert.KernelProjIdeal.main_v82_5)) (v6 : (c : Dev Cert.KernelProjIdeal.nD) → Buf (Elt Ideal) ((c.tc : Thread Cert.KernelProjIdeal.nD Cert.KernelProjIdeal.τ).loc Cert.KernelProjIdeal.main_v82_6)) (v7 : (c : Dev Cert.KernelProjIdeal.nD) → Buf (Elt Ideal) ((c.tc : Thread Cert.KernelProjIdeal.nD Cert.KernelProjIdeal.τ).loc Cert.KernelProjIdeal.main_v82_7)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v82_0) = v0 c
          ∧ r.2.mem ((c.tc : Thread Cert.KernelProjIdeal.nD Cert.KernelProjIdeal.τ).loc Cert.KernelProjIdeal.main_v82_1) = v1 c
          ∧ r.2.mem ((c.tc : Thread Cert.KernelProjIdeal.nD Cert.KernelProjIdeal.τ).loc Cert.KernelProjIdeal.main_v82_2) = v2 c
          ∧ r.2.mem ((c.tc : Thread Cert.KernelProjIdeal.nD Cert.KernelProjIdeal.τ).loc Cert.KernelProjIdeal.main_v82_3) = v3 c
          ∧ r.2.mem ((c.tc : Thread Cert.KernelProjIdeal.nD Cert.KernelProjIdeal.τ).loc Cert.KernelProjIdeal.main_v82_4) = v4 c
          ∧ r.2.mem ((c.tc : Thread Cert.KernelProjIdeal.nD Cert.KernelProjIdeal.τ).loc Cert.KernelProjIdeal.main_v82_5) = v5 c
          ∧ r.2.mem ((c.tc : Thread Cert.KernelProjIdeal.nD Cert.KernelProjIdeal.τ).loc Cert.KernelProjIdeal.main_v82_6) = v6 c
          ∧ r.2.mem ((c.tc : Thread Cert.KernelProjIdeal.nD Cert.KernelProjIdeal.τ).loc Cert.KernelProjIdeal.main_v82_7) = v7 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v2) = v0 c
          ∧ r.2.mem ((c.tc : Thread Cert.ReferenceProjIdeal.nD Cert.ReferenceProjIdeal.τ).loc Cert.ReferenceProjIdeal.main_v50) = v1 c
          ∧ r.2.mem ((c.tc : Thread Cert.ReferenceProjIdeal.nD Cert.ReferenceProjIdeal.τ).loc Cert.ReferenceProjIdeal.main_v177) = v2 c
          ∧ r.2.mem ((c.tc : Thread Cert.ReferenceProjIdeal.nD Cert.ReferenceProjIdeal.τ).loc Cert.ReferenceProjIdeal.main_v178) = v3 c
          ∧ r.2.mem ((c.tc : Thread Cert.ReferenceProjIdeal.nD Cert.ReferenceProjIdeal.τ).loc Cert.ReferenceProjIdeal.main_v180) = v4 c
          ∧ r.2.mem ((c.tc : Thread Cert.ReferenceProjIdeal.nD Cert.ReferenceProjIdeal.τ).loc Cert.ReferenceProjIdeal.main_v173) = v5 c
          ∧ r.2.mem ((c.tc : Thread Cert.ReferenceProjIdeal.nD Cert.ReferenceProjIdeal.τ).loc Cert.ReferenceProjIdeal.main_v181) = v6 c
          ∧ r.2.mem ((c.tc : Thread Cert.ReferenceProjIdeal.nD Cert.ReferenceProjIdeal.τ).loc Cert.ReferenceProjIdeal.main_v183) = v7 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8))

def preserves_KernelOnline_KernelOnlineIdeal : Prop :=
  True

def algebraic_KernelOnlineIdeal_ReferenceIdeal_pre_finite [hKernelOnlineIdeal : Cert.KernelOnlineIdeal.Facts] [hReferenceIdeal : Cert.ReferenceIdeal.Facts] [hPre_finite : Cert.Pre_finite.Facts] : Prop :=
  ∀ (m : (ℓ : Loc Cert.KernelOnlineIdeal.nD Cert.KernelOnlineIdeal.τ Cert.KernelOnlineIdeal.sig) → Buf (Elt Ideal) ℓ) (g : Dev Cert.KernelOnlineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelOnlineIdeal_finite m →
    (∀ c : Dev Cert.KernelOnlineIdeal.nD,
      m' ((c.tc : Thread Cert.ReferenceIdeal.nD Cert.ReferenceIdeal.τ).loc Cert.ReferenceIdeal.main_arg0) = m ((c.tc : Thread Cert.KernelOnlineIdeal.nD Cert.KernelOnlineIdeal.τ).loc Cert.KernelOnlineIdeal.main_arg0)
      ∧ m' ((c.tc : Thread Cert.ReferenceIdeal.nD Cert.ReferenceIdeal.τ).loc Cert.ReferenceIdeal.main_arg1) = m ((c.tc : Thread Cert.KernelOnlineIdeal.nD Cert.KernelOnlineIdeal.τ).loc Cert.KernelOnlineIdeal.main_arg1)
      ∧ m' ((c.tc : Thread Cert.ReferenceIdeal.nD Cert.ReferenceIdeal.τ).loc Cert.ReferenceIdeal.main_arg2) = m ((c.tc : Thread Cert.KernelOnlineIdeal.nD Cert.KernelOnlineIdeal.τ).loc Cert.KernelOnlineIdeal.main_arg2)) →
    ∃ (v0 : (c : Dev Cert.KernelOnlineIdeal.nD) → Buf (Elt Ideal) ((c.tc : Thread Cert.KernelOnlineIdeal.nD Cert.KernelOnlineIdeal.τ).loc Cert.KernelOnlineIdeal.main_v0)),
      θ_run (Cert.KernelOnlineIdeal.defs (F := Ideal)) (onTc (τ := Cert.KernelOnlineIdeal.τ) (Cert.KernelOnlineIdeal.main (F := Ideal))) ⟨m, fun _ => 0, g⟩ (fun r => ∀ c : Dev Cert.KernelOnlineIdeal.nD,
          r.2.mem ((c.tc : Thread Cert.KernelOnlineIdeal.nD Cert.KernelOnlineIdeal.τ).loc Cert.KernelOnlineIdeal.main_v0) = v0 c
          ∧ r.2.mem ((c.tc : Thread Cert.KernelOnlineIdeal.nD Cert.KernelOnlineIdeal.τ).loc Cert.KernelOnlineIdeal.main_arg0) = m ((c.tc : Thread Cert.KernelOnlineIdeal.nD Cert.KernelOnlineIdeal.τ).loc Cert.KernelOnlineIdeal.main_arg0)
          ∧ r.2.mem ((c.tc : Thread Cert.KernelOnlineIdeal.nD Cert.KernelOnlineIdeal.τ).loc Cert.KernelOnlineIdeal.main_arg1) = m ((c.tc : Thread Cert.KernelOnlineIdeal.nD Cert.KernelOnlineIdeal.τ).loc Cert.KernelOnlineIdeal.main_arg1)
          ∧ r.2.mem ((c.tc : Thread Cert.KernelOnlineIdeal.nD Cert.KernelOnlineIdeal.τ).loc Cert.KernelOnlineIdeal.main_arg2) = m ((c.tc : Thread Cert.KernelOnlineIdeal.nD Cert.KernelOnlineIdeal.τ).loc Cert.KernelOnlineIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelMergeSample_KernelMergeSampleIdeal : Prop :=
  True

def algebraic_KernelMergeSampleIdeal_ReferenceMergeSampleIdeal [hKernelMergeSampleIdeal : Cert.KernelMergeSampleIdeal.Facts] [hReferenceMergeSampleIdeal : Cert.ReferenceMergeSampleIdeal.Facts] : Prop :=
  ∀ (m : (ℓ : Loc Cert.KernelMergeSampleIdeal.nD Cert.KernelMergeSampleIdeal.τ Cert.KernelMergeSampleIdeal.sig) → Buf (Elt Ideal) ℓ) (g : Dev Cert.KernelMergeSampleIdeal.nD → PrngReg)
    (m' : (ℓ : Loc Cert.ReferenceMergeSampleIdeal.nD Cert.ReferenceMergeSampleIdeal.τ Cert.ReferenceMergeSampleIdeal.sig) → Buf (Elt Ideal) ℓ) (g' : Dev Cert.ReferenceMergeSampleIdeal.nD → PrngReg), Pre_KernelMergeSampleIdeal m →
    (∀ c : Dev Cert.KernelMergeSampleIdeal.nD,
      m' ((c.tc : Thread Cert.ReferenceMergeSampleIdeal.nD Cert.ReferenceMergeSampleIdeal.τ).loc Cert.ReferenceMergeSampleIdeal.main_arg0) = m ((c.tc : Thread Cert.KernelMergeSampleIdeal.nD Cert.KernelMergeSampleIdeal.τ).loc Cert.KernelMergeSampleIdeal.main_arg0)
      ∧ m' ((c.tc : Thread Cert.ReferenceMergeSampleIdeal.nD Cert.ReferenceMergeSampleIdeal.τ).loc Cert.ReferenceMergeSampleIdeal.main_arg1) = m ((c.tc : Thread Cert.KernelMergeSampleIdeal.nD Cert.KernelMergeSampleIdeal.τ).loc Cert.KernelMergeSampleIdeal.main_arg1)
      ∧ m' ((c.tc : Thread Cert.ReferenceMergeSampleIdeal.nD Cert.ReferenceMergeSampleIdeal.τ).loc Cert.ReferenceMergeSampleIdeal.main_arg2) = m ((c.tc : Thread Cert.KernelMergeSampleIdeal.nD Cert.KernelMergeSampleIdeal.τ).loc Cert.KernelMergeSampleIdeal.main_arg2)
      ∧ m' ((c.tc : Thread Cert.ReferenceMergeSampleIdeal.nD Cert.ReferenceMergeSampleIdeal.τ).loc Cert.ReferenceMergeSampleIdeal.main_arg3) = m ((c.tc : Thread Cert.KernelMergeSampleIdeal.nD Cert.KernelMergeSampleIdeal.τ).loc Cert.KernelMergeSampleIdeal.main_arg3)
      ∧ m' ((c.tc : Thread Cert.ReferenceMergeSampleIdeal.nD Cert.ReferenceMergeSampleIdeal.τ).loc Cert.ReferenceMergeSampleIdeal.main_arg4) = m ((c.tc : Thread Cert.KernelMergeSampleIdeal.nD Cert.KernelMergeSampleIdeal.τ).loc Cert.KernelMergeSampleIdeal.main_arg4)
      ∧ m' ((c.tc : Thread Cert.ReferenceMergeSampleIdeal.nD Cert.ReferenceMergeSampleIdeal.τ).loc Cert.ReferenceMergeSampleIdeal.main_arg5) = m ((c.tc : Thread Cert.KernelMergeSampleIdeal.nD Cert.KernelMergeSampleIdeal.τ).loc Cert.KernelMergeSampleIdeal.main_arg5)
      ∧ m' ((c.tc : Thread Cert.ReferenceMergeSampleIdeal.nD Cert.ReferenceMergeSampleIdeal.τ).loc Cert.ReferenceMergeSampleIdeal.main_arg6) = m ((c.tc : Thread Cert.KernelMergeSampleIdeal.nD Cert.KernelMergeSampleIdeal.τ).loc Cert.KernelMergeSampleIdeal.main_arg6)
      ∧ m' ((c.tc : Thread Cert.ReferenceMergeSampleIdeal.nD Cert.ReferenceMergeSampleIdeal.τ).loc Cert.ReferenceMergeSampleIdeal.main_arg7) = m ((c.tc : Thread Cert.KernelMergeSampleIdeal.nD Cert.KernelMergeSampleIdeal.τ).loc Cert.KernelMergeSampleIdeal.main_arg7)
      ∧ m' ((c.tc : Thread Cert.ReferenceMergeSampleIdeal.nD Cert.ReferenceMergeSampleIdeal.τ).loc Cert.ReferenceMergeSampleIdeal.main_arg8) = m ((c.tc : Thread Cert.KernelMergeSampleIdeal.nD Cert.KernelMergeSampleIdeal.τ).loc Cert.KernelMergeSampleIdeal.main_arg8)
      ∧ m' ((c.tc : Thread Cert.ReferenceMergeSampleIdeal.nD Cert.ReferenceMergeSampleIdeal.τ).loc Cert.ReferenceMergeSampleIdeal.main_arg9) = m ((c.tc : Thread Cert.KernelMergeSampleIdeal.nD Cert.KernelMergeSampleIdeal.τ).loc Cert.KernelMergeSampleIdeal.main_arg9)
      ∧ m' ((c.tc : Thread Cert.ReferenceMergeSampleIdeal.nD Cert.ReferenceMergeSampleIdeal.τ).loc Cert.ReferenceMergeSampleIdeal.main_arg10) = m ((c.tc : Thread Cert.KernelMergeSampleIdeal.nD Cert.KernelMergeSampleIdeal.τ).loc Cert.KernelMergeSampleIdeal.main_arg10)) →
    ∃ (v0 : (c : Dev Cert.KernelMergeSampleIdeal.nD) → Buf (Elt Ideal) ((c.tc : Thread Cert.KernelMergeSampleIdeal.nD Cert.KernelMergeSampleIdeal.τ).loc Cert.KernelMergeSampleIdeal.main_v7)),
      θ_run (Cert.KernelMergeSampleIdeal.defs (F := Ideal)) (onTc (τ := Cert.KernelMergeSampleIdeal.τ) (Cert.KernelMergeSampleIdeal.main (F := Ideal))) ⟨m, fun _ => 0, g⟩ (fun r => ∀ c : Dev Cert.KernelMergeSampleIdeal.nD,
          r.2.mem ((c.tc : Thread Cert.KernelMergeSampleIdeal.nD Cert.KernelMergeSampleIdeal.τ).loc Cert.KernelMergeSampleIdeal.main_v7) = v0 c
          ∧ r.2.mem ((c.tc : Thread Cert.KernelMergeSampleIdeal.nD Cert.KernelMergeSampleIdeal.τ).loc Cert.KernelMergeSampleIdeal.main_arg0) = m ((c.tc : Thread Cert.KernelMergeSampleIdeal.nD Cert.KernelMergeSampleIdeal.τ).loc Cert.KernelMergeSampleIdeal.main_arg0)
          ∧ r.2.mem ((c.tc : Thread Cert.KernelMergeSampleIdeal.nD Cert.KernelMergeSampleIdeal.τ).loc Cert.KernelMergeSampleIdeal.main_arg1) = m ((c.tc : Thread Cert.KernelMergeSampleIdeal.nD Cert.KernelMergeSampleIdeal.τ).loc Cert.KernelMergeSampleIdeal.main_arg1)
          ∧ r.2.mem ((c.tc : Thread Cert.KernelMergeSampleIdeal.nD Cert.KernelMergeSampleIdeal.τ).loc Cert.KernelMergeSampleIdeal.main_arg2) = m ((c.tc : Thread Cert.KernelMergeSampleIdeal.nD Cert.KernelMergeSampleIdeal.τ).loc Cert.KernelMergeSampleIdeal.main_arg2)
          ∧ r.2.mem ((c.tc : Thread Cert.KernelMergeSampleIdeal.nD Cert.KernelMergeSampleIdeal.τ).loc Cert.KernelMergeSampleIdeal.main_arg3) = m ((c.tc : Thread Cert.KernelMergeSampleIdeal.nD Cert.KernelMergeSampleIdeal.τ).loc Cert.KernelMergeSampleIdeal.main_arg3)
          ∧ r.2.mem ((c.tc : Thread Cert.KernelMergeSampleIdeal.nD Cert.KernelMergeSampleIdeal.τ).loc Cert.KernelMergeSampleIdeal.main_arg4) = m ((c.tc : Thread Cert.KernelMergeSampleIdeal.nD Cert.KernelMergeSampleIdeal.τ).loc Cert.KernelMergeSampleIdeal.main_arg4)
          ∧ r.2.mem ((c.tc : Thread Cert.KernelMergeSampleIdeal.nD Cert.KernelMergeSampleIdeal.τ).loc Cert.KernelMergeSampleIdeal.main_arg5) = m ((c.tc : Thread Cert.KernelMergeSampleIdeal.nD Cert.KernelMergeSampleIdeal.τ).loc Cert.KernelMergeSampleIdeal.main_arg5)
          ∧ r.2.mem ((c.tc : Thread Cert.KernelMergeSampleIdeal.nD Cert.KernelMergeSampleIdeal.τ).loc Cert.KernelMergeSampleIdeal.main_arg6) = m ((c.tc : Thread Cert.KernelMergeSampleIdeal.nD Cert.KernelMergeSampleIdeal.τ).loc Cert.KernelMergeSampleIdeal.main_arg6)
          ∧ r.2.mem ((c.tc : Thread Cert.KernelMergeSampleIdeal.nD Cert.KernelMergeSampleIdeal.τ).loc Cert.KernelMergeSampleIdeal.main_arg7) = m ((c.tc : Thread Cert.KernelMergeSampleIdeal.nD Cert.KernelMergeSampleIdeal.τ).loc Cert.KernelMergeSampleIdeal.main_arg7)
          ∧ r.2.mem ((c.tc : Thread Cert.KernelMergeSampleIdeal.nD Cert.KernelMergeSampleIdeal.τ).loc Cert.KernelMergeSampleIdeal.main_arg8) = m ((c.tc : Thread Cert.KernelMergeSampleIdeal.nD Cert.KernelMergeSampleIdeal.τ).loc Cert.KernelMergeSampleIdeal.main_arg8)
          ∧ r.2.mem ((c.tc : Thread Cert.KernelMergeSampleIdeal.nD Cert.KernelMergeSampleIdeal.τ).loc Cert.KernelMergeSampleIdeal.main_arg9) = m ((c.tc : Thread Cert.KernelMergeSampleIdeal.nD Cert.KernelMergeSampleIdeal.τ).loc Cert.KernelMergeSampleIdeal.main_arg9)
          ∧ r.2.mem ((c.tc : Thread Cert.KernelMergeSampleIdeal.nD Cert.KernelMergeSampleIdeal.τ).loc Cert.KernelMergeSampleIdeal.main_arg10) = m ((c.tc : Thread Cert.KernelMergeSampleIdeal.nD Cert.KernelMergeSampleIdeal.τ).loc Cert.KernelMergeSampleIdeal.main_arg10))
      ∧ θ_run (Cert.ReferenceMergeSampleIdeal.defs (F := Ideal)) (onTc (τ := Cert.ReferenceMergeSampleIdeal.τ) (Cert.ReferenceMergeSampleIdeal.main (F := Ideal))) ⟨m', fun _ => 0, g'⟩ (fun r => ∀ c : Dev Cert.ReferenceMergeSampleIdeal.nD,
          r.2.mem ((c.tc : Thread Cert.ReferenceMergeSampleIdeal.nD Cert.ReferenceMergeSampleIdeal.τ).loc Cert.ReferenceMergeSampleIdeal.main_v45) = v0 c
          ∧ r.2.mem ((c.tc : Thread Cert.ReferenceMergeSampleIdeal.nD Cert.ReferenceMergeSampleIdeal.τ).loc Cert.ReferenceMergeSampleIdeal.main_arg0) = m' ((c.tc : Thread Cert.ReferenceMergeSampleIdeal.nD Cert.ReferenceMergeSampleIdeal.τ).loc Cert.ReferenceMergeSampleIdeal.main_arg0)
          ∧ r.2.mem ((c.tc : Thread Cert.ReferenceMergeSampleIdeal.nD Cert.ReferenceMergeSampleIdeal.τ).loc Cert.ReferenceMergeSampleIdeal.main_arg1) = m' ((c.tc : Thread Cert.ReferenceMergeSampleIdeal.nD Cert.ReferenceMergeSampleIdeal.τ).loc Cert.ReferenceMergeSampleIdeal.main_arg1)
          ∧ r.2.mem ((c.tc : Thread Cert.ReferenceMergeSampleIdeal.nD Cert.ReferenceMergeSampleIdeal.τ).loc Cert.ReferenceMergeSampleIdeal.main_arg2) = m' ((c.tc : Thread Cert.ReferenceMergeSampleIdeal.nD Cert.ReferenceMergeSampleIdeal.τ).loc Cert.ReferenceMergeSampleIdeal.main_arg2)
          ∧ r.2.mem ((c.tc : Thread Cert.ReferenceMergeSampleIdeal.nD Cert.ReferenceMergeSampleIdeal.τ).loc Cert.ReferenceMergeSampleIdeal.main_arg3) = m' ((c.tc : Thread Cert.ReferenceMergeSampleIdeal.nD Cert.ReferenceMergeSampleIdeal.τ).loc Cert.ReferenceMergeSampleIdeal.main_arg3)
          ∧ r.2.mem ((c.tc : Thread Cert.ReferenceMergeSampleIdeal.nD Cert.ReferenceMergeSampleIdeal.τ).loc Cert.ReferenceMergeSampleIdeal.main_arg4) = m' ((c.tc : Thread Cert.ReferenceMergeSampleIdeal.nD Cert.ReferenceMergeSampleIdeal.τ).loc Cert.ReferenceMergeSampleIdeal.main_arg4)
          ∧ r.2.mem ((c.tc : Thread Cert.ReferenceMergeSampleIdeal.nD Cert.ReferenceMergeSampleIdeal.τ).loc Cert.ReferenceMergeSampleIdeal.main_arg5) = m' ((c.tc : Thread Cert.ReferenceMergeSampleIdeal.nD Cert.ReferenceMergeSampleIdeal.τ).loc Cert.ReferenceMergeSampleIdeal.main_arg5)
          ∧ r.2.mem ((c.tc : Thread Cert.ReferenceMergeSampleIdeal.nD Cert.ReferenceMergeSampleIdeal.τ).loc Cert.ReferenceMergeSampleIdeal.main_arg6) = m' ((c.tc : Thread Cert.ReferenceMergeSampleIdeal.nD Cert.ReferenceMergeSampleIdeal.τ).loc Cert.ReferenceMergeSampleIdeal.main_arg6)
          ∧ r.2.mem ((c.tc : Thread Cert.ReferenceMergeSampleIdeal.nD Cert.ReferenceMergeSampleIdeal.τ).loc Cert.ReferenceMergeSampleIdeal.main_arg7) = m' ((c.tc : Thread Cert.ReferenceMergeSampleIdeal.nD Cert.ReferenceMergeSampleIdeal.τ).loc Cert.ReferenceMergeSampleIdeal.main_arg7)
          ∧ r.2.mem ((c.tc : Thread Cert.ReferenceMergeSampleIdeal.nD Cert.ReferenceMergeSampleIdeal.τ).loc Cert.ReferenceMergeSampleIdeal.main_arg8) = m' ((c.tc : Thread Cert.ReferenceMergeSampleIdeal.nD Cert.ReferenceMergeSampleIdeal.τ).loc Cert.ReferenceMergeSampleIdeal.main_arg8)
          ∧ r.2.mem ((c.tc : Thread Cert.ReferenceMergeSampleIdeal.nD Cert.ReferenceMergeSampleIdeal.τ).loc Cert.ReferenceMergeSampleIdeal.main_arg9) = m' ((c.tc : Thread Cert.ReferenceMergeSampleIdeal.nD Cert.ReferenceMergeSampleIdeal.τ).loc Cert.ReferenceMergeSampleIdeal.main_arg9)
          ∧ r.2.mem ((c.tc : Thread Cert.ReferenceMergeSampleIdeal.nD Cert.ReferenceMergeSampleIdeal.τ).loc Cert.ReferenceMergeSampleIdeal.main_arg10) = m' ((c.tc : Thread Cert.ReferenceMergeSampleIdeal.nD Cert.ReferenceMergeSampleIdeal.τ).loc Cert.ReferenceMergeSampleIdeal.main_arg10))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelProj : Cert.KernelProj.Facts) (hKernelProjIdeal : Cert.KernelProjIdeal.Facts) (hReferenceProjIdeal : Cert.ReferenceProjIdeal.Facts) (hKernelOnline : Cert.KernelOnline.Facts) (hKernelOnlineIdeal : Cert.KernelOnlineIdeal.Facts) (hKernelMergeSample : Cert.KernelMergeSample.Facts) (hKernelMergeSampleIdeal : Cert.KernelMergeSampleIdeal.Facts) (hReferenceMergeSampleIdeal : Cert.ReferenceMergeSampleIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelOnline (hKernelOnline := hKernelOnline)
    ∧ quiescent_KernelOnlineIdeal (hKernelOnlineIdeal := hKernelOnlineIdeal)
    ∧ quiescent_KernelOnlineIdeal_pre_finite (hKernelOnlineIdeal := hKernelOnlineIdeal) (hPre_finite := hPre_finite)
    ∧ quiescent_KernelMergeSample (hKernelMergeSample := hKernelMergeSample)
    ∧ quiescent_KernelMergeSampleIdeal (hKernelMergeSampleIdeal := hKernelMergeSampleIdeal)
    ∧ quiescent_ReferenceMergeSampleIdeal (hReferenceMergeSampleIdeal := hReferenceMergeSampleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelProj_KernelProjIdeal
    ∧ algebraic_KernelProjIdeal_ReferenceProjIdeal (hKernelProjIdeal := hKernelProjIdeal) (hReferenceProjIdeal := hReferenceProjIdeal)
    ∧ preserves_KernelOnline_KernelOnlineIdeal
    ∧ algebraic_KernelOnlineIdeal_ReferenceIdeal_pre_finite (hKernelOnlineIdeal := hKernelOnlineIdeal) (hReferenceIdeal := hReferenceIdeal) (hPre_finite := hPre_finite)
    ∧ preserves_KernelMergeSample_KernelMergeSampleIdeal
    ∧ algebraic_KernelMergeSampleIdeal_ReferenceMergeSampleIdeal (hKernelMergeSampleIdeal := hKernelMergeSampleIdeal) (hReferenceMergeSampleIdeal := hReferenceMergeSampleIdeal)
-- ==== Pre_finite.lean ====
abbrev S2x1024x16384 : Shape := ⟨3, ![2, 1024, 16384]⟩
abbrev S2x16384x256 : Shape := ⟨3, ![2, 16384, 256]⟩
abbrev S2x256x16384 : Shape := ⟨3, ![2, 256, 16384]⟩
abbrev S_ : Shape := ⟨0, ![]⟩

class Facts : Prop where
  bitsLt_bf16_f32 : FTy.bits .bf16 < FTy.bits .f32
  bcast_S_S2x1024x16384 : S_.BroadcastsInDim S2x1024x16384 (![] : Fin 0 → Fin S2x1024x16384.rank)
  reducesTo_S2x1024x16384_S_d0_1_2 : S2x1024x16384.ReducesTo [0, 1, 2] S_
  h_S_ : 0 < S_.numel
  bcast_S_S2x16384x256 : S_.BroadcastsInDim S2x16384x256 (![] : Fin 0 → Fin S2x16384x256.rank)
  reducesTo_S2x16384x256_S_d0_1_2 : S2x16384x256.ReducesTo [0, 1, 2] S_

variable [Facts]

def fn {F : FTy → Type} [FloatOps F] (main_arg0 : FVec F S2x1024x16384 .bf16) (main_arg1 : FVec F S2x16384x256 .bf16) (main_arg2 : FVec F S2x256x16384 .bf16) : IVec S_ 1 :=
  let main_v0 : FVec F S2x1024x16384 .f32 := (extf .f32 · bitsLt_bf16_f32) main_arg0
  let main_v1 : FVec F S2x1024x16384 .f32 := Host.absf main_v0
  let main_cst : FVec F S_ .f32 := constant S_ .f32 0x7F800000#32
  let main_v2 : FVec F S2x1024x16384 .f32 := broadcastInDim S2x1024x16384 ![] bcast_S_S2x1024x16384 main_cst
  let main_v3 : IVec S2x1024x16384 1 := cmpf .olt main_v1 main_v2
  let main_c : IVec S_ 1 := constantI S_ 1 1#1
  let main_v4 : IVec S_ 1 := (fun x v => Host.reduce IntOp.andi x v reducesTo_S2x1024x16384_S_d0_1_2 h_S_) main_v3 main_c
  let main_v5 : FVec F S2x16384x256 .f32 := (extf .f32 · bitsLt_bf16_f32) main_arg1
  let main_v6 : FVec F S2x16384x256 .f32 := Host.absf main_v5
  let main_cst_0 : FVec F S_ .f32 := constant S_ .f32 0x7F800000#32
  let main_v7 : FVec F S2x16384x256 .f32 := broadcastInDim S2x16384x256 ![] bcast_S_S2x16384x256 main_cst_0
  let main_v8 : IVec S2x16384x256 1 := cmpf .olt main_v6 main_v7
  let main_c_1 : IVec S_ 1 := constantI S_ 1 1#1
  let main_v9 : IVec S_ 1 := (fun x v => Host.reduce IntOp.andi x v reducesTo_S2x16384x256_S_d0_1_2 h_S_) main_v8 main_c_1
  let main_v10 : IVec S_ 1 := andi main_v4 main_v9
  main_v10
-- ==== Kernel.lean ====
abbrev S2x1024x16384 : Shape := ⟨3, ![2, 1024, 16384]⟩
abbrev S2x16384x256 : Shape := ⟨3, ![2, 16384, 256]⟩
abbrev S2x256x16384 : Shape := ⟨3, ![2, 256, 16384]⟩
abbrev S2x16384x1024 : Shape := ⟨3, ![2, 16384, 1024]⟩
abbrev S1x512x2048 : Shape := ⟨3, ![1, 512, 2048]⟩
abbrev S1x2048x128 : Shape := ⟨3, ![1, 2048, 128]⟩
abbrev S1x128x2048 : Shape := ⟨3, ![1, 128, 2048]⟩
abbrev S1x2048x512 : Shape := ⟨3, ![1, 2048, 512]⟩
abbrev S128x8192 : Shape := ⟨2, ![128, 8192]⟩
abbrev S8x8192 : Shape := ⟨2, ![8, 8192]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S8x256 : Shape := ⟨2, ![8, 256]⟩
abbrev S64x8x256 : Shape := ⟨3, ![64, 8, 256]⟩
abbrev S1x128x512 : Shape := ⟨3, ![1, 128, 512]⟩
abbrev S128x512 : Shape := ⟨2, ![128, 512]⟩
abbrev S128x2048 : Shape := ⟨2, ![128, 2048]⟩
abbrev S8x2048 : Shape := ⟨2, ![8, 2048]⟩
abbrev S2048 : Shape := ⟨1, ![2048]⟩
abbrev S1x2048 : Shape := ⟨2, ![1, 2048]⟩
abbrev S2048x128 : Shape := ⟨2, ![2048, 128]⟩

abbrev nBuf : Space → Nat
  | .hbm => 4
  | .vmem => 10
  | .smem => 0
  | _ => 0

abbrev bufTy : (tb : Table) → Fin (tcTables nBuf tb) → BufTy
  | .hbm, ⟨0, _⟩ => ⟨S2x1024x16384, .bf16⟩
  | .hbm, ⟨1, _⟩ => ⟨S2x16384x256, .bf16⟩
  | .hbm, ⟨2, _⟩ => ⟨S2x256x16384, .bf16⟩
  | .hbm, ⟨3, _⟩ => ⟨S2x16384x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S128x8192, .f32⟩
  | .local _ .vmem, ⟨9, _⟩ => ⟨S8x8192, .f32⟩
  | _, _ => ⟨S2x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 8, 8], ![false, false, false, false]⟩

def k0_cond2 (i : grid0.Coords) : BitVec 1 :=
  let arg3 : BitVec 32 := BitVec.ofNat 32 (i 3).val
  let c7_i32 : BitVec 32 := 7#32
  let v2819 : BitVec 1 := Scalar.cmpi .eq arg3 c7_i32
  let v2820 : BitVec 32 := Scalar.extui v2819
  let c0_i32_2526 : BitVec 32 := 0#32
  let v2821 : BitVec 1 := Scalar.cmpi .ne v2820 c0_i32_2526
  v2821

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x1024x16384 : Shape := ⟨3, ![2, 1024, 16384]⟩
abbrev S2x16384x256 : Shape := ⟨3, ![2, 16384, 256]⟩
abbrev S2x256x16384 : Shape := ⟨3, ![2, 256, 16384]⟩
abbrev S2x2x4x128x16384 : Shape := ⟨5, ![2, 2, 4, 128, 16384]⟩
abbrev S2x16384x2x128 : Shape := ⟨4, ![2, 16384, 2, 128]⟩
abbrev S2x2x128x16384 : Shape := ⟨4, ![2, 2, 128, 16384]⟩
abbrev S2x2x4x16384x16384 : Shape := ⟨5, ![2, 2, 4, 16384, 16384]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩
abbrev S2x16384x2x4x128 : Shape := ⟨5, ![2, 16384, 2, 4, 128]⟩
abbrev S2x16384x1024 : Shape := ⟨3, ![2, 16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x1024x16384, .bf16⟩
  | .hbm, ⟨1, _⟩ => ⟨S2x16384x256, .bf16⟩
  | .hbm, ⟨2, _⟩ => ⟨S2x256x16384, .bf16⟩
  | .hbm, ⟨3, _⟩ => ⟨S2x1024x16384, .f32⟩
  | .hbm, ⟨4, _⟩ => ⟨S2x2x4x128x16384, .f32⟩
  | .hbm, ⟨5, _⟩ => ⟨S2x16384x256, .f32⟩
  | .hbm, ⟨6, _⟩ => ⟨S2x16384x2x128, .f32⟩
  | .hbm, ⟨7, _⟩ => ⟨S2x256x16384, .f32⟩
  | .hbm, ⟨8, _⟩ => ⟨S2x2x128x16384, .f32⟩
  | .hbm, ⟨9, _⟩ => ⟨S2x2x4x16384x16384, .f32⟩
  | .hbm, ⟨10, _⟩ => ⟨S_, .f32⟩
  | .hbm, ⟨11, _⟩ => ⟨S_, .f32⟩
  | .hbm, ⟨12, _⟩ => ⟨S2x2x4x16384x16384, .f32⟩
  | .hbm, ⟨13, _⟩ => ⟨S2x2x4x16384x16384, .f32⟩
  | .hbm, ⟨14, _⟩ => ⟨S_, .f32⟩
  | .hbm, ⟨15, _⟩ => ⟨S2x2x4x16384, .f32⟩
  | .hbm, ⟨16, _⟩ => ⟨S_, .f32⟩
  | .hbm, ⟨17, _⟩ => ⟨S2x2x4x16384, .f32⟩
  | .hbm, ⟨18, _⟩ => ⟨S2x2x4x16384, .f32⟩
  | .hbm, ⟨19, _⟩ => ⟨S2x2x4x16384x1, .f32⟩
  | .hbm, ⟨20, _⟩ => ⟨S2x2x4x16384x16384, .f32⟩
  | .hbm, ⟨21, _⟩ => ⟨S2x2x4x16384x16384, .f32⟩
  | .hbm, ⟨22, _⟩ => ⟨S2x2x4x16384x16384, .f32⟩
  | .hbm, ⟨23, _⟩ => ⟨S_, .f32⟩
  | .hbm, ⟨24, _⟩ => ⟨S2x2x4x16384, .f32⟩
  | .hbm, ⟨25, _⟩ => ⟨S2x2x4x16384x1, .f32⟩
  | .hbm, ⟨26, _⟩ => ⟨S2x2x4x16384x16384, .f32⟩
  | .hbm, ⟨27, _⟩ => ⟨S2x2x4x16384x16384, .f32⟩
  | .hbm, ⟨28, _⟩ => ⟨S2x2x128x4x16384, .f32⟩
  | .hbm, ⟨29, _⟩ => ⟨S2x16384x2x4x128, .f32⟩
  | .hbm, ⟨30, _⟩ => ⟨S2x16384x1024, .f32⟩
  | .hbm, ⟨31, _⟩ => ⟨S2x16384x1024, .bf16⟩
  | _, _ => ⟨S2x1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== KernelFfn.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S2x16384x1024, .f32⟩
  | .hbm, ⟨10, _⟩ => ⟨S2x16384x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFfnIdeal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x5632, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S2x16384x2816, .f32⟩
  | .hbm, ⟨26, _⟩ => ⟨S_, .f32⟩
  | .hbm, ⟨27, _⟩ => ⟨S2x16384x2816, .f32⟩
  | .hbm, ⟨28, _⟩ => ⟨S2x16384x2816, .f32⟩
  | .hbm, ⟨29, _⟩ => ⟨S_, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x1024, .f32⟩
  | .hbm, ⟨35, _⟩ => ⟨S_, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== KernelMerge.lean ====
abbrev S2x16384x2048 : Shape := ⟨3, ![2, 16384, 2048]⟩
abbrev S2x16384x1024 : Shape := ⟨3, ![2, 16384, 1024]⟩
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 17
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x1024, .bf16⟩
  | .hbm, ⟨2, _⟩ => ⟨S2x16384x2048, .f32⟩
  | .hbm, ⟨3, _⟩ => ⟨S2x16384x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S2x16384x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelMergeIdeal.lean ====
abbrev S2x16384x2048 : Shape := ⟨3, ![2, 16384, 2048]⟩
abbrev S2x16384x1024 : Shape := ⟨3, ![2, 16384, 1024]⟩
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 17
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x1024, .bf16⟩
  | .hbm, ⟨2, _⟩ => ⟨S2x16384x2048, .f32⟩
  | .hbm, ⟨3, _⟩ => ⟨S2x16384x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S2x16384x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceMergeIdeal.lean ====
abbrev S2x16384x2048 : Shape := ⟨3, ![2, 16384, 2048]⟩
abbrev S2x16384x1024 : Shape := ⟨3, ![2, 16384, 1024]⟩
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x1024, .bf16⟩
  | .hbm, ⟨2, _⟩ => ⟨S2x16384x2048, .f32⟩
  | .hbm, ⟨3, _⟩ => ⟨S2x16384x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2x16384x1024, .f32⟩
  | .hbm, ⟨12, _⟩ => ⟨S2x16384x1024, .f32⟩
  | .hbm, ⟨13, _⟩ => ⟨S2x16384x2048, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x1024, .f32⟩
  | .hbm, ⟨34, _⟩ => ⟨S2x16384x1024, .f32⟩
  | .hbm, ⟨35, _⟩ => ⟨S1x1x1024, .f32⟩
  | .hbm, ⟨36, _⟩ => ⟨S2x16384x1024, .f32⟩
  | .hbm, ⟨37, _⟩ => ⟨S2x16384x1024, .f32⟩
  | .hbm, ⟨38, _⟩ => ⟨S2x16384x5632, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S_, .f32⟩
  | .hbm, ⟨44, _⟩ => ⟨S2x16384x2816, .f32⟩
  | .hbm, ⟨45, _⟩ => ⟨S2x16384x2816, .f32⟩
  | .hbm, ⟨46, _⟩ => ⟨S_, .f32⟩
  | .hbm, ⟨47, _⟩ => ⟨S2x16384x2816, .f32⟩
  | .hbm, ⟨48, _⟩ => ⟨S2x16384x2816, .f32⟩
  | .hbm, ⟨49, _⟩ => ⟨S2x16384x2816, .f32⟩
  | .hbm, ⟨50, _⟩ => ⟨S2x16384x2816, .f32⟩
  | .hbm, ⟨51, _⟩ => ⟨S2x16384x1024, .f32⟩
  | .hbm, ⟨52, _⟩ => ⟨S_, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S_, .f32⟩
  | .hbm, ⟨58, _⟩ => ⟨S2x16384, .f32⟩
  | .hbm, ⟨59, _⟩ => ⟨S2x16384x1, .f32⟩
  | .hbm, ⟨60, _⟩ => ⟨S_, .f32⟩
  | .hbm, ⟨61, _⟩ => ⟨S2x16384x1, .f32⟩
  | .hbm, ⟨62, _⟩ => ⟨S2x16384x1, .f32⟩
  | .hbm, ⟨63, _⟩ => ⟨S_, .f32⟩
  | .hbm, ⟨64, _⟩ => ⟨S2x16384x1, .f32⟩
  | .hbm, ⟨65, _⟩ => ⟨S2x16384x1, .f32⟩
  | .hbm, ⟨66, _⟩ => ⟨S2x16384x1, .f32⟩
  | .hbm, ⟨67, _⟩ => ⟨S2x16384x1024, .f32⟩
  | .hbm, ⟨68, _⟩ => ⟨S2x16384x1024, .f32⟩
  | .hbm, ⟨69, _⟩ => ⟨S1x1x1024, .f32⟩
  | .hbm, ⟨70, _⟩ => ⟨S2x16384x1024, .f32⟩
  | .hbm, ⟨71, _⟩ => ⟨S2x16384x1024, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== KernelProj.lean ====
abbrev S2x16384x1024 : Shape := ⟨3, ![2, 16384, 1024]⟩
abbrev S1024x8768 : Shape := ⟨2, ![1024, 8768]⟩
abbrev S5x3072 : Shape := ⟨2, ![5, 3072]⟩
abbrev S3072 : Shape := ⟨1, ![3072]⟩
abbrev S32 : Shape := ⟨1, ![32]⟩
abbrev S128 : Shape := ⟨1, ![128]⟩
abbrev S2048 : Shape := ⟨1, ![2048]⟩
abbrev S256 : Shape := ⟨1, ![256]⟩
abbrev S1024 : Shape := ⟨1, ![1024]⟩
abbrev S1024x2048 : Shape := ⟨2, ![1024, 2048]⟩
abbrev S1024x3072 : Shape := ⟨2, ![1024, 3072]⟩
abbrev S1024x32 : Shape := ⟨2, ![1024, 32]⟩
abbrev S1024x1024 : Shape := ⟨2, ![1024, 1024]⟩
abbrev S1024x256 : Shape := ⟨2, ![1024, 256]⟩
abbrev S1024x128 : Shape := ⟨2, ![1024, 128]⟩
abbrev S_ : Shape := ⟨0, ![]⟩
abbrev S1024x64 : Shape := ⟨2, ![1024, 64]⟩
abbrev S256x1 : Shape := ⟨2, ![256, 1]⟩
abbrev S1024x7552 : Shape := ⟨2, ![1024, 7552]⟩
abbrev S1024x1 : Shape := ⟨2, ![1024, 1]⟩
abbrev S1024x1408 : Shape := ⟨2, ![1024, 1408]⟩
abbrev S1408x1024 : Shape := ⟨2, ![1408, 1024]⟩
abbrev S64 : Shape := ⟨1, ![64]⟩
abbrev S3x3072 : Shape := ⟨2, ![3, 3072]⟩
abbrev S8x3072 : Shape := ⟨2, ![8, 3072]⟩
abbrev S1x3072 : Shape := ⟨2, ![1, 3072]⟩
abbrev S1x128 : Shape := ⟨2, ![1, 128]⟩
abbrev S128x1 : Shape := ⟨2, ![128, 1]⟩
abbrev S1x2048 : Shape := ⟨2, ![1, 2048]⟩
abbrev S256x64 : Shape := ⟨2, ![256, 64]⟩
abbrev S16384 : Shape := ⟨1, ![16384]⟩
abbrev S1x64 : Shape := ⟨2, ![1, 64]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S128x16384 : Shape := ⟨2, ![128, 16384]⟩
abbrev S2x16384x2048 : Shape := ⟨3, ![2, 16384, 2048]⟩
abbrev S2x16384x3072 : Shape := ⟨3, ![2, 16384, 3072]⟩
abbrev S2x1024x16384 : Shape := ⟨3, ![2, 1024, 16384]⟩
abbrev S2x16384x256 : Shape := ⟨3, ![2, 16384, 256]⟩
abbrev S2x256x16384 : Shape := ⟨3, ![2, 256, 16384]⟩
abbrev S2x16384x128 : Shape := ⟨3, ![2, 16384, 128]⟩
abbrev S2x128x16384 : Shape := ⟨3, ![2, 128, 16384]⟩
abbrev S1x256x1024 : Shape := ⟨3, ![1, 256, 1024]⟩
abbrev S1x16x1024 : Shape := ⟨3, ![1, 16, 1024]⟩
abbrev S256x128 : Shape := ⟨2, ![256, 128]⟩
abbrev S128x256 : Shape := ⟨2, ![128, 256]⟩
abbrev S1x256x2048 : Shape := ⟨3, ![1, 256, 2048]⟩
abbrev S1x256x3072 : Shape := ⟨3, ![1, 256, 3072]⟩
abbrev S1x1024x256 : Shape := ⟨3, ![1, 1024, 256]⟩
abbrev S1x256x256 : Shape := ⟨3, ![1, 256, 256]⟩
abbrev S1x256x128 : Shape := ⟨3, ![1, 256, 128]⟩
abbrev S1x128x256 : Shape := ⟨3, ![1, 128, 256]⟩
abbrev S288x3072 : Shape := ⟨2, ![288, 3072]⟩
abbrev S256x1024 : Shape := ⟨2, ![256, 1024]⟩
abbrev S16x1024 : Shape := ⟨2, ![16, 1024]⟩
abbrev S288x1024 : Shape := ⟨2, ![288, 1024]⟩
abbrev S1024x512 : Shape := ⟨2, ![1024, 512]⟩
abbrev S288x512 : Shape := ⟨2, ![288, 512]⟩
abbrev S16x512 : Shape := ⟨2, ![16, 512]⟩
abbrev S256x512 : Shape := ⟨2, ![256, 512]⟩
abbrev S36x8x512 : Shape := ⟨3, ![36, 8, 512]⟩
abbrev S1x8x512 : Shape := ⟨3, ![1, 8, 512]⟩
abbrev S32x8x512 : Shape := ⟨3, ![32, 8, 512]⟩
abbrev S1x512 : Shape := ⟨2, ![1, 512]⟩
abbrev S1x1x512 : Shape := ⟨3, ![1, 1, 512]⟩
abbrev S1x256x512 : Shape := ⟨3, ![1, 256, 512]⟩
abbrev S256x2048 : Shape := ⟨2, ![256, 2048]⟩
abbrev S128x1024 : Shape := ⟨2, ![128, 1024]⟩
abbrev S256x256 : Shape := ⟨2, ![256, 256]⟩
abbrev S1x256 : Shape := ⟨2, ![1, 256]⟩
abbrev S64x256 : Shape := ⟨2, ![64, 256]⟩

abbrev nBuf : Space → Nat
  | .hbm => 117
  | .vmem => 40
  | .smem => 0
  | _ => 0

abbrev bufTy : (tb : Table) → Fin (tcTables nBuf tb) → BufTy
  | .hbm, ⟨0, _⟩ => ⟨S2x16384x1024, .bf16⟩
  | .hbm, ⟨1, _⟩ => ⟨S1024x8768, .f32⟩
  | .hbm, ⟨2, _⟩ => ⟨S5x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S128, .f32⟩
  | .hbm, ⟨7, _⟩ => ⟨S128, .f32⟩
  | .hbm, ⟨8, _⟩ => ⟨S2048, .f32⟩
  | .hbm, ⟨9, _⟩ => ⟨S256, .i32⟩
  | .hbm, ⟨10, _⟩ => ⟨S256, .i1⟩
  | .hbm, ⟨11, _⟩ => ⟨S1024, .i32⟩
  | .hbm, ⟨12, _⟩ => ⟨S1024, .i1⟩
  | .hbm, ⟨13, _⟩ => ⟨S128, .i32⟩
  | .hbm, ⟨14, _⟩ => ⟨S128, .i1⟩
  | .hbm, ⟨15, _⟩ => ⟨S128, .i1⟩
  | .hbm, ⟨16, _⟩ => ⟨S1024x2048, .f32⟩
  | .hbm, ⟨17, _⟩ => ⟨S1024x3072, .f32⟩
  | .hbm, ⟨18, _⟩ => ⟨S1024x32, .f32⟩
  | .hbm, ⟨19, _⟩ => ⟨S1024x32, .f32⟩
  | .hbm, ⟨20, _⟩ => ⟨S1024x1024, .f32⟩
  | .hbm, ⟨21, _⟩ => ⟨S1024x256, .f32⟩
  | .hbm, ⟨22, _⟩ => ⟨S1024x256, .f32⟩
  | .hbm, ⟨23, _⟩ => ⟨S1024x2048, .f32⟩
  | .hbm, ⟨24, _⟩ => ⟨S1024x128, .f32⟩
  | .hbm, ⟨25, _⟩ => ⟨S_, .f32⟩
  | .hbm, ⟨26, _⟩ => ⟨S1024x64, .f32⟩
  | .hbm, ⟨27, _⟩ => ⟨S1024x128, .f32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S1024x256, .f32⟩
  | .hbm, ⟨34, _⟩ => ⟨S1024x7552, .f32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1024, .f32⟩
  | .hbm, ⟨41, _⟩ => ⟨S1024x1408, .f32⟩
  | .hbm, ⟨42, _⟩ => ⟨S1408x1024, .f32⟩
  | .hbm, ⟨43, _⟩ => ⟨S_, .f32⟩
  | .hbm, ⟨44, _⟩ => ⟨S64, .f32⟩
  | .hbm, ⟨45, _⟩ => ⟨S1024x7552, .bf16⟩
  | .hbm, ⟨46, _⟩ => ⟨S1408x1024, .bf16⟩
  | .hbm, ⟨47, _⟩ => ⟨S_, .f32⟩
  | .hbm, ⟨48, _⟩ => ⟨S3x3072, .f32⟩
  | .hbm, ⟨49, _⟩ => ⟨S8x3072, .f32⟩
  | .hbm, ⟨50, _⟩ => ⟨S1x3072, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S128x1, .f32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S128x1, .i32⟩
  | .hbm, ⟨60, _⟩ => ⟨S128, .f32⟩
  | .hbm, ⟨61, _⟩ => ⟨S128x1, .f32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S128x1, .i32⟩
  | .hbm, ⟨67, _⟩ => ⟨S128, .f32⟩
  | .hbm, ⟨68, _⟩ => ⟨S1x128, .f32⟩
  | .hbm, ⟨69, _⟩ => ⟨S1x2048, .f32⟩
  | .hbm, ⟨70, _⟩ => ⟨S256, .f32⟩
  | .hbm, ⟨71, _⟩ => ⟨S256x64, .f32⟩
  | .hbm, ⟨72, _⟩ => ⟨S16384, .f32⟩
  | .hbm, ⟨73, _⟩ => ⟨S64, .f32⟩
  | .hbm, ⟨74, _⟩ => ⟨S1x64, .f32⟩
  | .hbm, ⟨75, _⟩ => ⟨S256x64, .f32⟩
  | .hbm, ⟨76, _⟩ => ⟨S16384, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S16384x1, .f32⟩
  | .hbm, ⟨92, _⟩ => ⟨S1x32, .f32⟩
  | .hbm, ⟨93, _⟩ => ⟨S16384x32, .f32⟩
  | .hbm, ⟨94, _⟩ => ⟨S16384x32, .f32⟩
  | .hbm, ⟨95, _⟩ => ⟨S16384x32, .f32⟩
  | .hbm, ⟨96, _⟩ => ⟨S16384x1, .f32⟩
  | .hbm, ⟨97, _⟩ => ⟨S1x32, .f32⟩
  | .hbm, ⟨98, _⟩ => ⟨S16384x32, .f32⟩
  | .hbm, ⟨99, _⟩ => ⟨S16384x32, .f32⟩
  | .hbm, ⟨100, _⟩ => ⟨S16384x32, .f32⟩
  | .hbm, ⟨101, _⟩ => ⟨S16384x64, .f32⟩
  | .hbm, ⟨102, _⟩ => ⟨S16384x64, .f32⟩
  | .hbm, ⟨103, _⟩ => ⟨S16384x64, .f32⟩
  | .hbm, ⟨104, _⟩ => ⟨S16384x128, .f32⟩
  | .hbm, ⟨105, _⟩ => ⟨S16384x64, .f32⟩
  | .hbm, ⟨106, _⟩ => ⟨S16384x128, .f32⟩
  | .hbm, ⟨107, _⟩ => ⟨S128x16384, .f32⟩
  | .hbm, ⟨108, _⟩ => ⟨S128x16384, .f32⟩
  | .hbm, ⟨109, _⟩ => ⟨S2x16384x2048, .f32⟩
  | .hbm, ⟨110, _⟩ => ⟨S2x16384x3072, .f32⟩
  | .hbm, ⟨111, _⟩ => ⟨S2x1024x16384, .bf16⟩
  | .hbm, ⟨112, _⟩ => ⟨S2x16384x256, .bf16⟩
  | .hbm, ⟨113, _⟩ => ⟨S2x256x16384, .bf16⟩
  | .hbm, ⟨114, _⟩ => ⟨S2x16384x2048, .f32⟩
  | .hbm, ⟨115, _⟩ => ⟨S2x16384x128, .f32⟩
  | .hbm, ⟨116, _⟩ => ⟨S2x128x16384, .f32⟩
  | .local _ .vmem, ⟨0, _⟩ => ⟨S1x256x1024, .bf16⟩
  | .local _ .vmem, ⟨1, _⟩ => ⟨S1x256x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1024x7552, .bf16⟩
  | .local _ .vmem, ⟨7, _⟩ => ⟨S1408x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x1, .f32⟩
  | .local _ .vmem, ⟨17, _⟩ => ⟨S1x128, .f32⟩
  | .local _ .vmem, ⟨18, _⟩ => ⟨S1x2048, .f32⟩
  | .local _ .vmem, ⟨19, _⟩ => ⟨S1x128, .f32⟩
  | .local _ .vmem, ⟨20, _⟩ => ⟨S128x1, .f32⟩
  | .local _ .vmem, ⟨21, _⟩ => ⟨S8x3072, .f32⟩
  | .local _ .vmem, ⟨22, _⟩ => ⟨S1x3072, .f32⟩
  | .local _ .vmem, ⟨23, _⟩ => ⟨S1x256x2048, .f32⟩
  | .local _ .vmem, ⟨24, _⟩ => ⟨S1x256x2048, .f32⟩
  | .local _ .vmem, ⟨25, _⟩ => ⟨S1x256x3072, .f32⟩
  | .local _ .vmem, ⟨26, _⟩ => ⟨S1x256x3072, .f32⟩
  | .local _ .vmem, ⟨27, _⟩ => ⟨S1x1024x256, .bf16⟩
  | .local _ .vmem, ⟨28, _⟩ => ⟨S1x1024x256, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x256, .bf16⟩
  | .local _ .vmem, ⟨32, _⟩ => ⟨S1x256x256, .bf16⟩
  | .local _ .vmem, ⟨33, _⟩ => ⟨S1x256x2048, .f32⟩
  | .local _ .vmem, ⟨34, _⟩ => ⟨S1x256x2048, .f32⟩
  | .local _ .vmem, ⟨35, _⟩ => ⟨S1x256x128, .f32⟩
  | .local _ .vmem, ⟨36, _⟩ => ⟨S1x256x128, .f32⟩
  | .local _ .vmem, ⟨37, _⟩ => ⟨S1x128x256, .f32⟩
  | .local _ .vmem, ⟨38, _⟩ => ⟨S1x128x256, .f32⟩
  | .local _ .vmem, ⟨39, _⟩ => ⟨S288x3072, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_c_6 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82_0 : Ref sig .tc := ⟨.hbm, 109, rfl⟩
abbrev main_v82_1 : Ref sig .tc := ⟨.hbm, 110, rfl⟩
abbrev main_v82_2 : Ref sig .tc := ⟨.hbm, 111, rfl⟩
abbrev main_v82_3 : Ref sig .tc := ⟨.hbm, 112, rfl⟩
abbrev main_v82_4 : Ref sig .tc := ⟨.hbm, 113, rfl⟩
abbrev main_v82_5 : Ref sig .tc := ⟨.hbm, 114, rfl⟩
abbrev main_v82_6 : Ref sig .tc := ⟨.hbm, 115, rfl⟩
abbrev main_v82_7 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x7552 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x128x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ReferenceProjIdeal.lean ====
abbrev S2x16384x1024 : Shape := ⟨3, ![2, 16384, 1024]⟩
abbrev S1024x8768 : Shape := ⟨2, ![1024, 8768]⟩
abbrev S5x3072 : Shape := ⟨2, ![5, 3072]⟩
abbrev S3072 : Shape := ⟨1, ![3072]⟩
abbrev S32 : Shape := ⟨1, ![32]⟩
abbrev S128 : Shape := ⟨1, ![128]⟩
abbrev S2048 : Shape := ⟨1, ![2048]⟩
abbrev S2x16384x8768 : Shape := ⟨3, ![2, 16384, 8768]⟩
abbrev S2x16384x2048 : Shape := ⟨3, ![2, 16384, 2048]⟩
abbrev S2x16384x3072 : Shape := ⟨3, ![2, 16384, 3072]⟩
abbrev S2x16384x32 : Shape := ⟨3, ![2, 16384, 32]⟩
abbrev S2x16384x256 : Shape := ⟨3, ![2, 16384, 256]⟩
abbrev S_ : Shape := ⟨0, ![]⟩
abbrev S2x16388x3072 : Shape := ⟨3, ![2, 16388, 3072]⟩
abbrev S1x3072 : Shape := ⟨2, ![1, 3072]⟩
abbrev S1x1x3072 : Shape := ⟨3, ![1, 1, 3072]⟩
abbrev S1x1x32 : Shape := ⟨3, ![1, 1, 32]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384x8x64x2 : Shape := ⟨5, ![2, 16384, 8, 64, 2]⟩
abbrev S2x16384x8x64x1 : Shape := ⟨5, ![2, 16384, 8, 64, 1]⟩
abbrev S2x16384x8x64 : Shape := ⟨4, ![2, 16384, 8, 64]⟩
abbrev S16384x1x64 : Shape := ⟨3, ![16384, 1, 64]⟩
abbrev S1x16384x1x64 : Shape := ⟨4, ![1, 16384, 1, 64]⟩
abbrev S2x16384x2x128 : Shape := ⟨4, ![2, 16384, 2, 128]⟩
abbrev S2x16384x2 : Shape := ⟨3, ![2, 16384, 2]⟩
abbrev S2x16384x2x1 : Shape := ⟨4, ![2, 16384, 2, 1]⟩
abbrev S2x16384x2x64x2 : Shape := ⟨5, ![2, 16384, 2, 64, 2]⟩
abbrev S2x16384x2x64x1 : Shape := ⟨5, ![2, 16384, 2, 64, 1]⟩
abbrev S2x16384x2x64 : Shape := ⟨4, ![2, 16384, 2, 64]⟩
abbrev S1x1x2048 : Shape := ⟨3, ![1, 1, 2048]⟩
abbrev S2x16384x64 : Shape := ⟨3, ![2, 16384, 64]⟩
abbrev S2x1024x16384 : Shape := ⟨3, ![2, 1024, 16384]⟩
abbrev S2x256x16384 : Shape := ⟨3, ![2, 256, 16384]⟩
abbrev S2x16384x128 : Shape := ⟨3, ![2, 16384, 128]⟩
abbrev S2x128x16384 : Shape := ⟨3, ![2, 128, 16384]⟩

abbrev nBuf : Space → Nat
  | .hbm => 254
  | .vmem => 0
  | .smem => 0
  | _ => 0

abbrev hbmTy0_0 (i : Nat) : BufTy := match i % 128 with
  | 0 => ⟨S2x16384x1024, .bf16⟩
  | 1 => ⟨S1024x8768, .f32⟩
  | 2 => ⟨S5x3072, .f32⟩
  | 3 => ⟨S3072, .f32⟩
  | 4 => ⟨S32, .f32⟩
  | 5 => ⟨S32, .f32⟩
  | 6 => ⟨S128, .f32⟩
  | 7 => ⟨S128, .f32⟩
  | 8 => ⟨S2048, .f32⟩
  | 9 => ⟨S2x16384x1024, .f32⟩
  | 10 => ⟨S2x16384x8768, .f32⟩
  | 11 => ⟨S2x16384x2048, .f32⟩
  | 12 => ⟨S2x16384x3072, .f32⟩
  | 13 => ⟨S2x16384x32, .f32⟩
  | 14 => ⟨S2x16384x32, .f32⟩
  | 15 => ⟨S2x16384x1024, .f32⟩
  | 16 => ⟨S2x16384x256, .f32⟩
  | 17 => ⟨S2x16384x256, .f32⟩
  | 18 => ⟨S2x16384x2048, .f32⟩
  | 19 => ⟨S_, .i32⟩
  | 20 => ⟨S_, .f32⟩
  | 21 => ⟨S2x16388x3072, .f32⟩
  | 22 => ⟨S2x16384x3072, .f32⟩
  | 23 => ⟨S1x3072, .f32⟩
  | 24 => ⟨S3072, .f32⟩
  | 25 => ⟨S1x1x3072, .f32⟩
  | 26 => ⟨S2x16384x3072, .f32⟩
  | 27 => ⟨S2x16384x3072, .f32⟩
  | 28 => ⟨S_, .f32⟩
  | 29 => ⟨S2x16384x3072, .f32⟩
  | 30 => ⟨S2x16384x3072, .f32⟩
  | 31 => ⟨S2x16384x3072, .f32⟩
  | 32 => ⟨S1x3072, .f32⟩
  | 33 => ⟨S3072, .f32⟩
  | 34 => ⟨S1x1x3072, .f32⟩
  | 35 => ⟨S2x16384x3072, .f32⟩
  | 36 => ⟨S2x16384x3072, .f32⟩
  | 37 => ⟨S2x16384x3072, .f32⟩
  | 38 => ⟨S2x16384x3072, .f32⟩
  | 39 => ⟨S1x3072, .f32⟩
  | 40 => ⟨S3072, .f32⟩
  | 41 => ⟨S1x1x3072, .f32⟩
  | 42 => ⟨S2x16384x3072, .f32⟩
  | 43 => ⟨S2x16384x3072, .f32⟩
  | 44 => ⟨S2x16384x3072, .f32⟩
  | 45 => ⟨S2x16384x3072, .f32⟩
  | 46 => ⟨S1x3072, .f32⟩
  | 47 => ⟨S3072, .f32⟩
  | 48 => ⟨S1x1x3072, .f32⟩
  | 49 => ⟨S2x16384x3072, .f32⟩
  | 50 => ⟨S2x16384x3072, .f32⟩
  | 51 => ⟨S2x16384x3072, .f32⟩
  | 52 => ⟨S2x16384x3072, .f32⟩
  | 53 => ⟨S1x3072, .f32⟩
  | 54 => ⟨S3072, .f32⟩
  | 55 => ⟨S1x1x3072, .f32⟩
  | 56 => ⟨S2x16384x3072, .f32⟩
  | 57 => ⟨S2x16384x3072, .f32⟩
  | 58 => ⟨S2x16384x3072, .f32⟩
  | 59 => ⟨S1x1x3072, .f32⟩
  | 60 => ⟨S2x16384x3072, .f32⟩
  | 61 => ⟨S2x16384x3072, .f32⟩
  | 62 => ⟨S2x16384x3072, .f32⟩
  | 63 => ⟨S2x16384x3072, .f32⟩
  | 64 => ⟨S_, .f32⟩
  | 65 => ⟨S2x16384x3072, .f32⟩
  | 66 => ⟨S2x16384x3072, .f32⟩
  | 67 => ⟨S_, .f32⟩
  | 68 => ⟨S2x16384x3072, .f32⟩
  | 69 => ⟨S2x16384x3072, .f32⟩
  | 70 => ⟨S2x16384x3072, .f32⟩
  | 71 => ⟨S1x1x32, .f32⟩
  | 72 => ⟨S2x16384x32, .f32⟩
  | 73 => ⟨S2x16384x32, .f32⟩
  | 74 => ⟨S_, .f32⟩
  | 75 => ⟨S2x16384x32, .f32⟩
  | 76 => ⟨S2x16384x32, .f32⟩
  | 77 => ⟨S2x16384x32, .f32⟩
  | 78 => ⟨S2x16384x32, .f32⟩
  | 79 => ⟨S2x16384x32, .i1⟩
  | 80 => ⟨S2x16384x32, .f32⟩
  | 81 => ⟨S2x16384x32, .f32⟩
  | 82 => ⟨S2x16384x32, .f32⟩
  | 83 => ⟨S2x16384x32, .f32⟩
  | 84 => ⟨S2x16384x32, .f32⟩
  | 85 => ⟨S2x16384x32, .f32⟩
  | 86 => ⟨S2x16384x32, .f32⟩
  | 87 => ⟨S2x16384x32, .f32⟩
  | 88 => ⟨S1x1x32, .f32⟩
  | 89 => ⟨S2x16384x32, .f32⟩
  | 90 => ⟨S2x16384x32, .f32⟩
  | 91 => ⟨S_, .f32⟩
  | 92 => ⟨S2x16384x32, .f32⟩
  | 93 => ⟨S2x16384x32, .f32⟩
  | 94 => ⟨S2x16384x32, .f32⟩
  | 95 => ⟨S2x16384x32, .f32⟩
  | 96 => ⟨S2x16384x32, .i1⟩
  | 97 => ⟨S2x16384x32, .f32⟩
  | 98 => ⟨S2x16384x32, .f32⟩
  | 99 => ⟨S2x16384x32, .f32⟩
  | 100 => ⟨S2x16384x32, .f32⟩
  | 101 => ⟨S2x16384x32, .f32⟩
  | 102 => ⟨S2x16384x32, .f32⟩
  | 103 => ⟨S2x16384x32, .f32⟩
  | 104 => ⟨S2x16384x32, .f32⟩
  | 105 => ⟨S256, .f32⟩
  | 106 => ⟨S256x64, .f32⟩
  | 107 => ⟨S16384, .f32⟩
  | 108 => ⟨S64, .f32⟩
  | 109 => ⟨S1x64, .f32⟩
  | 110 => ⟨S256x64, .f32⟩
  | 111 => ⟨S16384, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S16384x1, .f32⟩
  | 127 => ⟨S1x32, .f32⟩
  | _ => ⟨S2x16384x1024, .bf16⟩

abbrev hbmTy0_1 (i : Nat) : BufTy := match i % 128 with
  | 0 => ⟨S16384x32, .f32⟩
  | 1 => ⟨S16384x32, .f32⟩
  | 2 => ⟨S16384x32, .f32⟩
  | 3 => ⟨S16384x1, .f32⟩
  | 4 => ⟨S1x32, .f32⟩
  | 5 => ⟨S16384x32, .f32⟩
  | 6 => ⟨S16384x32, .f32⟩
  | 7 => ⟨S16384x32, .f32⟩
  | 8 => ⟨S16384x64, .f32⟩
  | 9 => ⟨S16384x64, .f32⟩
  | 10 => ⟨S16384x64, .f32⟩
  | 11 => ⟨S2x16384x8x128, .f32⟩
  | 12 => ⟨S2x16384x8x128, .f32⟩
  | 13 => ⟨S_, .f32⟩
  | 14 => ⟨S2x16384x8, .f32⟩
  | 15 => ⟨S2x16384x8x1, .f32⟩
  | 16 => ⟨S_, .f32⟩
  | 17 => ⟨S2x16384x8x1, .f32⟩
  | 18 => ⟨S2x16384x8x1, .f32⟩
  | 19 => ⟨S_, .f32⟩
  | 20 => ⟨S2x16384x8x1, .f32⟩
  | 21 => ⟨S2x16384x8x1, .f32⟩
  | 22 => ⟨S2x16384x8x1, .f32⟩
  | 23 => ⟨S2x16384x8x128, .f32⟩
  | 24 => ⟨S2x16384x8x128, .f32⟩
  | 25 => ⟨S1x1x1x128, .f32⟩
  | 26 => ⟨S2x16384x8x128, .f32⟩
  | 27 => ⟨S2x16384x8x128, .f32⟩
  | 28 => ⟨S2x16384x8x64x2, .f32⟩
  | 29 => ⟨S2x16384x8x64x1, .f32⟩
  | 30 => ⟨S2x16384x8x64, .f32⟩
  | 31 => ⟨S2x16384x8x64x1, .f32⟩
  | 32 => ⟨S2x16384x8x64, .f32⟩
  | 33 => ⟨S16384x1x64, .f32⟩
  | 34 => ⟨S16384x1x64, .f32⟩
  | 35 => ⟨S1x16384x1x64, .f32⟩
  | 36 => ⟨S2x16384x8x64, .f32⟩
  | 37 => ⟨S2x16384x8x64, .f32⟩
  | 38 => ⟨S1x16384x1x64, .f32⟩
  | 39 => ⟨S2x16384x8x64, .f32⟩
  | 40 => ⟨S2x16384x8x64, .f32⟩
  | 41 => ⟨S2x16384x8x64, .f32⟩
  | 42 => ⟨S1x16384x1x64, .f32⟩
  | 43 => ⟨S2x16384x8x64, .f32⟩
  | 44 => ⟨S2x16384x8x64, .f32⟩
  | 45 => ⟨S1x16384x1x64, .f32⟩
  | 46 => ⟨S2x16384x8x64, .f32⟩
  | 47 => ⟨S2x16384x8x64, .f32⟩
  | 48 => ⟨S2x16384x8x64, .f32⟩
  | 49 => ⟨S2x16384x8x128, .f32⟩
  | 50 => ⟨S2x16384x1024, .f32⟩
  | 51 => ⟨S2x16384x2x128, .f32⟩
  | 52 => ⟨S2x16384x2x128, .f32⟩
  | 53 => ⟨S_, .f32⟩
  | 54 => ⟨S2x16384x2, .f32⟩
  | 55 => ⟨S2x16384x2x1, .f32⟩
  | 56 => ⟨S_, .f32⟩
  | 57 => ⟨S2x16384x2x1, .f32⟩
  | 58 => ⟨S2x16384x2x1, .f32⟩
  | 59 => ⟨S_, .f32⟩
  | 60 => ⟨S2x16384x2x1, .f32⟩
  | 61 => ⟨S2x16384x2x1, .f32⟩
  | 62 => ⟨S2x16384x2x1, .f32⟩
  | 63 => ⟨S2x16384x2x128, .f32⟩
  | 64 => ⟨S2x16384x2x128, .f32⟩
  | 65 => ⟨S1x1x1x128, .f32⟩
  | 66 => ⟨S2x16384x2x128, .f32⟩
  | 67 => ⟨S2x16384x2x128, .f32⟩
  | 68 => ⟨S2x16384x2x64x2, .f32⟩
  | 69 => ⟨S2x16384x2x64x1, .f32⟩
  | 70 => ⟨S2x16384x2x64, .f32⟩
  | 71 => ⟨S2x16384x2x64x1, .f32⟩
  | 72 => ⟨S2x16384x2x64, .f32⟩
  | 73 => ⟨S16384x1x64, .f32⟩
  | 74 => ⟨S16384x1x64, .f32⟩
  | 75 => ⟨S1x16384x1x64, .f32⟩
  | 76 => ⟨S2x16384x2x64, .f32⟩
  | 77 => ⟨S2x16384x2x64, .f32⟩
  | 78 => ⟨S1x16384x1x64, .f32⟩
  | 79 => ⟨S2x16384x2x64, .f32⟩
  | 80 => ⟨S2x16384x2x64, .f32⟩
  | 81 => ⟨S2x16384x2x64, .f32⟩
  | 82 => ⟨S1x16384x1x64, .f32⟩
  | 83 => ⟨S2x16384x2x64, .f32⟩
  | 84 => ⟨S2x16384x2x64, .f32⟩
  | 85 => ⟨S1x16384x1x64, .f32⟩
  | 86 => ⟨S2x16384x2x64, .f32⟩
  | 87 => ⟨S2x16384x2x64, .f32⟩
  | 88 => ⟨S2x16384x2x64, .f32⟩
  | 89 => ⟨S2x16384x2x128, .f32⟩
  | 90 => ⟨S2x16384x256, .f32⟩
  | 91 => ⟨S_, .f32⟩
  | 92 => ⟨S2x16384x1024, .f32⟩
  | 93 => ⟨S2x16384x1024, .f32⟩
  | 94 => ⟨S1x1x2048, .f32⟩
  | 95 => ⟨S2x16384x2048, .f32⟩
  | 96 => ⟨S2x16384x2048, .f32⟩
  | 97 => ⟨S2x16384x2048, .f32⟩
  | 98 => ⟨S2x16384x2048, .f32⟩
  | 99 => ⟨S_, .f32⟩
  | 100 => ⟨S2x16384x2048, .f32⟩
  | 101 => ⟨S2x16384x2048, .f32⟩
  | 102 => ⟨S_, .f32⟩
  | 103 => ⟨S2x16384x2048, .f32⟩
  | 104 => ⟨S2x16384x2048, .f32⟩
  | 105 => ⟨S_, .f32⟩
  | 106 => ⟨S_, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S2x16384x64, .f32⟩
  | 118 => ⟨S2x1024x16384, .f32⟩
  | 119 => ⟨S2x1024x16384, .bf16⟩
  | 120 => ⟨S2x16384x256, .bf16⟩
  | 121 => ⟨S2x256x16384, .f32⟩
  | 122 => ⟨S2x256x16384, .bf16⟩
  | 123 => ⟨S2x16384x128, .f32⟩
  | 124 => ⟨S2x16384x128, .f32⟩
  | 125 => ⟨S2x128x16384, .f32⟩
  | _ => ⟨S2x16384x1024, .bf16⟩

abbrev hbmTy (i : Nat) : BufTy := match i / 128 with
  | 0 => hbmTy0_0 i
  | 1 => hbmTy0_1 i
  | _ => ⟨S2x16384x1024, .bf16⟩

abbrev bufTy : (tb : Table) → Fin (tcTables nBuf tb) → BufTy
  | .hbm, ⟨i, _⟩ => hbmTy i
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call3_cst : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_0 : Ref sig .tc := ⟨.hbm, 113, rfl⟩
abbrev main_v67 : Ref sig .tc := ⟨.hbm, 114, rfl⟩
abbrev main_v68 : Ref sig .tc := ⟨.hbm, 115, rfl⟩
abbrev main_cst_1 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_2 : Ref sig .tc := ⟨.hbm, 120, rfl⟩
abbrev main_v72 : Ref sig .tc := ⟨.hbm, 121, rfl⟩
abbrev main_v73 : Ref sig .tc := ⟨.hbm, 122, rfl⟩
abbrev main_cst_3 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_4 : Ref sig .tc := ⟨.hbm, 141, rfl⟩
abbrev main_v91 : Ref sig .tc := ⟨.hbm, 142, rfl⟩
abbrev main_v92 : Ref sig .tc := ⟨.hbm, 143, rfl⟩
abbrev main_cst_5 : Ref sig .tc := ⟨.hbm, 144, rfl⟩
abbrev main_v93 : Ref sig .tc := ⟨.hbm, 145, rfl⟩
abbrev main_v94 : Ref sig .tc := ⟨.hbm, 146, rfl⟩
abbrev main_cst_6 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_7 : Ref sig .tc := ⟨.hbm, 181, rfl⟩
abbrev main_v128 : Ref sig .tc := ⟨.hbm, 182, rfl⟩
abbrev main_v129 : Ref sig .tc := ⟨.hbm, 183, rfl⟩
abbrev main_cst_8 : Ref sig .tc := ⟨.hbm, 184, rfl⟩
abbrev main_v130 : Ref sig .tc := ⟨.hbm, 185, rfl⟩
abbrev main_v131 : Ref sig .tc := ⟨.hbm, 186, rfl⟩
abbrev main_cst_9 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_10 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_11 : Ref sig .tc := ⟨.hbm, 227, rfl⟩
abbrev main_v170 : Ref sig .tc := ⟨.hbm, 228, rfl⟩
abbrev main_v171 : Ref sig .tc := ⟨.hbm, 229, rfl⟩
abbrev main_cst_12 : Ref sig .tc := ⟨.hbm, 230, rfl⟩
abbrev main_v172 : Ref sig .tc := ⟨.hbm, 231, rfl⟩
abbrev main_v173 : Ref sig .tc := ⟨.hbm, 232, rfl⟩
abbrev main_cst_13 : Ref sig .tc := ⟨.hbm, 233, rfl⟩
abbrev main_call4_cst : Ref sig .tc := ⟨.hbm, 234, rfl⟩
abbrev main_call4_v0 : Ref sig .tc := ⟨.hbm, 235, rfl⟩
abbrev main_call4_v1 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_v6 : Ref sig .tc := ⟨.hbm, 241, rfl⟩
abbrev main_call4_v7 : Ref sig .tc := ⟨.hbm, 242, rfl⟩
abbrev main_call4_v8 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩

abbrev nD : Nat := 1
abbrev τ : Topo := Topo.v7x

variable {F : FTy → Type} [FloatOps F]
-- ==== KernelOnline.lean ====
abbrev S2x1024x16384 : Shape := ⟨3, ![2, 1024, 16384]⟩
abbrev S2x16384x256 : Shape := ⟨3, ![2, 16384, 256]⟩
abbrev S2x256x16384 : Shape := ⟨3, ![2, 256, 16384]⟩
abbrev S2x16384x1024 : Shape := ⟨3, ![2, 16384, 1024]⟩
abbrev S1x512x512 : Shape := ⟨3, ![1, 512, 512]⟩
abbrev S1x512x128 : Shape := ⟨3, ![1, 512, 128]⟩
abbrev S1x128x512 : Shape := ⟨3, ![1, 128, 512]⟩
abbrev S1x2048 : Shape := ⟨2, ![1, 2048]⟩
abbrev S144x2048 : Shape := ⟨2, ![144, 2048]⟩
abbrev S512x128 : Shape := ⟨2, ![512, 128]⟩
abbrev S128x512 : Shape := ⟨2, ![128, 512]⟩
abbrev S16x512 : Shape := ⟨2, ![16, 512]⟩
abbrev S144x512 : Shape := ⟨2, ![144, 512]⟩
abbrev S1x128x256 : Shape := ⟨3, ![1, 128, 256]⟩
abbrev S128x256 : Shape := ⟨2, ![128, 256]⟩
abbrev S512x256 : Shape := ⟨2, ![512, 256]⟩
abbrev S1x256 : Shape := ⟨2, ![1, 256]⟩
abbrev S256 : Shape := ⟨1, ![256]⟩
abbrev S144x256 : Shape := ⟨2, ![144, 256]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S2x1024x16384, .bf16⟩
  | .hbm, ⟨1, _⟩ => ⟨S2x16384x256, .bf16⟩
  | .hbm, ⟨2, _⟩ => ⟨S2x256x16384, .bf16⟩
  | .hbm, ⟨3, _⟩ => ⟨S2x16384x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x512, .bf16⟩
  | .local _ .vmem, ⟨5, _⟩ => ⟨S1x128x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x2048, .f32⟩
  | .local _ .vmem, ⟨9, _⟩ => ⟨S144x2048, .f32⟩
  | _, _ => ⟨S2x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 32, 32], ![false, false, false, false]⟩

def k0_cond2 (i : grid0.Coords) : BitVec 1 :=
  let arg3 : BitVec 32 := BitVec.ofNat 32 (i 3).val
  let c31_i32 : BitVec 32 := 31#32
  let v201 : BitVec 1 := Scalar.cmpi .eq arg3 c31_i32
  let v202 : BitVec 32 := Scalar.extui v201
  let c0_i32_109 : BitVec 32 := 0#32
  let v203 : BitVec 1 := Scalar.cmpi .ne v202 c0_i32_109
  v203

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== KernelMergeSample.lean ====
abbrev S2x8192x2048 : Shape := ⟨3, ![2, 8192, 2048]⟩
abbrev S2x8192x1024 : Shape := ⟨3, ![2, 8192, 1024]⟩
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 17
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1024, .bf16⟩
  | .hbm, ⟨2, _⟩ => ⟨S2x8192x2048, .f32⟩
  | .hbm, ⟨3, _⟩ => ⟨S2x8192x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S2x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceMergeSampleIdeal.lean ====
abbrev S2x8192x2048 : Shape := ⟨3, ![2, 8192, 2048]⟩
abbrev S2x8192x1024 : Shape := ⟨3, ![2, 8192, 1024]⟩
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1024, .bf16⟩
  | .hbm, ⟨2, _⟩ => ⟨S2x8192x2048, .f32⟩
  | .hbm, ⟨3, _⟩ => ⟨S2x8192x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2x8192x1024, .f32⟩
  | .hbm, ⟨12, _⟩ => ⟨S2x8192x1024, .f32⟩
  | .hbm, ⟨13, _⟩ => ⟨S2x8192x2048, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S2x8192x5632, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x1024, .f32⟩
  | .hbm, ⟨52, _⟩ => ⟨S_, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x1024, .f32⟩
  | .hbm, ⟨68, _⟩ => ⟨S2x8192x1024, .f32⟩
  | .hbm, ⟨69, _⟩ => ⟨S1x1x1024, .f32⟩
  | .hbm, ⟨70, _⟩ => ⟨S2x8192x1024, .f32⟩
  | .hbm, ⟨71, _⟩ => ⟨S2x8192x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== Proof.Finite.lean ====
module

public import proofs.«01_k».proof.Pre_finite
public import proofs.«01_k».proof.Proof.Gen.Pre_finite
public import Idealize.ShloMosaic.Lib.ReduceAll
public import Idealize.ShloMosaic.PureOps.Ideal.Laws

/-!
What the precondition says at the extended reals: every query entry and every key entry is a real.
-/

@[expose] public section

noncomputable section

namespace Cert.Finite

open Idealize.ShloMosaic Cert.Pre_finite Cert.Pre_finite.Gen

theorem top_f32 : Ideal.ofBits .f32 0x7F800000#32 = ⊤ := by
  simp [Ideal.ofBits, Ideal.ieee]

/-- An extended real whose absolute value is below infinity is a real. -/
theorem real_of_lt (x : EReal) (h : Ideal.cmp .olt (max x (-x)) (Ideal.ofBits .f32 0x7F800000#32) = 1#1) :
    ∃ r : ℝ, x = (r : EReal) := by
  rw [top_f32] at h
  have hx : max x (-x) < ⊤ := by
    by_contra hn
    simp [Ideal.cmp, hn] at h
  induction x with
  | bot => simp at hx
  | top => simp at hx
  | coe r => exact ⟨r, rfl⟩

instance : Subsingleton S_.Idx := ⟨fun i j => funext fun a => a.elim0⟩

theorem real_entries (x0 : Vec Ideal S2x1024x16384 .bf16) (x1 : Vec Ideal S2x16384x256 .bf16) (x2 : Vec Ideal S2x256x16384 .bf16)
    (h : Cert.Pre_finite.fn (F := Ideal) x0 x1 x2 = fun _ => 1#1) :
    (∃ f : S2x1024x16384.Idx → ℝ, ∀ i, x0 i = ((f i : ℝ) : EReal)) ∧
      ∃ f : S2x16384x256.Idx → ℝ, ∀ i, x1 i = ((f i : ℝ) : EReal) := by
  have e := congrFun h (Shape.Idx.first h_S_)
  obtain ⟨e0, e1⟩ := IntOp.andi_eq_one.1 e
  have h0 := fun i => real_of_lt (x0 i) (Host.reduce_andi_all _ _ _ _ _ e0 i)
  have h1 := fun i => real_of_lt (x1 i) (Host.reduce_andi_all _ _ _ _ _ e1 i)
  exact ⟨⟨fun i => (h0 i).choose, fun i => (h0 i).choose_spec⟩, ⟨fun i => (h1 i).choose, fun i => (h1 i).choose_spec⟩⟩

end Cert.Finite

end
-- ==== Proof.Steps.lean ====
module

public import Idealize.ShloMosaic.Lib.WritesUnit
public import Idealize.ShloMosaic.Lib.Pipeline.ReadBack
public import Idealize.ShloMosaic.Lib.ValueIdx

/-!
A buffer of 8192 columns that a straight line of code updates one band of 256 columns at a time: step `n` loads band
`n mod 32`, computes a new band from it and stores that back. `state` is what the buffer holds after `n` such steps;
`Good` says a list of stores leaves exactly that; `Good.fresh` and `Good.again` extend such a list by one step (the
first visit to a band, which reads the buffer's old contents, and a later visit, which reads what the stores left).
-/

@[expose] public section

set_option maxRecDepth 16384

noncomputable section

namespace Cert.Bands

open Idealize.ShloMosaic Idealize.ShloMosaic.ValueIdx

/-- The shape of the buffer: `R` rows of 8192 columns. -/
abbrev Buf (R : ℕ) : Shape := ⟨2, ![R, 8192]⟩
/-- The shape of one band: `R` rows of 256 columns. -/
abbrev Band (R : ℕ) : Shape := ⟨2, ![R, 256]⟩

theorem band_inb (R n : ℕ) : ∀ a, (![0, 256 * (n % 32)] : Fin 2 → ℕ) a + (Band R).size a ≤ (Buf R).size a := by
  intro a
  have h : n % 32 < 32 := Nat.mod_lt _ (by norm_num)
  match a with
  | 0 => show 0 + R ≤ R; omega
  | 1 => show 256 * (n % 32) + 256 ≤ 8192; omega

/-- The rectangle of the band step `n` works on. -/
abbrev band (R n : ℕ) : Rect (Buf R) := Rect.unit (s := Buf R) ![0, 256 * (n % 32)] (Band R).size (band_inb R n)

variable {sig : RefSig} {κ : Kind} {sp : Space} {e : EltTy} {Val : EltTy → Type} {R : ℕ}

/-- The column `y` lies in the band of step `n`. -/
abbrev inBand (n : ℕ) (y : (Buf R).Idx) : Prop := 256 * (n % 32) ≤ (y 1).val ∧ (y 1).val < 256 * (n % 32) + 256

/-- The position within its band of an index of the buffer. -/
def loc (y : (Buf R).Idx) : (Band R).Idx := ix2 (y 0) ⟨(y 1).val % 256, Nat.mod_lt _ (by norm_num)⟩

/-- What the buffer holds after `n` steps, from `xs` before them, where step `n` turns the band `w` into `pay n w`. -/
def state (pay : ℕ → ((Band R).Idx → Val e) → (Band R).Idx → Val e) (xs : (Buf R).Idx → Val e) :
    ℕ → (Buf R).Idx → Val e
  | 0 => xs
  | n + 1 => fun y =>
    if inBand n y then pay n (fun x => state pay xs n ((band R n).idx x)) (loc y) else state pay xs n y

/-- A column beyond the bands visited so far is as it was. -/
theorem state_untouched (pay : ℕ → ((Band R).Idx → Val e) → (Band R).Idx → Val e) (xs : (Buf R).Idx → Val e)
    (y : (Buf R).Idx) : ∀ n, n ≤ 32 → 256 * n ≤ (y 1).val → state pay xs n y = xs y
  | 0, _, _ => rfl
  | n + 1, hn, hy => by
    have hm : n % 32 = n := Nat.mod_eq_of_lt (by omega)
    show (if inBand n y then _ else _) = _
    rw [if_neg (by intro h; have := h.2; omega)]
    exact state_untouched pay xs y n (by omega) (by omega)

/-- The stores `L` over the contents `f` leave the state after `n` steps, and cover the first `n + a` bands. -/
structure Good (v : View sig κ sp (Buf R) e) (f : v.ty.Contents Val) (a : ℕ)
    (pay : ℕ → ((Band R).Idx → Val e) → (Band R).Idx → Val e) (xs : (Buf R).Idx → Val e) (n : ℕ)
    (L : List (View.Piece Val (Buf R) e)) : Prop where
  read : ∀ y, v.read Val (v.writes Val f L) y = state pay xs n y
  cov : ∀ y : (Buf R).Idx, (y 1).val < 256 * (n + a) → ∃ p ∈ L, y ∈ p.1.set

variable {v : View sig κ sp (Buf R) e} {f : v.ty.Contents Val} {a : ℕ}
  {pay : ℕ → ((Band R).Idx → Val e) → (Band R).Idx → Val e} {xs : (Buf R).Idx → Val e} {n : ℕ}
  {L : List (View.Piece Val (Buf R) e)}

/-- No store yet: the state before the first step is what the contents read. -/
theorem Good.start (h : v.read Val f = xs) : Good v f 0 pay xs 0 [] where
  read y := by rw [View.writes_nil, h]; rfl
  cov y hy := by omega

/-- One store over the whole buffer is the state before the first step, from the stored contents. -/
theorem Good.filled (inb : ∀ b, (![0, 0] : Fin 2 → ℕ) b + (Buf R).size b ≤ (Buf R).size b) :
    Good v f 32 pay xs 0 [⟨Rect.unit (s := Buf R) ![0, 0] (Buf R).size inb, xs⟩] where
  read y := View.read_writes_cons_unit_of_mem v f inb xs [] y y rfl fun b => by
    match b with
    | 0 => exact (Nat.zero_add _).symm
    | 1 => exact (Nat.zero_add _).symm
  cov y _ := ⟨_, List.mem_singleton.mpr rfl, by
    rw [Rect.mem_set_unit]
    intro b
    match b with
    | 0 => exact ⟨Nat.zero_le _, by show _ < 0 + _; rw [Nat.zero_add]; exact (y 0).isLt⟩
    | 1 => exact ⟨Nat.zero_le _, by show _ < 0 + _; rw [Nat.zero_add]; exact (y 1).isLt⟩⟩

/-- One more step, whose loaded band is the state's. -/
theorem Good.step (g : Good v f a pay xs n L) (ha : a % 32 = 0) (w : (Band R).Idx → Val e)
    (hw : ∀ x, w x = state pay xs n ((band R n).idx x)) :
    Good v f a pay xs (n + 1) (⟨band R n, pay n w⟩ :: L) where
  read y := by
    obtain rfl : w = fun x => state pay xs n ((band R n).idx x) := funext hw
    show _ = (if inBand n y then pay n _ (loc y) else state pay xs n y)
    by_cases h : inBand n y
    · rw [if_pos h]
      refine View.read_writes_cons_unit_of_mem v f (band_inb R n) _ L y (loc y) rfl fun b => ?_
      match b with
      | 0 => exact (Nat.zero_add _).symm
      | 1 =>
        show (y 1).val = 256 * (n % 32) + (y 1).val % 256
        have := h.1
        have := h.2
        omega
    · rw [if_neg h]
      refine (View.read_writes_cons_unit_of_not_mem v f (band_inb R n) _ L y rfl 1 ?_).trans (g.read y)
      show (y 1).val < 256 * (n % 32) ∨ 256 * (n % 32) + 256 ≤ (y 1).val
      by_contra hc
      exact h ⟨by omega, by omega⟩
  cov y hy := by
    by_cases h : (y 1).val < 256 * (n + a)
    · obtain ⟨p, hp, hm⟩ := g.cov y h
      exact ⟨p, List.mem_cons_of_mem _ hp, hm⟩
    · refine ⟨_, List.mem_cons_self, ?_⟩
      have h8 : (y 1).val < 8192 := (y 1).isLt
      have hm : n % 32 = n + a := by omega
      rw [Rect.mem_set_unit]
      intro b
      match b with
      | 0 => exact ⟨Nat.zero_le _, by show _ < 0 + _; rw [Nat.zero_add]; exact (y 0).isLt⟩
      | 1 =>
        show 256 * (n % 32) ≤ (y 1).val ∧ (y 1).val < 256 * (n % 32) + 256
        rw [hm]
        omega

/-- A step that visits its band for the first time: it loads the band from the contents before any store. -/
theorem Good.fresh (hf : v.read Val f = xs) (hn : n < 32) {p : (Band R).Idx → Val e} (g : Good v f 0 pay xs n L)
    (hp : p = pay n (v.readAt Val (band R n).toLoadRect f)) : Good v f 0 pay xs (n + 1) (⟨band R n, p⟩ :: L) := by
  subst hp
  refine g.step rfl _ fun x => ?_
  rw [View.readAt_apply, hf, state_untouched pay xs _ n (by omega)]
  show 256 * n ≤ 256 * (n % 32) + 1 * (x 1).val
  omega

/-- A step that visits a band already stored to: it loads what the stores left there. -/
theorem Good.again [∀ e, Nonempty (Val e)] (ha : a % 32 = 0) (hn : 32 ≤ n + a) {p : (Band R).Idx → Val e}
    (g : Good v f a pay xs n L) (hp : p = pay n (v.readCov L (band R n).toLoadRect)) :
    Good v f a pay xs (n + 1) (⟨band R n, p⟩ :: L) := by
  subst hp
  refine g.step ha _ fun x => ?_
  rw [← View.readAt_writes_of_cover v f L _ fun j => g.cov _ ?_, View.readAt_apply]
  · exact g.read _
  · have : ((band R n).toLoadRect.idx j (1 : Fin 2)).val < 8192 := ((band R n).toLoadRect.idx j (1 : Fin 2)).isLt
    show ((band R n).toLoadRect.idx j (1 : Fin 2)).val < _
    omega

/-- The stores of 32 steps or more cover the buffer, so what they leave does not depend on what was there before. -/
theorem Good.read_junk [∀ e, Nonempty (Val e)] (hn : 32 ≤ n + a) (g : Good v f a pay xs n L)
    {sig' : RefSig} {κ' : Kind} {sp' : Space} (v' : View sig' κ' sp' (Buf R) e) (f' : v'.ty.Contents Val) :
    v'.read Val (v'.writes Val f' L) = state pay xs n :=
  funext fun y => (View.read_writes_apply_eq v' f' v f y L (g.cov y (by
    have : (y 1).val < 8192 := (y 1).isLt
    omega))).trans (g.read y)

end Cert.Bands

end
-- ==== Proof.Body.lean ====
module

public import proofs.«01_k».proof.Proof.Gen.KernelIdeal.Frame.RunC
public import proofs.«01_k».proof.Proof.Steps

/-!
What one grid point of the attention kernel leaves in its two carried buffers. The body is 128 block steps: step `n`
takes key block `n / 32` (512 keys), query head `n / 8 mod 4` of its group and query block `n mod 8` (256 queries);
it computes the block of powers `2 ^ score`, adds their column sums (in eight rows) to a band of the denominators and
the values times the powers to the same band of the accumulator.
-/

@[expose] public section

set_option maxRecDepth 65536

noncomputable section

namespace Cert.Attn

open Idealize.ShloMosaic Idealize.ShloMosaic.TcCoe Cert.KernelIdeal Cert.KernelIdeal.Gen Cert.Bands

variable {F : FTy → Type} [FloatOps F]

theorem q_inb (n : ℕ) : ∀ a, (![0, 128 * (n / 8 % 4), 256 * (n % 8)] : Fin 3 → ℕ) a + S1x128x256.size a ≤ S1x512x2048.size a := by
  intro a
  match a with
  | 0 => show 0 + 1 ≤ 1; omega
  | 1 => show 128 * (n / 8 % 4) + 128 ≤ 512; omega
  | 2 => show 256 * (n % 8) + 256 ≤ 2048; omega

theorem k_inb (n : ℕ) : ∀ a, (![0, 512 * (n / 32 % 4), 0] : Fin 3 → ℕ) a + S1x512x128.size a ≤ S1x2048x128.size a := by
  intro a
  match a with
  | 0 => show 0 + 1 ≤ 1; omega
  | 1 => show 512 * (n / 32 % 4) + 512 ≤ 2048; omega
  | 2 => show 0 + 128 ≤ 128; omega

theorem v_inb (n : ℕ) : ∀ a, (![0, 0, 512 * (n / 32 % 4)] : Fin 3 → ℕ) a + S1x128x512.size a ≤ S1x128x2048.size a := by
  intro a
  match a with
  | 0 => show 0 + 1 ≤ 1; omega
  | 1 => show 0 + 128 ≤ 128; omega
  | 2 => show 512 * (n / 32 % 4) + 512 ≤ 2048; omega

section Payloads

variable (arg4 : Memref sig .tc .vmem S1x512x2048 .bf16) (harg4 : arg4.IsWhole)
  (arg5 : Memref sig .tc .vmem S1x2048x128 .bf16) (harg5 : arg5.IsWhole)
  (arg6 : Memref sig .tc .vmem S1x128x2048 .bf16) (harg6 : arg6.IsWhole)
  (x0 : Vec F S1x512x2048 .bf16) (x1 : Vec F S1x2048x128 .bf16) (x2 : Vec F S1x128x2048 .bf16)

/-- The powers of two of step `n`: 512 keys by 256 queries. -/
def powers (n : ℕ) : FVec F S512x256 .f32 :=
  exp2 (matmul dot_S512x128_S128x256_S512x256_1_0_0_1_n_n none
    (shapeCast S512x128 (View.readAt (Elt F) arg5.view
      (Rect.unit (s := S1x2048x128) ![0, 512 * (n / 32 % 4), 0] S1x512x128.size (k_inb n)).toLoadRect (harg5.unread x1) : Vec F S1x512x128 .bf16) shapeCasts_S1x512x128_S512x128)
    (shapeCast S128x256 (View.readAt (Elt F) arg4.view
      (Rect.unit (s := S1x512x2048) ![0, 128 * (n / 8 % 4), 256 * (n % 8)] S1x128x256.size (q_inb n)).toLoadRect (harg4.unread x0) : Vec F S1x128x256 .bf16) shapeCasts_S1x128x256_S128x256)
    (constant S512x256 .f32 0x00000000#32))

/-- Step `n` on its band of the denominators. -/
def denStep (n : ℕ) (w : Vec F S8x256 .f32) : Vec F S8x256 .f32 :=
  shapeCast S8x256 (addf w (multiReduction .add [0] S8x256
    (shapeCast S64x8x256 (powers arg4 harg4 arg5 harg5 x0 x1 n) shapeCasts_S512x256_S64x8x256)
    0x00000000#32 reduces_S64x8x256_S8x256 (.inl rfl) rfl)) shapeCasts_S8x256_S8x256

/-- Step `n` on its band of the accumulator. -/
def accStep (n : ℕ) (w : Vec F S128x256 .f32) : Vec F S128x256 .f32 :=
  shapeCast S128x256 (addf w (matmul dot_S128x512_S512x256_S128x256_1_0_0_1_n_n none
    (shapeCast S128x512 (View.readAt (Elt F) arg6.view
      (Rect.unit (s := S1x128x2048) ![0, 0, 512 * (n / 32 % 4)] S1x128x512.size (v_inb n)).toLoadRect (harg6.unread x2) : Vec F S1x128x512 .bf16) shapeCasts_S1x128x512_S128x512)
    (truncf .bf16 (powers arg4 harg4 arg5 harg5 x0 x1 n) bitsLt_bf16_f32)
    (constant S128x256 .f32 0x00000000#32))) shapeCasts_S128x256_S128x256

end Payloads

section Runs

variable (c : Dev nD) (i : grid0.Coords) (arg4 : Memref sig .tc .vmem S1x512x2048 .bf16) (harg4 : arg4.IsWhole)
  (arg5 : Memref sig .tc .vmem S1x2048x128 .bf16) (harg5 : arg5.IsWhole)
  (arg6 : Memref sig .tc .vmem S1x128x2048 .bf16) (harg6 : arg6.IsWhole)
  (arg7 : Memref sig .tc .vmem S1x2048x512 .bf16) (harg7 : arg7.IsWhole)
  (arg8 : Memref sig .tc .vmem S128x8192 .f32) (harg8 : arg8.IsWhole)
  (arg9 : Memref sig .tc .vmem S8x8192 .f32) (harg9 : arg9.IsWhole)
  (x0 : Vec F S1x512x2048 .bf16) (x1 : Vec F S1x2048x128 .bf16) (x2 : Vec F S1x128x2048 .bf16)
  (xs0 : Vec F S128x8192 .f32) (xs1 : Vec F S8x8192 .f32)

/-- In the middle of a row of key blocks the accumulator's stores are its 128 steps over what it held. -/
theorem goodAcc_B (hc0 : ¬cond0_0 i) (hc1 : ¬cond0_1 i) :
    Good (R := 128) arg8.view (harg8.unread xs0) 0 (accStep arg4 harg4 arg5 harg5 arg6 harg6 x0 x1 x2) xs0 128
      (kernelRun0_B c i arg4 harg4 arg5 harg5 arg6 harg6 arg7 harg7 arg8 harg8 arg9 harg9 hc0 hc1 x0 x1 x2 xs0 xs1).2.1 := by
  iterate 96 refine Good.again rfl (by norm_num) ?_ rfl
  iterate 32 refine Good.fresh (harg8.read_unread xs0) (by norm_num) ?_ rfl
  exact Good.start (harg8.read_unread xs0)

/-- The same of the denominators. -/
theorem goodDen_B (hc0 : ¬cond0_0 i) (hc1 : ¬cond0_1 i) :
    Good (R := 8) arg9.view (harg9.unread xs1) 0 (denStep arg4 harg4 arg5 harg5 x0 x1) xs1 128
      (kernelRun0_B c i arg4 harg4 arg5 harg5 arg6 harg6 arg7 harg7 arg8 harg8 arg9 harg9 hc0 hc1 x0 x1 x2 xs0 xs1).2.2.1 := by
  iterate 96 refine Good.again rfl (by norm_num) ?_ rfl
  iterate 32 refine Good.fresh (harg9.read_unread xs1) (by norm_num) ?_ rfl
  exact Good.start (harg9.read_unread xs1)

/-- At the first key block the accumulator is filled with zeros and then goes through its 128 steps. -/
theorem goodAcc_A (hc0 : cond0_0 i) (hc1 : ¬cond0_1 i) :
    Good (R := 128) arg8.view arg8.view.junk 32 (accStep arg4 harg4 arg5 harg5 arg6 harg6 x0 x1 x2) (k0_pay6 (F := F)) 128
      (kernelRun0_A c i arg4 harg4 arg5 harg5 arg6 harg6 arg7 harg7 arg8 harg8 arg9 harg9 hc0 hc1 x0 x1 x2).2.1 := by
  iterate 128 refine Good.again rfl (by norm_num) ?_ rfl
  exact Good.filled _

/-- The same of the denominators. -/
theorem goodDen_A (hc0 : cond0_0 i) (hc1 : ¬cond0_1 i) :
    Good (R := 8) arg9.view arg9.view.junk 32 (denStep arg4 harg4 arg5 harg5 x0 x1) (k0_pay7 (F := F)) 128
      (kernelRun0_A c i arg4 harg4 arg5 harg5 arg6 harg6 arg7 harg7 arg8 harg8 arg9 harg9 hc0 hc1 x0 x1 x2).2.2.1 := by
  iterate 128 refine Good.again rfl (by norm_num) ?_ rfl
  exact Good.filled _

/-- At the last key block the accumulator's stores are again its 128 steps over what it held. -/
theorem goodAcc_C (hc0 : ¬cond0_0 i) (hc1 : cond0_1 i) :
    Good (R := 128) arg8.view (harg8.unread xs0) 0 (accStep arg4 harg4 arg5 harg5 arg6 harg6 x0 x1 x2) xs0 128
      (kernelRun0_C c i arg4 harg4 arg5 harg5 arg6 harg6 arg7 harg7 arg8 harg8 arg9 harg9 hc0 hc1 x0 x1 x2 xs0 xs1).2.1 := by
  iterate 96 refine Good.again rfl (by norm_num) ?_ rfl
  iterate 32 refine Good.fresh (harg8.read_unread xs0) (by norm_num) ?_ rfl
  exact Good.start (harg8.read_unread xs0)

/-- The same of the denominators. -/
theorem goodDen_C (hc0 : ¬cond0_0 i) (hc1 : cond0_1 i) :
    Good (R := 8) arg9.view (harg9.unread xs1) 0 (denStep arg4 harg4 arg5 harg5 x0 x1) xs1 128
      (kernelRun0_C c i arg4 harg4 arg5 harg5 arg6 harg6 arg7 harg7 arg8 harg8 arg9 harg9 hc0 hc1 x0 x1 x2 xs0 xs1).2.2.1 := by
  iterate 96 refine Good.again rfl (by norm_num) ?_ rfl
  iterate 32 refine Good.fresh (harg9.read_unread xs1) (by norm_num) ?_ rfl
  exact Good.start (harg9.read_unread xs1)

/-- The four pieces of the output at the last key block: head `g` of the group is the quotient of the accumulator's
columns by the denominators' column sums, transposed. -/
theorem outPieces (hc0 : ¬cond0_0 i) (hc1 : cond0_1 i) :
    (kernelRun0_C c i arg4 harg4 arg5 harg5 arg6 harg6 arg7 harg7 arg8 harg8 arg9 harg9 hc0 hc1 x0 x1 x2 xs0 xs1).1
      = [⟨Rect.unit (s := S1x2048x512) ![0, 0, 384] S1x2048x128.size inb_S1x2048x512_S1x2048x128_0_0_384,
          k0_pay2
            (arg8.view.readCov (kernelRun0_C c i arg4 harg4 arg5 harg5 arg6 harg6 arg7 harg7 arg8 harg8 arg9 harg9 hc0 hc1 x0 x1 x2 xs0 xs1).2.1
              (Rect.unit (s := S128x8192) ![0, 6144] S128x2048.size inb_S128x8192_S128x2048_0_6144).toLoadRect)
            (arg9.view.readCov (kernelRun0_C c i arg4 harg4 arg5 harg5 arg6 harg6 arg7 harg7 arg8 harg8 arg9 harg9 hc0 hc1 x0 x1 x2 xs0 xs1).2.2.1
              (Rect.unit (s := S8x8192) ![0, 6144] S8x2048.size inb_S8x8192_S8x2048_0_6144).toLoadRect)⟩,
        ⟨Rect.unit (s := S1x2048x512) ![0, 0, 256] S1x2048x128.size inb_S1x2048x512_S1x2048x128_0_0_256,
          k0_pay2
            (arg8.view.readCov (kernelRun0_C c i arg4 harg4 arg5 harg5 arg6 harg6 arg7 harg7 arg8 harg8 arg9 harg9 hc0 hc1 x0 x1 x2 xs0 xs1).2.1
              (Rect.unit (s := S128x8192) ![0, 4096] S128x2048.size inb_S128x8192_S128x2048_0_4096).toLoadRect)
            (arg9.view.readCov (kernelRun0_C c i arg4 harg4 arg5 harg5 arg6 harg6 arg7 harg7 arg8 harg8 arg9 harg9 hc0 hc1 x0 x1 x2 xs0 xs1).2.2.1
              (Rect.unit (s := S8x8192) ![0, 4096] S8x2048.size inb_S8x8192_S8x2048_0_4096).toLoadRect)⟩,
        ⟨Rect.unit (s := S1x2048x512) ![0, 0, 128] S1x2048x128.size inb_S1x2048x512_S1x2048x128_0_0_128,
          k0_pay2
            (arg8.view.readCov (kernelRun0_C c i arg4 harg4 arg5 harg5 arg6 harg6 arg7 harg7 arg8 harg8 arg9 harg9 hc0 hc1 x0 x1 x2 xs0 xs1).2.1
              (Rect.unit (s := S128x8192) ![0, 2048] S128x2048.size inb_S128x8192_S128x2048_0_2048).toLoadRect)
            (arg9.view.readCov (kernelRun0_C c i arg4 harg4 arg5 harg5 arg6 harg6 arg7 harg7 arg8 harg8 arg9 harg9 hc0 hc1 x0 x1 x2 xs0 xs1).2.2.1
              (Rect.unit (s := S8x8192) ![0, 2048] S8x2048.size inb_S8x8192_S8x2048_0_2048).toLoadRect)⟩,
        ⟨Rect.unit (s := S1x2048x512) ![0, 0, 0] S1x2048x128.size inb_S1x2048x512_S1x2048x128_0_0_0,
          k0_pay2
            (arg8.view.readCov (kernelRun0_C c i arg4 harg4 arg5 harg5 arg6 harg6 arg7 harg7 arg8 harg8 arg9 harg9 hc0 hc1 x0 x1 x2 xs0 xs1).2.1
              (Rect.unit (s := S128x8192) ![0, 0] S128x2048.size inb_S128x8192_S128x2048_0_0).toLoadRect)
            (arg9.view.readCov (kernelRun0_C c i arg4 harg4 arg5 harg5 arg6 harg6 arg7 harg7 arg8 harg8 arg9 harg9 hc0 hc1 x0 x1 x2 xs0 xs1).2.2.1
              (Rect.unit (s := S8x8192) ![0, 0] S8x2048.size inb_S8x8192_S8x2048_0_0).toLoadRect)⟩] := rfl

end Runs

end Cert.Attn

end
-- ==== Proof.Reading.lean ====
module

public import proofs.«01_k».proof.Proof.Body
public import Idealize.ShloMosaic.Lib.MatmulPlain
public import Idealize.ShloMosaic.Lib.ValueLayout
public import Idealize.ShloMosaic.Lib.Pipeline.Value

/-!
The block steps read over the extended reals: the powers are `2 ^ (key · query)`, and 128 steps add to each entry of a
carried buffer one sum over the 2048 keys of the grid point.
-/

@[expose] public section

set_option maxRecDepth 16384

noncomputable section

namespace Cert.Attn

open Idealize.ShloMosaic Idealize.ShloMosaic.TcCoe Idealize.ShloMosaic.ValueIdx Cert.KernelIdeal Cert.KernelIdeal.Gen Cert.Bands

theorem dot_qk : dot_S512x128_S128x256_S512x256_1_0_0_1_n_n = DotDims.plain 512 128 256 := rfl
theorem dot_vp : dot_S128x512_S512x256_S128x256_1_0_0_1_n_n = DotDims.plain 128 512 256 := rfl

/-- The power of two of key `s` of the point's block and column `col` of the point's queries (head `col / 2048`, query
`col mod 2048`). -/
def pw (x0 : Vec Ideal S1x512x2048 .bf16) (x1 : Vec Ideal S1x2048x128 .bf16) (s : Fin 2048) (col : Fin 8192) : EReal :=
  Ideal.exp2 (∑ e : Fin 128, x1 (ix3 (0 : Fin 1) s e) *
    x0 (ix3 (0 : Fin 1) (⟨128 * (col.val / 2048) + e.val, by omega⟩ : Fin 512) (⟨col.val % 2048, by omega⟩ : Fin 2048)))

section

variable (arg4 : Memref sig .tc .vmem S1x512x2048 .bf16) (harg4 : arg4.IsWhole)
  (arg5 : Memref sig .tc .vmem S1x2048x128 .bf16) (harg5 : arg5.IsWhole)
  (arg6 : Memref sig .tc .vmem S1x128x2048 .bf16) (harg6 : arg6.IsWhole)
  (x0 : Vec Ideal S1x512x2048 .bf16) (x1 : Vec Ideal S1x2048x128 .bf16) (x2 : Vec Ideal S1x128x2048 .bf16)

/-- The powers of step `n` at key `s` of its 512 and query `j` of its 256. -/
theorem powers_apply (n : ℕ) (s : Fin 512) (j : Fin 256) :
    powers arg4 harg4 arg5 harg5 x0 x1 n (ix2 s j)
      = pw x0 x1 ⟨512 * (n / 32 % 4) + s.val, by omega⟩ ⟨256 * (n % 32) + j.val, by omega⟩ := by
  unfold powers pw
  rw [dot_qk]
  show Ideal.exp2 (FloatOps.matmul (F := Ideal) (DotDims.plain 512 128 256) none _ _ _ (ix2 s j)) = _
  rw [Ideal.matmul_plain_apply]
  congr 1
  show Ideal.ofBits .f32 0x00000000#32 + _ = _
  rw [Ideal.ofBits_zero_f32, zero_add]
  refine Finset.sum_congr rfl fun e _ => ?_
  rw [shapeCast_1ab_ab_apply, shapeCast_1ab_ab_apply, View.readAt_apply, View.readAt_apply, harg4.read_unread, harg5.read_unread]
  congr 2
  · funext a
    apply Fin.ext
    match a with
    | 0 => rfl
    | 1 => show 512 * (n / 32 % 4) + 1 * s.val = 512 * (n / 32 % 4) + s.val; omega
    | 2 => show 0 + 1 * e.val = e.val; omega
  · funext a
    apply Fin.ext
    match a with
    | 0 => rfl
    | 1 => show 128 * (n / 8 % 4) + 1 * e.val = 128 * ((256 * (n % 32) + j.val) / 2048) + e.val; omega
    | 2 => show 256 * (n % 8) + 1 * j.val = (256 * (n % 32) + j.val) % 2048; omega

/-- Step `n` of the accumulator adds its 512 keys' values times powers. -/
theorem accStep_apply (n : ℕ) (w : Vec Ideal S128x256 .f32) (d : Fin 128) (j : Fin 256) :
    accStep arg4 harg4 arg5 harg5 arg6 harg6 x0 x1 x2 n w (ix2 d j)
      = w (ix2 d j) + ∑ s : Fin 512, x2 (ix3 (0 : Fin 1) d (⟨512 * (n / 32 % 4) + s.val, by omega⟩ : Fin 2048))
          * pw x0 x1 ⟨512 * (n / 32 % 4) + s.val, by omega⟩ ⟨256 * (n % 32) + j.val, by omega⟩ := by
  unfold accStep
  rw [dot_vp, shapeCast_self]
  show w (ix2 d j) + FloatOps.matmul (F := Ideal) (DotDims.plain 128 512 256) none _ _ _ (ix2 d j) = _
  rw [Ideal.matmul_plain_apply]
  congr 1
  show Ideal.ofBits .f32 0x00000000#32 + _ = _
  rw [Ideal.ofBits_zero_f32, zero_add]
  refine Finset.sum_congr rfl fun s _ => ?_
  rw [← powers_apply arg4 harg4 arg5 harg5 x0 x1 n s j, shapeCast_1ab_ab_apply, View.readAt_apply, harg6.read_unread]
  congr 2
  funext a
  apply Fin.ext
  match a with
  | 0 => rfl
  | 1 => show 0 + 1 * d.val = d.val; omega
  | 2 => show 512 * (n / 32 % 4) + 1 * s.val = 512 * (n / 32 % 4) + s.val; omega

/-- Step `n` of the denominators adds the powers of the keys whose number is `r` modulo 8. -/
theorem denStep_apply (n : ℕ) (w : Vec Ideal S8x256 .f32) (r : Fin 8) (j : Fin 256) :
    denStep arg4 harg4 arg5 harg5 x0 x1 n w (ix2 r j)
      = w (ix2 r j) + ∑ u : Fin 64,
          pw x0 x1 ⟨512 * (n / 32 % 4) + (8 * u.val + r.val), by omega⟩ ⟨256 * (n % 32) + j.val, by omega⟩ := by
  unfold denStep
  rw [shapeCast_self]
  show w (ix2 r j) + multiReduction (F := Ideal) (φ := .f32) .add [0] S8x256 _ _ _ _ _ (ix2 r j) = _
  refine (congrArg (w (ix2 r j) + ·) (Ideal.multiReduction_add_single _ _ _ _ _ _)).trans ?_
  refine congrArg (w (ix2 r j) + ·) ?_
  refine Finset.sum_congr rfl fun (u : Fin 64) _ => ?_
  rw [← powers_apply arg4 harg4 arg5 harg5 x0 x1 n ⟨8 * u.val + r.val, by omega⟩ j]
  refine shapeCast_apply _ _ _ _ ?_
  have hl : reduces_S64x8x256_S8x256.lift (ix2 r j) u = ix3 u r j := by
    funext a
    apply Fin.ext
    match a with
    | 0 => rfl
    | 1 => rfl
    | 2 => rfl
  rw [hl, Shape.rowMajor_val_two, Shape.rowMajor_val_three]
  show (8 * u.val + r.val) * 256 + j.val = (u.val * 8 + r.val) * 256 + j.val
  omega

end

/-! ## 128 steps as one sum over the point's keys -/

/-- A sum over `N = m · n` numbers, in `m` runs of `n`. -/
theorem sum_split {m n N : ℕ} (h : N = m * n) (f : Fin N → EReal) :
    ∑ a : Fin m, ∑ b : Fin n, f ⟨n * a.val + b.val, by
      have h1 := a.isLt
      have h2 := b.isLt
      subst h
      calc n * a.val + b.val < n * a.val + n := by omega
        _ = n * (a.val + 1) := by ring
        _ ≤ n * m := Nat.mul_le_mul_left _ h1
        _ = m * n := Nat.mul_comm _ _⟩ = ∑ i, f i := by
  subst h
  rw [← finProdFinEquiv.sum_comp, Fintype.sum_prod_type]
  refine Finset.sum_congr rfl fun a _ => Finset.sum_congr rfl fun b _ => congrArg f (Fin.ext ?_)
  show n * a.val + b.val = b.val + n * a.val
  omega

/-- Where every step adds `U n` to its band, `n` steps add the contributions of the steps on the entry's band. -/
theorem state_sum {R : ℕ} (pay : ℕ → Vec Ideal (Band R) .f32 → Vec Ideal (Band R) .f32) (U : ℕ → Fin R → Fin 256 → EReal)
    (hU : ∀ n w r j, pay n w (ix2 r j) = ((w (ix2 r j) : EReal) + U n r j : EReal))
    (xs : Vec Ideal (Buf R) .f32) (r : Fin R) (col : Fin 8192) : ∀ n : ℕ,
    state (Val := Elt Ideal) (e := .f32) pay xs n (ix2 r col)
      = ((xs (ix2 r col) : EReal) + ∑ i ∈ Finset.range n, if i % 32 = col.val / 256 then U i r ⟨col.val % 256, by omega⟩ else 0 : EReal)
  | 0 => by rw [Finset.sum_range_zero, add_zero]; rfl
  | n + 1 => by
    rw [Finset.sum_range_succ, ← add_assoc]
    show (if inBand n (ix2 r col : (Buf R).Idx) then pay n _ (loc (ix2 r col)) else state (Val := Elt Ideal) (e := .f32) pay xs n (ix2 r col)) = _
    have hb : inBand n (ix2 r col : (Buf R).Idx) ↔ n % 32 = col.val / 256 := by
      show 256 * (n % 32) ≤ col.val ∧ col.val < 256 * (n % 32) + 256 ↔ _
      omega
    by_cases h : n % 32 = col.val / 256
    · rw [if_pos (hb.mpr h), if_pos h]
      refine (hU n _ r ⟨col.val % 256, by omega⟩).trans ?_
      refine congrArg (· + U n r ⟨col.val % 256, by omega⟩) ?_
      refine Eq.trans (congrArg _ ?_) (state_sum pay U hU xs r col n)
      funext a
      apply Fin.ext
      match a with
      | 0 => show 0 + 1 * r.val = r.val; omega
      | 1 => show 256 * (n % 32) + 1 * (col.val % 256) = col.val; omega
    · rw [if_neg (fun hc => h (hb.mp hc)), if_neg h, add_zero]
      exact state_sum pay U hU xs r col n

/-- All 128 steps: four contributions, one of each run of 32 steps. -/
theorem state_all {R : ℕ} (pay : ℕ → Vec Ideal (Band R) .f32 → Vec Ideal (Band R) .f32) (U : ℕ → Fin R → Fin 256 → EReal)
    (hU : ∀ n w r j, pay n w (ix2 r j) = ((w (ix2 r j) : EReal) + U n r j : EReal))
    (xs : Vec Ideal (Buf R) .f32) (r : Fin R) (col : Fin 8192) :
    state (Val := Elt Ideal) (e := .f32) pay xs 128 (ix2 r col)
      = ((xs (ix2 r col) : EReal) + ∑ t : Fin 4, U (32 * t.val + col.val / 256) r ⟨col.val % 256, by omega⟩ : EReal) := by
  rw [state_sum pay U hU, Finset.sum_range, ← sum_split (show 128 = 4 * 32 from rfl)]
  refine congrArg ((xs (ix2 r col) : EReal) + ·) (Finset.sum_congr rfl fun t _ => ?_)
  have hq : col.val / 256 < 32 := by omega
  rw [Finset.sum_eq_single (⟨col.val / 256, hq⟩ : Fin 32)]
  · exact if_pos (show (32 * t.val + col.val / 256) % 32 = col.val / 256 by omega)
  · intro b _ hb
    refine if_neg fun hc => hb (Fin.ext ?_)
    have h1 : (32 * t.val + b.val) % 32 = col.val / 256 := hc
    show b.val = col.val / 256
    omega
  · intro h
    exact absurd (Finset.mem_univ _) h

section

variable (arg4 : Memref sig .tc .vmem S1x512x2048 .bf16) (harg4 : arg4.IsWhole)
  (arg5 : Memref sig .tc .vmem S1x2048x128 .bf16) (harg5 : arg5.IsWhole)
  (arg6 : Memref sig .tc .vmem S1x128x2048 .bf16) (harg6 : arg6.IsWhole)
  (x0 : Vec Ideal S1x512x2048 .bf16) (x1 : Vec Ideal S1x2048x128 .bf16) (x2 : Vec Ideal S1x128x2048 .bf16)

/-- A grid point adds to the accumulator the values of its 2048 keys times their powers. -/
theorem acc_all (xs : Vec Ideal S128x8192 .f32) (d : Fin 128) (col : Fin 8192) :
    state (R := 128) (accStep arg4 harg4 arg5 harg5 arg6 harg6 x0 x1 x2) xs 128 (ix2 d col)
      = xs (ix2 d col) + ∑ s : Fin 2048, x2 (ix3 (0 : Fin 1) d s) * pw x0 x1 s col := by
  refine (state_all (R := 128) _ _ (accStep_apply arg4 harg4 arg5 harg5 arg6 harg6 x0 x1 x2) xs d col).trans ?_
  refine congrArg (xs (ix2 d col) + ·) ?_
  refine Eq.trans ?_ (sum_split (show 2048 = 4 * 512 from rfl) fun s => x2 (ix3 (0 : Fin 1) d s) * pw x0 x1 s col)
  refine Finset.sum_congr rfl fun t _ => Finset.sum_congr rfl fun s _ => ?_
  have h1 : (32 * t.val + col.val / 256) / 32 % 4 = t.val := by omega
  have h2 : 256 * ((32 * t.val + col.val / 256) % 32) + col.val % 256 = col.val := by omega
  simp only [h1, h2]

/-- A grid point adds to the eight rows of the denominators, together, the powers of its 2048 keys. -/
theorem den_all (xs : Vec Ideal S8x8192 .f32) (col : Fin 8192) :
    ∑ r : Fin 8, (state (R := 8) (denStep arg4 harg4 arg5 harg5 x0 x1) xs 128 (ix2 r col) : EReal)
      = (∑ r : Fin 8, (xs (ix2 r col) : EReal)) + ∑ s : Fin 2048, pw x0 x1 s col := by
  rw [Finset.sum_congr rfl fun r _ => state_all (R := 8) _ _ (denStep_apply arg4 harg4 arg5 harg5 x0 x1) xs r col,
    Finset.sum_add_distrib]
  refine congrArg (_ + ·) ?_
  rw [Finset.sum_comm, ← sum_split (show 2048 = 4 * 512 from rfl)]
  refine Finset.sum_congr rfl fun t _ => ?_
  have h1 : (32 * t.val + col.val / 256) / 32 % 4 = t.val := by omega
  have h2 : 256 * ((32 * t.val + col.val / 256) % 32) + col.val % 256 = col.val := by omega
  rw [Finset.sum_comm]
  simp only [h1, h2]
  exact sum_split (show 512 = 64 * 8 from rfl) fun b : Fin 512 => pw x0 x1 ⟨512 * t.val + b.val, by omega⟩ col

end

end Cert.Attn

end
-- ==== Proof.Points.lean ====
module

public import proofs.«01_k».proof.Proof.Reading
public import proofs.«01_k».proof.Proof.Gen.KernelIdeal.Value
public import Idealize.ShloMosaic.Lib.Pipeline.ValueKit.Geometry
public import Idealize.ShloMosaic.Lib.Pipeline.ValueKit.Acc

/-!
The grid points of the attention. Point `t` works on batch `t / 128`, group `t / 64 mod 2`, query block `t / 8 mod 8` and
key block `t mod 8`. Here its input blocks are read off the arguments, and the eight key blocks of a query block are added
up.
-/

@[expose] public section

set_option maxRecDepth 16384

noncomputable section

namespace Cert.Attn

open Idealize.ShloMosaic Idealize.ShloMosaic.TcCoe Idealize.ShloMosaic.ValueIdx Cert.KernelIdeal Cert.KernelIdeal.Gen Cert.Bands

/-- The block every window shows at a grid point. -/
theorem indices : ∀ t : Fin cfg0.N,
    win0_0.index t = ![t.val / 128, t.val / 64 % 2, t.val / 8 % 8]
    ∧ win0_1.index t = ![t.val / 128, t.val % 8, t.val / 64 % 2]
    ∧ win0_2.index t = ![t.val / 128, t.val / 64 % 2, t.val % 8]
    ∧ win0_3.index t = ![t.val / 128, t.val / 8 % 8, t.val / 64 % 2] := by
  decide +kernel

theorem point_lt (t : Fin cfg0.N) : t.val < 256 := t.isLt.trans_eq N_0

section
variable {F : FTy → Type} [FloatOps F]
variable (m : (ℓ : Loc nD τ sig) → Buf (Elt F) ℓ) (c : Dev nD)

/-- The arguments of the attention: queries, keys and values. -/
abbrev qA : Vec F S2x1024x16384 .bf16 := m ((c : Thread nD τ).loc main_arg0)
abbrev kA : Vec F S2x16384x256 .bf16 := m ((c : Thread nD τ).loc main_arg1)
abbrev vA : Vec F S2x256x16384 .bf16 := m ((c : Thread nD τ).loc main_arg2)

/-- The query block of a point. -/
theorem q_block (t : Fin cfg0.N) (a : Fin 512) (q : Fin 2048) :
    iblk m c 0 t (ix3 (0 : Fin 1) a q) = qA m c (ix3 (⟨t.val / 128, by have := point_lt t; omega⟩ : Fin 2)
      (⟨512 * (t.val / 64 % 2) + a.val, by omega⟩ : Fin 1024) (⟨2048 * (t.val / 8 % 8) + q.val, by omega⟩ : Fin 16384)) := by
  have idx := indices t
  blk_ext [iblk, V, idx]
  all_goals first | (show _ + a.val = _; omega) | (show _ + q.val = _; omega)

/-- The key block of a point. -/
theorem k_block (t : Fin cfg0.N) (s : Fin 2048) (e : Fin 128) :
    iblk m c 1 t (ix3 (0 : Fin 1) s e) = kA m c (ix3 (⟨t.val / 128, by have := point_lt t; omega⟩ : Fin 2)
      (⟨2048 * (t.val % 8) + s.val, by omega⟩ : Fin 16384) (⟨128 * (t.val / 64 % 2) + e.val, by omega⟩ : Fin 256)) := by
  have idx := indices t
  blk_ext [iblk, V, idx]
  all_goals first | (show _ + s.val = _; omega) | (show _ + e.val = _; omega)

/-- The value block of a point. -/
theorem v_block (t : Fin cfg0.N) (d : Fin 128) (s : Fin 2048) :
    iblk m c 2 t (ix3 (0 : Fin 1) d s) = vA m c (ix3 (⟨t.val / 128, by have := point_lt t; omega⟩ : Fin 2)
      (⟨128 * (t.val / 64 % 2) + d.val, by omega⟩ : Fin 256) (⟨2048 * (t.val % 8) + s.val, by omega⟩ : Fin 16384)) := by
  have idx := indices t
  blk_ext [iblk, V, idx]
  all_goals first | (show _ + d.val = _; omega) | (show _ + s.val = _; omega)

end

/-! ## What a point leaves in the two carried buffers -/

section Leaves
variable {F : FTy → Type} [FloatOps F]
variable (c : Dev nD) (i : grid0.Coords) (arg4 : Memref sig .tc .vmem S1x512x2048 .bf16) (harg4 : arg4.IsWhole)
  (arg5 : Memref sig .tc .vmem S1x2048x128 .bf16) (harg5 : arg5.IsWhole)
  (arg6 : Memref sig .tc .vmem S1x128x2048 .bf16) (harg6 : arg6.IsWhole)
  (arg7 : Memref sig .tc .vmem S1x2048x512 .bf16) (harg7 : arg7.IsWhole)
  (arg8 : Memref sig .tc .vmem S128x8192 .f32) (harg8 : arg8.IsWhole)
  (arg9 : Memref sig .tc .vmem S8x8192 .f32) (harg9 : arg9.IsWhole)
  (x0 : Vec F S1x512x2048 .bf16) (x1 : Vec F S1x2048x128 .bf16) (x2 : Vec F S1x128x2048 .bf16)
  (xs0 : Vec F S128x8192 .f32) (xs1 : Vec F S8x8192 .f32)

theorem leavesAcc_A (hc0 : cond0_0 i) (hc1 : ¬cond0_1 i) :
    sout0_A_0 c i arg4 harg4 arg5 harg5 arg6 harg6 arg7 harg7 arg8 harg8 arg9 harg9 hc0 hc1 x0 x1 x2
      = state (R := 128) (accStep arg4 harg4 arg5 harg5 arg6 harg6 x0 x1 x2) k0_pay6 128 := by
  unfold sout0_A_0
  exact (goodAcc_A c i arg4 harg4 arg5 harg5 arg6 harg6 arg7 harg7 arg8 harg8 arg9 harg9 x0 x1 x2 hc0 hc1).read_junk (by norm_num) _ _

theorem leavesDen_A (hc0 : cond0_0 i) (hc1 : ¬cond0_1 i) :
    sout0_A_1 c i arg4 harg4 arg5 harg5 arg6 harg6 arg7 harg7 arg8 harg8 arg9 harg9 hc0 hc1 x0 x1 x2
      = state (R := 8) (denStep arg4 harg4 arg5 harg5 x0 x1) k0_pay7 128 := by
  unfold sout0_A_1
  exact (goodDen_A c i arg4 harg4 arg5 harg5 arg6 harg6 arg7 harg7 arg8 harg8 arg9 harg9 x0 x1 x2 hc0 hc1).read_junk (by norm_num) _ _

theorem leavesAcc_B (hc0 : ¬cond0_0 i) (hc1 : ¬cond0_1 i) :
    sout0_B_0 c i arg4 harg4 arg5 harg5 arg6 harg6 arg7 harg7 arg8 harg8 arg9 harg9 hc0 hc1 x0 x1 x2 xs0 xs1
      = state (R := 128) (accStep arg4 harg4 arg5 harg5 arg6 harg6 x0 x1 x2) xs0 128 := by
  unfold sout0_B_0
  exact (goodAcc_B c i arg4 harg4 arg5 harg5 arg6 harg6 arg7 harg7 arg8 harg8 arg9 harg9 x0 x1 x2 xs0 xs1 hc0 hc1).read_junk (by norm_num) _ _

theorem leavesDen_B (hc0 : ¬cond0_0 i) (hc1 : ¬cond0_1 i) :
    sout0_B_1 c i arg4 harg4 arg5 harg5 arg6 harg6 arg7 harg7 arg8 harg8 arg9 harg9 hc0 hc1 x0 x1 x2 xs0 xs1
      = state (R := 8) (denStep arg4 harg4 arg5 harg5 x0 x1) xs1 128 := by
  unfold sout0_B_1
  exact (goodDen_B c i arg4 harg4 arg5 harg5 arg6 harg6 arg7 harg7 arg8 harg8 arg9 harg9 x0 x1 x2 xs0 xs1 hc0 hc1).read_junk (by norm_num) _ _

theorem leavesAcc_C (hc0 : ¬cond0_0 i) (hc1 : cond0_1 i) :
    sout0_C_0 c i arg4 harg4 arg5 harg5 arg6 harg6 arg7 harg7 arg8 harg8 arg9 harg9 hc0 hc1 x0 x1 x2 xs0 xs1
      = state (R := 128) (accStep arg4 harg4 arg5 harg5 arg6 harg6 x0 x1 x2) xs0 128 := by
  unfold sout0_C_0
  exact (goodAcc_C c i arg4 harg4 arg5 harg5 arg6 harg6 arg7 harg7 arg8 harg8 arg9 harg9 x0 x1 x2 xs0 xs1 hc0 hc1).read_junk (by norm_num) _ _

theorem leavesDen_C (hc0 : ¬cond0_0 i) (hc1 : cond0_1 i) :
    sout0_C_1 c i arg4 harg4 arg5 harg5 arg6 harg6 arg7 harg7 arg8 harg8 arg9 harg9 hc0 hc1 x0 x1 x2 xs0 xs1
      = state (R := 8) (denStep arg4 harg4 arg5 harg5 x0 x1) xs1 128 := by
  unfold sout0_C_1
  exact (goodDen_C c i arg4 harg4 arg5 harg5 arg6 harg6 arg7 harg7 arg8 harg8 arg9 harg9 x0 x1 x2 xs0 xs1 hc0 hc1).read_junk (by norm_num) _ _

end Leaves

/-! ## The eight key blocks of a query block, over the extended reals -/

section
variable (m : (ℓ : Loc nD τ sig) → Buf (Elt Ideal) ℓ) (c : Dev nD)

/-- The blocks of a point, at their own shapes. -/
abbrev qB (t : Fin cfg0.N) : Vec Ideal S1x512x2048 .bf16 := iblk m c 0 t
abbrev kB (t : Fin cfg0.N) : Vec Ideal S1x2048x128 .bf16 := iblk m c 1 t
abbrev vB (t : Fin cfg0.N) : Vec Ideal S1x128x2048 .bf16 := iblk m c 2 t

/-- What point `t` adds to the accumulator's entry `(d, col)`. -/
def accTerm (d : Fin 128) (col : Fin 8192) (t : Fin cfg0.N) : EReal :=
  ∑ s : Fin 2048, vB m c t (ix3 (0 : Fin 1) d s) * pw (qB m c t) (kB m c t) s col

/-- What point `t` adds to the denominator of column `col`. -/
def denTerm (col : Fin 8192) (t : Fin cfg0.N) : EReal :=
  ∑ s : Fin 2048, pw (qB m c t) (kB m c t) s col

theorem zero_acc (y : S128x8192.Idx) : k0_pay6 (F := Ideal) y = 0 := by
  unfold k0_pay6
  rw [shapeCast_self]
  exact Ideal.ofBits_zero_f32

theorem zero_den (y : S8x8192.Idx) : k0_pay7 (F := Ideal) y = 0 := by
  unfold k0_pay7
  rw [shapeCast_self]
  exact Ideal.ofBits_zero_f32

/-- The first key block leaves in the accumulator what it adds itself. -/
theorem acc_first (t : Fin cfg0.N) (h : t.val % 8 = 0) (d : Fin 128) (col : Fin 8192) :
    ((outsAt0 m c t.val t.isLt).2.1 (ix2 d col) : EReal) = 0 + accTerm m c d col t := by
  have e := congrArg (fun p => p.2.1) (outsAt0_A m c t h (by omega))
  dsimp only at e
  rw [leavesAcc_A] at e
  rw [e]
  refine (acc_all _ _ _ _ _ _ _ _ _ _ _ _).trans ?_
  rw [zero_acc]; rfl

/-- … and in the denominators. -/
theorem den_first (t : Fin cfg0.N) (h : t.val % 8 = 0) (col : Fin 8192) :
    (∑ r : Fin 8, ((outsAt0 m c t.val t.isLt).2.2 (ix2 r col) : EReal)) = 0 + denTerm m c col t := by
  have e := congrArg (fun p => p.2.2) (outsAt0_A m c t h (by omega))
  dsimp only at e
  rw [leavesDen_A] at e
  rw [e]
  refine (den_all _ _ _ _ _ _ _ _).trans ?_
  rw [Finset.sum_congr rfl fun r _ => zero_den _, Finset.sum_const_zero]; rfl

/-- What a point before its own eight adds on to: the buffers the point before left. -/
abbrev prev (t : Fin cfg0.N) := outsAt0 m c (t.val - 1) (Nat.lt_of_le_of_lt (Nat.sub_le _ _) t.isLt)

/-- A later key block adds its own part to the accumulator. -/
theorem acc_next (t : Fin cfg0.N) (h : ¬t.val % 8 = 0) (d : Fin 128) (col : Fin 8192) :
    ((outsAt0 m c t.val t.isLt).2.1 (ix2 d col) : EReal) = (prev m c t).2.1 (ix2 d col) + accTerm m c d col t := by
  by_cases h1 : t.val % 8 = 7
  · have e := congrArg (fun p => p.2.1) (outsAt0_C m c t h h1)
    dsimp only at e
    rw [leavesAcc_C] at e
    rw [e]
    exact acc_all _ _ _ _ _ _ _ _ _ _ _ _
  · have e := congrArg (fun p => p.2.1) (outsAt0_B m c t h h1)
    dsimp only at e
    rw [leavesAcc_B] at e
    rw [e]
    exact acc_all _ _ _ _ _ _ _ _ _ _ _ _

/-- … and to the denominators. -/
theorem den_next (t : Fin cfg0.N) (h : ¬t.val % 8 = 0) (col : Fin 8192) :
    (∑ r : Fin 8, ((outsAt0 m c t.val t.isLt).2.2 (ix2 r col) : EReal))
      = (∑ r : Fin 8, ((prev m c t).2.2 (ix2 r col) : EReal)) + denTerm m c col t := by
  by_cases h1 : t.val % 8 = 7
  · have e := congrArg (fun p => p.2.2) (outsAt0_C m c t h h1)
    dsimp only at e
    rw [leavesDen_C] at e
    rw [e]
    exact den_all _ _ _ _ _ _ _ _
  · have e := congrArg (fun p => p.2.2) (outsAt0_B m c t h h1)
    dsimp only at e
    rw [leavesDen_B] at e
    rw [e]
    exact den_all _ _ _ _ _ _ _ _

/-- After the last key block the accumulator holds the sum over the eight. -/
theorem acc_last (t : Fin cfg0.N) (h : t.val % 8 = 7) (d : Fin 128) (col : Fin 8192) :
    ((outsAt0 m c t.val t.isLt).2.1 (ix2 d col) : EReal)
      = ∑ j : Fin 8, accTerm m c d col ⟨8 * (t.val / 8) + j.val, Pipeline.run_point_lt_of_flush t h j⟩ :=
  (Pipeline.eq_sum_fin_of_reset_step_of_flush (M := EReal) (fun n hn => (outsAt0 m c n hn).2.1 (ix2 d col)) 8 0
    (accTerm m c d col) (fun t ht => acc_first m c t ht d col) (fun t ht => acc_next m c t ht d col) t h).trans (zero_add _)

/-- … and the denominators of a column add up to its sum over the eight. -/
theorem den_last (t : Fin cfg0.N) (h : t.val % 8 = 7) (col : Fin 8192) :
    (∑ r : Fin 8, ((outsAt0 m c t.val t.isLt).2.2 (ix2 r col) : EReal))
      = ∑ j : Fin 8, denTerm m c col ⟨8 * (t.val / 8) + j.val, Pipeline.run_point_lt_of_flush t h j⟩ :=
  (Pipeline.eq_sum_fin_of_reset_step_of_flush (M := EReal) (fun n hn => ∑ r : Fin 8, ((outsAt0 m c n hn).2.2 (ix2 r col) : EReal)) 8 0
    (denTerm m c col) (fun t ht => den_first m c t ht col) (fun t ht => den_next m c t ht col) t h).trans (zero_add _)

end

end Cert.Attn

end
-- ==== Proof.Output.lean ====
module

public import proofs.«01_k».proof.Proof.Points

/-!
The output block of the attention. At the last key block of a query block the body divides, head by head, the accumulator
by the column sums of the denominators and stores the transposed quotient.
-/

@[expose] public section

set_option maxRecDepth 16384

noncomputable section

namespace Cert.Attn

open Idealize.ShloMosaic Idealize.ShloMosaic.TcCoe Idealize.ShloMosaic.ValueIdx Cert.KernelIdeal Cert.KernelIdeal.Gen Cert.Bands

/-- The quotient the body stores for one head: entry `(q, d)` is the accumulator's `(d, q)` over the sum of column `q` of
the denominators. -/
theorem quotient_apply (A : Vec Ideal S128x2048 .f32) (D : Vec Ideal S8x2048 .f32) (q : Fin 2048) (d : Fin 128) :
    k0_pay2 (F := Ideal) A D (ix3 (0 : Fin 1) q d) = Ideal.div (A (ix2 d q)) (∑ r : Fin 8, (D (ix2 r q) : EReal)) := by
  unfold k0_pay2
  refine (shapeCast_ab_1ab_apply _ shapeCasts_S2048x128_S1x2048x128 (0 : Fin 1) q d).trans ?_
  refine Eq.trans (b := transpose S2048x128 [1, 0] (divf (F := Ideal) (φ := .f32) A (broadcastTo S128x2048 (shapeCast S1x2048
    (multiReduction (F := Ideal) (φ := .f32) .add [0] S2048 D 0x00000000#32 reduces_S8x2048_S2048 (.inl rfl) rfl)
    shapeCasts_S2048_S1x2048) broadcasts_S1x2048_S128x2048)) transposes_S128x2048_p1_0_S2048x128 (ix2 q d)) rfl ?_
  refine (transpose_ix2_apply _ transposes_S128x2048_p1_0_S2048x128 q d).trans ?_
  refine congrArg (Ideal.div (A (ix2 d q))) ?_
  refine (broadcastTo_1b_ab_apply _ broadcasts_S1x2048_S128x2048 d q).trans ?_
  refine (shapeCast_a_1a_apply _ shapeCasts_S2048_S1x2048 (0 : Fin 1) q).trans ?_
  refine (Ideal.multiReduction_add_single _ _ _ _ _ _).trans ?_
  refine Finset.sum_congr rfl fun (r : Fin 8) _ => congrArg D ?_
  funext a
  apply Fin.ext
  match a with
  | 0 => rfl
  | 1 => rfl

/-- Four stores side by side into the output block, read back: head `g`'s columns hold what was stored for head `g`. -/
theorem heads_read {κ : Kind} {sp : Space} (v : View sig κ sp S1x2048x512 .bf16) (f : v.ty.Contents (Elt Ideal))
    (P : Fin 4 → Vec Ideal S1x2048x128 .bf16) (q : Fin 2048) (g : Fin 4) (d : Fin 128) :
    v.read (Elt Ideal) (v.writes (Elt Ideal) f
      [⟨Rect.unit (s := S1x2048x512) ![0, 0, 384] S1x2048x128.size inb_S1x2048x512_S1x2048x128_0_0_384, P 3⟩,
       ⟨Rect.unit (s := S1x2048x512) ![0, 0, 256] S1x2048x128.size inb_S1x2048x512_S1x2048x128_0_0_256, P 2⟩,
       ⟨Rect.unit (s := S1x2048x512) ![0, 0, 128] S1x2048x128.size inb_S1x2048x512_S1x2048x128_0_0_128, P 1⟩,
       ⟨Rect.unit (s := S1x2048x512) ![0, 0, 0] S1x2048x128.size inb_S1x2048x512_S1x2048x128_0_0_0, P 0⟩])
      (ix3 (0 : Fin 1) q (⟨128 * g.val + d.val, by omega⟩ : Fin 512)) = P g (ix3 (0 : Fin 1) q d) := by
  have hit : ∀ (o : ℕ) (inb : ∀ a, (![0, 0, o] : Fin 3 → ℕ) a + S1x2048x128.size a ≤ S1x2048x512.size a)
      (w : Vec Ideal S1x2048x128 .bf16) (L : List (View.Piece (Elt Ideal) S1x2048x512 .bf16)) (_ : o = 128 * g.val),
      v.read (Elt Ideal) (v.writes (Elt Ideal) f (⟨Rect.unit (s := S1x2048x512) ![0, 0, o] S1x2048x128.size inb, w⟩ :: L))
        (ix3 (0 : Fin 1) q (⟨128 * g.val + d.val, by omega⟩ : Fin 512)) = w (ix3 (0 : Fin 1) q d) := by
    intro o inb w L ho
    refine View.read_writes_cons_unit_of_mem v f inb w L _ (ix3 (0 : Fin 1) q d) rfl fun a => ?_
    match a with
    | 0 => rfl
    | 1 => exact (Nat.zero_add _).symm
    | 2 => show 128 * g.val + d.val = o + d.val; rw [ho]
  have miss : ∀ (o : ℕ) (inb : ∀ a, (![0, 0, o] : Fin 3 → ℕ) a + S1x2048x128.size a ≤ S1x2048x512.size a)
      (w : Vec Ideal S1x2048x128 .bf16) (L : List (View.Piece (Elt Ideal) S1x2048x512 .bf16)) (_ : 128 * g.val + 128 ≤ o),
      v.read (Elt Ideal) (v.writes (Elt Ideal) f (⟨Rect.unit (s := S1x2048x512) ![0, 0, o] S1x2048x128.size inb, w⟩ :: L))
        (ix3 (0 : Fin 1) q (⟨128 * g.val + d.val, by omega⟩ : Fin 512))
      = v.read (Elt Ideal) (v.writes (Elt Ideal) f L) (ix3 (0 : Fin 1) q (⟨128 * g.val + d.val, by omega⟩ : Fin 512)) := by
    intro o inb w L ho
    refine View.read_writes_cons_unit_of_not_mem v f inb w L _ rfl 2 (Or.inl ?_)
    show 128 * g.val + d.val < o
    omega
  by_cases h3 : g = 3
  · rw [hit 384 _ _ _ (by rw [h3]; rfl), h3]
  rw [miss 384 _ _ _ (by omega)]
  by_cases h2 : g = 2
  · rw [hit 256 _ _ _ (by rw [h2]; rfl), h2]
  rw [miss 256 _ _ _ (by omega)]
  by_cases h1 : g = 1
  · rw [hit 128 _ _ _ (by rw [h1]; rfl), h1]
  rw [miss 128 _ _ _ (by omega)]
  have h0 : g = 0 := by omega
  rw [hit 0 _ _ _ (by rw [h0]; rfl), h0]

/-- A load of 2048 columns of a buffer, after 128 steps on its bands, reads the state. -/
theorem columns_read {R : ℕ} {κ : Kind} {sp : Space} {v : View sig κ sp (Buf R) .f32} {f : v.ty.Contents (Elt Ideal)} {a : ℕ}
    {pay : ℕ → ((Band R).Idx → Elt Ideal .f32) → (Band R).Idx → Elt Ideal .f32} {xs : (Buf R).Idx → Elt Ideal .f32}
    {L : List (View.Piece (Elt Ideal) (Buf R) .f32)} (good : Good v f a pay xs 128 L) (o : ℕ) (g : Fin 4) (ho : o = 2048 * g.val)
    (inb : ∀ b, (![0, o] : Fin 2 → ℕ) b + (⟨2, ![R, 2048]⟩ : Shape).size b ≤ (Buf R).size b) (r : Fin R) (q : Fin 2048) :
    v.readCov L (Rect.unit (s := Buf R) ![0, o] (⟨2, ![R, 2048]⟩ : Shape).size inb).toLoadRect (ix2 r q)
      = state pay xs 128 (ix2 r (⟨2048 * g.val + q.val, by omega⟩ : Fin 8192)) := by
  subst ho
  show v.readAt (Elt Ideal) _ (v.writes (Elt Ideal) v.junk L) _ = _
  rw [View.readAt_apply, good.read_junk (by omega)]
  refine congrArg _ (funext fun b => Fin.ext ?_)
  match b with
  | 0 => show 0 + 1 * r.val = r.val; omega
  | 1 => show 2048 * g.val + 1 * q.val = 2048 * g.val + q.val; omega

/-- The four quotients of one output block, over any lists of stores that leave the two carried buffers' states. -/
theorem four_heads {κ : Kind} {sp : Space} (v : View sig κ sp S1x2048x512 .bf16) (f : v.ty.Contents (Elt Ideal))
    {κA : Kind} {spA : Space} {vA : View sig κA spA S128x8192 .f32} {fA : vA.ty.Contents (Elt Ideal)} {aA : ℕ}
    {payA : ℕ → ((Band 128).Idx → Elt Ideal .f32) → (Band 128).Idx → Elt Ideal .f32} {xsA : (Buf 128).Idx → Elt Ideal .f32}
    {LA : List (View.Piece (Elt Ideal) S128x8192 .f32)} (acc : Good (R := 128) vA fA aA payA xsA 128 LA)
    {κD : Kind} {spD : Space} {vD : View sig κD spD S8x8192 .f32} {fD : vD.ty.Contents (Elt Ideal)} {aD : ℕ}
    {payD : ℕ → ((Band 8).Idx → Elt Ideal .f32) → (Band 8).Idx → Elt Ideal .f32} {xsD : (Buf 8).Idx → Elt Ideal .f32}
    {LD : List (View.Piece (Elt Ideal) S8x8192 .f32)} (den : Good (R := 8) vD fD aD payD xsD 128 LD)
    (q : Fin 2048) (g : Fin 4) (d : Fin 128) :
    v.read (Elt Ideal) (v.writes (Elt Ideal) f
      [⟨Rect.unit (s := S1x2048x512) ![0, 0, 384] S1x2048x128.size inb_S1x2048x512_S1x2048x128_0_0_384,
          k0_pay2 (F := Ideal)
            (vA.readCov LA (Rect.unit (s := S128x8192) ![0, 6144] S128x2048.size inb_S128x8192_S128x2048_0_6144).toLoadRect)
            (vD.readCov LD (Rect.unit (s := S8x8192) ![0, 6144] S8x2048.size inb_S8x8192_S8x2048_0_6144).toLoadRect)⟩,
        ⟨Rect.unit (s := S1x2048x512) ![0, 0, 256] S1x2048x128.size inb_S1x2048x512_S1x2048x128_0_0_256,
          k0_pay2 (F := Ideal)
            (vA.readCov LA (Rect.unit (s := S128x8192) ![0, 4096] S128x2048.size inb_S128x8192_S128x2048_0_4096).toLoadRect)
            (vD.readCov LD (Rect.unit (s := S8x8192) ![0, 4096] S8x2048.size inb_S8x8192_S8x2048_0_4096).toLoadRect)⟩,
        ⟨Rect.unit (s := S1x2048x512) ![0, 0, 128] S1x2048x128.size inb_S1x2048x512_S1x2048x128_0_0_128,
          k0_pay2 (F := Ideal)
            (vA.readCov LA (Rect.unit (s := S128x8192) ![0, 2048] S128x2048.size inb_S128x8192_S128x2048_0_2048).toLoadRect)
            (vD.readCov LD (Rect.unit (s := S8x8192) ![0, 2048] S8x2048.size inb_S8x8192_S8x2048_0_2048).toLoadRect)⟩,
        ⟨Rect.unit (s := S1x2048x512) ![0, 0, 0] S1x2048x128.size inb_S1x2048x512_S1x2048x128_0_0_0,
          k0_pay2 (F := Ideal)
            (vA.readCov LA (Rect.unit (s := S128x8192) ![0, 0] S128x2048.size inb_S128x8192_S128x2048_0_0).toLoadRect)
            (vD.readCov LD (Rect.unit (s := S8x8192) ![0, 0] S8x2048.size inb_S8x8192_S8x2048_0_0).toLoadRect)⟩])
        (ix3 (0 : Fin 1) q (⟨128 * g.val + d.val, by omega⟩ : Fin 512))
      = Ideal.div (state payA xsA 128 (ix2 d (⟨2048 * g.val + q.val, by omega⟩ : Fin 8192)))
          (∑ r : Fin 8, (state payD xsD 128 (ix2 r (⟨2048 * g.val + q.val, by omega⟩ : Fin 8192)) : EReal)) := by
  have inbA : ∀ g : Fin 4, ∀ b, (![0, 2048 * g.val] : Fin 2 → ℕ) b + S128x2048.size b ≤ S128x8192.size b := by decide
  have inbD : ∀ g : Fin 4, ∀ b, (![0, 2048 * g.val] : Fin 2 → ℕ) b + S8x2048.size b ≤ S8x8192.size b := by decide
  refine (heads_read v _ (fun g => k0_pay2 (F := Ideal)
    (vA.readCov LA (Rect.unit (s := S128x8192) ![0, 2048 * g.val] S128x2048.size (inbA g)).toLoadRect)
    (vD.readCov LD (Rect.unit (s := S8x8192) ![0, 2048 * g.val] S8x2048.size (inbD g)).toLoadRect)) q g d).trans ?_
  refine (quotient_apply _ _ q d).trans ?_
  rw [columns_read (R := 128) acc _ g rfl]
  exact congrArg _ (Finset.sum_congr rfl fun r _ => columns_read (R := 8) den _ g rfl _ r q)

section
variable (c : Dev nD) (i : grid0.Coords) (arg4 : Memref sig .tc .vmem S1x512x2048 .bf16) (harg4 : arg4.IsWhole)
  (arg5 : Memref sig .tc .vmem S1x2048x128 .bf16) (harg5 : arg5.IsWhole)
  (arg6 : Memref sig .tc .vmem S1x128x2048 .bf16) (harg6 : arg6.IsWhole)
  (arg7 : Memref sig .tc .vmem S1x2048x512 .bf16) (harg7 : arg7.IsWhole)
  (arg8 : Memref sig .tc .vmem S128x8192 .f32) (harg8 : arg8.IsWhole)
  (arg9 : Memref sig .tc .vmem S8x8192 .f32) (harg9 : arg9.IsWhole)
  (x0 : Vec Ideal S1x512x2048 .bf16) (x1 : Vec Ideal S1x2048x128 .bf16) (x2 : Vec Ideal S1x128x2048 .bf16)
  (xs0 : Vec Ideal S128x8192 .f32) (xs1 : Vec Ideal S8x8192 .f32)

/-- The output block the body leaves at the last key block, in terms of the carried buffers it leaves. -/
theorem block_out (hc0 : ¬cond0_0 i) (hc1 : cond0_1 i) (q : Fin 2048) (g : Fin 4) (d : Fin 128) :
    out0_C_3 c i arg4 harg4 arg5 harg5 arg6 harg6 arg7 harg7 arg8 harg8 arg9 harg9 hc0 hc1 x0 x1 x2 xs0 xs1
        (ix3 (0 : Fin 1) q (⟨128 * g.val + d.val, by omega⟩ : Fin 512))
      = Ideal.div
          (sout0_C_0 c i arg4 harg4 arg5 harg5 arg6 harg6 arg7 harg7 arg8 harg8 arg9 harg9 hc0 hc1 x0 x1 x2 xs0 xs1
            (ix2 d (⟨2048 * g.val + q.val, by omega⟩ : Fin 8192)))
          (∑ r : Fin 8, (sout0_C_1 c i arg4 harg4 arg5 harg5 arg6 harg6 arg7 harg7 arg8 harg8 arg9 harg9 hc0 hc1 x0 x1 x2 xs0 xs1
            (ix2 r (⟨2048 * g.val + q.val, by omega⟩ : Fin 8192)) : EReal)) := by
  rw [leavesAcc_C, leavesDen_C]
  unfold out0_C_3
  rw [outPieces]
  exact four_heads VO0_3 _
    (goodAcc_C c i arg4 harg4 arg5 harg5 arg6 harg6 arg7 harg7 arg8 harg8 arg9 harg9 x0 x1 x2 xs0 xs1 hc0 hc1)
    (goodDen_C c i arg4 harg4 arg5 harg5 arg6 harg6 arg7 harg7 arg8 harg8 arg9 harg9 x0 x1 x2 xs0 xs1 hc0 hc1) q g d

end

end Cert.Attn

end
-- ==== Proof.Whole.lean ====
module

public import proofs.«01_k».proof.Proof.Output

/-!
The whole result of the attention kernel as one function of its arguments, at every element the quotient of a weighted sum
of the values by the sum of the weights.
-/

@[expose] public section

set_option maxRecDepth 16384

noncomputable section

namespace Cert.Attn

open Idealize.ShloMosaic Idealize.ShloMosaic.TcCoe Idealize.ShloMosaic.ValueIdx Cert.KernelIdeal Cert.KernelIdeal.Gen Cert.Bands

/-- The score of query `q` of head `hd` against key `s`, in batch `b`: heads `4 h … 4 h + 3` use key head `h`. -/
def score (Q : Vec Ideal S2x1024x16384 .bf16) (K : Vec Ideal S2x16384x256 .bf16) (b : Fin 2) (hd : Fin 8)
    (q s : Fin 16384) : EReal :=
  ∑ e : Fin 128, K (ix3 b s (⟨128 * (hd.val / 4) + e.val, by omega⟩ : Fin 256)) *
    Q (ix3 b (⟨128 * hd.val + e.val, by omega⟩ : Fin 1024) q)

/-- The attention the kernel computes, at position `q` and coordinate `d` of head `hd`. -/
def attnAt (Q : Vec Ideal S2x1024x16384 .bf16) (K : Vec Ideal S2x16384x256 .bf16) (W : Vec Ideal S2x256x16384 .bf16)
    (b : Fin 2) (q : Fin 16384) (hd : Fin 8) (d : Fin 128) : EReal :=
  Ideal.div
    (∑ s : Fin 16384, W (ix3 b (⟨128 * (hd.val / 4) + d.val, by omega⟩ : Fin 256) s) * Ideal.exp2 (score Q K b hd q s))
    (∑ s : Fin 16384, Ideal.exp2 (score Q K b hd q s))

/-- The same as an array. -/
def attn (Q : Vec Ideal S2x1024x16384 .bf16) (K : Vec Ideal S2x16384x256 .bf16) (W : Vec Ideal S2x256x16384 .bf16) :
    Vec Ideal S2x16384x1024 .bf16 := fun y =>
  attnAt Q K W (y 0) (y 1) ⟨(y 2).val / 128, by have : (y 2).val < 1024 := (y 2).isLt; omega⟩
    ⟨(y 2).val % 128, Nat.mod_lt _ (by norm_num)⟩

variable (m : (ℓ : Loc nD τ sig) → Buf (Elt Ideal) ℓ) (c : Dev nD)

theorem pw_eq (t : Fin cfg0.N) (s : Fin 2048) (col : Fin 8192) :
    pw (qB m c t) (kB m c t) s col = Ideal.exp2 (score (qA m c) (kA m c) (⟨t.val / 128, by have := point_lt t; omega⟩ : Fin 2)
      (⟨4 * (t.val / 64 % 2) + col.val / 2048, by omega⟩ : Fin 8) (⟨2048 * (t.val / 8 % 8) + col.val % 2048, by omega⟩ : Fin 16384)
      (⟨2048 * (t.val % 8) + s.val, by omega⟩ : Fin 16384)) := by
  unfold pw score
  refine congrArg Ideal.exp2 (Finset.sum_congr rfl fun e _ => ?_)
  have h1 : (4 * (t.val / 64 % 2) + col.val / 2048) / 4 = t.val / 64 % 2 := by omega
  have h2 : 128 * (4 * (t.val / 64 % 2) + col.val / 2048) + e.val = 512 * (t.val / 64 % 2) + (128 * (col.val / 2048) + e.val) := by
    omega
  refine congrArg₂ (· * ·) ((k_block m c t s e).trans ?_) ((q_block m c t _ _).trans ?_)
  · simp only [h1]
  · simp only [h2]

/-- The key blocks of a row of points put side by side. -/
theorem row_sum (f : Fin 16384 → EReal) (t : Fin cfg0.N) (ht : t.val % 8 = 7) (g : Fin cfg0.N → Fin 2048 → EReal)
    (hg : ∀ (j : Fin 8) (s : Fin 2048), g ⟨8 * (t.val / 8) + j.val, Pipeline.run_point_lt_of_flush t ht j⟩ s
      = f ⟨2048 * j.val + s.val, by omega⟩) :
    ∑ j : Fin 8, ∑ s : Fin 2048, g ⟨8 * (t.val / 8) + j.val, Pipeline.run_point_lt_of_flush t ht j⟩ s = ∑ s, f s :=
  (Finset.sum_congr rfl fun j _ => Finset.sum_congr rfl fun s _ => hg j s).trans
    (sum_split (show 16384 = 8 * 2048 from rfl) f)

/-- The block a last point writes is its block of the attention. -/
theorem point_out (t : Fin cfg0.N) (ht : t.val % 8 = 7) (q : Fin 2048) (g : Fin 4) (d : Fin 128) :
    (outsAt0 m c t.val t.isLt).1 (ix3 (0 : Fin 1) q (⟨128 * g.val + d.val, by omega⟩ : Fin 512))
      = attnAt (qA m c) (kA m c) (vA m c) (⟨t.val / 128, by have := point_lt t; omega⟩ : Fin 2)
          (⟨2048 * (t.val / 8 % 8) + q.val, by omega⟩ : Fin 16384)
          (⟨4 * (t.val / 64 % 2) + g.val, by omega⟩ : Fin 8) d := by
  have e := outsAt0_C m c t (by omega) ht
  have e0 := congrArg (fun p => p.1) e
  have e1 := congrArg (fun p => p.2.1) e
  have e2 := congrArg (fun p => p.2.2) e
  dsimp only at e0 e1 e2
  rw [e0, block_out, ← e1, ← e2, acc_last m c t ht, den_last m c t ht]
  have k0 : ∀ j : Fin 8, (8 * (t.val / 8) + j.val) / 128 = t.val / 128 := fun j => by omega
  have k1 : ∀ j : Fin 8, (8 * (t.val / 8) + j.val) / 64 % 2 = t.val / 64 % 2 := fun j => by omega
  have k2 : ∀ j : Fin 8, (8 * (t.val / 8) + j.val) / 8 % 8 = t.val / 8 % 8 := fun j => by omega
  have k3 : ∀ j : Fin 8, (8 * (t.val / 8) + j.val) % 8 = j.val := fun j => by omega
  have k4 : (2048 * g.val + q.val) / 2048 = g.val := by omega
  have k5 : (2048 * g.val + q.val) % 2048 = q.val := by omega
  have k6 : (4 * (t.val / 64 % 2) + g.val) / 4 = t.val / 64 % 2 := by omega
  unfold attnAt accTerm denTerm
  refine congrArg₂ Ideal.div ?_ ?_
  · refine row_sum _ t ht (fun p s => vB m c p (ix3 (0 : Fin 1) d s) * pw (qB m c p) (kB m c p) s _) fun j s => ?_
    refine congrArg₂ (· * ·) ((v_block m c _ d s).trans ?_) ((pw_eq m c _ s _).trans ?_)
    · simp only [k0, k1, k3, k6]
    · simp only [k0, k1, k2, k3, k4, k5]
  · refine row_sum _ t ht (fun p s => pw (qB m c p) (kB m c p) s _) fun j s => ?_
    refine (pw_eq m c _ s _).trans ?_
    simp only [k0, k1, k2, k3, k4, k5]

/-- The kernel's result is the attention of its arguments. -/
theorem kernel_out : (dats m 0 c).arrAt 3 cfg0.N = attn (qA m c) (kA m c) (vA m c) := by
  refine (dats m 0 c).arrAt_eq_of_covers 3 _ (by decide +kernel) fun t hf y => ?_
  have ht : t.val % 8 = 7 := (flush0_3 t).mp hf
  have idx := (indices t).2.2.2
  have hy2 : (y 2).val < 512 := (y 2).isLt
  have hy1 : (y 1).val < 2048 := (y 1).isLt
  have hy0 : (y 0).val < 1 := (y 0).isLt
  blk_simp
  rw [after0_3]
  have hp := point_out m c t ht (⟨(y 1).val, hy1⟩ : Fin 2048) (⟨(y 2).val / 128, by omega⟩ : Fin 4)
    (⟨(y 2).val % 128, by omega⟩ : Fin 128)
  refine Eq.trans (congrArg (outsAt0 m c t.val t.isLt).1 ?_) (hp.trans ?_)
  · funext a
    apply Fin.ext
    match a with
    | 0 => show (y 0).val = 0; omega
    | 1 => rfl
    | 2 => show (y 2).val = 128 * ((y 2).val / 128) + (y 2).val % 128; omega
  · unfold attn
    have e0 : ((win0_3.blk t).view.emb y 0).val = t.val / 128 * 1 + (y 0).val := by
      exact (Pipeline.Window.rect_emb_val win0_3 t y _).trans (by rw [idx]; rfl)
    have e1 : ((win0_3.blk t).view.emb y 1).val = t.val / 8 % 8 * 2048 + (y 1).val := by
      exact (Pipeline.Window.rect_emb_val win0_3 t y _).trans (by rw [idx]; rfl)
    have e2 : ((win0_3.blk t).view.emb y 2).val = t.val / 64 % 2 * 512 + (y 2).val := by
      exact (Pipeline.Window.rect_emb_val win0_3 t y _).trans (by rw [idx]; rfl)
    congr 1
    · apply Fin.ext; rw [e0]; show t.val / 128 = _; omega
    · apply Fin.ext; rw [e1]; show 2048 * (t.val / 8 % 8) + (y 1).val = _; omega
    · apply Fin.ext
      show 4 * (t.val / 64 % 2) + (y 2).val / 128 = ((win0_3.blk t).view.emb y 2).val / 128
      rw [e2]; omega
    · apply Fin.ext
      show (y 2).val % 128 = ((win0_3.blk t).view.emb y 2).val % 128
      rw [e2]; omega

end Cert.Attn

end
-- ==== Proof.Softmax.lean ====
module

public import Idealize.ShloMosaic.PureOps.Ideal.Laws
public import Idealize.ShloMosaic.Lib.IdealHost

/-!
Softmax weights over real scores, as extended reals. With scores `σ` in powers of two, the quotient of `∑ v 2 ^ σ` by
`∑ 2 ^ σ` is the sum of `v` weighted by `exp (σ log 2 - M)` over the sum of those exponentials, whatever the real `M`.
-/

@[expose] public section

noncomputable section

namespace Cert.Softmax

open Idealize.ShloMosaic

/-- A finite sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of reals, starting from `⊥`, is `⊥` or a real; and a real as soon as there is one real to compare with. -/
theorem foldl_max {ι : Type} (f : ι → ℝ) : ∀ (l : List ι) (a : EReal), (a = ⊥ ∨ ∃ r : ℝ, a = (r : EReal)) →
    (l ≠ [] ∨ ∃ r : ℝ, a = (r : EReal)) → ∃ r : ℝ, l.foldl (fun r i => max r ((f i : ℝ) : EReal)) a = (r : EReal)
  | [], _, _, h => h.elim (fun h => absurd rfl h) id
  | i :: l, a, ha, _ => by
    refine foldl_max f l _ (Or.inr ?_) (Or.inr ?_) <;>
    · rcases ha with rfl | ⟨r, rfl⟩
      · exact ⟨f i, max_eq_right bot_le⟩
      · exact ⟨max r (f i), (EReal.coe_strictMono.monotone.map_max (a := r) (b := f i)).symm⟩

/-- A nonnegative real goes into a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

variable {n : ℕ} (v : Fin n → EReal) (σ : Fin n → ℝ) (M : ℝ)

theorem pow_sum_pos (hn : 0 < n) : 0 < ∑ s, Real.rpow 2 (σ s) :=
  Finset.sum_pos (fun s _ => Real.rpow_pos_of_pos (by norm_num) _) ⟨⟨0, hn⟩, Finset.mem_univ _⟩

theorem exp_sum_pos (hn : 0 < n) : 0 < ∑ s, Real.exp (σ s * Real.log 2 - M) :=
  Finset.sum_pos (fun s _ => Real.exp_pos _) ⟨⟨0, hn⟩, Finset.mem_univ _⟩

/-- A weight, in the two forms. -/
theorem weight (hn : 0 < n) (s : Fin n) :
    Real.rpow 2 (σ s) * (∑ u, Real.rpow 2 (σ u))⁻¹
      = Real.exp (σ s * Real.log 2 - M) / ∑ u, Real.exp (σ u * Real.log 2 - M) := by
  have hp : ∀ s, Real.rpow 2 (σ s) = Real.exp M * Real.exp (σ s * Real.log 2 - M) := fun s => by
    rw [← Real.exp_add]
    refine (Real.rpow_def_of_pos (by norm_num) _).trans (congrArg Real.exp ?_)
    ring
  simp only [hp]
  rw [← Finset.mul_sum, ← div_eq_mul_inv, mul_div_mul_left _ _ (Real.exp_pos M).ne']

/-- The two forms of the weighted mean, as the two programs compute them: the values may be infinite. -/
theorem weighted (hn : 0 < n) :
    Ideal.div (∑ s, v s * Ideal.exp2 ((σ s : ℝ) : EReal)) (∑ s, Ideal.exp2 ((σ s : ℝ) : EReal))
      = ∑ s, v s * Ideal.div (Ideal.exp (((σ s : ℝ) : EReal) * ((Real.log 2 : ℝ) : EReal) - ((M : ℝ) : EReal)))
          (0 + ∑ u, Ideal.exp (((σ u : ℝ) : EReal) * ((Real.log 2 : ℝ) : EReal) - ((M : ℝ) : EReal))) := by
  have he : ∀ s, Ideal.exp (((σ s : ℝ) : EReal) * ((Real.log 2 : ℝ) : EReal) - ((M : ℝ) : EReal))
      = ((Real.exp (σ s * Real.log 2 - M) : ℝ) : EReal) := fun s => by
    rw [← EReal.coe_mul, ← EReal.coe_sub, Ideal.exp_coe]
  have hD := pow_sum_pos σ hn
  simp only [he]
  simp only [Ideal.exp2_coe, zero_add, coe_sum]
  unfold Ideal.div
  rw [if_neg (by exact_mod_cast hD.ne'), ← EReal.coe_inv, sum_mul_coe _ _ _ (inv_nonneg.2 hD.le)]
  refine Finset.sum_congr rfl fun s _ => ?_
  rw [if_neg (by exact_mod_cast (exp_sum_pos σ M hn).ne'), ← EReal.coe_inv, mul_assoc, ← EReal.coe_mul, ← EReal.coe_mul,
    weight σ M hn s, div_eq_mul_inv]

end Cert.Softmax

end
-- ==== Proof.Reference.lean ====
module

public import proofs.«01_k».proof.Proof.Softmax
public import proofs.«01_k».proof.Proof.Gen.ReferenceIdeal.Read

/-!
The reference's attention at one element: the values weighted by the exponentials of the scores, less the row's largest,
over the sum of those exponentials.
-/

@[expose] public section

set_option maxRecDepth 16384

noncomputable section

namespace Cert.Ref

open Idealize.ShloMosaic Idealize.ShloMosaic.TcCoe Idealize.ShloMosaic.ValueIdx Cert.ReferenceIdeal Cert.ReferenceIdeal.Gen
open Cert.ReferenceIdeal.Read

theorem two_f32 : Ideal.ofBits .f32 0x40000000#32 = ((2 : ℝ) : EReal) := by
  simp [Ideal.ofBits, Ideal.ieee, -EReal.coe_mul]; norm_num

theorem bot_f32 : Ideal.ofBits .f32 0xFF800000#32 = ⊥ := by
  simp [Ideal.ofBits, Ideal.ieee]

variable (x0 : Vec Ideal S2x1024x16384 .bf16) (x1 : Vec Ideal S2x16384x256 .bf16) (x2 : Vec Ideal S2x256x16384 .bf16)

/-- The constant the scores are scaled by is the natural logarithm of two. -/
theorem log_two (i : S2x2x4x16384x16384.Idx) : val_main_v8 (F := Ideal) i = ((Real.log 2 : ℝ) : EReal) := by
  rw [val_main_v8_apply, val_main_v7_apply, val_main_cst_apply]
  show Ideal.log (Ideal.ofBits .f32 0x40000000#32) = _
  rw [two_f32, Ideal.log_coe, if_neg (by norm_num)]

/-- The score of a query of one head of four against a key. -/
theorem score_apply (i : S2x2x4x16384x16384.Idx) :
    val_main_v6 (F := Ideal) x0 x1 i = ∑ e : Fin 128,
      x0 (ix3 (i 0) (⟨512 * (i 1).val + 128 * (i 2).val + e.val, by
        have h1 : (i 1).val < 2 := (i 1).isLt
        have h2 : (i 2).val < 4 := (i 2).isLt
        omega⟩ : Fin 1024) (i 3)) *
      x1 (ix3 (i 0) (i 4) (⟨128 * (i 1).val + e.val, by have h1 : (i 1).val < 2 := (i 1).isLt; omega⟩ : Fin 256)) := by
  rw [val_main_v6_apply]
  have h0 : (i 0).val < 2 := (i 0).isLt
  have h1 : (i 1).val < 2 := (i 1).isLt
  have h2 : (i 2).val < 4 := (i 2).isLt
  have h3 : (i 3).val < 16384 := (i 3).isLt
  have h4 : (i 4).val < 16384 := (i 4).isLt
  refine Finset.sum_congr rfl fun e _ => ?_
  have he : e.val < 128 := e.isLt
  rw [val_main_v1_apply, val_main_v3_apply, val_main_v0_apply, val_main_v2_apply]
  refine congrArg₂ (· * ·) (congrArg x0 ?_) (congrArg x1 ?_) <;> funext a <;> apply Fin.ext <;> match a with
  | ⟨0, _⟩ => ?_
  | ⟨1, _⟩ => ?_
  | ⟨2, _⟩ => ?_
  · show (((((i 0).val * 2 + (i 1).val) * 4 + (i 2).val) * 128 + e.val) * 16384 + (i 3).val) / 16777216 = (i 0).val; omega
  · show (((((i 0).val * 2 + (i 1).val) * 4 + (i 2).val) * 128 + e.val) * 16384 + (i 3).val) / 16384 % 1024
      = 512 * (i 1).val + 128 * (i 2).val + e.val; omega
  · show (((((i 0).val * 2 + (i 1).val) * 4 + (i 2).val) * 128 + e.val) * 16384 + (i 3).val) % 16384 = (i 3).val; omega
  · show ((((i 0).val * 16384 + (i 4).val) * 2 + (i 1).val) * 128 + e.val) / 4194304 = (i 0).val; omega
  · show ((((i 0).val * 16384 + (i 4).val) * 2 + (i 1).val) * 128 + e.val) / 256 % 16384 = (i 4).val; omega
  · show ((((i 0).val * 16384 + (i 4).val) * 2 + (i 1).val) * 128 + e.val) % 256 = 128 * (i 1).val + e.val; omega

/-- The row's largest score is a real when every score is. -/
theorem max_real (f : S2x2x4x16384x16384.Idx → ℝ) (hf : ∀ i, val_main_v9 (F := Ideal) x0 x1 i = ((f i : ℝ) : EReal))
    (r : S2x2x4x16384.Idx) : ∃ M : ℝ, val_main_v12 (F := Ideal) x0 x1 r = ((M : ℝ) : EReal) := by
  have h10 : ∃ M : ℝ, val_main_v10 (F := Ideal) x0 x1 r = ((M : ℝ) : EReal) := by
    unfold val_main_v10
    rw [show val_main_v9 (F := Ideal) x0 x1 = fun i => ((f i : ℝ) : EReal) from funext hf, Host.reduce_eq_foldl]
    refine Softmax.foldl_max f _ _ (Or.inl ?_) (Or.inl ?_)
    · exact bot_f32
    · have hred : S2x2x4x16384x16384.Reduces [4] S2x2x4x16384 := by decide
      refine List.ne_nil_of_mem (a := hred.lift r (⟨0, by decide⟩ : Fin 16384)) (List.mem_filter.2 ⟨List.mem_map.2
        ⟨S2x2x4x16384x16384.rowMajor (hred.lift r (⟨0, by decide⟩ : Fin 16384)), List.mem_finRange _,
          Equiv.symm_apply_apply _ _⟩, ?_⟩)
      exact decide_eq_true (hred.drop_lift r (⟨0, by decide⟩ : Fin 16384))
  obtain ⟨M, hM⟩ := h10
  refine ⟨M, ?_⟩
  rw [val_main_v12_apply, hM, val_main_v11_apply, val_main_cst_1_apply]
  show max (Ideal.ofBits .f32 0xFF800000#32) ((M : ℝ) : EReal) = _
  rw [bot_f32, max_eq_right bot_le]

/-- The row a score lies in. -/
abbrev rowOf (i : S2x2x4x16384x16384.Idx) : S2x2x4x16384.Idx := idx_main_v13 (idx_main_v14 i)

theorem rowOf_at (r : S2x2x4x16384.Idx) (s : Fin 16384) : rowOf (idx_main_v17 r s) = r := by
  funext a
  match a with
  | ⟨0, _⟩ => rfl
  | ⟨1, _⟩ => rfl
  | ⟨2, _⟩ => rfl
  | ⟨3, _⟩ => rfl

theorem exp_at (r : S2x2x4x16384.Idx) (s : Fin 16384) : val_main_v16 (F := Ideal) x0 x1 (idx_main_v17 r s)
    = Ideal.exp (val_main_v6 (F := Ideal) x0 x1 (idx_main_v17 r s) * ((Real.log 2 : ℝ) : EReal)
        - val_main_v12 (F := Ideal) x0 x1 r) := by
  rw [val_main_v16_apply, val_main_v15_apply, val_main_v14_apply, val_main_v13_apply, val_main_v9_apply, log_two]
  rw [show idx_main_v13 (idx_main_v14 (idx_main_v17 r s)) = r from rowOf_at r s]
  rfl

/-- The weight of key `s` in row `r`. -/
theorem weight_at (r : S2x2x4x16384.Idx) (s : Fin 16384) : val_main_v20 (F := Ideal) x0 x1 (idx_main_v17 r s)
    = Ideal.div (Ideal.exp (val_main_v6 (F := Ideal) x0 x1 (idx_main_v17 r s) * ((Real.log 2 : ℝ) : EReal)
          - val_main_v12 (F := Ideal) x0 x1 r))
        (0 + ∑ u : Fin 16384, Ideal.exp (val_main_v6 (F := Ideal) x0 x1 (idx_main_v17 r u) * ((Real.log 2 : ℝ) : EReal)
          - val_main_v12 (F := Ideal) x0 x1 r)) := by
  rw [val_main_v20_apply, val_main_v19_apply, val_main_v18_apply, exp_at]
  rw [show idx_main_v18 (idx_main_v19 (idx_main_v17 r s)) = r from rowOf_at r s, val_main_v17_apply, val_main_cst_2_apply]
  rw [show (FloatOps.ofBits .f32 0x00000000#32 : Ideal .f32) = (0 : EReal) from Ideal.ofBits_zero_f32]
  simp only [exp_at]
  rfl

/-- The row of an element of the result: its batch, its head and its position. -/
def row (b : Fin 2) (h : Fin 2) (g : Fin 4) (q : Fin 16384) : S2x2x4x16384.Idx := fun a => match a with
  | ⟨0, _⟩ => b
  | ⟨1, _⟩ => h
  | ⟨2, _⟩ => g
  | ⟨3, _⟩ => q

/-- The result at coordinate `d` of head `4 h + g`. -/
theorem out_at (b : Fin 2) (q : Fin 16384) (h : Fin 2) (g : Fin 4) (d : Fin 128) :
    val_main_v24 (F := Ideal) x0 x1 x2 (ix3 b q (⟨128 * (4 * h.val + g.val) + d.val, by omega⟩ : Fin 1024))
      = ∑ s : Fin 16384, x2 (ix3 b (⟨128 * h.val + d.val, by omega⟩ : Fin 256) s) *
          val_main_v20 (F := Ideal) x0 x1 (idx_main_v17 (row b h g q) s) := by
  rw [val_main_v24_apply, val_main_v23_apply, val_main_v22_apply]
  refine (val_main_v21_apply x0 x1 x2 _).trans ?_
  have hb := b.isLt
  have hq := q.isLt
  have hh := h.isLt
  have hg := g.isLt
  have hd := d.isLt
  refine Finset.sum_congr rfl fun s _ => ?_
  have hs := s.isLt
  rw [val_main_v5_apply, val_main_v4_apply]
  have k0 : ((b.val * 16384 + q.val) * 1024 + (128 * (4 * h.val + g.val) + d.val)) / 16777216 = b.val := by omega
  have k1 : ((b.val * 16384 + q.val) * 1024 + (128 * (4 * h.val + g.val) + d.val)) / 1024 % 16384 = q.val := by omega
  have k2 : ((b.val * 16384 + q.val) * 1024 + (128 * (4 * h.val + g.val) + d.val)) / 512 % 2 = h.val := by omega
  have k3 : ((b.val * 16384 + q.val) * 1024 + (128 * (4 * h.val + g.val) + d.val)) / 128 % 4 = g.val := by omega
  have k4 : ((b.val * 16384 + q.val) * 1024 + (128 * (4 * h.val + g.val) + d.val)) % 128 = d.val := by omega
  have hidx : idx_main_v22 (idx_main_v23 (ix3 b q (⟨128 * (4 * h.val + g.val) + d.val, by omega⟩ : Fin 1024)))
      = (fun a => match a with
        | ⟨0, _⟩ => b
        | ⟨1, _⟩ => h
        | ⟨2, _⟩ => d
        | ⟨3, _⟩ => g
        | ⟨4, _⟩ => q : S2x2x128x4x16384.Idx) := by
    funext a
    apply Fin.ext
    match a with
    | ⟨0, _⟩ => exact k0
    | ⟨1, _⟩ => exact k2
    | ⟨2, _⟩ => exact k4
    | ⟨3, _⟩ => exact k3
    | ⟨4, _⟩ => exact k1
  rw [hidx]
  refine congrArg₂ (· * ·) (congrArg x2 ?_) (congrArg (val_main_v20 (F := Ideal) x0 x1) ?_)
  · funext a
    apply Fin.ext
    match a with
    | ⟨0, _⟩ => show (((b.val * 2 + h.val) * 128 + d.val) * 16384 + s.val) / 4194304 = b.val; omega
    | ⟨1, _⟩ => show (((b.val * 2 + h.val) * 128 + d.val) * 16384 + s.val) / 16384 % 256 = 128 * h.val + d.val; omega
    | ⟨2, _⟩ => show (((b.val * 2 + h.val) * 128 + d.val) * 16384 + s.val) % 16384 = s.val; omega
  · funext a
    match a with
    | ⟨0, _⟩ => rfl
    | ⟨1, _⟩ => rfl
    | ⟨2, _⟩ => rfl
    | ⟨3, _⟩ => rfl
    | ⟨4, _⟩ => rfl

end Cert.Ref

end
-- ==== Proof.Equal.lean ====
module

public import proofs.«01_k».proof.Proof.Whole
public import proofs.«01_k».proof.Proof.Reference

/-!
The kernel's attention and the reference's are the same array when the queries and the keys are reals.
-/

@[expose] public section

set_option maxRecDepth 16384

noncomputable section

namespace Cert.Ref

open Idealize.ShloMosaic Idealize.ShloMosaic.TcCoe Idealize.ShloMosaic.ValueIdx Cert.ReferenceIdeal Cert.ReferenceIdeal.Gen
open Cert.ReferenceIdeal.Read

variable (x0 : Vec Ideal S2x1024x16384 .bf16) (x1 : Vec Ideal S2x16384x256 .bf16) (x2 : Vec Ideal S2x256x16384 .bf16)

/-- The reference's score is the kernel's, the factors of each product exchanged. -/
theorem score_eq (b : Fin 2) (h : Fin 2) (g : Fin 4) (q s : Fin 16384) :
    val_main_v6 (F := Ideal) x0 x1 (idx_main_v17 (row b h g q) s)
      = Cert.Attn.score x0 x1 b (⟨4 * h.val + g.val, by omega⟩ : Fin 8) q s := by
  rw [score_apply]
  unfold Cert.Attn.score
  refine Finset.sum_congr rfl fun e _ => ?_
  rw [mul_comm]
  refine congrArg₂ (· * ·) (congrArg x1 ?_) (congrArg x0 ?_) <;> funext a <;> apply Fin.ext <;> match a with
  | ⟨0, _⟩ => ?_
  | ⟨1, _⟩ => ?_
  | ⟨2, _⟩ => ?_
  · rfl
  · rfl
  · show 128 * h.val + e.val = 128 * ((4 * h.val + g.val) / 4) + e.val; omega
  · rfl
  · show 512 * h.val + 128 * g.val + e.val = 128 * (4 * h.val + g.val) + e.val; omega
  · rfl

theorem score_real (f0 : S2x1024x16384.Idx → ℝ) (h0 : ∀ i, x0 i = ((f0 i : ℝ) : EReal)) (f1 : S2x16384x256.Idx → ℝ)
    (h1 : ∀ i, x1 i = ((f1 i : ℝ) : EReal)) (i : S2x2x4x16384x16384.Idx) :
    ∃ σ : ℝ, val_main_v6 (F := Ideal) x0 x1 i = ((σ : ℝ) : EReal) := by
  rw [score_apply]
  simp only [h0, h1, ← EReal.coe_mul, Softmax.coe_sum]
  exact ⟨_, rfl⟩

/-- An element of the result lies in one head of one key head. -/
theorem split_index (y : S2x16384x1024.Idx) : ∃ (b : Fin 2) (q : Fin 16384) (h : Fin 2) (g : Fin 4) (d : Fin 128),
    y = ix3 b q (⟨128 * (4 * h.val + g.val) + d.val, by omega⟩ : Fin 1024) := by
  have hy0 : (y 0).val < 2 := (y 0).isLt
  have hy1 : (y 1).val < 16384 := (y 1).isLt
  have hy2 : (y 2).val < 1024 := (y 2).isLt
  refine ⟨⟨(y 0).val, hy0⟩, ⟨(y 1).val, hy1⟩, ⟨(y 2).val / 512, by omega⟩, ⟨(y 2).val / 128 % 4, by omega⟩,
    ⟨(y 2).val % 128, by omega⟩, ?_⟩
  funext a
  apply Fin.ext
  match a with
  | ⟨0, _⟩ => rfl
  | ⟨1, _⟩ => rfl
  | ⟨2, _⟩ =>
    show (y 2).val = 128 * (4 * ((y 2).val / 512) + (y 2).val / 128 % 4) + (y 2).val % 128
    omega

/-- The two arrays, an element at a time. -/
theorem attn_eq (h0 : ∃ f : S2x1024x16384.Idx → ℝ, ∀ i, x0 i = ((f i : ℝ) : EReal))
    (h1 : ∃ f : S2x16384x256.Idx → ℝ, ∀ i, x1 i = ((f i : ℝ) : EReal)) :
    val_main_v24 (F := Ideal) x0 x1 x2 = Cert.Attn.attn x0 x1 x2 := by
  obtain ⟨f0, h0⟩ := h0
  obtain ⟨f1, h1⟩ := h1
  have hσ := fun i => score_real x0 x1 f0 h0 f1 h1 i
  obtain ⟨σ, hσ⟩ : ∃ σ : S2x2x4x16384x16384.Idx → ℝ, ∀ i, val_main_v6 (F := Ideal) x0 x1 i = ((σ i : ℝ) : EReal) :=
    ⟨fun i => (hσ i).choose, fun i => (hσ i).choose_spec⟩
  have h9 : ∀ i, val_main_v9 (F := Ideal) x0 x1 i = ((σ i * Real.log 2 : ℝ) : EReal) := fun i => by
    rw [val_main_v9_apply, hσ, log_two, EReal.coe_mul]
    rfl
  funext y
  obtain ⟨b, q, h, g, d, rfl⟩ := split_index y
  obtain ⟨M, hM⟩ := max_real x0 x1 _ h9 (row b h g q)
  have key := Softmax.weighted (n := 16384) (fun s => x2 (ix3 b (⟨128 * h.val + d.val, by omega⟩ : Fin 256) s))
    (fun s => σ (idx_main_v17 (row b h g q) s)) M (by norm_num)
  rw [out_at]
  have hw : ∀ s, val_main_v20 (F := Ideal) x0 x1 (idx_main_v17 (row b h g q) s) = _ := fun s => weight_at x0 x1 (row b h g q) s
  simp only [hM, hσ] at hw
  have hsc : ∀ s, Cert.Attn.score x0 x1 b (⟨4 * h.val + g.val, by omega⟩ : Fin 8) q s
      = ((σ (idx_main_v17 (row b h g q) s) : ℝ) : EReal) := fun s => by rw [← score_eq, hσ]
  have hat : Cert.Attn.attn x0 x1 x2 (ix3 b q (⟨128 * (4 * h.val + g.val) + d.val, by omega⟩ : Fin 1024))
      = Cert.Attn.attnAt x0 x1 x2 b q (⟨4 * h.val + g.val, by omega⟩ : Fin 8) d := by
    unfold Cert.Attn.attn
    refine congrArg₂ (Cert.Attn.attnAt x0 x1 x2 b q) ?_ ?_
    · apply Fin.ext
      show (128 * (4 * h.val + g.val) + d.val) / 128 = 4 * h.val + g.val
      omega
    · apply Fin.ext
      show (128 * (4 * h.val + g.val) + d.val) % 128 = d.val
      omega
  rw [hat]
  unfold Cert.Attn.attnAt
  simp only [hsc]
  have hh : (4 * h.val + g.val) / 4 = h.val := by omega
  simp only [hh]
  rw [key]
  exact Finset.sum_congr rfl fun s _ => congrArg _ (hw s)

end Cert.Ref

end
-- ==== Proof.OnlineSteps.lean ====
module

public import Idealize.ShloMosaic.Lib.WritesUnit
public import Idealize.ShloMosaic.Lib.Pipeline.ReadBack
public import Idealize.ShloMosaic.Lib.ValueIdx

/-!
A buffer of 2048 columns that a straight line of code updates one band of 256 columns at a time: step `n` loads band
`n mod 8`, computes a new band from it and stores that back. `state` is what the buffer holds after `n` such steps;
`Good` says a list of stores leaves exactly that; `Good.fresh` and `Good.again` extend such a list by one step (a band the
stores have not covered yet, which reads the buffer's old contents, and a covered one, which reads what the stores left).
After eight steps every band has been through one of them, from what it held at first (`state_eight`).
-/

@[expose] public section

set_option maxRecDepth 16384

noncomputable section

namespace Cert.OnlineBands

open Idealize.ShloMosaic Idealize.ShloMosaic.ValueIdx

/-- The shape of the buffer: `R` rows of 2048 columns. -/
abbrev Buf (R : ℕ) : Shape := ⟨2, ![R, 2048]⟩
/-- The shape of one band: `R` rows of 256 columns. -/
abbrev Band (R : ℕ) : Shape := ⟨2, ![R, 256]⟩

theorem band_inb (R n : ℕ) : ∀ a, (![0, 256 * (n % 8)] : Fin 2 → ℕ) a + (Band R).size a ≤ (Buf R).size a := by
  intro a
  have h : n % 8 < 8 := Nat.mod_lt _ (by norm_num)
  match a with
  | 0 => show 0 + R ≤ R; omega
  | 1 => show 256 * (n % 8) + 256 ≤ 2048; omega

/-- The rectangle of the band step `n` works on. -/
abbrev band (R n : ℕ) : Rect (Buf R) := Rect.unit (s := Buf R) ![0, 256 * (n % 8)] (Band R).size (band_inb R n)

variable {sig : RefSig} {κ : Kind} {sp : Space} {e : EltTy} {Val : EltTy → Type} {R : ℕ}

/-- The column `y` lies in the band of step `n`. -/
abbrev inBand (n : ℕ) (y : (Buf R).Idx) : Prop := 256 * (n % 8) ≤ (y 1).val ∧ (y 1).val < 256 * (n % 8) + 256

/-- The position within its band of an index of the buffer. -/
def loc (y : (Buf R).Idx) : (Band R).Idx := ix2 (y 0) ⟨(y 1).val % 256, Nat.mod_lt _ (by norm_num)⟩

/-- What the buffer holds after `n` steps, from `xs` before them, where step `n` turns the band `w` into `pay n w`. -/
def state (pay : ℕ → ((Band R).Idx → Val e) → (Band R).Idx → Val e) (xs : (Buf R).Idx → Val e) :
    ℕ → (Buf R).Idx → Val e
  | 0 => xs
  | n + 1 => fun y =>
    if inBand n y then pay n (fun x => state pay xs n ((band R n).idx x)) (loc y) else state pay xs n y

/-- A column beyond the bands visited so far is as it was. -/
theorem state_untouched (pay : ℕ → ((Band R).Idx → Val e) → (Band R).Idx → Val e) (xs : (Buf R).Idx → Val e)
    (y : (Buf R).Idx) : ∀ n, n ≤ 8 → 256 * n ≤ (y 1).val → state pay xs n y = xs y
  | 0, _, _ => rfl
  | n + 1, hn, hy => by
    have hm : n % 8 = n := Nat.mod_eq_of_lt (by omega)
    show (if inBand n y then _ else _) = _
    rw [if_neg (by intro h; have := h.2; omega)]
    exact state_untouched pay xs y n (by omega) (by omega)

/-- After `n` steps, no more than eight, the first `n` bands have been through their step and the others are as they were. -/
theorem state_few (pay : ℕ → ((Band R).Idx → Val e) → (Band R).Idx → Val e) (xs : (Buf R).Idx → Val e)
    (y : (Buf R).Idx) : ∀ n, n ≤ 8 → state pay xs n y
      = if (y 1).val < 256 * n then pay ((y 1).val / 256) (fun x => xs ((band R ((y 1).val / 256)).idx x)) (loc y) else xs y
  | 0, _ => (if_neg (by omega)).symm
  | n + 1, hn => by
    have ih := state_few pay xs y n (by omega)
    have hm : n % 8 = n := Nat.mod_eq_of_lt (by omega)
    show (if inBand n y then pay n (fun x => state pay xs n ((band R n).idx x)) (loc y) else state pay xs n y) = _
    by_cases h : inBand n y
    · have h1 := h.1
      have h2 := h.2
      have hq : (y 1).val / 256 = n := by omega
      rw [if_pos h, if_pos (by omega), hq]
      refine congrArg (fun w => pay n w (loc y)) (funext fun x => state_untouched pay xs _ n (by omega) ?_)
      show 256 * n ≤ 256 * (n % 8) + 1 * (x 1).val
      omega
    · rw [if_neg h, ih]
      by_cases h1 : (y 1).val < 256 * n
      · rw [if_pos h1, if_pos (by omega)]
      · rw [if_neg h1, if_neg (fun h2 => h ⟨by omega, by omega⟩)]

/-- After eight steps every band has been through its step. -/
theorem state_eight (pay : ℕ → ((Band R).Idx → Val e) → (Band R).Idx → Val e) (xs : (Buf R).Idx → Val e)
    (y : (Buf R).Idx) : state pay xs 8 y
      = pay ((y 1).val / 256) (fun x => xs ((band R ((y 1).val / 256)).idx x)) (loc y) :=
  (state_few pay xs y 8 le_rfl).trans (if_pos (y 1).isLt)

/-- The stores `L` over the contents `f` leave the state after `n` steps, and cover the first `n + a` bands. -/
structure Good (v : View sig κ sp (Buf R) e) (f : v.ty.Contents Val) (a : ℕ)
    (pay : ℕ → ((Band R).Idx → Val e) → (Band R).Idx → Val e) (xs : (Buf R).Idx → Val e) (n : ℕ)
    (L : List (View.Piece Val (Buf R) e)) : Prop where
  read : ∀ y, v.read Val (v.writes Val f L) y = state pay xs n y
  cov : ∀ y : (Buf R).Idx, (y 1).val < 256 * (n + a) → ∃ p ∈ L, y ∈ p.1.set

variable {v : View sig κ sp (Buf R) e} {f : v.ty.Contents Val} {a : ℕ}
  {pay : ℕ → ((Band R).Idx → Val e) → (Band R).Idx → Val e} {xs : (Buf R).Idx → Val e} {n : ℕ}
  {L : List (View.Piece Val (Buf R) e)}

/-- No store yet: the state before the first step is what the contents read. -/
theorem Good.start (h : v.read Val f = xs) : Good v f 0 pay xs 0 [] where
  read y := by rw [View.writes_nil, h]; rfl
  cov y hy := by omega

/-- One store over the whole buffer is the state before the first step, from the stored contents. -/
theorem Good.filled (inb : ∀ b, (![0, 0] : Fin 2 → ℕ) b + (Buf R).size b ≤ (Buf R).size b) :
    Good v f 8 pay xs 0 [⟨Rect.unit (s := Buf R) ![0, 0] (Buf R).size inb, xs⟩] where
  read y := View.read_writes_cons_unit_of_mem v f inb xs [] y y rfl fun b => by
    match b with
    | 0 => exact (Nat.zero_add _).symm
    | 1 => exact (Nat.zero_add _).symm
  cov y _ := ⟨_, List.mem_singleton.mpr rfl, by
    rw [Rect.mem_set_unit]
    intro b
    match b with
    | 0 => exact ⟨Nat.zero_le _, by show _ < 0 + _; rw [Nat.zero_add]; exact (y 0).isLt⟩
    | 1 => exact ⟨Nat.zero_le _, by show _ < 0 + _; rw [Nat.zero_add]; exact (y 1).isLt⟩⟩

/-- One more step, whose loaded band is the state's. -/
theorem Good.step (g : Good v f a pay xs n L) (ha : a % 8 = 0) (w : (Band R).Idx → Val e)
    (hw : ∀ x, w x = state pay xs n ((band R n).idx x)) :
    Good v f a pay xs (n + 1) (⟨band R n, pay n w⟩ :: L) where
  read y := by
    obtain rfl : w = fun x => state pay xs n ((band R n).idx x) := funext hw
    show _ = (if inBand n y then pay n _ (loc y) else state pay xs n y)
    by_cases h : inBand n y
    · rw [if_pos h]
      refine View.read_writes_cons_unit_of_mem v f (band_inb R n) _ L y (loc y) rfl fun b => ?_
      match b with
      | 0 => exact (Nat.zero_add _).symm
      | 1 =>
        show (y 1).val = 256 * (n % 8) + (y 1).val % 256
        have := h.1
        have := h.2
        omega
    · rw [if_neg h]
      refine (View.read_writes_cons_unit_of_not_mem v f (band_inb R n) _ L y rfl 1 ?_).trans (g.read y)
      show (y 1).val < 256 * (n % 8) ∨ 256 * (n % 8) + 256 ≤ (y 1).val
      by_contra hc
      exact h ⟨by omega, by omega⟩
  cov y hy := by
    by_cases h : (y 1).val < 256 * (n + a)
    · obtain ⟨p, hp, hm⟩ := g.cov y h
      exact ⟨p, List.mem_cons_of_mem _ hp, hm⟩
    · refine ⟨_, List.mem_cons_self, ?_⟩
      have h8 : (y 1).val < 2048 := (y 1).isLt
      have hm : n % 8 = n + a := by omega
      rw [Rect.mem_set_unit]
      intro b
      match b with
      | 0 => exact ⟨Nat.zero_le _, by show _ < 0 + _; rw [Nat.zero_add]; exact (y 0).isLt⟩
      | 1 =>
        show 256 * (n % 8) ≤ (y 1).val ∧ (y 1).val < 256 * (n % 8) + 256
        rw [hm]
        omega

/-- A step that visits its band for the first time: it loads the band from the contents before any store. -/
theorem Good.fresh (hf : v.read Val f = xs) (hn : n < 8) {p : (Band R).Idx → Val e} (g : Good v f 0 pay xs n L)
    (hp : p = pay n (v.readAt Val (band R n).toLoadRect f)) : Good v f 0 pay xs (n + 1) (⟨band R n, p⟩ :: L) := by
  subst hp
  refine g.step rfl _ fun x => ?_
  rw [View.readAt_apply, hf, state_untouched pay xs _ n (by omega)]
  show 256 * n ≤ 256 * (n % 8) + 1 * (x 1).val
  omega

/-- A load of the band of step `n`, which the stores cover, reads what they left there. -/
theorem Good.load [∀ e, Nonempty (Val e)] (hn : 8 ≤ n + a) (g : Good v f a pay xs n L) (x : (Band R).Idx) :
    v.readCov L (band R n).toLoadRect x = state pay xs n ((band R n).idx x) := by
  rw [← View.readAt_writes_of_cover v f L _ fun j => g.cov _ ?_, View.readAt_apply]
  · exact g.read _
  · have : ((band R n).toLoadRect.idx j (1 : Fin 2)).val < 2048 := ((band R n).toLoadRect.idx j (1 : Fin 2)).isLt
    show ((band R n).toLoadRect.idx j (1 : Fin 2)).val < _
    omega

/-- A step whose band the stores cover: it loads what they left there. -/
theorem Good.again [∀ e, Nonempty (Val e)] (ha : a % 8 = 0) (hn : 8 ≤ n + a) {p : (Band R).Idx → Val e}
    (g : Good v f a pay xs n L) (hp : p = pay n (v.readCov L (band R n).toLoadRect)) :
    Good v f a pay xs (n + 1) (⟨band R n, p⟩ :: L) := by
  subst hp
  exact g.step ha _ fun x => g.load hn x

/-- The stores of eight steps or more cover the buffer, so what they leave does not depend on what was there before. -/
theorem Good.read_junk [∀ e, Nonempty (Val e)] (hn : 8 ≤ n + a) (g : Good v f a pay xs n L)
    {sig' : RefSig} {κ' : Kind} {sp' : Space} (v' : View sig' κ' sp' (Buf R) e) (f' : v'.ty.Contents Val) :
    v'.read Val (v'.writes Val f' L) = state pay xs n :=
  funext fun y => (View.read_writes_apply_eq v' f' v f y L (g.cov y (by
    have : (y 1).val < 2048 := (y 1).isLt
    omega))).trans (g.read y)

end Cert.OnlineBands

end
-- ==== Proof.OnlineBody.lean ====
module

public import proofs.«01_k».proof.Proof.Gen.KernelOnlineIdeal.Frame.RunC
public import proofs.«01_k».proof.Proof.OnlineSteps

/-!
What one grid point of the attention with running maxima leaves in its two carried buffers, the maxima and the
accumulator. The body is eight block steps: step `n` takes query head `n / 2` of its group and query block `n mod 2` (256
queries) against the point's 512 keys; it raises the maxima of its band by the block of scores, scales the accumulator's
band by two to the power of the old maximum less the new, and adds the values times the powers of the scores less the new
maximum.
-/

@[expose] public section

set_option maxRecDepth 65536

noncomputable section

namespace Cert.Online

open Idealize.ShloMosaic Idealize.ShloMosaic.TcCoe Cert.KernelOnlineIdeal Cert.KernelOnlineIdeal.Gen Cert.OnlineBands

variable {F : FTy → Type} [FloatOps F]

theorem q_inb (n : ℕ) : ∀ a, (![0, 128 * (n / 2 % 4), 256 * (n % 2)] : Fin 3 → ℕ) a + S1x128x256.size a ≤ S1x512x512.size a := by
  intro a
  match a with
  | 0 => show 0 + 1 ≤ 1; omega
  | 1 => show 128 * (n / 2 % 4) + 128 ≤ 512; omega
  | 2 => show 256 * (n % 2) + 256 ≤ 512; omega

theorem k_inb : ∀ a, (![0, 0, 0] : Fin 3 → ℕ) a + S1x512x128.size a ≤ S1x512x128.size a := by decide

theorem v_inb : ∀ a, (![0, 0, 0] : Fin 3 → ℕ) a + S1x128x512.size a ≤ S1x128x512.size a := by decide

section Payloads

variable (arg4 : Memref sig .tc .vmem S1x512x512 .bf16) (harg4 : arg4.IsWhole)
  (arg5 : Memref sig .tc .vmem S1x512x128 .bf16) (harg5 : arg5.IsWhole)
  (arg6 : Memref sig .tc .vmem S1x128x512 .bf16) (harg6 : arg6.IsWhole)
  (x0 : Vec F S1x512x512 .bf16) (x1 : Vec F S1x512x128 .bf16) (x2 : Vec F S1x128x512 .bf16)

/-- The scores of step `n`: 512 keys by 256 queries. -/
def scores (n : ℕ) : FVec F S512x256 .f32 :=
  matmul dot_S512x128_S128x256_S512x256_1_0_0_1_n_n none
    (shapeCast S512x128 (View.readAt (Elt F) arg5.view
      (Rect.unit (s := S1x512x128) ![0, 0, 0] S1x512x128.size k_inb).toLoadRect (harg5.unread x1) : Vec F S1x512x128 .bf16) shapeCasts_S1x512x128_S512x128)
    (shapeCast S128x256 (View.readAt (Elt F) arg4.view
      (Rect.unit (s := S1x512x512) ![0, 128 * (n / 2 % 4), 256 * (n % 2)] S1x128x256.size (q_inb n)).toLoadRect (harg4.unread x0) : Vec F S1x128x256 .bf16) shapeCasts_S1x128x256_S128x256)
    (constant S512x256 .f32 0x00000000#32)

/-- A band of maxima raised by a block of scores. -/
def raise (s : FVec F S512x256 .f32) (w : Vec F S1x256 .f32) : FVec F S1x256 .f32 :=
  maximumf w (shapeCast S1x256 (multiReduction .maximumf [0] S256 s 0xFF800000#32 reduces_S512x256_S256 (.inl rfl) rfl)
    shapeCasts_S256_S1x256)

/-- Step `n` on its band of the maxima. -/
def maxStep (n : ℕ) (w : Vec F S1x256 .f32) : Vec F S1x256 .f32 :=
  shapeCast S1x256 (raise (scores arg4 harg4 arg5 harg5 x0 x1 n) w) shapeCasts_S1x256_S1x256

/-- A band of the accumulator `w` scaled from the maxima `o` to the maxima raised by the scores `s`, and the values times
the powers added. -/
def rescale (s : FVec F S512x256 .f32) (o : Vec F S1x256 .f32) (w : Vec F S144x256 .f32) : FVec F S144x256 .f32 :=
  addf (mulf (broadcastTo S144x256 (exp2 (subf o (raise s o))) broadcasts_S1x256_S144x256) w)
    (matmul dot_S144x512_S512x256_S144x256_1_0_0_1_n_n none
      (k0_pay14 (View.readAt (Elt F) arg6.view
        (Rect.unit (s := S1x128x512) ![0, 0, 0] S1x128x512.size v_inb).toLoadRect (harg6.unread x2) : Vec F S1x128x512 .bf16))
      (truncf .bf16 (exp2 (subf s (broadcastTo S512x256 (raise s o) broadcasts_S1x256_S512x256))) bitsLt_bf16_f32)
      (constant S144x256 .f32 0x00000000#32))

/-- Step `n` on its band of the accumulator, where `o n` is the band of the maxima before the step. -/
def accStep (o : ℕ → Vec F S1x256 .f32) (n : ℕ) (w : Vec F S144x256 .f32) : Vec F S144x256 .f32 :=
  shapeCast S144x256 (rescale arg6 harg6 x2 (scores arg4 harg4 arg5 harg5 x0 x1 n) (o n) w) shapeCasts_S144x256_S144x256

end Payloads

section Runs

variable (c : Dev nD) (i : grid0.Coords) (arg4 : Memref sig .tc .vmem S1x512x512 .bf16) (harg4 : arg4.IsWhole)
  (arg5 : Memref sig .tc .vmem S1x512x128 .bf16) (harg5 : arg5.IsWhole)
  (arg6 : Memref sig .tc .vmem S1x128x512 .bf16) (harg6 : arg6.IsWhole)
  (arg7 : Memref sig .tc .vmem S1x512x512 .bf16) (harg7 : arg7.IsWhole)
  (arg8 : Memref sig .tc .vmem S1x2048 .f32) (harg8 : arg8.IsWhole)
  (arg9 : Memref sig .tc .vmem S144x2048 .f32) (harg9 : arg9.IsWhole)
  (x0 : Vec F S1x512x512 .bf16) (x1 : Vec F S1x512x128 .bf16) (x2 : Vec F S1x128x512 .bf16)
  (xs0 : Vec F S1x2048 .f32) (xs1 : Vec F S144x2048 .f32)

/-- The bands of the maxima a later point starts from. -/
def oldMax (n : ℕ) : Vec F S1x256 .f32 :=
  View.readAt (Elt F) arg8.view (band 1 n).toLoadRect (harg8.unread xs0)

/-- In the middle of a row of key blocks the stores of the maxima are eight steps over what they were. -/
theorem goodMax_B (hc0 : ¬cond0_0 i) (hc1 : ¬cond0_1 i) :
    Good (R := 1) arg8.view (harg8.unread xs0) 0 (maxStep arg4 harg4 arg5 harg5 x0 x1) xs0 8
      (kernelRun0_B c i arg4 harg4 arg5 harg5 arg6 harg6 arg7 harg7 arg8 harg8 arg9 harg9 hc0 hc1 x0 x1 x2 xs0 xs1).2.1 := by
  iterate 8 refine Good.fresh (harg8.read_unread xs0) (by norm_num) ?_ rfl
  exact Good.start (harg8.read_unread xs0)

/-- The same of the accumulator. -/
theorem goodAcc_B (hc0 : ¬cond0_0 i) (hc1 : ¬cond0_1 i) :
    Good (R := 144) arg9.view (harg9.unread xs1) 0
      (accStep arg4 harg4 arg5 harg5 arg6 harg6 x0 x1 x2 (oldMax arg8 harg8 xs0)) xs1 8
      (kernelRun0_B c i arg4 harg4 arg5 harg5 arg6 harg6 arg7 harg7 arg8 harg8 arg9 harg9 hc0 hc1 x0 x1 x2 xs0 xs1).2.2.1 := by
  iterate 8 refine Good.fresh (harg9.read_unread xs1) (by norm_num) ?_ rfl
  exact Good.start (harg9.read_unread xs1)

/-- At the last key block the stores of the maxima are again eight steps over what they were. -/
theorem goodMax_C (hc0 : ¬cond0_0 i) (hc1 : cond0_1 i) :
    Good (R := 1) arg8.view (harg8.unread xs0) 0 (maxStep arg4 harg4 arg5 harg5 x0 x1) xs0 8
      (kernelRun0_C c i arg4 harg4 arg5 harg5 arg6 harg6 arg7 harg7 arg8 harg8 arg9 harg9 hc0 hc1 x0 x1 x2 xs0 xs1).2.1 := by
  iterate 8 refine Good.fresh (harg8.read_unread xs0) (by norm_num) ?_ rfl
  exact Good.start (harg8.read_unread xs0)

/-- The same of the accumulator. -/
theorem goodAcc_C (hc0 : ¬cond0_0 i) (hc1 : cond0_1 i) :
    Good (R := 144) arg9.view (harg9.unread xs1) 0
      (accStep arg4 harg4 arg5 harg5 arg6 harg6 x0 x1 x2 (oldMax arg8 harg8 xs0)) xs1 8
      (kernelRun0_C c i arg4 harg4 arg5 harg5 arg6 harg6 arg7 harg7 arg8 harg8 arg9 harg9 hc0 hc1 x0 x1 x2 xs0 xs1).2.2.1 := by
  iterate 8 refine Good.fresh (harg9.read_unread xs1) (by norm_num) ?_ rfl
  exact Good.start (harg9.read_unread xs1)

/-- At the first key block the maxima are filled with minus infinity and then go through their steps: the stores of the
first `n` of them. -/
theorem goodMax_A (hc0 : cond0_0 i) (hc1 : ¬cond0_1 i) : ∀ n, n ≤ 8 →
    Good (R := 1) arg8.view arg8.view.junk 8 (maxStep arg4 harg4 arg5 harg5 x0 x1) (k0_pay11 (F := F)) n
      ((kernelRun0_A c i arg4 harg4 arg5 harg5 arg6 harg6 arg7 harg7 arg8 harg8 arg9 harg9 hc0 hc1 x0 x1 x2).2.1.drop (8 - n))
  | 0, _ => Good.filled _
  | n + 1, hn => by
    have ih := goodMax_A hc0 hc1 n (by omega)
    have h8 : n < 8 := by omega
    interval_cases n <;> exact Good.again rfl (by norm_num) ih rfl

/-- The bands of the maxima at the first point: what the fill and the steps before have left. -/
def firstMax (hc0 : cond0_0 i) (hc1 : ¬cond0_1 i) (n : ℕ) : Vec F S1x256 .f32 :=
  arg8.view.readCov
    ((kernelRun0_A c i arg4 harg4 arg5 harg5 arg6 harg6 arg7 harg7 arg8 harg8 arg9 harg9 hc0 hc1 x0 x1 x2).2.1.drop (8 - n))
    (band 1 n).toLoadRect

/-- At the first key block the accumulator is filled with zeros and then goes through its steps. -/
theorem goodAcc_A (hc0 : cond0_0 i) (hc1 : ¬cond0_1 i) :
    Good (R := 144) arg9.view arg9.view.junk 8
      (accStep arg4 harg4 arg5 harg5 arg6 harg6 x0 x1 x2
        (firstMax c i arg4 harg4 arg5 harg5 arg6 harg6 arg7 harg7 arg8 harg8 arg9 harg9 x0 x1 x2 hc0 hc1)) (k0_pay12 (F := F)) 8
      (kernelRun0_A c i arg4 harg4 arg5 harg5 arg6 harg6 arg7 harg7 arg8 harg8 arg9 harg9 hc0 hc1 x0 x1 x2).2.2.1 := by
  iterate 8 refine Good.again rfl (by norm_num) ?_ rfl
  exact Good.filled _

/-- The four pieces of the output at the last key block: head `g` of the group is the transposed quotient of the
accumulator's first 128 rows by its next. -/
theorem outPieces (hc0 : ¬cond0_0 i) (hc1 : cond0_1 i) :
    (kernelRun0_C c i arg4 harg4 arg5 harg5 arg6 harg6 arg7 harg7 arg8 harg8 arg9 harg9 hc0 hc1 x0 x1 x2 xs0 xs1).1
      = [⟨Rect.unit (s := S1x512x512) ![0, 0, 384] S1x512x128.size inb_S1x512x512_S1x512x128_0_0_384,
          k0_pay7
            (arg9.view.readCov (kernelRun0_C c i arg4 harg4 arg5 harg5 arg6 harg6 arg7 harg7 arg8 harg8 arg9 harg9 hc0 hc1 x0 x1 x2 xs0 xs1).2.2.1
              (Rect.unit (s := S144x2048) ![0, 1536] S144x512.size inb_S144x2048_S144x512_0_1536).toLoadRect)⟩,
        ⟨Rect.unit (s := S1x512x512) ![0, 0, 256] S1x512x128.size inb_S1x512x512_S1x512x128_0_0_256,
          k0_pay7
            (arg9.view.readCov (kernelRun0_C c i arg4 harg4 arg5 harg5 arg6 harg6 arg7 harg7 arg8 harg8 arg9 harg9 hc0 hc1 x0 x1 x2 xs0 xs1).2.2.1
              (Rect.unit (s := S144x2048) ![0, 1024] S144x512.size inb_S144x2048_S144x512_0_1024).toLoadRect)⟩,
        ⟨Rect.unit (s := S1x512x512) ![0, 0, 128] S1x512x128.size inb_S1x512x512_S1x512x128_0_0_128,
          k0_pay7
            (arg9.view.readCov (kernelRun0_C c i arg4 harg4 arg5 harg5 arg6 harg6 arg7 harg7 arg8 harg8 arg9 harg9 hc0 hc1 x0 x1 x2 xs0 xs1).2.2.1
              (Rect.unit (s := S144x2048) ![0, 512] S144x512.size inb_S144x2048_S144x512_0_512).toLoadRect)⟩,
        ⟨Rect.unit (s := S1x512x512) ![0, 0, 0] S1x512x128.size inb_S1x512x512_S1x512x128_0_0_0,
          k0_pay7
            (arg9.view.readCov (kernelRun0_C c i arg4 harg4 arg5 harg5 arg6 harg6 arg7 harg7 arg8 harg8 arg9 harg9 hc0 hc1 x0 x1 x2 xs0 xs1).2.2.1
              (Rect.unit (s := S144x2048) ![0, 0] S144x512.size inb_S144x2048_S144x512_0_0).toLoadRect)⟩] := rfl

end Runs

end Cert.Online

end
-- ==== Proof.OnlineReading.lean ====
module

public import proofs.«01_k».proof.Proof.OnlineBody
public import proofs.«01_k».proof.Proof.Softmax
public import Idealize.ShloMosaic.Lib.MatmulPlain
public import Idealize.ShloMosaic.Lib.ValueLayout
public import Idealize.ShloMosaic.Lib.Pipeline.Value

/-!
The block steps of the attention with running maxima, read over the extended reals: where the scores are reals the new
maximum is a real, and the accumulator's entry is scaled and gains one sum over the 512 keys of the grid point.
-/

@[expose] public section

set_option maxRecDepth 16384

noncomputable section

namespace Cert.Online

open Idealize.ShloMosaic Idealize.ShloMosaic.TcCoe Idealize.ShloMosaic.ValueIdx Cert.KernelOnlineIdeal Cert.KernelOnlineIdeal.Gen
open Cert.OnlineBands

theorem dot_qk : dot_S512x128_S128x256_S512x256_1_0_0_1_n_n = DotDims.plain 512 128 256 := rfl
theorem dot_vp : dot_S144x512_S512x256_S144x256_1_0_0_1_n_n = DotDims.plain 144 512 256 := rfl

theorem one_bf16 : Ideal.ofBits .bf16 0x3F80#16 = 1 := by
  refine Eq.trans (b := ((1 : ℝ) : EReal)) ?_ EReal.coe_one
  simp [Ideal.ofBits, Ideal.ieee, -EReal.coe_mul, -EReal.coe_one]; norm_num

theorem bot_f32 : Ideal.ofBits .f32 0xFF800000#32 = ⊥ := by
  simp [Ideal.ofBits, Ideal.ieee]

/-- The score of key `s` of the point's block and column `col` of the point's queries (head `col / 512`, query
`col mod 512`). -/
def sc (x0 : Vec Ideal S1x512x512 .bf16) (x1 : Vec Ideal S1x512x128 .bf16) (s : Fin 512) (col : Fin 2048) : EReal :=
  ∑ e : Fin 128, x1 (ix3 (0 : Fin 1) s e) *
    x0 (ix3 (0 : Fin 1) (⟨128 * (col.val / 512) + e.val, by omega⟩ : Fin 512) (⟨col.val % 512, by omega⟩ : Fin 512))

/-- Row `d` of the values with rows of ones below them. -/
def val (x2 : Vec Ideal S1x128x512 .bf16) (d : Fin 144) (s : Fin 512) : EReal :=
  if h : d.val < 128 then x2 (ix3 (0 : Fin 1) (⟨d.val, h⟩ : Fin 128) s) else 1

theorem values_apply (v : Vec Ideal S1x128x512 .bf16) (d : Fin 144) (s : Fin 512) :
    k0_pay14 (F := Ideal) v (ix2 d s) = val v d s := by
  unfold k0_pay14 val
  by_cases h : d.val < 128
  · rw [dif_pos h]
    refine (concatenate_pair_apply_left (t := S144x512) (s₁ := S128x512) (s₂ := S16x512) _ _ _ _ (ix2 d s) rfl (ix2 (⟨d.val, h⟩ : Fin 128) s : S128x512.Idx) fun b => ?_).trans ?_
    · match b with
      | 0 => rfl
      | 1 => rfl
    · exact shapeCast_1ab_ab_apply _ _ _ _
  · rw [dif_neg h]
    refine (concatenate_pair_apply_right (t := S144x512) (s₁ := S128x512) (s₂ := S16x512) _ _ _ _ (ix2 d s) rfl rfl (ix2 (⟨d.val - 128, by omega⟩ : Fin 16) s : S16x512.Idx) (fun b hb => ?_) ?_).trans ?_
    · match b with
      | 0 => exact absurd rfl hb
      | 1 => rfl
    · show d.val - 128 + 128 = d.val; omega
    · exact one_bf16

/-- The largest of finitely many reals, starting from `⊥`, is `⊥` or a real; a real as soon as there is one of them. -/
theorem fold_max {ι : Type} (f : ι → ℝ) (S : Finset ι) :
    (S = ∅ ∧ S.fold max ⊥ (fun i => ((f i : ℝ) : EReal)) = ⊥) ∨ ∃ r : ℝ, S.fold max ⊥ (fun i => ((f i : ℝ) : EReal)) = (r : EReal) := by
  classical
  induction S using Finset.induction_on with
  | empty => exact Or.inl ⟨rfl, Finset.fold_empty⟩
  | insert a S ha ih =>
    refine Or.inr ?_
    rw [Finset.fold_insert ha]
    rcases ih with ⟨_, h⟩ | ⟨r, h⟩
    · exact ⟨f a, by rw [h]; exact max_eq_left bot_le⟩
    · exact ⟨max (f a) r, by rw [h]; exact (EReal.coe_strictMono.monotone.map_max (a := f a) (b := r)).symm⟩

/-- A maximum that is a real or `⊥`, raised by real scores, is a real. -/
theorem raise_real (s : FVec Ideal S512x256 .f32) (w : Vec Ideal S1x256 .f32) (j : Fin 256) (f : Fin 512 → ℝ)
    (hs : ∀ k, s (ix2 k j) = ((f k : ℝ) : EReal))
    (hw : w (ix2 (0 : Fin 1) j) = (⊥ : EReal) ∨ ∃ r : ℝ, w (ix2 (0 : Fin 1) j) = (r : EReal)) :
    ∃ M : ℝ, raise s w (ix2 (0 : Fin 1) j) = (M : EReal) := by
  have e : raise s w (ix2 (0 : Fin 1) j)
      = max (w (ix2 (0 : Fin 1) j)) ((Finset.univ : Finset (Fin 512)).fold max ⊥ (fun k => ((f k : ℝ) : EReal))) := by
    unfold raise
    refine congrArg (max (w (ix2 (0 : Fin 1) j))) ?_
    refine (shapeCast_a_1a_apply _ shapeCasts_S256_S1x256 (0 : Fin 1) j).trans ?_
    refine (Ideal.multiReduction_maximumf_single _ _ _ _ _ _).trans ?_
    refine congrArg₂ (fun b (g : Fin 512 → EReal) => (Finset.univ : Finset (Fin 512)).fold max b g) bot_f32 (funext fun k => ?_)
    refine Eq.trans (congrArg s ?_) (hs k)
    funext a
    apply Fin.ext
    match a with
    | 0 => rfl
    | 1 => rfl
  rw [e]
  rcases fold_max f Finset.univ with ⟨h, _⟩ | ⟨r, h⟩
  · exact absurd h (Finset.univ_nonempty).ne_empty
  · rw [h]
    rcases hw with h1 | ⟨q, h1⟩
    · exact ⟨r, by rw [h1]; exact max_eq_right bot_le⟩
    · exact ⟨max q r, by rw [h1]; exact (EReal.coe_strictMono.monotone.map_max (a := q) (b := r)).symm⟩

section

variable (arg4 : Memref sig .tc .vmem S1x512x512 .bf16) (harg4 : arg4.IsWhole)
  (arg5 : Memref sig .tc .vmem S1x512x128 .bf16) (harg5 : arg5.IsWhole)
  (arg6 : Memref sig .tc .vmem S1x128x512 .bf16) (harg6 : arg6.IsWhole)
  (x0 : Vec Ideal S1x512x512 .bf16) (x1 : Vec Ideal S1x512x128 .bf16) (x2 : Vec Ideal S1x128x512 .bf16)

/-- The scores of step `n` at key `s` and query `j` of its 256. -/
theorem scores_apply (n : ℕ) (hn : n < 8) (s : Fin 512) (j : Fin 256) :
    scores arg4 harg4 arg5 harg5 x0 x1 n (ix2 s j) = sc x0 x1 s ⟨256 * n + j.val, by omega⟩ := by
  unfold scores sc
  rw [dot_qk]
  show FloatOps.matmul (F := Ideal) (DotDims.plain 512 128 256) none _ _ _ (ix2 s j) = _
  rw [Ideal.matmul_plain_apply]
  show Ideal.ofBits .f32 0x00000000#32 + _ = _
  rw [Ideal.ofBits_zero_f32, zero_add]
  refine Finset.sum_congr rfl fun e _ => ?_
  rw [shapeCast_1ab_ab_apply, shapeCast_1ab_ab_apply, View.readAt_apply, View.readAt_apply, harg4.read_unread, harg5.read_unread]
  refine congrArg₂ (· * ·) (congrArg x1 ?_) (congrArg x0 ?_)
  · funext a
    apply Fin.ext
    match a with
    | 0 => rfl
    | 1 => show 0 + 1 * s.val = s.val; omega
    | 2 => show 0 + 1 * e.val = e.val; omega
  · funext a
    apply Fin.ext
    match a with
    | 0 => rfl
    | 1 => show 128 * (n / 2 % 4) + 1 * e.val = 128 * ((256 * n + j.val) / 512) + e.val; omega
    | 2 => show 256 * (n % 2) + 1 * j.val = (256 * n + j.val) % 512; omega

/-- An entry of a rescaled band: the old one times two to the power of what the maximum rose by, and the sum of the values
times the powers of the scores less the new maximum. -/
theorem rescale_apply (s : FVec Ideal S512x256 .f32) (o : Vec Ideal S1x256 .f32) (w : Vec Ideal S144x256 .f32) (d : Fin 144)
    (j : Fin 256) : rescale arg6 harg6 x2 s o w (ix2 d j)
      = Ideal.exp2 (o (ix2 (0 : Fin 1) j) - raise s o (ix2 (0 : Fin 1) j) : EReal) * w (ix2 d j)
        + ∑ k : Fin 512, val x2 d k * Ideal.exp2 (s (ix2 k j) - raise s o (ix2 (0 : Fin 1) j) : EReal) := by
  unfold rescale
  rw [dot_vp]
  refine congrArg₂ (fun (x y : EReal) => x * w (ix2 d j) + y) ?_ ?_
  · exact broadcastTo_1b_ab_apply _ broadcasts_S1x256_S144x256 d j
  · show FloatOps.matmul (F := Ideal) (DotDims.plain 144 512 256) none _ _ _ (ix2 d j) = _
    rw [Ideal.matmul_plain_apply]
    show Ideal.ofBits .f32 0x00000000#32 + _ = _
    rw [Ideal.ofBits_zero_f32, zero_add]
    refine Finset.sum_congr rfl fun k _ => ?_
    refine congrArg₂ (· * ·) ((values_apply _ d k).trans ?_) ?_
    · refine congrArg (fun x => val x d k) (funext fun y => ?_)
      rw [View.readAt_apply, harg6.read_unread]
      refine congrArg x2 (funext fun a => Fin.ext ?_)
      match a with
      | 0 => show 0 + 1 * (y 0).val = (y 0).val; omega
      | 1 => show 0 + 1 * (y 1).val = (y 1).val; omega
      | 2 => show 0 + 1 * (y 2).val = (y 2).val; omega
    · exact congrArg (fun x : EReal => Ideal.exp2 (s (ix2 k j) - x)) (broadcastTo_1b_ab_apply _ broadcasts_S1x256_S512x256 k j)

/-! ## Eight steps as one over the point's keys -/

/-- The maximum a grid point leaves in column `col`, from the maxima `xs0` before it. -/
def newMax (xs0 : Vec Ideal S1x2048 .f32) (col : Fin 2048) : EReal :=
  raise (scores arg4 harg4 arg5 harg5 x0 x1 (col.val / 256)) (fun x => xs0 ((band 1 (col.val / 256)).idx x))
    (ix2 (0 : Fin 1) (⟨col.val % 256, by omega⟩ : Fin 256))

theorem max_point (xs0 : Vec Ideal S1x2048 .f32) (col : Fin 2048) :
    state (R := 1) (maxStep arg4 harg4 arg5 harg5 x0 x1) xs0 8 (ix2 (0 : Fin 1) col)
      = newMax arg4 harg4 arg5 harg5 x0 x1 xs0 col := by
  rw [state_eight]
  unfold maxStep newMax
  rw [shapeCast_self]
  rfl

theorem band_idx {R : ℕ} (r : Fin R) (n : ℕ) (hn : n < 8) (j : Fin 256) :
    (band R n).idx (ix2 r j) = ix2 r (⟨256 * n + j.val, by omega⟩ : Fin 2048) := by
  funext a
  apply Fin.ext
  match a with
  | 0 => show 0 + 1 * r.val = r.val; omega
  | 1 => show 256 * (n % 8) + 1 * j.val = 256 * n + j.val; omega

theorem max_point_real (xs0 : Vec Ideal S1x2048 .f32) (col : Fin 2048) (f : Fin 512 → ℝ)
    (hs : ∀ k, sc x0 x1 k col = ((f k : ℝ) : EReal))
    (hw : xs0 (ix2 (0 : Fin 1) col) = (⊥ : EReal) ∨ ∃ r : ℝ, xs0 (ix2 (0 : Fin 1) col) = (r : EReal)) :
    ∃ M : ℝ, newMax arg4 harg4 arg5 harg5 x0 x1 xs0 col = (M : EReal) := by
  have hc : 256 * (col.val / 256) + col.val % 256 = col.val := by omega
  refine raise_real _ _ _ f (fun k => ?_) ?_
  · rw [scores_apply _ _ _ _ _ _ _ (by omega), ← hs k]
    simp only [hc]
  · rw [band_idx _ _ (by omega)]
    simp only [hc]
    exact hw

theorem acc_point (o : ℕ → Vec Ideal S1x256 .f32) (xs0 : Vec Ideal S1x2048 .f32) (xs1 : Vec Ideal S144x2048 .f32)
    (ho : ∀ n, n < 8 → o n = fun x => xs0 ((band 1 n).idx x)) (d : Fin 144) (col : Fin 2048) :
    state (R := 144) (accStep arg4 harg4 arg5 harg5 arg6 harg6 x0 x1 x2 o) xs1 8 (ix2 d col)
      = Ideal.exp2 (xs0 (ix2 (0 : Fin 1) col) - newMax arg4 harg4 arg5 harg5 x0 x1 xs0 col : EReal) * xs1 (ix2 d col)
        + ∑ k : Fin 512, val x2 d k * Ideal.exp2 (sc x0 x1 k col - newMax arg4 harg4 arg5 harg5 x0 x1 xs0 col : EReal) := by
  have hc : 256 * (col.val / 256) + col.val % 256 = col.val := by omega
  have hq : col.val / 256 < 8 := by omega
  rw [state_eight]
  unfold accStep
  rw [shapeCast_self]
  refine (rescale_apply arg6 harg6 x2 _ _ _ d (⟨col.val % 256, by omega⟩ : Fin 256)).trans ?_
  have hR : raise (scores arg4 harg4 arg5 harg5 x0 x1 (col.val / 256)) (o (col.val / 256))
      (ix2 (0 : Fin 1) (⟨col.val % 256, by omega⟩ : Fin 256)) = newMax arg4 harg4 arg5 harg5 x0 x1 xs0 col := by
    rw [ho _ hq]; rfl
  have hO : o (col.val / 256) (ix2 (0 : Fin 1) (⟨col.val % 256, by omega⟩ : Fin 256)) = xs0 (ix2 (0 : Fin 1) col) := by
    rw [ho _ hq]
    refine (congrArg xs0 (band_idx (R := 1) _ _ hq _)).trans ?_
    simp only [hc]
  refine congrArg₂ (fun x y : EReal => x + y) (congrArg₂ (fun x y : EReal => x * y) ?_ ?_) (Finset.sum_congr rfl fun k _ => ?_)
  · exact congrArg₂ (fun x y : EReal => Ideal.exp2 (x - y)) hO hR
  · show xs1 ((band 144 (col.val / 256)).idx (ix2 d (⟨col.val % 256, by omega⟩ : Fin 256))) = _
    rw [band_idx _ _ hq]; simp only [hc]
  · refine congrArg (val x2 d k * ·) (congrArg₂ (fun x y : EReal => Ideal.exp2 (x - y)) ?_ hR)
    refine (scores_apply arg4 harg4 arg5 harg5 x0 x1 _ hq k _).trans ?_
    simp only [hc]

end

end Cert.Online

end
-- ==== Proof.OnlineSoftmax.lean ====
module

public import proofs.«01_k».proof.Proof.Softmax

/-!
Running maxima. A sum of values times powers of two, taken relative to a real that changes from one block of terms to the
next, is at every moment the sum of all terms so far relative to the real of that moment; and a quotient of two such sums
does not depend on the real.
-/

@[expose] public section

noncomputable section

namespace Cert.Softmax

open Idealize.ShloMosaic

theorem exp2_sub (x y : ℝ) : Ideal.exp2 ((x : EReal) - (y : EReal)) = ((Real.rpow 2 (x - y) : ℝ) : EReal) := by
  rw [← EReal.coe_sub, Ideal.exp2_coe]

/-- Scaling a sum relative to `M` by two to the power of `M - M'` makes it relative to `M'`. -/
theorem rescaled {ι : Type} (T : Finset ι) (a : ι → EReal) (s : ι → ℝ) (M M' : ℝ) :
    Ideal.exp2 ((M : EReal) - (M' : EReal)) * ∑ i ∈ T, a i * Ideal.exp2 (((s i : ℝ) : EReal) - (M : EReal))
      = ∑ i ∈ T, a i * Ideal.exp2 (((s i : ℝ) : EReal) - (M' : EReal)) := by
  rw [mul_comm, exp2_sub, sum_mul_coe _ _ (Real.rpow 2 (M - M')) (Real.rpow_nonneg (by norm_num : (0 : ℝ) ≤ 2) _)]
  refine Finset.sum_congr rfl fun i _ => ?_
  rw [exp2_sub, exp2_sub, mul_assoc, ← EReal.coe_mul]
  refine congrArg (fun r : ℝ => a i * (r : EReal)) ?_
  refine (Real.rpow_add (by norm_num : (0 : ℝ) < 2) (s i - M) (M - M')).symm.trans ?_
  exact congrArg (Real.rpow 2) (by ring)

/-- Block after block: what is carried after block `n` is the sum over the blocks so far, relative to the real of block `n`. -/
theorem running {N K : ℕ} (M : ℕ → ℝ) (A : ℕ → EReal) (a : ℕ → Fin K → EReal) (s : ℕ → Fin K → ℝ)
    (first : A 0 = ∑ k, a 0 k * Ideal.exp2 (((s 0 k : ℝ) : EReal) - (M 0 : EReal)))
    (next : ∀ n, n + 1 < N → A (n + 1) = Ideal.exp2 ((M n : EReal) - (M (n + 1) : EReal)) * A n
      + ∑ k, a (n + 1) k * Ideal.exp2 (((s (n + 1) k : ℝ) : EReal) - (M (n + 1) : EReal))) :
    ∀ n, n < N → A n = ∑ j ∈ Finset.range (n + 1), ∑ k, a j k * Ideal.exp2 (((s j k : ℝ) : EReal) - (M n : EReal))
  | 0, _ => by rw [Finset.sum_range_one]; exact first
  | n + 1, h => by
    rw [next n h, running M A a s first next n (by omega), Finset.sum_range_succ _ (n + 1)]
    refine congrArg (· + _) ?_
    have e := rescaled ((Finset.range (n + 1)) ×ˢ (Finset.univ : Finset (Fin K))) (fun p => a p.1 p.2) (fun p => s p.1 p.2)
      (M n) (M (n + 1))
    rw [Finset.sum_product, Finset.sum_product] at e
    exact e

/-- The quotient of two sums of powers relative to a real is the same whatever the real. -/
theorem shifted {n : ℕ} (v : Fin n → EReal) (σ : Fin n → ℝ) (M : ℝ) (hn : 0 < n) :
    Ideal.div (∑ s, v s * Ideal.exp2 (((σ s : ℝ) : EReal) - (M : EReal))) (∑ s, Ideal.exp2 (((σ s : ℝ) : EReal) - (M : EReal)))
      = Ideal.div (∑ s, v s * Ideal.exp2 ((σ s : ℝ) : EReal)) (∑ s, Ideal.exp2 ((σ s : ℝ) : EReal)) := by
  have e : ∀ s, (((σ s - M : ℝ) : EReal) * ((Real.log 2 : ℝ) : EReal) - ((0 : ℝ) : EReal))
      = (((σ s : ℝ) : EReal) * ((Real.log 2 : ℝ) : EReal) - ((M * Real.log 2 : ℝ) : EReal)) := fun s => by
    rw [← EReal.coe_mul, ← EReal.coe_mul, ← EReal.coe_sub, ← EReal.coe_sub]
    exact congrArg _ (by ring)
  have l := weighted v (fun s => σ s - M) 0 hn
  have r := weighted v σ (M * Real.log 2) hn
  simp only [e] at l
  simp only [← EReal.coe_sub]
  exact l.trans r.symm

end Cert.Softmax

end
-- ==== Proof.OnlinePoints.lean ====
module

public import proofs.«01_k».proof.Proof.OnlineReading
public import proofs.«01_k».proof.Proof.OnlineSoftmax
public import proofs.«01_k».proof.Proof.Gen.KernelOnlineIdeal.Value
public import Idealize.ShloMosaic.Lib.Pipeline.ValueKit.Geometry
public import Idealize.ShloMosaic.Lib.Pipeline.ValueKit.Acc

/-!
The grid points of the attention with running maxima. Point `t` works on batch `t / 2048`, group `t / 1024 mod 2`, query
block `t / 32 mod 32` and key block `t mod 32`. Here its input blocks are read off the arguments, and the two carried
buffers are followed through the thirty-two key blocks of a query block.
-/

@[expose] public section

set_option maxRecDepth 16384

noncomputable section

namespace Cert.Online

open Idealize.ShloMosaic Idealize.ShloMosaic.TcCoe Idealize.ShloMosaic.ValueIdx Cert.KernelOnlineIdeal Cert.KernelOnlineIdeal.Gen
open Cert.OnlineBands

/-- The block every window shows at a grid point. -/
theorem indices : ∀ t : Fin cfg0.N,
    win0_0.index t = ![t.val / 2048, t.val / 1024 % 2, t.val / 32 % 32]
    ∧ win0_1.index t = ![t.val / 2048, t.val % 32, t.val / 1024 % 2]
    ∧ win0_2.index t = ![t.val / 2048, t.val / 1024 % 2, t.val % 32]
    ∧ win0_3.index t = ![t.val / 2048, t.val / 32 % 32, t.val / 1024 % 2] := by
  decide +kernel

theorem point_lt (t : Fin cfg0.N) : t.val < 4096 := t.isLt.trans_eq N_0

variable (m : (ℓ : Loc nD τ sig) → Buf (Elt Ideal) ℓ) (c : Dev nD)

/-- The arguments of the attention: queries, keys and values. -/
abbrev qA : Vec Ideal S2x1024x16384 .bf16 := m ((c : Thread nD τ).loc main_arg0)
abbrev kA : Vec Ideal S2x16384x256 .bf16 := m ((c : Thread nD τ).loc main_arg1)
abbrev vA : Vec Ideal S2x256x16384 .bf16 := m ((c : Thread nD τ).loc main_arg2)

/-- The query block of a point. -/
theorem q_block (t : Fin cfg0.N) (a : Fin 512) (q : Fin 512) :
    iblk m c 0 t (ix3 (0 : Fin 1) a q) = qA m c (ix3 (⟨t.val / 2048, by have := point_lt t; omega⟩ : Fin 2)
      (⟨512 * (t.val / 1024 % 2) + a.val, by omega⟩ : Fin 1024) (⟨512 * (t.val / 32 % 32) + q.val, by omega⟩ : Fin 16384)) := by
  have idx := indices t
  blk_ext [iblk, V, idx]
  all_goals first | (show _ + a.val = _; omega) | (show _ + q.val = _; omega)

/-- The key block of a point. -/
theorem k_block (t : Fin cfg0.N) (s : Fin 512) (e : Fin 128) :
    iblk m c 1 t (ix3 (0 : Fin 1) s e) = kA m c (ix3 (⟨t.val / 2048, by have := point_lt t; omega⟩ : Fin 2)
      (⟨512 * (t.val % 32) + s.val, by omega⟩ : Fin 16384) (⟨128 * (t.val / 1024 % 2) + e.val, by omega⟩ : Fin 256)) := by
  have idx := indices t
  blk_ext [iblk, V, idx]
  all_goals first | (show _ + s.val = _; omega) | (show _ + e.val = _; omega)

/-- The value block of a point. -/
theorem v_block (t : Fin cfg0.N) (d : Fin 128) (s : Fin 512) :
    iblk m c 2 t (ix3 (0 : Fin 1) d s) = vA m c (ix3 (⟨t.val / 2048, by have := point_lt t; omega⟩ : Fin 2)
      (⟨128 * (t.val / 1024 % 2) + d.val, by omega⟩ : Fin 256) (⟨512 * (t.val % 32) + s.val, by omega⟩ : Fin 16384)) := by
  have idx := indices t
  blk_ext [iblk, V, idx]
  all_goals first | (show _ + d.val = _; omega) | (show _ + s.val = _; omega)

/-! ## What a point leaves in the two carried buffers -/

section Leaves
variable {F : FTy → Type} [FloatOps F]
variable (c : Dev nD) (i : grid0.Coords) (arg4 : Memref sig .tc .vmem S1x512x512 .bf16) (harg4 : arg4.IsWhole)
  (arg5 : Memref sig .tc .vmem S1x512x128 .bf16) (harg5 : arg5.IsWhole)
  (arg6 : Memref sig .tc .vmem S1x128x512 .bf16) (harg6 : arg6.IsWhole)
  (arg7 : Memref sig .tc .vmem S1x512x512 .bf16) (harg7 : arg7.IsWhole)
  (arg8 : Memref sig .tc .vmem S1x2048 .f32) (harg8 : arg8.IsWhole)
  (arg9 : Memref sig .tc .vmem S144x2048 .f32) (harg9 : arg9.IsWhole)
  (x0 : Vec F S1x512x512 .bf16) (x1 : Vec F S1x512x128 .bf16) (x2 : Vec F S1x128x512 .bf16)
  (xs0 : Vec F S1x2048 .f32) (xs1 : Vec F S144x2048 .f32)

theorem leavesMax_A (hc0 : cond0_0 i) (hc1 : ¬cond0_1 i) :
    sout0_A_0 c i arg4 harg4 arg5 harg5 arg6 harg6 arg7 harg7 arg8 harg8 arg9 harg9 hc0 hc1 x0 x1 x2
      = state (R := 1) (maxStep arg4 harg4 arg5 harg5 x0 x1) k0_pay11 8 := by
  unfold sout0_A_0
  exact (goodMax_A c i arg4 harg4 arg5 harg5 arg6 harg6 arg7 harg7 arg8 harg8 arg9 harg9 x0 x1 x2 hc0 hc1 8 le_rfl).read_junk (by norm_num) _ _

theorem leavesAcc_A (hc0 : cond0_0 i) (hc1 : ¬cond0_1 i) :
    sout0_A_1 c i arg4 harg4 arg5 harg5 arg6 harg6 arg7 harg7 arg8 harg8 arg9 harg9 hc0 hc1 x0 x1 x2
      = state (R := 144) (accStep arg4 harg4 arg5 harg5 arg6 harg6 x0 x1 x2
        (firstMax c i arg4 harg4 arg5 harg5 arg6 harg6 arg7 harg7 arg8 harg8 arg9 harg9 x0 x1 x2 hc0 hc1)) k0_pay12 8 := by
  unfold sout0_A_1
  exact (goodAcc_A c i arg4 harg4 arg5 harg5 arg6 harg6 arg7 harg7 arg8 harg8 arg9 harg9 x0 x1 x2 hc0 hc1).read_junk (by norm_num) _ _

theorem leavesMax_B (hc0 : ¬cond0_0 i) (hc1 : ¬cond0_1 i) :
    sout0_B_0 c i arg4 harg4 arg5 harg5 arg6 harg6 arg7 harg7 arg8 harg8 arg9 harg9 hc0 hc1 x0 x1 x2 xs0 xs1
      = state (R := 1) (maxStep arg4 harg4 arg5 harg5 x0 x1) xs0 8 := by
  unfold sout0_B_0
  exact (goodMax_B c i arg4 harg4 arg5 harg5 arg6 harg6 arg7 harg7 arg8 harg8 arg9 harg9 x0 x1 x2 xs0 xs1 hc0 hc1).read_junk (by norm_num) _ _

theorem leavesAcc_B (hc0 : ¬cond0_0 i) (hc1 : ¬cond0_1 i) :
    sout0_B_1 c i arg4 harg4 arg5 harg5 arg6 harg6 arg7 harg7 arg8 harg8 arg9 harg9 hc0 hc1 x0 x1 x2 xs0 xs1
      = state (R := 144) (accStep arg4 harg4 arg5 harg5 arg6 harg6 x0 x1 x2 (oldMax arg8 harg8 xs0)) xs1 8 := by
  unfold sout0_B_1
  exact (goodAcc_B c i arg4 harg4 arg5 harg5 arg6 harg6 arg7 harg7 arg8 harg8 arg9 harg9 x0 x1 x2 xs0 xs1 hc0 hc1).read_junk (by norm_num) _ _

theorem leavesMax_C (hc0 : ¬cond0_0 i) (hc1 : cond0_1 i) :
    sout0_C_0 c i arg4 harg4 arg5 harg5 arg6 harg6 arg7 harg7 arg8 harg8 arg9 harg9 hc0 hc1 x0 x1 x2 xs0 xs1
      = state (R := 1) (maxStep arg4 harg4 arg5 harg5 x0 x1) xs0 8 := by
  unfold sout0_C_0
  exact (goodMax_C c i arg4 harg4 arg5 harg5 arg6 harg6 arg7 harg7 arg8 harg8 arg9 harg9 x0 x1 x2 xs0 xs1 hc0 hc1).read_junk (by norm_num) _ _

theorem leavesAcc_C (hc0 : ¬cond0_0 i) (hc1 : cond0_1 i) :
    sout0_C_1 c i arg4 harg4 arg5 harg5 arg6 harg6 arg7 harg7 arg8 harg8 arg9 harg9 hc0 hc1 x0 x1 x2 xs0 xs1
      = state (R := 144) (accStep arg4 harg4 arg5 harg5 arg6 harg6 x0 x1 x2 (oldMax arg8 harg8 xs0)) xs1 8 := by
  unfold sout0_C_1
  exact (goodAcc_C c i arg4 harg4 arg5 harg5 arg6 harg6 arg7 harg7 arg8 harg8 arg9 harg9 x0 x1 x2 xs0 xs1 hc0 hc1).read_junk (by norm_num) _ _

/-- A later point's old maxima are the bands of what the buffer held. -/
theorem oldMax_eq (n : ℕ) : oldMax arg8 harg8 xs0 n = fun x => xs0 ((band 1 n).idx x) :=
  funext fun x => by
    unfold oldMax
    rw [View.readAt_apply, harg8.read_unread]

/-- The first point's old maxima are the bands of the fill. -/
theorem firstMax_eq (hc0 : cond0_0 i) (hc1 : ¬cond0_1 i) (n : ℕ) (hn : n < 8) :
    firstMax c i arg4 harg4 arg5 harg5 arg6 harg6 arg7 harg7 arg8 harg8 arg9 harg9 x0 x1 x2 hc0 hc1 n
      = fun x => k0_pay11 (F := F) ((band 1 n).idx x) :=
  funext fun x => by
    unfold firstMax
    refine ((goodMax_A c i arg4 harg4 arg5 harg5 arg6 harg6 arg7 harg7 arg8 harg8 arg9 harg9 x0 x1 x2 hc0 hc1 n hn.le).load
      (by omega) x).trans (state_untouched _ _ _ n hn.le ?_)
    show 256 * n ≤ 256 * (n % 8) + 1 * (x 1).val
    omega

end Leaves

/-! ## The thirty-two key blocks of a query block, over the extended reals -/

/-- The blocks of a point, at their own shapes. -/
abbrev qB (t : Fin cfg0.N) : Vec Ideal S1x512x512 .bf16 := iblk m c 0 t
abbrev kB (t : Fin cfg0.N) : Vec Ideal S1x512x128 .bf16 := iblk m c 1 t
abbrev vB (t : Fin cfg0.N) : Vec Ideal S1x128x512 .bf16 := iblk m c 2 t

theorem fill_max (y : S1x2048.Idx) : k0_pay11 (F := Ideal) y = (⊥ : EReal) := by
  unfold k0_pay11
  rw [shapeCast_self]
  exact bot_f32

theorem fill_acc (y : S144x2048.Idx) : k0_pay12 (F := Ideal) y = (0 : EReal) := by
  unfold k0_pay12
  rw [shapeCast_self]
  exact Ideal.ofBits_zero_f32

/-- What a later point starts from: the buffers the point before left. -/
abbrev prev (t : Fin cfg0.N) := outsAt0 m c (t.val - 1) (Nat.lt_of_le_of_lt (Nat.sub_le _ _) t.isLt)

/-- What a point adds to the accumulator's entry `(d, col)`, relative to the maximum `M`. -/
def term (d : Fin 144) (col : Fin 2048) (t : Fin cfg0.N) (M : EReal) : EReal :=
  ∑ k : Fin 512, val (vB m c t) d k * Ideal.exp2 (sc (qB m c t) (kB m c t) k col - M)

/-- The first key block leaves a real maximum and its own sum relative to it. -/
theorem first_point (t : Fin cfg0.N) (h : t.val % 32 = 0) (col : Fin 2048) (f : Fin 512 → ℝ)
    (hf : ∀ k, sc (qB m c t) (kB m c t) k col = ((f k : ℝ) : EReal)) :
    ∃ M : ℝ, (outsAt0 m c t.val t.isLt).2.1 (ix2 (0 : Fin 1) col) = (M : EReal)
      ∧ ∀ d, (outsAt0 m c t.val t.isLt).2.2 (ix2 d col) = term m c d col t (M : EReal) := by
  have e := outsAt0_A m c t h (by omega)
  have e1 := congrArg (fun p => p.2.1) e
  have e2 := congrArg (fun p => p.2.2) e
  dsimp only at e1 e2
  rw [leavesMax_A] at e1
  rw [leavesAcc_A] at e2
  obtain ⟨M, hM⟩ := max_point_real (ms0_0 t) (hs0_0 t) (ms0_1 t) (hs0_1 t) (qB m c t) (kB m c t) (k0_pay11 (F := Ideal)) col f hf
    (Or.inl (fill_max _))
  refine ⟨M, ?_, fun d => ?_⟩
  · rw [e1]
    exact (max_point _ _ _ _ _ _ _ _).trans hM
  · rw [e2]
    refine (acc_point _ _ _ _ _ _ _ _ _ _ (k0_pay11 (F := Ideal)) _
      (fun n hn => firstMax_eq _ _ _ _ _ _ _ _ _ _ _ _ _ _ _ _ _ _ _ n hn) d col).trans ?_
    rw [hM, fill_acc, mul_zero, zero_add]
    rfl

/-- A later key block leaves a real maximum, the accumulator rescaled to it and its own sum relative to it. -/
theorem next_point (t : Fin cfg0.N) (h : ¬t.val % 32 = 0) (col : Fin 2048) (f : Fin 512 → ℝ)
    (hf : ∀ k, sc (qB m c t) (kB m c t) k col = ((f k : ℝ) : EReal)) (M₀ : ℝ)
    (h₀ : (prev m c t).2.1 (ix2 (0 : Fin 1) col) = (M₀ : EReal)) :
    ∃ M : ℝ, (outsAt0 m c t.val t.isLt).2.1 (ix2 (0 : Fin 1) col) = (M : EReal)
      ∧ ∀ d, (outsAt0 m c t.val t.isLt).2.2 (ix2 d col)
        = Ideal.exp2 ((M₀ : EReal) - (M : EReal)) * (prev m c t).2.2 (ix2 d col) + term m c d col t (M : EReal) := by
  obtain ⟨M, hM⟩ := max_point_real (ms0_0 t) (hs0_0 t) (ms0_1 t) (hs0_1 t) (qB m c t) (kB m c t) (prev m c t).2.1 col f hf
    (Or.inr ⟨M₀, h₀⟩)
  refine ⟨M, ?_, fun d => ?_⟩
  · by_cases h1 : t.val % 32 = 31
    · have e := congrArg (fun p => p.2.1) (outsAt0_C m c t h h1)
      dsimp only at e
      rw [leavesMax_C] at e
      rw [e]
      exact (max_point _ _ _ _ _ _ _ _).trans hM
    · have e := congrArg (fun p => p.2.1) (outsAt0_B m c t h h1)
      dsimp only at e
      rw [leavesMax_B] at e
      rw [e]
      exact (max_point _ _ _ _ _ _ _ _).trans hM
  · have key := acc_point (ms0_0 t) (hs0_0 t) (ms0_1 t) (hs0_1 t) (ms0_2 t) (hs0_2 t) (qB m c t) (kB m c t) (vB m c t)
      (oldMax scM0_0 (Memref.isWhole_whole _) (prev m c t).2.1) (prev m c t).2.1 (prev m c t).2.2
      (fun n _ => oldMax_eq _ _ _ n) d col
    rw [hM, h₀] at key
    by_cases h1 : t.val % 32 = 31
    · have e := congrArg (fun p => p.2.2) (outsAt0_C m c t h h1)
      dsimp only at e
      rw [leavesAcc_C] at e
      rw [e]
      exact key
    · have e := congrArg (fun p => p.2.2) (outsAt0_B m c t h h1)
      dsimp only at e
      rw [leavesAcc_B] at e
      rw [e]
      exact key

variable (S : Fin cfg0.N → Fin 512 → Fin 2048 → ℝ)
  (hS : ∀ t k col, sc (qB m c t) (kB m c t) k col = ((S t k col : ℝ) : EReal))

include hS

/-- Every point leaves real maxima. -/
theorem max_real (col : Fin 2048) : ∀ (n : ℕ) (hn : n < cfg0.N),
    ∃ M : ℝ, (outsAt0 m c n hn).2.1 (ix2 (0 : Fin 1) col) = (M : EReal)
  | 0, hn => by
    obtain ⟨M, h, _⟩ := first_point m c ⟨0, hn⟩ rfl col (fun k => S ⟨0, hn⟩ k col) (fun k => hS ⟨0, hn⟩ k col)
    exact ⟨M, h⟩
  | n + 1, hn => by
    by_cases h0 : (n + 1) % 32 = 0
    · obtain ⟨M, h, _⟩ := first_point m c ⟨n + 1, hn⟩ h0 col (fun k => S ⟨n + 1, hn⟩ k col) (fun k => hS ⟨n + 1, hn⟩ k col)
      exact ⟨M, h⟩
    · obtain ⟨M₀, h₀⟩ := max_real col n (by omega)
      obtain ⟨M, h, _⟩ := next_point m c ⟨n + 1, hn⟩ h0 col (fun k => S ⟨n + 1, hn⟩ k col) (fun k => hS ⟨n + 1, hn⟩ k col) M₀ h₀
      exact ⟨M, h⟩

omit hS in
/-- Key block `j` of the query block of point `t`. -/
def nth (t : Fin cfg0.N) (j : ℕ) : Fin cfg0.N := ⟨32 * (t.val / 32) + j % 32, by
  have := point_lt t
  have h : cfg0.N = 4096 := N_0
  omega⟩

/-- After the last key block the accumulator holds the sum over the thirty-two, relative to one real. -/
theorem acc_last (t : Fin cfg0.N) (ht : t.val % 32 = 31) (col : Fin 2048) :
    ∃ M : ℝ, ∀ d, (outsAt0 m c t.val t.isLt).2.2 (ix2 d col)
      = ∑ j ∈ Finset.range 32, ∑ k : Fin 512, val (vB m c (nth t j)) d k * Ideal.exp2 (((S (nth t j) k col : ℝ) : EReal) - (M : EReal)) := by
  choose M hM using fun j => max_real m c S hS col (nth t j).val (nth t j).isLt
  have hterm : ∀ d u (r : ℝ), term m c d col u (r : EReal)
      = ∑ k : Fin 512, val (vB m c u) d k * Ideal.exp2 (((S u k col : ℝ) : EReal) - (r : EReal)) := fun d u r => by
    unfold term
    simp only [hS]
  refine ⟨M 31, fun d => ?_⟩
  have hlast : nth t 31 = t := Fin.ext (show 32 * (t.val / 32) + 31 % 32 = t.val by omega)
  have key := Softmax.running (N := 32) M (fun j => (outsAt0 m c (nth t j).val (nth t j).isLt).2.2 (ix2 d col))
    (fun j k => val (vB m c (nth t j)) d k) (fun j k => S (nth t j) k col) ?_ ?_ 31 (by norm_num)
  · rw [← key, hlast]
  · obtain ⟨M', h, ha⟩ := first_point m c (nth t 0) (show (32 * (t.val / 32) + 0 % 32) % 32 = 0 by omega) col
      (fun k => S (nth t 0) k col) (fun k => hS (nth t 0) k col)
    have hMM : M' = M 0 := EReal.coe_injective (h.symm.trans (hM 0))
    rw [← hMM, ← hterm]
    exact ha d
  · intro n hn
    have hp : (nth t (n + 1)).val - 1 = (nth t n).val := by
      show 32 * (t.val / 32) + (n + 1) % 32 - 1 = 32 * (t.val / 32) + n % 32
      omega
    have hprev : prev m c (nth t (n + 1)) = outsAt0 m c (nth t n).val (nth t n).isLt := by
      simp only [prev, hp]
    obtain ⟨M', h, ha⟩ := next_point m c (nth t (n + 1)) (show ¬(32 * (t.val / 32) + (n + 1) % 32) % 32 = 0 by omega) col
      (fun k => S (nth t (n + 1)) k col) (fun k => hS (nth t (n + 1)) k col) (M n) (by rw [hprev]; exact hM n)
    have hMM : M' = M (n + 1) := EReal.coe_injective (h.symm.trans (hM (n + 1)))
    rw [← hMM, ← hterm, ← hprev]
    exact ha d

end Cert.Online

end
-- ==== Proof.OnlineWhole.lean ====
module

public import proofs.«01_k».proof.Proof.OnlinePoints
public import proofs.«01_k».proof.Proof.Whole

/-!
The whole result of the attention with running maxima. At the last key block of a query block the body divides, head by
head, the accumulator's first 128 rows by the sum of the powers below them and stores the transposed quotient. Where the
scores are reals the result is the same array as that of the attention without maxima.
-/

@[expose] public section

set_option maxRecDepth 16384

noncomputable section

namespace Cert.Online

open Idealize.ShloMosaic Idealize.ShloMosaic.TcCoe Idealize.ShloMosaic.ValueIdx Cert.KernelOnlineIdeal Cert.KernelOnlineIdeal.Gen
open Cert.OnlineBands

/-- The quotient the body stores for one head: entry `(q, d)` is the accumulator's `(d, q)` over its `(128, q)`. -/
theorem quotient_apply (A : Vec Ideal S144x512 .f32) (q : Fin 512) (d : Fin 128) :
    k0_pay7 (F := Ideal) A (ix3 (0 : Fin 1) q d)
      = Ideal.div (A (ix2 (⟨d.val, by omega⟩ : Fin 144) q)) (A (ix2 (⟨128, by norm_num⟩ : Fin 144) q)) := by
  unfold k0_pay7
  refine (shapeCast_ab_1ab_apply _ shapeCasts_S512x128_S1x512x128 (0 : Fin 1) q d).trans ?_
  refine Eq.trans (b := transpose S512x128 [1, 0] (divf (F := Ideal) (φ := .f32)
    (extractStridedSlice S128x512 ![0, 0] A slices_S144x512_o0_0_S128x512)
    (broadcastTo S128x512 (extractStridedSlice S1x512 ![128, 0] A slices_S144x512_o128_0_S1x512) broadcasts_S1x512_S128x512))
    transposes_S128x512_p1_0_S512x128 (ix2 q d)) rfl ?_
  refine (transpose_ix2_apply _ transposes_S128x512_p1_0_S512x128 q d).trans ?_
  refine congrArg₂ Ideal.div ?_ ?_
  · refine extractStridedSlice_apply _ A _ (ix2 d q) (ix2 (⟨d.val, by omega⟩ : Fin 144) q) fun a => ?_
    match a with
    | 0 => exact (Nat.zero_add _).symm
    | 1 => exact (Nat.zero_add _).symm
  · refine (broadcastTo_1b_ab_apply _ broadcasts_S1x512_S128x512 d q).trans ?_
    refine extractStridedSlice_apply _ A _ (ix2 (0 : Fin 1) q) (ix2 (⟨128, by norm_num⟩ : Fin 144) q) fun a => ?_
    match a with
    | 0 => rfl
    | 1 => exact (Nat.zero_add _).symm

/-- Four stores side by side into the output block, read back: head `g`'s columns hold what was stored for head `g`. -/
theorem heads_read {κ : Kind} {sp : Space} (v : View sig κ sp S1x512x512 .bf16) (f : v.ty.Contents (Elt Ideal))
    (P : Fin 4 → Vec Ideal S1x512x128 .bf16) (q : Fin 512) (g : Fin 4) (d : Fin 128) :
    v.read (Elt Ideal) (v.writes (Elt Ideal) f
      [⟨Rect.unit (s := S1x512x512) ![0, 0, 384] S1x512x128.size inb_S1x512x512_S1x512x128_0_0_384, P 3⟩,
       ⟨Rect.unit (s := S1x512x512) ![0, 0, 256] S1x512x128.size inb_S1x512x512_S1x512x128_0_0_256, P 2⟩,
       ⟨Rect.unit (s := S1x512x512) ![0, 0, 128] S1x512x128.size inb_S1x512x512_S1x512x128_0_0_128, P 1⟩,
       ⟨Rect.unit (s := S1x512x512) ![0, 0, 0] S1x512x128.size inb_S1x512x512_S1x512x128_0_0_0, P 0⟩])
      (ix3 (0 : Fin 1) q (⟨128 * g.val + d.val, by omega⟩ : Fin 512)) = P g (ix3 (0 : Fin 1) q d) := by
  have hit : ∀ (o : ℕ) (inb : ∀ a, (![0, 0, o] : Fin 3 → ℕ) a + S1x512x128.size a ≤ S1x512x512.size a)
      (w : Vec Ideal S1x512x128 .bf16) (L : List (View.Piece (Elt Ideal) S1x512x512 .bf16)) (_ : o = 128 * g.val),
      v.read (Elt Ideal) (v.writes (Elt Ideal) f (⟨Rect.unit (s := S1x512x512) ![0, 0, o] S1x512x128.size inb, w⟩ :: L))
        (ix3 (0 : Fin 1) q (⟨128 * g.val + d.val, by omega⟩ : Fin 512)) = w (ix3 (0 : Fin 1) q d) := by
    intro o inb w L ho
    refine View.read_writes_cons_unit_of_mem v f inb w L _ (ix3 (0 : Fin 1) q d) rfl fun a => ?_
    match a with
    | 0 => rfl
    | 1 => exact (Nat.zero_add _).symm
    | 2 => show 128 * g.val + d.val = o + d.val; rw [ho]
  have miss : ∀ (o : ℕ) (inb : ∀ a, (![0, 0, o] : Fin 3 → ℕ) a + S1x512x128.size a ≤ S1x512x512.size a)
      (w : Vec Ideal S1x512x128 .bf16) (L : List (View.Piece (Elt Ideal) S1x512x512 .bf16)) (_ : 128 * g.val + 128 ≤ o),
      v.read (Elt Ideal) (v.writes (Elt Ideal) f (⟨Rect.unit (s := S1x512x512) ![0, 0, o] S1x512x128.size inb, w⟩ :: L))
        (ix3 (0 : Fin 1) q (⟨128 * g.val + d.val, by omega⟩ : Fin 512))
      = v.read (Elt Ideal) (v.writes (Elt Ideal) f L) (ix3 (0 : Fin 1) q (⟨128 * g.val + d.val, by omega⟩ : Fin 512)) := by
    intro o inb w L ho
    refine View.read_writes_cons_unit_of_not_mem v f inb w L _ rfl 2 (Or.inl ?_)
    show 128 * g.val + d.val < o
    omega
  by_cases h3 : g = 3
  · rw [hit 384 _ _ _ (by rw [h3]; rfl), h3]
  rw [miss 384 _ _ _ (by omega)]
  by_cases h2 : g = 2
  · rw [hit 256 _ _ _ (by rw [h2]; rfl), h2]
  rw [miss 256 _ _ _ (by omega)]
  by_cases h1 : g = 1
  · rw [hit 128 _ _ _ (by rw [h1]; rfl), h1]
  rw [miss 128 _ _ _ (by omega)]
  have h0 : g = 0 := by omega
  rw [hit 0 _ _ _ (by rw [h0]; rfl), h0]

/-- A load of 512 columns of a buffer, after eight steps on its bands, reads the state. -/
theorem columns_read {R : ℕ} {κ : Kind} {sp : Space} {v : View sig κ sp (Buf R) .f32} {f : v.ty.Contents (Elt Ideal)} {a : ℕ}
    {pay : ℕ → ((Band R).Idx → Elt Ideal .f32) → (Band R).Idx → Elt Ideal .f32} {xs : (Buf R).Idx → Elt Ideal .f32}
    {L : List (View.Piece (Elt Ideal) (Buf R) .f32)} (good : Good v f a pay xs 8 L) (g : Fin 4)
    (inb : ∀ b, (![0, 512 * g.val] : Fin 2 → ℕ) b + (⟨2, ![R, 512]⟩ : Shape).size b ≤ (Buf R).size b) (r : Fin R) (q : Fin 512) :
    v.readCov L (Rect.unit (s := Buf R) ![0, 512 * g.val] (⟨2, ![R, 512]⟩ : Shape).size inb).toLoadRect (ix2 r q)
      = state pay xs 8 (ix2 r (⟨512 * g.val + q.val, by omega⟩ : Fin 2048)) := by
  show v.readAt (Elt Ideal) _ (v.writes (Elt Ideal) v.junk L) _ = _
  rw [View.readAt_apply, good.read_junk (by omega)]
  refine congrArg _ (funext fun b => Fin.ext ?_)
  match b with
  | 0 => show 0 + 1 * r.val = r.val; omega
  | 1 => show 512 * g.val + 1 * q.val = 512 * g.val + q.val; omega

/-- The four quotients of one output block, over any list of stores that leaves the accumulator's state. -/
theorem four_heads {κ : Kind} {sp : Space} (v : View sig κ sp S1x512x512 .bf16) (f : v.ty.Contents (Elt Ideal))
    {κA : Kind} {spA : Space} {vA : View sig κA spA S144x2048 .f32} {fA : vA.ty.Contents (Elt Ideal)} {aA : ℕ}
    {pay : ℕ → ((Band 144).Idx → Elt Ideal .f32) → (Band 144).Idx → Elt Ideal .f32} {xs : (Buf 144).Idx → Elt Ideal .f32}
    {L : List (View.Piece (Elt Ideal) S144x2048 .f32)} (acc : Good (R := 144) vA fA aA pay xs 8 L)
    (q : Fin 512) (g : Fin 4) (d : Fin 128) :
    v.read (Elt Ideal) (v.writes (Elt Ideal) f
      [⟨Rect.unit (s := S1x512x512) ![0, 0, 384] S1x512x128.size inb_S1x512x512_S1x512x128_0_0_384,
          k0_pay7 (F := Ideal)
            (vA.readCov L (Rect.unit (s := S144x2048) ![0, 1536] S144x512.size inb_S144x2048_S144x512_0_1536).toLoadRect)⟩,
        ⟨Rect.unit (s := S1x512x512) ![0, 0, 256] S1x512x128.size inb_S1x512x512_S1x512x128_0_0_256,
          k0_pay7 (F := Ideal)
            (vA.readCov L (Rect.unit (s := S144x2048) ![0, 1024] S144x512.size inb_S144x2048_S144x512_0_1024).toLoadRect)⟩,
        ⟨Rect.unit (s := S1x512x512) ![0, 0, 128] S1x512x128.size inb_S1x512x512_S1x512x128_0_0_128,
          k0_pay7 (F := Ideal)
            (vA.readCov L (Rect.unit (s := S144x2048) ![0, 512] S144x512.size inb_S144x2048_S144x512_0_512).toLoadRect)⟩,
        ⟨Rect.unit (s := S1x512x512) ![0, 0, 0] S1x512x128.size inb_S1x512x512_S1x512x128_0_0_0,
          k0_pay7 (F := Ideal)
            (vA.readCov L (Rect.unit (s := S144x2048) ![0, 0] S144x512.size inb_S144x2048_S144x512_0_0).toLoadRect)⟩])
        (ix3 (0 : Fin 1) q (⟨128 * g.val + d.val, by omega⟩ : Fin 512))
      = Ideal.div (state pay xs 8 (ix2 (⟨d.val, by omega⟩ : Fin 144) (⟨512 * g.val + q.val, by omega⟩ : Fin 2048)))
          (state pay xs 8 (ix2 (⟨128, by norm_num⟩ : Fin 144) (⟨512 * g.val + q.val, by omega⟩ : Fin 2048))) := by
  have inbA : ∀ g : Fin 4, ∀ b, (![0, 512 * g.val] : Fin 2 → ℕ) b + S144x512.size b ≤ S144x2048.size b := by decide
  refine (heads_read v _ (fun g => k0_pay7 (F := Ideal)
    (vA.readCov L (Rect.unit (s := S144x2048) ![0, 512 * g.val] S144x512.size (inbA g)).toLoadRect)) q g d).trans ?_
  refine (quotient_apply _ q d).trans ?_
  exact congrArg₂ Ideal.div (columns_read (R := 144) acc g _ _ q) (columns_read (R := 144) acc g _ _ q)

section
variable (c : Dev nD) (i : grid0.Coords) (arg4 : Memref sig .tc .vmem S1x512x512 .bf16) (harg4 : arg4.IsWhole)
  (arg5 : Memref sig .tc .vmem S1x512x128 .bf16) (harg5 : arg5.IsWhole)
  (arg6 : Memref sig .tc .vmem S1x128x512 .bf16) (harg6 : arg6.IsWhole)
  (arg7 : Memref sig .tc .vmem S1x512x512 .bf16) (harg7 : arg7.IsWhole)
  (arg8 : Memref sig .tc .vmem S1x2048 .f32) (harg8 : arg8.IsWhole)
  (arg9 : Memref sig .tc .vmem S144x2048 .f32) (harg9 : arg9.IsWhole)
  (x0 : Vec Ideal S1x512x512 .bf16) (x1 : Vec Ideal S1x512x128 .bf16) (x2 : Vec Ideal S1x128x512 .bf16)
  (xs0 : Vec Ideal S1x2048 .f32) (xs1 : Vec Ideal S144x2048 .f32)

/-- The output block the body leaves at the last key block, in terms of the accumulator it leaves. -/
theorem block_out (hc0 : ¬cond0_0 i) (hc1 : cond0_1 i) (q : Fin 512) (g : Fin 4) (d : Fin 128) :
    out0_C_3 c i arg4 harg4 arg5 harg5 arg6 harg6 arg7 harg7 arg8 harg8 arg9 harg9 hc0 hc1 x0 x1 x2 xs0 xs1
        (ix3 (0 : Fin 1) q (⟨128 * g.val + d.val, by omega⟩ : Fin 512))
      = Ideal.div
          (sout0_C_1 c i arg4 harg4 arg5 harg5 arg6 harg6 arg7 harg7 arg8 harg8 arg9 harg9 hc0 hc1 x0 x1 x2 xs0 xs1
            (ix2 (⟨d.val, by omega⟩ : Fin 144) (⟨512 * g.val + q.val, by omega⟩ : Fin 2048)))
          (sout0_C_1 c i arg4 harg4 arg5 harg5 arg6 harg6 arg7 harg7 arg8 harg8 arg9 harg9 hc0 hc1 x0 x1 x2 xs0 xs1
            (ix2 (⟨128, by norm_num⟩ : Fin 144) (⟨512 * g.val + q.val, by omega⟩ : Fin 2048))) := by
  rw [leavesAcc_C]
  unfold out0_C_3
  rw [outPieces]
  exact four_heads VO0_3 _
    (goodAcc_C c i arg4 harg4 arg5 harg5 arg6 harg6 arg7 harg7 arg8 harg8 arg9 harg9 x0 x1 x2 xs0 xs1 hc0 hc1) q g d

end

/-! ## The whole array -/

variable (m : (ℓ : Loc nD τ sig) → Buf (Elt Ideal) ℓ) (c : Dev nD)

theorem sc_eq (t : Fin cfg0.N) (s : Fin 512) (col : Fin 2048) :
    sc (qB m c t) (kB m c t) s col = Cert.Attn.score (qA m c) (kA m c) (⟨t.val / 2048, by have := point_lt t; omega⟩ : Fin 2)
      (⟨4 * (t.val / 1024 % 2) + col.val / 512, by omega⟩ : Fin 8) (⟨512 * (t.val / 32 % 32) + col.val % 512, by omega⟩ : Fin 16384)
      (⟨512 * (t.val % 32) + s.val, by omega⟩ : Fin 16384) := by
  unfold sc Cert.Attn.score
  refine Finset.sum_congr rfl fun e _ => ?_
  have h1 : (4 * (t.val / 1024 % 2) + col.val / 512) / 4 = t.val / 1024 % 2 := by omega
  have h2 : 128 * (4 * (t.val / 1024 % 2) + col.val / 512) + e.val = 512 * (t.val / 1024 % 2) + (128 * (col.val / 512) + e.val) := by
    omega
  refine congrArg₂ (· * ·) ((k_block m c t s e).trans ?_) ((q_block m c t _ _).trans ?_)
  · simp only [h1]
  · simp only [h2]

/-- The key blocks of a row of points put side by side. -/
theorem row_sum (f : Fin 16384 → EReal) (g : ℕ → Fin 512 → EReal)
    (hg : ∀ (j : Fin 32) (s : Fin 512), g j.val s = f ⟨512 * j.val + s.val, by omega⟩) :
    ∑ j ∈ Finset.range 32, ∑ s : Fin 512, g j s = ∑ s, f s := by
  rw [Finset.sum_range]
  exact (Finset.sum_congr rfl fun j _ => Finset.sum_congr rfl fun s _ => hg j s).trans
    (Cert.Attn.sum_split (show 16384 = 32 * 512 from rfl) f)

variable (σ : Fin 2 → Fin 8 → Fin 16384 → Fin 16384 → ℝ)
  (hσ : ∀ b hd q s, Cert.Attn.score (qA m c) (kA m c) b hd q s = ((σ b hd q s : ℝ) : EReal))

include hσ

/-- The block a last point writes is its block of the attention. -/
theorem point_out (t : Fin cfg0.N) (ht : t.val % 32 = 31) (q : Fin 512) (g : Fin 4) (d : Fin 128) :
    (outsAt0 m c t.val t.isLt).1 (ix3 (0 : Fin 1) q (⟨128 * g.val + d.val, by omega⟩ : Fin 512))
      = Cert.Attn.attnAt (qA m c) (kA m c) (vA m c) (⟨t.val / 2048, by have := point_lt t; omega⟩ : Fin 2)
          (⟨512 * (t.val / 32 % 32) + q.val, by omega⟩ : Fin 16384)
          (⟨4 * (t.val / 1024 % 2) + g.val, by omega⟩ : Fin 8) d := by
  have e := outsAt0_C m c t (by omega) ht
  have e0 := congrArg (fun p => p.1) e
  have e2 := congrArg (fun p => p.2.2) e
  dsimp only at e0 e2
  rw [e0, block_out, ← e2]
  obtain ⟨M, hM⟩ := acc_last m c
    (fun t s col => σ (⟨t.val / 2048, by have := point_lt t; omega⟩ : Fin 2)
      (⟨4 * (t.val / 1024 % 2) + col.val / 512, by omega⟩ : Fin 8) (⟨512 * (t.val / 32 % 32) + col.val % 512, by omega⟩ : Fin 16384)
      (⟨512 * (t.val % 32) + s.val, by omega⟩ : Fin 16384))
    (fun t s col => (sc_eq m c t s col).trans (hσ _ _ _ _)) t ht (⟨512 * g.val + q.val, by omega⟩ : Fin 2048)
  rw [hM, hM]
  have k0 : ∀ j : Fin 32, (32 * (t.val / 32) + j.val % 32) / 2048 = t.val / 2048 := fun j => by omega
  have k1 : ∀ j : Fin 32, (32 * (t.val / 32) + j.val % 32) / 1024 % 2 = t.val / 1024 % 2 := fun j => by omega
  have k2 : ∀ j : Fin 32, (32 * (t.val / 32) + j.val % 32) / 32 % 32 = t.val / 32 % 32 := fun j => by omega
  have k3 : ∀ j : Fin 32, (32 * (t.val / 32) + j.val % 32) % 32 = j.val := fun j => by omega
  have k4 : (512 * g.val + q.val) / 512 = g.val := by omega
  have k5 : (512 * g.val + q.val) % 512 = q.val := by omega
  have k6 : (4 * (t.val / 1024 % 2) + g.val) / 4 = t.val / 1024 % 2 := by omega
  unfold Cert.Attn.attnAt
  simp only [hσ]
  refine Eq.trans ?_ (Softmax.shifted (n := 16384) _ (σ _ _ _) M (by norm_num))
  refine congrArg₂ Ideal.div (row_sum _ _ fun j s => ?_) (row_sum _ _ fun j s => ?_)
  · refine congrArg₂ (· * ·) ?_ ?_
    · unfold val
      rw [dif_pos d.isLt]
      refine (v_block m c (nth t j.val) d s).trans ?_
      simp only [nth, k0, k1, k3, k6]
    · simp only [nth, k0, k1, k2, k3, k4, k5]
  · unfold val
    rw [dif_neg (by norm_num), one_mul]
    simp only [nth, k0, k1, k2, k3, k4, k5]

/-- The kernel's result is the attention of its arguments. -/
theorem kernel_out : (dats m 0 c).arrAt 3 cfg0.N = Cert.Attn.attn (qA m c) (kA m c) (vA m c) := by
  refine (dats m 0 c).arrAt_eq_of_covers 3 _ (by decide +kernel) fun t hf y => ?_
  have ht : t.val % 32 = 31 := (flush0_3 t).mp hf
  have idx := (indices t).2.2.2
  have hy2 : (y 2).val < 512 := (y 2).isLt
  have hy1 : (y 1).val < 512 := (y 1).isLt
  have hy0 : (y 0).val < 1 := (y 0).isLt
  blk_simp
  rw [after0_3]
  have hp := point_out m c σ hσ t ht (⟨(y 1).val, hy1⟩ : Fin 512) (⟨(y 2).val / 128, by omega⟩ : Fin 4)
    (⟨(y 2).val % 128, by omega⟩ : Fin 128)
  refine Eq.trans (congrArg (outsAt0 m c t.val t.isLt).1 ?_) (hp.trans ?_)
  · funext a
    apply Fin.ext
    match a with
    | 0 => show (y 0).val = 0; omega
    | 1 => rfl
    | 2 => show (y 2).val = 128 * ((y 2).val / 128) + (y 2).val % 128; omega
  · unfold Cert.Attn.attn
    have e0 : ((win0_3.blk t).view.emb y 0).val = t.val / 2048 * 1 + (y 0).val := by
      exact (Pipeline.Window.rect_emb_val win0_3 t y _).trans (by rw [idx]; rfl)
    have e1 : ((win0_3.blk t).view.emb y 1).val = t.val / 32 % 32 * 512 + (y 1).val := by
      exact (Pipeline.Window.rect_emb_val win0_3 t y _).trans (by rw [idx]; rfl)
    have e2 : ((win0_3.blk t).view.emb y 2).val = t.val / 1024 % 2 * 512 + (y 2).val := by
      exact (Pipeline.Window.rect_emb_val win0_3 t y _).trans (by rw [idx]; rfl)
    congr 1
    · apply Fin.ext; rw [e0]; show t.val / 2048 = _; omega
    · apply Fin.ext; rw [e1]; show 512 * (t.val / 32 % 32) + (y 1).val = _; omega
    · apply Fin.ext
      show 4 * (t.val / 1024 % 2) + (y 2).val / 128 = ((win0_3.blk t).view.emb y 2).val / 128
      rw [e2]; omega
    · apply Fin.ext
      show (y 2).val % 128 = ((win0_3.blk t).view.emb y 2).val % 128
      rw [e2]; omega

end Cert.Online

end
-- ==== Proof.Rows.lean ====
module

public import Idealize.ShloMosaic.Lib.MatmulPlain
public import Idealize.ShloMosaic.Lib.ValueLayout
public import Idealize.ShloMosaic.Lib.Pipeline.Value

/-!
One position of the residual stream: its root-mean-square normalization and its gated feed-forward sum, over the extended
reals. And the same for a block of 512 positions, as a kernel writes it: the normalization of a block, and the feed-forward
sum taken 256 of its 2816 hidden columns at a time.
-/

@[expose] public section

set_option maxRecDepth 16384

noncomputable section

namespace Cert.Rows

open Idealize.ShloMosaic Idealize.ShloMosaic.ValueIdx

/-! ## One position -/

/-- The normalization of one position `x` with the gain `g`. -/
def norm (g x : Fin 1024 → EReal) (j : Fin 1024) : EReal :=
  x j * Ideal.rsqrt (Ideal.div (∑ k, x k * x k) (Ideal.ofBits .f32 0x44800000#32) + Ideal.ofBits .f32 0x358637BD#32) * g j

/-- A gated hidden value: `z` times its logistic times `w`. -/
def gated (z w : EReal) : EReal := z * Ideal.logistic z * w

/-- Hidden column `f` of a position whose normalized value is `n`: the gate's column is `f`, the other's `2816 + f`. -/
def hidden (n : Fin 1024 → EReal) (W : Fin 1024 → Fin 5632 → EReal) (f : Fin 2816) : EReal :=
  gated (∑ k, n k * W k ⟨f.val, by omega⟩) (∑ k, n k * W k ⟨2816 + f.val, by omega⟩)

/-- The feed-forward sum at coordinate `j`. -/
def ffn (n : Fin 1024 → EReal) (W : Fin 1024 → Fin 5632 → EReal) (D : Fin 2816 → Fin 1024 → EReal) (j : Fin 1024) : EReal :=
  ∑ f, hidden n W f * D f j

/-- The position `x` plus half the feed-forward sum of its normalization. -/
def step (g : Fin 1024 → EReal) (W : Fin 1024 → Fin 5632 → EReal) (D : Fin 2816 → Fin 1024 → EReal) (x : Fin 1024 → EReal)
    (j : Fin 1024) : EReal :=
  x j + Ideal.ofBits .f32 0x3F000000#32 * ffn (norm g x) W D j

/-! ## A block of 512 positions -/

abbrev Blk : Shape := ⟨2, ![512, 1024]⟩
abbrev Gain : Shape := ⟨2, ![1, 1024]⟩
abbrev Cols : Shape := ⟨2, ![1024, 256]⟩
abbrev Hid : Shape := ⟨2, ![512, 256]⟩
abbrev Down : Shape := ⟨2, ![256, 1024]⟩
abbrev Wide : Shape := ⟨2, ![1024, 5632]⟩
abbrev Tall : Shape := ⟨2, ![2816, 1024]⟩
abbrev Sums : Shape := ⟨1, ![512]⟩
abbrev Column : Shape := ⟨2, ![512, 1]⟩

theorem reduces : Blk.Reduces [1] Sums := by decide
theorem casts : Sums.ShapeCasts Column := by decide
theorem across : Column.Broadcasts Blk := by decide
theorem down : Gain.Broadcasts Blk := by decide
theorem narrower : FTy.bits .bf16 < FTy.bits .f32 := by decide

section
variable {F : FTy → Type} [FloatOps F]

/-- The normalization of every position of a block. -/
def normed (x : FVec F Blk .f32) (g : FVec F Gain .f32) : FVec F Blk .f32 :=
  mulf (mulf x (broadcastTo Blk (rsqrt (addf (divf
      (shapeCast Column (multiReduction .add [1] Sums (mulf x x) 0x00000000#32 reduces (.inl rfl) rfl) casts)
      (broadcast Column (Scalar.ofBits .f32 0x44800000#32))) (broadcast Column (Scalar.ofBits .f32 0x358637BD#32)))) across))
    (broadcastTo Blk g down)

/-- The product of a block with some columns. -/
def times (n : FVec F Blk .bf16) (w : FVec F Cols .bf16) : FVec F Hid .f32 :=
  matmul (DotDims.plain 512 1024 256) none n w (constant Hid .f32 0x00000000#32)

/-- 256 hidden columns of a block. -/
def hid (z w : FVec F Hid .f32) : FVec F Hid .bf16 :=
  truncf .bf16 (mulf (mulf z (logistic z)) w) narrower

/-- What 256 hidden columns add to the feed-forward sum. -/
def part (h : FVec F Hid .bf16) (d : FVec F Down .bf16) : FVec F Blk .f32 :=
  matmul (DotDims.plain 512 256 1024) none h d (constant Blk .f32 0x00000000#32)

theorem wide_inb (o : ℕ) (ho : o ≤ 5376) : ∀ a, (![0, o] : Fin 2 → ℕ) a + Cols.size a ≤ Wide.size a := by
  intro a
  match a with
  | 0 => show 0 + 1024 ≤ 1024; omega
  | 1 => show o + 256 ≤ 5632; omega

theorem tall_inb (o : ℕ) (ho : o ≤ 2560) : ∀ a, (![o, 0] : Fin 2 → ℕ) a + Down.size a ≤ Tall.size a := by
  intro a
  match a with
  | 0 => show o + 256 ≤ 2816; omega
  | 1 => show 0 + 1024 ≤ 1024; omega

/-- 256 columns from column `o` on. -/
def cols (W : FVec F Wide .bf16) (o : ℕ) (ho : o ≤ 5376) : FVec F Cols .bf16 :=
  fun i => W ((Rect.unit (s := Wide) ![0, o] Cols.size (wide_inb o ho)).idx i)

/-- 256 rows from row `o` on. -/
def rows (D : FVec F Tall .bf16) (o : ℕ) (ho : o ≤ 2560) : FVec F Down .bf16 :=
  fun i => D ((Rect.unit (s := Tall) ![o, 0] Down.size (tall_inb o ho)).idx i)

/-- What run `c` of 256 hidden columns adds. -/
def chunk (n : FVec F Blk .bf16) (W : FVec F Wide .bf16) (D : FVec F Tall .bf16) (c : ℕ) : FVec F Blk .f32 :=
  part (hid (times n (cols W (256 * (c % 11)) (by omega))) (times n (cols W (2816 + 256 * (c % 11)) (by omega))))
    (rows D (256 * (c % 11)) (by omega))

/-- The sum of the first `c` runs. -/
def runs (n : FVec F Blk .bf16) (W : FVec F Wide .bf16) (D : FVec F Tall .bf16) : ℕ → FVec F Blk .f32
  | 0 => broadcast Blk (Scalar.ofBits .f32 0x00000000#32)
  | c + 1 => addf (runs n W D c) (chunk n W D c)

/-- The block plus half the feed-forward sum of its normalization. -/
def stepped (g : FVec F Gain .f32) (W : FVec F Wide .bf16) (D : FVec F Tall .bf16) (x : FVec F Blk .f32) : FVec F Blk .f32 :=
  addf x (mulf (broadcast Blk (Scalar.ofBits .f32 0x3F000000#32)) (runs (truncf .bf16 (normed x g) narrower) W D 11))

end

/-! ## A block read at one position -/

theorem mean_lift (r : Fin 512) (k : Fin 1024) : reduces.lift (ix1 r : Sums.Idx) k = ix2 r k := by
  funext a
  apply Fin.ext
  match a with
  | 0 => rfl
  | 1 => rfl

/-- The normalization of a block is the normalization of each position. -/
theorem normed_apply (x : FVec Ideal Blk .f32) (g : FVec Ideal Gain .f32) (r : Fin 512) (j : Fin 1024) :
    normed x g (ix2 r j) = norm (fun k => g (ix2 (0 : Fin 1) k)) (fun k => x (ix2 r k)) j := by
  unfold normed norm
  refine congrArg₂ (fun a b : EReal => a * b) (congrArg (fun b : EReal => x (ix2 r j) * b) ?_) (broadcastTo_1b_ab_apply _ _ _ _)
  refine (broadcastTo_apply _ _ (ix2 r j) (ix2 r (0 : Fin 1)) fun a => ?_).trans ?_
  · match a with
    | ⟨0, _⟩ => rfl
    | ⟨1, _⟩ => rfl
  · show Ideal.rsqrt (Ideal.div (shapeCast Column _ casts (ix2 r (0 : Fin 1))) _ + _) = _
    refine congrArg (fun s => Ideal.rsqrt (Ideal.div s _ + _)) ?_
    refine (shapeCast_apply _ casts (ix2 r (0 : Fin 1)) (ix1 r) ?_).trans ?_
    · rw [Shape.rowMajor_val_two]
      rfl
    · refine (Ideal.multiReduction_add_single _ _ _ _ _ _).trans ?_
      refine Finset.sum_congr rfl fun k _ => ?_
      rw [mean_lift r k]
      rfl

theorem times_apply (n : FVec Ideal Blk .bf16) (w : FVec Ideal Cols .bf16) (r : Fin 512) (s : Fin 256) :
    times n w (ix2 r s) = ∑ k : Fin 1024, n (ix2 r k) * w (ix2 k s) := by
  refine (Ideal.matmul_plain_apply none n w _ r s).trans ?_
  show Ideal.ofBits .f32 0x00000000#32 + _ = _
  rw [Ideal.ofBits_zero_f32, zero_add]

theorem part_apply (h : FVec Ideal Hid .bf16) (d : FVec Ideal Down .bf16) (r : Fin 512) (j : Fin 1024) :
    part h d (ix2 r j) = ∑ s : Fin 256, h (ix2 r s) * d (ix2 s j) := by
  refine (Ideal.matmul_plain_apply none h d _ r j).trans ?_
  show Ideal.ofBits .f32 0x00000000#32 + _ = _
  rw [Ideal.ofBits_zero_f32, zero_add]

theorem hid_apply (z w : FVec Ideal Hid .f32) (i : Hid.Idx) : hid z w i = gated (z i) (w i) := rfl

theorem cols_apply (W : FVec Ideal Wide .bf16) (o : ℕ) (ho : o ≤ 5376) (k : Fin 1024) (s : Fin 256) :
    cols W o ho (ix2 k s) = W (ix2 k (⟨o + s.val, by omega⟩ : Fin 5632)) := by
  refine congrArg W (funext fun a => Fin.ext ?_)
  match a with
  | 0 => show 0 + 1 * k.val = k.val; omega
  | 1 => show o + 1 * s.val = o + s.val; omega

theorem rows_apply (D : FVec Ideal Tall .bf16) (o : ℕ) (ho : o ≤ 2560) (s : Fin 256) (j : Fin 1024) :
    rows D o ho (ix2 s j) = D (ix2 (⟨o + s.val, by omega⟩ : Fin 2816) j) := by
  refine congrArg D (funext fun a => Fin.ext ?_)
  match a with
  | 0 => show o + 1 * s.val = o + s.val; omega
  | 1 => show 0 + 1 * j.val = j.val; omega

/-- The two weights as functions of a row and a column. -/
abbrev wide (W : FVec Ideal Wide .bf16) : Fin 1024 → Fin 5632 → EReal := fun k f => W (ix2 k f)
abbrev tall (D : FVec Ideal Tall .bf16) : Fin 2816 → Fin 1024 → EReal := fun f j => D (ix2 f j)

/-- Run `c` adds its 256 hidden columns. -/
theorem chunk_apply (n : FVec Ideal Blk .bf16) (W : FVec Ideal Wide .bf16) (D : FVec Ideal Tall .bf16) (c : ℕ) (hc : c < 11)
    (r : Fin 512) (j : Fin 1024) : chunk n W D c (ix2 r j) = ∑ s : Fin 256,
      hidden (fun k => n (ix2 r k)) (wide W) ⟨256 * c + s.val, by omega⟩ * tall D ⟨256 * c + s.val, by omega⟩ j := by
  unfold chunk hidden
  have h : c % 11 = c := Nat.mod_eq_of_lt hc
  rw [part_apply]
  refine Finset.sum_congr rfl fun s _ => ?_
  rw [hid_apply, times_apply, times_apply, rows_apply]
  simp only [cols_apply, h]
  have e : ∀ k : Fin 1024, W (ix2 k (⟨2816 + 256 * c + s.val, by omega⟩ : Fin 5632))
      = W (ix2 k (⟨2816 + (256 * c + s.val), by omega⟩ : Fin 5632)) := fun k => by simp only [Nat.add_assoc]
  simp only [e]

theorem runs_apply (n : FVec Ideal Blk .bf16) (W : FVec Ideal Wide .bf16) (D : FVec Ideal Tall .bf16) (r : Fin 512)
    (j : Fin 1024) : ∀ c : ℕ, runs n W D c (ix2 r j) = ∑ i ∈ Finset.range c, chunk n W D i (ix2 r j)
  | 0 => by
    rw [Finset.sum_range_zero]
    exact Ideal.ofBits_zero_f32
  | c + 1 => by
    rw [Finset.sum_range_succ, ← runs_apply n W D r j c]
    rfl

/-- A sum over 2816 numbers, in eleven runs of 256. -/
theorem eleven (f : Fin 2816 → EReal) :
    ∑ c : Fin 11, ∑ s : Fin 256, f ⟨256 * c.val + s.val, by omega⟩ = ∑ i, f i := by
  show _ = ∑ i : Fin (11 * 256), f i
  rw [← finProdFinEquiv.sum_comp, Fintype.sum_prod_type]
  refine Finset.sum_congr rfl fun a _ => Finset.sum_congr rfl fun b _ => congrArg f (Fin.ext ?_)
  show 256 * a.val + b.val = b.val + 256 * a.val
  omega

/-- The eleven runs are the feed-forward sum. -/
theorem runs_all (n : FVec Ideal Blk .bf16) (W : FVec Ideal Wide .bf16) (D : FVec Ideal Tall .bf16) (r : Fin 512)
    (j : Fin 1024) : runs n W D 11 (ix2 r j) = ffn (fun k => n (ix2 r k)) (wide W) (tall D) j := by
  rw [runs_apply, Finset.sum_range]
  unfold ffn
  rw [← eleven]
  exact Finset.sum_congr rfl fun c _ => chunk_apply n W D c.val c.isLt r j

/-- The block's step is the step of each position. -/
theorem stepped_apply (g : FVec Ideal Gain .f32) (W : FVec Ideal Wide .bf16) (D : FVec Ideal Tall .bf16)
    (x : FVec Ideal Blk .f32) (r : Fin 512) (j : Fin 1024) : stepped g W D x (ix2 r j)
      = step (fun k => g (ix2 (0 : Fin 1) k)) (wide W) (tall D) (fun k => x (ix2 r k)) j := by
  unfold stepped step
  refine congrArg (fun b : EReal => x (ix2 r j) + b) (congrArg (fun b : EReal => Ideal.ofBits .f32 0x3F000000#32 * b) ?_)
  refine (runs_all _ _ _ _ _).trans ?_
  refine congrArg (fun n => ffn n (wide W) (tall D) j) (funext fun k => ?_)
  exact normed_apply x g r k

/-! ## The whole residual stream -/

/-- Two sequences of `L` positions. -/
abbrev Stream (L : ℕ) : Shape := ⟨3, ![2, L, 1024]⟩
abbrev Gains : Shape := ⟨1, ![1024]⟩

variable {L : ℕ}

/-- The coordinates of position `p` of batch `b`. -/
abbrev pos (x : FVec Ideal (Stream L) .f32) (b : Fin 2) (p : Fin L) : Fin 1024 → EReal := fun k => x (ix3 b p k)

/-- A gain as a function of its coordinate. -/
abbrev gain (g : FVec Ideal Gains .f32) : Fin 1024 → EReal := fun k => g (ix1 k)

/-- Every position of the stream plus half the feed-forward sum of its normalization. -/
def stepAll (x : FVec Ideal (Stream L) .f32) (g : FVec Ideal Gains .f32) (W : FVec Ideal Wide .f32) (D : FVec Ideal Tall .f32) :
    FVec Ideal (Stream L) .f32 := fun y =>
  step (gain g) (fun k f => W (ix2 k f)) (fun f j => D (ix2 f j)) (pos x (y 0) (y 1)) (y 2)

/-- Every position of the stream normalized. -/
def normAll (x : FVec Ideal (Stream L) .f32) (g : FVec Ideal Gains .f32) : FVec Ideal (Stream L) .f32 := fun y =>
  norm (gain g) (pos x (y 0) (y 1)) (y 2)

/-- The index of an element, from its coordinates. -/
theorem stream_ix (y : (Stream L).Idx) : ix3 (y 0) (y 1) (y 2) = y := by
  funext a
  match a with
  | ⟨0, _⟩ => rfl
  | ⟨1, _⟩ => rfl
  | ⟨2, _⟩ => rfl

/-- The normalization of the stream as an array program spells it: the sum of squares starts from a zero, and the sum and the
    gain are read at indices with the coordinates of the element. -/
theorem normAll_of (x : FVec Ideal (Stream L) .f32) (g : FVec Ideal Gains .f32) (y : (Stream L).Idx) (i : Fin 1024 → (Stream L).Idx)
    (hi : ∀ k, i k = ix3 (y 0) (y 1) k) (q : Gains.Idx) (hq : q = ix1 (y 2)) :
    x y * Ideal.rsqrt (Ideal.div (Ideal.ofBits .f32 0x00000000#32 + ∑ k, x (i k) * x (i k)) (Ideal.ofBits .f32 0x44800000#32)
        + Ideal.ofBits .f32 0x358637BD#32) * g q = normAll x g y := by
  have hs : ∑ k, x (i k) * x (i k) = ∑ k, pos x (y 0) (y 1) k * pos x (y 0) (y 1) k :=
    Finset.sum_congr rfl fun k _ => by rw [hi k]; rfl
  rw [Ideal.ofBits_zero_f32, zero_add, hs, hq]
  exact congrArg (fun b : EReal => b * _ * _) (congrArg x (stream_ix y).symm)

/-! ## The two branches joined -/

/-- The residual position `h` plus the gated branches `s` and `a` through their weights: the gate's first 1024 coordinates
    belong to `s`, the rest to `a`. -/
def merge (s g : Fin 2048 → EReal) (a h : Fin 1024 → EReal) (Ws : Fin 2048 → Fin 1024 → EReal)
    (Wa Wo : Fin 1024 → Fin 1024 → EReal) (j : Fin 1024) : EReal :=
  h j + ∑ k : Fin 1024, (g ⟨k.val, by omega⟩ * ∑ i, s i * Ws i k + g ⟨1024 + k.val, by omega⟩ * ∑ i, a i * Wa i k) * Wo k j

abbrev Blk2 : Shape := ⟨2, ![512, 2048]⟩
abbrev Sq : Shape := ⟨2, ![1024, 1024]⟩
abbrev Sq2 : Shape := ⟨2, ![2048, 1024]⟩

/-- The same for a block of 512 positions. -/
def merged {F : FTy → Type} [FloatOps F] (s : FVec F Blk2 .bf16) (a : FVec F Blk .bf16) (p q h : FVec F Blk .f32)
    (ws : FVec F Sq2 .bf16) (wa wo : FVec F Sq .bf16) : FVec F Blk .f32 :=
  addf h (matmul (DotDims.plain 512 1024 1024) none (truncf .bf16
    (addf (mulf p (matmul (DotDims.plain 512 2048 1024) none s ws (constant Blk .f32 0x00000000#32)))
      (mulf q (matmul (DotDims.plain 512 1024 1024) none a wa (constant Blk .f32 0x00000000#32)))) narrower)
    wo (constant Blk .f32 0x00000000#32))

theorem prod_apply {K : ℕ} (x : FVec Ideal ⟨2, ![512, K]⟩ .bf16) (w : FVec Ideal ⟨2, ![K, 1024]⟩ .bf16) (r : Fin 512)
    (j : Fin 1024) : matmul (DotDims.plain 512 K 1024) none x w (constant Blk .f32 0x00000000#32) (ix2 r j)
      = ∑ k : Fin K, x (ix2 r k) * w (ix2 k j) := by
  refine (Ideal.matmul_plain_apply none x w _ r j).trans ?_
  show Ideal.ofBits .f32 0x00000000#32 + _ = _
  rw [Ideal.ofBits_zero_f32, zero_add]

theorem merged_apply (s : FVec Ideal Blk2 .bf16) (a : FVec Ideal Blk .bf16) (p q h : FVec Ideal Blk .f32)
    (ws : FVec Ideal Sq2 .bf16) (wa wo : FVec Ideal Sq .bf16) (g : Fin 2048 → EReal) (r : Fin 512) (j : Fin 1024)
    (hp : ∀ k : Fin 1024, p (ix2 r k) = g ⟨k.val, by omega⟩) (hq : ∀ k : Fin 1024, q (ix2 r k) = g ⟨1024 + k.val, by omega⟩) :
    merged s a p q h ws wa wo (ix2 r j) = merge (fun i => s (ix2 r i)) g (fun k => a (ix2 r k)) (fun k => h (ix2 r k))
      (fun i k => ws (ix2 i k)) (fun i k => wa (ix2 i k)) (fun i k => wo (ix2 i k)) j := by
  unfold merged merge
  refine congrArg (fun b : EReal => h (ix2 r j) + b) ?_
  rw [prod_apply]
  refine Finset.sum_congr rfl fun k _ => congrArg (fun b : EReal => b * wo (ix2 k j)) ?_
  refine congrArg₂ (fun a b : EReal => a + b) ?_ ?_
  · exact congrArg₂ (fun a b : EReal => a * b) (hp k) (prod_apply s ws r k)
  · exact congrArg₂ (fun a b : EReal => a * b) (hq k) (prod_apply a wa r k)

abbrev Stream2 (L : ℕ) : Shape := ⟨3, ![2, L, 2048]⟩

/-- Every position of the stream with its branches joined. -/
def mergeAll (s : FVec Ideal (Stream2 L) .bf16) (a : FVec Ideal (Stream L) .bf16) (g : FVec Ideal (Stream2 L) .f32) (h : FVec Ideal (Stream L) .f32)
    (Ws : FVec Ideal Sq2 .f32) (Wa Wo : FVec Ideal Sq .f32) : FVec Ideal (Stream L) .f32 := fun y =>
  merge (fun i => s (ix3 (y 0) (y 1) i)) (fun i => g (ix3 (y 0) (y 1) i)) (fun k => a (ix3 (y 0) (y 1) k))
    (pos h (y 0) (y 1)) (fun i k => Ws (ix2 i k)) (fun i k => Wa (ix2 i k)) (fun i k => Wo (ix2 i k)) (y 2)

end Cert.Rows

end
-- ==== Proof.FfnBlock.lean ====
module

public import proofs.«01_k».proof.Proof.Rows
public import proofs.«01_k».proof.Proof.Gen.KernelFfnIdeal.Frame

/-!
What one grid point of the first feed-forward kernel leaves in its two result blocks: the block's step, and the
normalization of that.
-/

@[expose] public section

set_option maxRecDepth 16384

noncomputable section

namespace Cert.FfnK

open Idealize.ShloMosaic Idealize.ShloMosaic.TcCoe Idealize.ShloMosaic.ValueIdx Cert.KernelFfnIdeal Cert.KernelFfnIdeal.Gen Cert.Rows

variable {F : FTy → Type} [FloatOps F]

theorem zeros3 : (![0, 0, 0] : Fin 3 → ℕ) = fun _ => 0 := by decide
theorem zeros2 : (![0, 0] : Fin 2 → ℕ) = fun _ => 0 := by decide

section Payloads

variable (v0 : Vec F S1x512x1024 .f32) (v2 : Vec F S1x1024 .f32) (n : FVec F S512x1024 .bf16) (a b x : FVec F S512x1024 .f32)
  (p q s : FVec F S512x256 .f32) (c1 c2 c3 c4 c5 c6 : Vec F S1024x256 .bf16) (d1 d2 d3 : Vec F S256x1024 .bf16)

/-- The block as a matrix. -/
abbrev mat (v0 : Vec F S1x512x1024 .f32) : FVec F S512x1024 .f32 := shapeCast S512x1024 v0 shapeCasts_S1x512x1024_S512x1024

theorem pay3 : k0_pay3 v0 v2 = truncf .bf16 (normed (mat v0) v2) narrower := by
  unfold k0_pay3 k0_pay2
  simp only [shapeCast_self]
  rfl

theorem pay4 : k0_pay4 v0 v2 c1 c2 d1
    = addf (runs n (fun _ => Scalar.ofBits .bf16 0#16) (fun _ => Scalar.ofBits .bf16 0#16) 0) (part (hid (times (k0_pay3 v0 v2) c1) (times (k0_pay3 v0 v2) c2)) d1) := by
  unfold k0_pay4
  simp only [shapeCast_self]
  rfl

theorem pay5 : k0_pay5 v0 v2 c1 = times (k0_pay3 v0 v2) c1 := by
  unfold k0_pay5
  simp only [shapeCast_self]
  rfl

theorem pay6 : k0_pay6 n a p c1 d1 c2 c3 d2
    = addf (addf a (part (hid p (times n c1)) d1)) (part (hid (times n c2) (times n c3)) d2) := by
  unfold k0_pay6
  simp only [shapeCast_self]
  rfl

theorem pay7 : k0_pay7 n c1 c2 d1 = part (hid (times n c1) (times n c2)) d1 := by
  unfold k0_pay7
  simp only [shapeCast_self]
  rfl

theorem pay8 : k0_pay8 n a b c1 c2 d1 c3 c4 d2
    = addf (addf (addf a b) (part (hid (times n c1) (times n c2)) d1)) (part (hid (times n c3) (times n c4)) d2) := by
  unfold k0_pay8
  simp only [shapeCast_self]
  rfl

theorem pay9 : k0_pay9 n c1 = times n c1 := by
  unfold k0_pay9
  simp only [shapeCast_self]
  rfl

theorem pay10 : k0_pay10 n c1 = times n c1 := by
  unfold k0_pay10
  simp only [shapeCast_self]
  rfl

theorem pay11 : k0_pay11 n c1 = logistic (times n c1) := by
  unfold k0_pay11
  rw [pay9]

theorem pay12 : k0_pay12 n a p q (logistic p) d1 c1 c2 d2 c3 c4 d3
    = addf (addf (addf a (part (hid p q) d1)) (part (hid (times n c1) (times n c2)) d2))
      (part (hid (times n c3) (times n c4)) d3) := by
  unfold k0_pay12
  simp only [shapeCast_self]
  rfl

theorem pay14 : k0_pay14 x n a c1 c2 d1 c3 c4 d2
    = addf x (mulf (broadcast S512x1024 (Scalar.ofBits .f32 0x3F000000#32))
        (addf (addf a (part (hid (times n c1) (times n c2)) d1)) (part (hid (times n c3) (times n c4)) d2))) := by
  unfold k0_pay14
  simp only [shapeCast_self]
  rfl

end Payloads

variable (x0 : Vec F S1x512x1024 .f32) (x1 : Vec F S1x1024 .f32) (x2 : Vec F S1024x5632 .bf16) (x3 : Vec F S2816x1024 .bf16)
  (x4 : Vec F S1x1024 .f32)

/-- The step as the body's values spell it. -/
theorem body_step : k0_pay14 (k0_pay18 x0 x1 x2 x3 x4) (k0_pay19 x0 x1 x2 x3 x4) (k0_pay20 x0 x1 x2 x3 x4) (k0_pay21 x0 x1 x2 x3 x4)
    (View.ld x2 r0_30) (View.ld x3 r0_31) (View.ld x2 r0_32) (View.ld x2 r0_33) (View.ld x3 r0_34)
      = stepped x1 x2 x3 (mat x0) := by
  have h0 : View.ld x0 r0_0 = x0 := View.ld_unit_zero zeros3 _ x0
  have h1 : View.ld x1 r0_1 = x1 := View.ld_unit_zero zeros2 _ x1
  rw [pay14]
  unfold k0_pay20 k0_pay21 k0_pay18 k0_pay19 k0_pay13 k0_pay2
  rw [pay9, pay10, pay11, pay12, pay8, pay7, pay6, pay5, pay4 (n := k0_pay3 (View.ld x0 r0_0) (View.ld x1 r0_1)), pay3, h0, h1]
  simp only [shapeCast_self]
  rfl

/-- The first result block. -/
theorem block_h : out0_5 x0 x1 x2 x3 x4
    = shapeCast S1x512x1024 (stepped x1 x2 x3 (mat x0)) shapeCasts_S512x1024_S1x512x1024 := by
  unfold out0_5
  refine (View.canon_unit_zero zeros3 _ _).trans ?_
  unfold k0_pay15
  rw [body_step]

/-- The second result block. -/
theorem block_u : out0_6 x0 x1 x2 x3 x4
    = shapeCast S1x512x1024 (truncf .bf16 (normed (stepped x1 x2 x3 (mat x0)) x4) narrower) shapeCasts_S512x1024_S1x512x1024 := by
  have h4 : View.ld x4 r0_1 = x4 := View.ld_unit_zero zeros2 _ x4
  unfold out0_6
  refine (View.canon_unit_zero zeros3 _ _).trans ?_
  unfold k0_pay1 k0_pay16 k0_pay17
  rw [body_step, h4]
  simp only [shapeCast_self]
  rfl

end Cert.FfnK

end
-- ==== Proof.FfnKernel.lean ====
module

public import proofs.«01_k».proof.Proof.FfnBlock
public import Idealize.ShloMosaic.Lib.Pipeline.ValueKit.Geometry

/-!
The two results of the first feed-forward kernel as functions of its arguments: position by position, half a feed-forward
step, and the normalization of that.
-/

@[expose] public section

set_option maxRecDepth 16384

noncomputable section

namespace Cert.FfnK

open Idealize.ShloMosaic Idealize.ShloMosaic.TcCoe Idealize.ShloMosaic.ValueIdx Cert.KernelFfnIdeal Cert.KernelFfnIdeal.Gen Cert.Rows

/-- The block every window shows at a grid point. -/
theorem indices : ∀ t : Fin cfg0.N,
    win0_0.index t = ![t.val / 32, t.val % 32, 0] ∧ win0_1.index t = ![0, 0] ∧ win0_2.index t = ![0, 0]
    ∧ win0_3.index t = ![0, 0] ∧ win0_4.index t = ![0, 0]
    ∧ win0_5.index t = ![t.val / 32, t.val % 32, 0] ∧ win0_6.index t = ![t.val / 32, t.val % 32, 0] := by
  decide +kernel

theorem point_lt (t : Fin cfg0.N) : t.val < 64 := t.isLt.trans_eq N_0

section
variable {F : FTy → Type} [FloatOps F]
variable (m : (ℓ : Loc nD τ sig) → Buf (Elt F) ℓ) (c : Dev nD)

/-- The arguments. -/
abbrev xA : Vec F S2x16384x1024 .f32 := m ((c : Thread nD τ).loc main_arg0)
abbrev gA : Vec F S1024 .f32 := m ((c : Thread nD τ).loc main_arg1)
abbrev wA : Vec F S1024x5632 .f32 := m ((c : Thread nD τ).loc main_arg2)
abbrev dA : Vec F S2816x1024 .f32 := m ((c : Thread nD τ).loc main_arg3)
abbrev eA : Vec F S1024 .f32 := m ((c : Thread nD τ).loc main_arg4)

/-- What the operations before the grid leave. -/
theorem V_g : V m c main_v0 = (shapeCast S1x1024 (gA m c) shapeCasts_S1024_S1x1024 : Vec F S1x1024 .f32) := rfl
theorem V_w : V m c main_v1 = (truncf .bf16 (wA m c) bitsLt_bf16_f32 : FVec F S1024x5632 .bf16) := rfl
theorem V_d : V m c main_v2 = (truncf .bf16 (dA m c) bitsLt_bf16_f32 : FVec F S2816x1024 .bf16) := rfl
theorem V_e : V m c main_v3 = (shapeCast S1x1024 (eA m c) shapeCasts_S1024_S1x1024 : Vec F S1x1024 .f32) := rfl

/-- The blocks of a point, at their own shapes. -/
abbrev xB (t : Fin cfg0.N) : Vec F S1x512x1024 .f32 := iblk m c 0 t
abbrev gB (t : Fin cfg0.N) : Vec F S1x1024 .f32 := iblk m c 1 t
abbrev wB (t : Fin cfg0.N) : Vec F S1024x5632 .bf16 := iblk m c 2 t
abbrev dB (t : Fin cfg0.N) : Vec F S2816x1024 .bf16 := iblk m c 3 t
abbrev eB (t : Fin cfg0.N) : Vec F S1x1024 .f32 := iblk m c 4 t

theorem x_block (t : Fin cfg0.N) (r : Fin 512) (j : Fin 1024) :
    xB m c t (ix3 (0 : Fin 1) r j) = xA m c (ix3 (⟨t.val / 32, by have := point_lt t; omega⟩ : Fin 2)
      (⟨512 * (t.val % 32) + r.val, by omega⟩ : Fin 16384) j) := by
  have idx := indices t
  blk_ext [iblk, V, idx]
  all_goals first | (show _ + r.val = _; omega) | (show _ + j.val = _; omega)

theorem g_block (t : Fin cfg0.N) (j : Fin 1024) : gB m c t (ix2 (0 : Fin 1) j) = gA m c (ix1 j) := by
  have idx := indices t
  refine Eq.trans ?_ (shapeCast_a_1a_apply (gA m c) shapeCasts_S1024_S1x1024 (0 : Fin 1) j)
  rw [← V_g]
  blk_ext [iblk, idx]
  all_goals (show _ + j.val = _; omega)

theorem e_block (t : Fin cfg0.N) (j : Fin 1024) : eB m c t (ix2 (0 : Fin 1) j) = eA m c (ix1 j) := by
  have idx := indices t
  refine Eq.trans ?_ (shapeCast_a_1a_apply (eA m c) shapeCasts_S1024_S1x1024 (0 : Fin 1) j)
  rw [← V_e]
  blk_ext [iblk, idx]
  all_goals (show _ + j.val = _; omega)

end

variable (m : (ℓ : Loc nD τ sig) → Buf (Elt Ideal) ℓ) (c : Dev nD)

theorem w_block (t : Fin cfg0.N) (k : Fin 1024) (f : Fin 5632) : wB m c t (ix2 k f) = wA m c (ix2 k f) := by
  have idx := indices t
  refine Eq.trans ?_ (congrFun (V_w m c) (ix2 k f))
  blk_ext [iblk, idx]
  all_goals first | (show _ + k.val = _; omega) | (show _ + f.val = _; omega)

theorem d_block (t : Fin cfg0.N) (f : Fin 2816) (j : Fin 1024) : dB m c t (ix2 f j) = dA m c (ix2 f j) := by
  have idx := indices t
  refine Eq.trans ?_ (congrFun (V_d m c) (ix2 f j))
  blk_ext [iblk, idx]
  all_goals first | (show _ + f.val = _; omega) | (show _ + j.val = _; omega)

/-- Position `r` of the block of point `t`, as the position of the stream it is. -/
abbrev at0 (t : Fin cfg0.N) : Fin 2 := ⟨t.val / 32, by have := point_lt t; omega⟩
abbrev at1 (t : Fin cfg0.N) (r : Fin 512) : Fin 16384 := ⟨512 * (t.val % 32) + r.val, by omega⟩

/-- The step a point takes is the step of its positions. -/
theorem point_step (t : Fin cfg0.N) (r : Fin 512) (j : Fin 1024) :
    stepped (gB m c t) (wB m c t) (dB m c t) (mat (xB m c t)) (ix2 r j)
      = stepAll (xA m c) (gA m c) (wA m c) (dA m c) (ix3 (at0 t) (at1 t r) j) := by
  rw [stepped_apply]
  show step _ _ _ _ j = step _ _ _ _ j
  have eg : (fun k => gB m c t (ix2 (0 : Fin 1) k)) = gain (gA m c) := funext fun k => g_block m c t k
  have ew : wide (wB m c t) = fun k f => wA m c (ix2 k f) := funext fun k => funext fun f => w_block m c t k f
  have ed : tall (dB m c t) = fun f j => dA m c (ix2 f j) := funext fun f => funext fun j => d_block m c t f j
  have ex : (fun k => mat (xB m c t) (ix2 r k)) = pos (xA m c) (at0 t) (at1 t r) := funext fun k =>
    (shapeCast_1ab_ab_apply (xB m c t) shapeCasts_S1x512x1024_S512x1024 r k).trans (x_block m c t r k)
  rw [eg, ew, ed, ex]

theorem point_norm (t : Fin cfg0.N) (r : Fin 512) (j : Fin 1024) :
    normed (stepped (gB m c t) (wB m c t) (dB m c t) (mat (xB m c t))) (eB m c t) (ix2 r j)
      = normAll (stepAll (xA m c) (gA m c) (wA m c) (dA m c)) (eA m c) (ix3 (at0 t) (at1 t r) j) := by
  rw [normed_apply]
  show norm _ _ j = norm _ _ j
  exact congrArg₂ (fun g x => norm g x j) (funext fun k => e_block m c t k) (funext fun k => point_step m c t r k)

/-- The first result. -/
theorem kernel_h : (dats m 0 c).arrAt 5 cfg0.N = stepAll (xA m c) (gA m c) (wA m c) (dA m c) := by
  refine (dats m 0 c).arrAt_eq_of_covers 5 _ (by decide +kernel) fun t hf y => ?_
  have idx := (indices t).2.2.2.2.2.1
  have hy2 : (y 2).val < 1024 := (y 2).isLt
  have hy1 : (y 1).val < 512 := (y 1).isLt
  have hy0 : (y 0).val < 1 := (y 0).isLt
  blk_simp
  rw [after0_5, block_h]
  refine Eq.trans ?_ ((point_step m c t (⟨(y 1).val, hy1⟩ : Fin 512) (⟨(y 2).val, hy2⟩ : Fin 1024)).trans ?_)
  · refine Eq.trans (congrArg _ ?_) (shapeCast_ab_1ab_apply _ shapeCasts_S512x1024_S1x512x1024 (0 : Fin 1) _ _)
    funext a
    apply Fin.ext
    match a with
    | 0 => show (y 0).val = 0; omega
    | 1 => rfl
    | 2 => rfl
  · refine congrArg (stepAll _ _ _ _) ?_
    funext a
    apply Fin.ext
    refine Eq.trans ?_ (Pipeline.Window.rect_emb_val win0_5 t y a).symm
    rw [idx]
    match a with
    | 0 => show t.val / 32 = t.val / 32 * 1 + (y 0).val; omega
    | 1 => show 512 * (t.val % 32) + (y 1).val = t.val % 32 * 512 + (y 1).val; omega
    | 2 => show (y 2).val = 0 * 1024 + (y 2).val; omega

/-- The second result. -/
theorem kernel_u : (dats m 0 c).arrAt 6 cfg0.N
    = normAll (stepAll (xA m c) (gA m c) (wA m c) (dA m c)) (eA m c) := by
  refine (dats m 0 c).arrAt_eq_of_covers 6 _ (by decide +kernel) fun t hf y => ?_
  have idx := (indices t).2.2.2.2.2.2
  have hy2 : (y 2).val < 1024 := (y 2).isLt
  have hy1 : (y 1).val < 512 := (y 1).isLt
  have hy0 : (y 0).val < 1 := (y 0).isLt
  blk_simp
  rw [after0_6, block_u]
  refine Eq.trans ?_ ((point_norm m c t (⟨(y 1).val, hy1⟩ : Fin 512) (⟨(y 2).val, hy2⟩ : Fin 1024)).trans ?_)
  · refine Eq.trans (congrArg _ ?_) (shapeCast_ab_1ab_apply _ shapeCasts_S512x1024_S1x512x1024 (0 : Fin 1) _ _)
    funext a
    apply Fin.ext
    match a with
    | 0 => show (y 0).val = 0; omega
    | 1 => rfl
    | 2 => rfl
  · refine congrArg (normAll _ _) ?_
    funext a
    apply Fin.ext
    refine Eq.trans ?_ (Pipeline.Window.rect_emb_val win0_6 t y a).symm
    rw [idx]
    match a with
    | 0 => show t.val / 32 = t.val / 32 * 1 + (y 0).val; omega
    | 1 => show 512 * (t.val % 32) + (y 1).val = t.val % 32 * 512 + (y 1).val; omega
    | 2 => show (y 2).val = 0 * 1024 + (y 2).val; omega

end Cert.FfnK

end
-- ==== Proof.FfnReference.lean ====
module

public import proofs.«01_k».proof.Proof.Rows
public import proofs.«01_k».proof.Proof.Gen.ReferenceFfnIdeal.Read
public import Idealize.ShloMosaic.Lib.IdealHost

/-!
The reference of the first feed-forward layer: its two results are the step of every position and the normalization of that.
-/

@[expose] public section

set_option maxRecDepth 16384

noncomputable section

namespace Cert.FfnRef

open Idealize.ShloMosaic Idealize.ShloMosaic.TcCoe Idealize.ShloMosaic.ValueIdx Cert.ReferenceFfnIdeal Cert.ReferenceFfnIdeal.Gen
open Cert.ReferenceFfnIdeal.Read Cert.Rows

variable (x0 : Vec Ideal S2x16384x1024 .f32) (x1 : Vec Ideal S1024 .f32) (x2 : Vec Ideal S1024x5632 .f32)
  (x3 : Vec Ideal S2816x1024 .f32) (x4 : Vec Ideal S1024 .f32)

/-- The first normalization. -/
theorem first_norm : val_main_v12 (F := Ideal) x0 x1 = normAll x0 x1 := by
  funext y
  rw [val_main_v12_apply, val_main_v9_apply, val_main_v8_apply, val_main_v7_apply, val_main_v6_apply, val_main_v5_apply,
    val_main_v4_apply, val_main_v3_apply, val_main_v2_apply, val_main_v11_apply, val_main_v10_apply, val_main_v1_apply,
    val_main_cst_apply, val_main_cst_0_apply, val_main_cst_1_apply]
  refine normAll_of x0 x1 y _ (fun k => ?_) _ ?_
  · funext a
    match a with
    | ⟨0, _⟩ => rfl
    | ⟨1, _⟩ => rfl
    | ⟨2, _⟩ => rfl
  · funext a
    match a with
    | ⟨0, _⟩ => rfl

/-- The gated hidden columns. -/
theorem gated_apply (b : Fin 2) (p : Fin 16384) (f : Fin 2816) : val_main_v17 (F := Ideal) x0 x1 x2 (ix3 b p f)
    = hidden (fun k => normAll x0 x1 (ix3 b p k)) (fun k f => x2 (ix2 k f)) f := by
  have dot : ∀ i : S2x16384x5632.Idx, val_main_v13 (F := Ideal) x0 x1 x2 i
      = ∑ k, normAll x0 x1 (ix3 (i 0) (i 1) k) * x2 (ix2 k (i 2)) := fun i => by
    rw [val_main_v13_apply, first_norm]
    refine Finset.sum_congr rfl fun k _ => congrArg₂ (fun a b : EReal => a * b) (congrArg _ ?_) (congrArg x2 ?_)
    · funext a
      match a with
      | ⟨0, _⟩ => rfl
      | ⟨1, _⟩ => rfl
      | ⟨2, _⟩ => rfl
    · funext a
      match a with
      | ⟨0, _⟩ => rfl
      | ⟨1, _⟩ => rfl
  rw [val_main_v17_apply, val_main_v16_apply, val_main_call0_v5_apply, val_main_call0_v4_apply, val_main_call0_cst_0_apply,
    val_main_call0_v3_apply, val_main_call0_v2_apply, val_main_call0_cst_apply, val_main_call0_v1_apply,
    val_main_call0_v0_apply, val_main_v14_apply, val_main_v15_apply, dot, dot]
  rw [show (FloatOps.ofBits .f32 0x3F800000#32 : Ideal .f32) = (1 : EReal) from Ideal.ofBits_one_f32]
  rfl

/-- The first result. -/
theorem result_h : val_main_v21 (F := Ideal) x0 x1 x2 x3 = stepAll x0 x1 x2 x3 := by
  funext y
  rw [val_main_v21_apply, val_main_v20_apply, val_main_v19_apply, val_main_cst_2_apply, val_main_v18_apply]
  unfold stepAll step ffn
  refine congrArg₂ (fun a b : EReal => a + b) (congrArg x0 (stream_ix y).symm) (congrArg (fun b : EReal => Ideal.ofBits .f32 0x3F000000#32 * b) ?_)
  refine Finset.sum_congr rfl fun f _ => congrArg₂ (fun a b : EReal => a * b) (Eq.trans (congrArg _ ?_)
    (gated_apply x0 x1 x2 (y 0) (y 1) f)) (congrArg x3 ?_)
  · funext a
    match a with
    | ⟨0, _⟩ => rfl
    | ⟨1, _⟩ => rfl
    | ⟨2, _⟩ => rfl
  · funext a
    match a with
    | ⟨0, _⟩ => rfl
    | ⟨1, _⟩ => rfl

/-- The second result. -/
theorem result_u : val_main_v35 (F := Ideal) x0 x1 x2 x3 x4 = normAll (stepAll x0 x1 x2 x3) x4 := by
  funext y
  rw [val_main_v35_apply, val_main_v34_apply, val_main_v31_apply, val_main_v30_apply, val_main_v29_apply, val_main_v28_apply,
    val_main_v27_apply, val_main_v26_apply, val_main_v25_apply, val_main_v24_apply, val_main_v33_apply, val_main_v32_apply,
    val_main_v23_apply, val_main_cst_3_apply, val_main_cst_4_apply, val_main_cst_5_apply]
  simp only [val_main_v22_apply, result_h]
  refine normAll_of (stepAll x0 x1 x2 x3) x4 y _ (fun k => ?_) _ ?_
  · funext a
    match a with
    | ⟨0, _⟩ => rfl
    | ⟨1, _⟩ => rfl
    | ⟨2, _⟩ => rfl
  · funext a
    match a with
    | ⟨0, _⟩ => rfl

end Cert.FfnRef

end
-- ==== Proof.MergeBlock.lean ====
module

public import proofs.«01_k».proof.Proof.Rows
public import proofs.«01_k».proof.Proof.Gen.KernelMergeIdeal.Frame

/-!
What one grid point of the last kernel leaves in its result block: the branches joined, a feed-forward step, and the final
normalization.
-/

@[expose] public section

set_option maxRecDepth 16384

noncomputable section

namespace Cert.MergeK

open Idealize.ShloMosaic Idealize.ShloMosaic.TcCoe Idealize.ShloMosaic.ValueIdx Cert.KernelMergeIdeal Cert.KernelMergeIdeal.Gen Cert.Rows

variable {F : FTy → Type} [FloatOps F]

theorem zeros3 : (![0, 0, 0] : Fin 3 → ℕ) = fun _ => 0 := by decide
theorem zeros2 : (![0, 0] : Fin 2 → ℕ) = fun _ => 0 := by decide

section Payloads

variable (v0 : Vec F S1x512x2048 .bf16) (w0 : Vec F S2048x1024 .bf16) (v1 : Vec F S1x512x1024 .bf16) (w1 w2 : Vec F S1024x1024 .bf16)
  (p q h : Vec F S1x512x1024 .f32) (g e : Vec F S1x1024 .f32)
  (x a : FVec F S512x1024 .f32) (n : FVec F S512x1024 .bf16) (z : FVec F S512x256 .f32) (y : FVec F S512x256 .bf16)
  (c1 c2 c3 c4 : Vec F S1024x256 .bf16) (d1 d2 d3 : Vec F S256x1024 .bf16)

/-- A block as a matrix. -/
abbrev mat {e : EltTy} (v : Vec F S1x512x1024 e) : Vec F S512x1024 e := shapeCast S512x1024 v shapeCasts_S1x512x1024_S512x1024
abbrev mat2 {e : EltTy} (v : Vec F S1x512x2048 e) : Vec F S512x2048 e := shapeCast S512x2048 v shapeCasts_S1x512x2048_S512x2048

theorem pay1 : k0_pay1 v0 w0 v1 w1 p q h w2 = merged (mat2 v0) (mat v1) (mat p) (mat q) (mat h) w0 w1 w2 := by
  unfold k0_pay1
  simp only [shapeCast_self]
  rfl

theorem pay5 : k0_pay5 (k0_pay1 v0 w0 v1 w1 p q h w2) (k0_pay2 g) (k0_pay3 v0 w0 v1 w1 p q h w2) k0_pay4
    = truncf .bf16 (normed (k0_pay1 v0 w0 v1 w1 p q h w2) g) narrower := by
  unfold k0_pay5 k0_pay2 k0_pay3 k0_pay4
  simp only [shapeCast_self]
  rfl

theorem pay6 (s t : FVec F S512x1 .f32) : k0_pay6 x g s t c1 c2 d1 c3 c4 d2
    = addf (addf (broadcast S512x1024 (Scalar.ofBits .f32 0x00000000#32))
        (part (hid (times (k0_pay5 x g s t) c1) (times (k0_pay5 x g s t) c2)) d1))
      (part (hid (times (k0_pay5 x g s t) c3) (times (k0_pay5 x g s t) c4)) d2) := by
  unfold k0_pay6
  simp only [shapeCast_self]
  rfl

theorem pay7 : k0_pay7 n a c1 c2 d1 c3 c4 d2
    = addf (addf a (part (hid (times n c1) (times n c2)) d1)) (part (hid (times n c3) (times n c4)) d2) := by
  unfold k0_pay7
  simp only [shapeCast_self]
  rfl

theorem pay8 : k0_pay8 n c1 c2 = hid (times n c1) (times n c2) := by
  unfold k0_pay8
  simp only [shapeCast_self]
  rfl

theorem pay9 : k0_pay9 n a y d1 c1 c2 d2 c3 c4 d3
    = addf (addf (addf a (part y d1)) (part (hid (times n c1) (times n c2)) d2)) (part (hid (times n c3) (times n c4)) d3) := by
  unfold k0_pay9
  simp only [shapeCast_self]
  rfl

theorem pay10 : k0_pay10 n c1 = times n c1 := by
  unfold k0_pay10
  simp only [shapeCast_self]
  rfl

theorem pay11 : k0_pay11 n a z c1 d1 c2 c3 d2
    = addf (addf a (part (hid z (times n c1)) d1)) (part (hid (times n c2) (times n c3)) d2) := by
  unfold k0_pay11
  simp only [shapeCast_self]
  rfl

theorem pay12 : k0_pay12 n c1 c2 = hid (times n c1) (times n c2) := by
  unfold k0_pay12
  simp only [shapeCast_self]
  rfl

theorem pay14 : k0_pay14 x n a y (k0_pay13 d1) (constant S512x1024 .f32 0x00000000#32) c1 c2 d2 e
    = shapeCast S1x512x1024 (normed (addf x (mulf (broadcast S512x1024 (Scalar.ofBits .f32 0x3F000000#32))
        (addf (addf a (part y d1)) (part (hid (times n c1) (times n c2)) d2)))) e) shapeCasts_S512x1024_S1x512x1024 := by
  unfold k0_pay14 k0_pay13
  simp only [shapeCast_self]
  rfl

end Payloads

variable (x0 : Vec F S1x512x2048 .bf16) (x1 : Vec F S1x512x1024 .bf16) (x2 : Vec F S1x512x2048 .f32) (x3 : Vec F S1x512x1024 .f32)
  (x4 : Vec F S2048x1024 .bf16) (x5 : Vec F S1024x1024 .bf16) (x6 : Vec F S1024x1024 .bf16) (x7 : Vec F S1x1024 .f32)
  (x8 : Vec F S1024x5632 .bf16) (x9 : Vec F S2816x1024 .bf16) (x10 : Vec F S1x1024 .f32)

/-- The joined branches of a block. -/
abbrev joined : FVec F S512x1024 .f32 :=
  merged (mat2 x0) (mat x1) (mat (View.ld x2 r0_4)) (mat (View.ld x2 r0_5)) (mat x3) x4 x5 x6

/-- The result block. -/
theorem block_out : out0_11 x0 x1 x2 x3 x4 x5 x6 x7 x8 x9 x10
    = shapeCast S1x512x1024 (normed (stepped x7 x8 x9 (joined x0 x1 x2 x3 x4 x5 x6)) x10) shapeCasts_S512x1024_S1x512x1024 := by
  have h0 : View.ld x0 r0_0 = x0 := View.ld_unit_zero zeros3 _ x0
  have h1 : View.ld x1 r0_2 = x1 := View.ld_unit_zero zeros3 _ x1
  have h3 : View.ld x3 r0_2 = x3 := View.ld_unit_zero zeros3 _ x3
  have h4 : View.ld x4 r0_1 = x4 := View.ld_unit_zero zeros2 _ x4
  have h5 : View.ld x5 r0_3 = x5 := View.ld_unit_zero zeros2 _ x5
  have h6 : View.ld x6 r0_3 = x6 := View.ld_unit_zero zeros2 _ x6
  have h7 : View.ld x7 r0_6 = x7 := View.ld_unit_zero zeros2 _ x7
  have h10 : View.ld x10 r0_6 = x10 := View.ld_unit_zero zeros2 _ x10
  unfold out0_11
  refine (View.canon_unit_zero zeros3 _ _).trans ?_
  rw [pay14]
  unfold k0_pay19 k0_pay15 k0_pay16 k0_pay17 k0_pay18
  rw [pay6, pay5, pay11, pay9, pay7, pay8, pay10, pay12, pay1, h0, h1, h3, h4, h5, h6, h7, h10]
  rfl

end Cert.MergeK

end
-- ==== Proof.MergeKernel.lean ====
module

public import proofs.«01_k».proof.Proof.MergeBlock
public import Idealize.ShloMosaic.Lib.Pipeline.ValueKit.Geometry

/-!
The result of the last kernel as a function of its arguments: position by position the branches joined, half a feed-forward
step, and the final normalization.
-/

@[expose] public section

set_option maxRecDepth 16384

noncomputable section

namespace Cert.MergeK

open Idealize.ShloMosaic Idealize.ShloMosaic.TcCoe Idealize.ShloMosaic.ValueIdx Cert.KernelMergeIdeal Cert.KernelMergeIdeal.Gen Cert.Rows

/-- The block every window shows at a grid point. -/
theorem indices : ∀ t : Fin cfg0.N,
    win0_0.index t = ![t.val / 32, t.val % 32, 0] ∧ win0_1.index t = ![t.val / 32, t.val % 32, 0]
    ∧ win0_2.index t = ![t.val / 32, t.val % 32, 0] ∧ win0_3.index t = ![t.val / 32, t.val % 32, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val / 32, t.val % 32, 0] := by
  decide +kernel

theorem point_lt (t : Fin cfg0.N) : t.val < 64 := t.isLt.trans_eq N_0

section
variable {F : FTy → Type} [FloatOps F]
variable (m : (ℓ : Loc nD τ sig) → Buf (Elt F) ℓ) (c : Dev nD)

/-- The arguments. -/
abbrev sA : Vec F S2x16384x2048 .bf16 := m ((c : Thread nD τ).loc main_arg0)
abbrev aA : Vec F S2x16384x1024 .bf16 := m ((c : Thread nD τ).loc main_arg1)
abbrev gA : Vec F S2x16384x2048 .f32 := m ((c : Thread nD τ).loc main_arg2)
abbrev hA : Vec F S2x16384x1024 .f32 := m ((c : Thread nD τ).loc main_arg3)
abbrev wsA : Vec F S2048x1024 .f32 := m ((c : Thread nD τ).loc main_arg4)
abbrev waA : Vec F S1024x1024 .f32 := m ((c : Thread nD τ).loc main_arg5)
abbrev woA : Vec F S1024x1024 .f32 := m ((c : Thread nD τ).loc main_arg6)
abbrev nA : Vec F S1024 .f32 := m ((c : Thread nD τ).loc main_arg7)
abbrev wA : Vec F S1024x5632 .f32 := m ((c : Thread nD τ).loc main_arg8)
abbrev dA : Vec F S2816x1024 .f32 := m ((c : Thread nD τ).loc main_arg9)
abbrev eA : Vec F S1024 .f32 := m ((c : Thread nD τ).loc main_arg10)

/-- What the operations before the grid leave. -/
theorem V_ws : V m c main_v0 = (truncf .bf16 (wsA m c) bitsLt_bf16_f32 : FVec F S2048x1024 .bf16) := rfl
theorem V_wa : V m c main_v1 = (truncf .bf16 (waA m c) bitsLt_bf16_f32 : FVec F S1024x1024 .bf16) := rfl
theorem V_wo : V m c main_v2 = (truncf .bf16 (woA m c) bitsLt_bf16_f32 : FVec F S1024x1024 .bf16) := rfl
theorem V_w : V m c main_v4 = (truncf .bf16 (wA m c) bitsLt_bf16_f32 : FVec F S1024x5632 .bf16) := rfl
theorem V_d : V m c main_v5 = (truncf .bf16 (dA m c) bitsLt_bf16_f32 : FVec F S2816x1024 .bf16) := rfl
theorem V_n : V m c main_v3 = (shapeCast S1x1024 (nA m c) shapeCasts_S1024_S1x1024 : Vec F S1x1024 .f32) := rfl
theorem V_e : V m c main_v6 = (shapeCast S1x1024 (eA m c) shapeCasts_S1024_S1x1024 : Vec F S1x1024 .f32) := rfl

/-- The blocks of a point, at their own shapes. -/
abbrev sB (t : Fin cfg0.N) : Vec F S1x512x2048 .bf16 := iblk m c 0 t
abbrev aB (t : Fin cfg0.N) : Vec F S1x512x1024 .bf16 := iblk m c 1 t
abbrev gB (t : Fin cfg0.N) : Vec F S1x512x2048 .f32 := iblk m c 2 t
abbrev hB (t : Fin cfg0.N) : Vec F S1x512x1024 .f32 := iblk m c 3 t
abbrev wsB (t : Fin cfg0.N) : Vec F S2048x1024 .bf16 := iblk m c 4 t
abbrev waB (t : Fin cfg0.N) : Vec F S1024x1024 .bf16 := iblk m c 5 t
abbrev woB (t : Fin cfg0.N) : Vec F S1024x1024 .bf16 := iblk m c 6 t
abbrev nB (t : Fin cfg0.N) : Vec F S1x1024 .f32 := iblk m c 7 t
abbrev wB (t : Fin cfg0.N) : Vec F S1024x5632 .bf16 := iblk m c 8 t
abbrev dB (t : Fin cfg0.N) : Vec F S2816x1024 .bf16 := iblk m c 9 t
abbrev eB (t : Fin cfg0.N) : Vec F S1x1024 .f32 := iblk m c 10 t

/-- Position `r` of the block of point `t`, as the position of the stream it is. -/
abbrev at0 (t : Fin cfg0.N) : Fin 2 := ⟨t.val / 32, by have := point_lt t; omega⟩
abbrev at1 (t : Fin cfg0.N) (r : Fin 512) : Fin 16384 := ⟨512 * (t.val % 32) + r.val, by omega⟩

theorem s_block (t : Fin cfg0.N) (r : Fin 512) (j : Fin 2048) :
    sB m c t (ix3 (0 : Fin 1) r j) = sA m c (ix3 (at0 t) (at1 t r) j) := by
  have idx := indices t
  blk_ext [iblk, V, idx]
  all_goals first | (show _ + r.val = _; omega) | (show _ + j.val = _; omega)

theorem a_block (t : Fin cfg0.N) (r : Fin 512) (j : Fin 1024) :
    aB m c t (ix3 (0 : Fin 1) r j) = aA m c (ix3 (at0 t) (at1 t r) j) := by
  have idx := indices t
  blk_ext [iblk, V, idx]
  all_goals first | (show _ + r.val = _; omega) | (show _ + j.val = _; omega)

theorem g_block (t : Fin cfg0.N) (r : Fin 512) (j : Fin 2048) :
    gB m c t (ix3 (0 : Fin 1) r j) = gA m c (ix3 (at0 t) (at1 t r) j) := by
  have idx := indices t
  blk_ext [iblk, V, idx]
  all_goals first | (show _ + r.val = _; omega) | (show _ + j.val = _; omega)

theorem h_block (t : Fin cfg0.N) (r : Fin 512) (j : Fin 1024) :
    hB m c t (ix3 (0 : Fin 1) r j) = hA m c (ix3 (at0 t) (at1 t r) j) := by
  have idx := indices t
  blk_ext [iblk, V, idx]
  all_goals first | (show _ + r.val = _; omega) | (show _ + j.val = _; omega)

theorem n_block (t : Fin cfg0.N) (j : Fin 1024) : nB m c t (ix2 (0 : Fin 1) j) = nA m c (ix1 j) := by
  have idx := indices t
  refine Eq.trans ?_ (shapeCast_a_1a_apply (nA m c) shapeCasts_S1024_S1x1024 (0 : Fin 1) j)
  rw [← V_n]
  blk_ext [iblk, idx]
  all_goals (show _ + j.val = _; omega)

theorem e_block (t : Fin cfg0.N) (j : Fin 1024) : eB m c t (ix2 (0 : Fin 1) j) = eA m c (ix1 j) := by
  have idx := indices t
  refine Eq.trans ?_ (shapeCast_a_1a_apply (eA m c) shapeCasts_S1024_S1x1024 (0 : Fin 1) j)
  rw [← V_e]
  blk_ext [iblk, idx]
  all_goals (show _ + j.val = _; omega)

end

variable (m : (ℓ : Loc nD τ sig) → Buf (Elt Ideal) ℓ) (c : Dev nD)

theorem ws_block (t : Fin cfg0.N) (i : Fin 2048) (j : Fin 1024) : wsB m c t (ix2 i j) = wsA m c (ix2 i j) := by
  have idx := indices t
  refine Eq.trans ?_ (congrFun (V_ws m c) (ix2 i j))
  blk_ext [iblk, idx]
  all_goals first | (show _ + i.val = _; omega) | (show _ + j.val = _; omega)

theorem wa_block (t : Fin cfg0.N) (i : Fin 1024) (j : Fin 1024) : waB m c t (ix2 i j) = waA m c (ix2 i j) := by
  have idx := indices t
  refine Eq.trans ?_ (congrFun (V_wa m c) (ix2 i j))
  blk_ext [iblk, idx]
  all_goals first | (show _ + i.val = _; omega) | (show _ + j.val = _; omega)

theorem wo_block (t : Fin cfg0.N) (i : Fin 1024) (j : Fin 1024) : woB m c t (ix2 i j) = woA m c (ix2 i j) := by
  have idx := indices t
  refine Eq.trans ?_ (congrFun (V_wo m c) (ix2 i j))
  blk_ext [iblk, idx]
  all_goals first | (show _ + i.val = _; omega) | (show _ + j.val = _; omega)

theorem w_block (t : Fin cfg0.N) (i : Fin 1024) (j : Fin 5632) : wB m c t (ix2 i j) = wA m c (ix2 i j) := by
  have idx := indices t
  refine Eq.trans ?_ (congrFun (V_w m c) (ix2 i j))
  blk_ext [iblk, idx]
  all_goals first | (show _ + i.val = _; omega) | (show _ + j.val = _; omega)

theorem d_block (t : Fin cfg0.N) (i : Fin 2816) (j : Fin 1024) : dB m c t (ix2 i j) = dA m c (ix2 i j) := by
  have idx := indices t
  refine Eq.trans ?_ (congrFun (V_d m c) (ix2 i j))
  blk_ext [iblk, idx]
  all_goals first | (show _ + i.val = _; omega) | (show _ + j.val = _; omega)

/-- What the kernel computes, of its arguments. -/
abbrev joinedAll : FVec Ideal (Stream 16384) .f32 := mergeAll (sA m c) (aA m c) (gA m c) (hA m c) (wsA m c) (waA m c) (woA m c)
abbrev steppedAll : FVec Ideal (Stream 16384) .f32 := stepAll (joinedAll m c) (nA m c) (wA m c) (dA m c)

/-- A block's joined branches, at a point. -/
abbrev jB (t : Fin cfg0.N) : FVec Ideal Blk .f32 :=
  joined (sB m c t) (aB m c t) (gB m c t) (hB m c t) (wsB m c t) (waB m c t) (woB m c t)

theorem point_joined (t : Fin cfg0.N) (r : Fin 512) (j : Fin 1024) :
    jB m c t (ix2 r j) = joinedAll m c (ix3 (at0 t) (at1 t r) j) := by
  refine (merged_apply _ _ _ _ _ _ _ _ (fun i => gB m c t (ix3 (0 : Fin 1) r i)) r j (fun k => ?_) (fun k => ?_)).trans ?_
  · refine (shapeCast_1ab_ab_apply (View.ld (gB m c t) r0_4) shapeCasts_S1x512x1024_S512x1024 r k).trans ?_
    refine congrArg (gB m c t) (funext fun a => Fin.ext ?_)
    match a with
    | 0 => rfl
    | 1 => show 0 + 1 * r.val = r.val; omega
    | 2 => show 0 + 1 * k.val = k.val; omega
  · refine (shapeCast_1ab_ab_apply (View.ld (gB m c t) r0_5) shapeCasts_S1x512x1024_S512x1024 r k).trans ?_
    refine congrArg (gB m c t) (funext fun a => Fin.ext ?_)
    match a with
    | 0 => rfl
    | 1 => show 0 + 1 * r.val = r.val; omega
    | 2 => show 1024 + 1 * k.val = 1024 + k.val; omega
  · show merge _ _ _ _ _ _ _ j = merge _ _ _ _ _ _ _ j
    have es : (fun i => mat2 (sB m c t) (ix2 r i)) = fun i => sA m c (ix3 (at0 t) (at1 t r) i) := funext fun i =>
      (shapeCast_1ab_ab_apply (sB m c t) shapeCasts_S1x512x2048_S512x2048 r i).trans (s_block m c t r i)
    have eg : (fun i => gB m c t (ix3 (0 : Fin 1) r i)) = fun i => gA m c (ix3 (at0 t) (at1 t r) i) := funext fun i =>
      g_block m c t r i
    have ea : (fun i => mat (aB m c t) (ix2 r i)) = fun i => aA m c (ix3 (at0 t) (at1 t r) i) := funext fun i =>
      (shapeCast_1ab_ab_apply (aB m c t) shapeCasts_S1x512x1024_S512x1024 r i).trans (a_block m c t r i)
    have eh : (fun i => mat (hB m c t) (ix2 r i)) = pos (hA m c) (at0 t) (at1 t r) := funext fun i =>
      (shapeCast_1ab_ab_apply (hB m c t) shapeCasts_S1x512x1024_S512x1024 r i).trans (h_block m c t r i)
    have e1 : (fun i k => wsB m c t (ix2 i k)) = fun i k => wsA m c (ix2 i k) := funext fun i => funext fun k => ws_block m c t i k
    have e2 : (fun i k => waB m c t (ix2 i k)) = fun i k => waA m c (ix2 i k) := funext fun i => funext fun k => wa_block m c t i k
    have e3 : (fun i k => woB m c t (ix2 i k)) = fun i k => woA m c (ix2 i k) := funext fun i => funext fun k => wo_block m c t i k
    rw [es, eg, ea, eh, e1, e2, e3]

/-- The step a point takes is the step of its positions. -/
theorem point_step (t : Fin cfg0.N) (r : Fin 512) (j : Fin 1024) :
    stepped (nB m c t) (wB m c t) (dB m c t) (jB m c t) (ix2 r j)
      = steppedAll m c (ix3 (at0 t) (at1 t r) j) := by
  rw [stepped_apply]
  show step _ _ _ _ j = step _ _ _ _ j
  have eg : (fun k => nB m c t (ix2 (0 : Fin 1) k)) = gain (nA m c) := funext fun k => n_block m c t k
  have ew : wide (wB m c t) = fun k f => wA m c (ix2 k f) := funext fun k => funext fun f => w_block m c t k f
  have ed : tall (dB m c t) = fun f j => dA m c (ix2 f j) := funext fun f => funext fun j => d_block m c t f j
  have ex : (fun k => jB m c t (ix2 r k)) = pos (joinedAll m c) (at0 t) (at1 t r) := funext fun k =>
    point_joined m c t r k
  rw [eg, ew, ed, ex]

theorem point_norm (t : Fin cfg0.N) (r : Fin 512) (j : Fin 1024) :
    normed (stepped (nB m c t) (wB m c t) (dB m c t) (jB m c t)) (eB m c t) (ix2 r j)
      = normAll (steppedAll m c) (eA m c) (ix3 (at0 t) (at1 t r) j) := by
  rw [normed_apply]
  show norm _ _ j = norm _ _ j
  exact congrArg₂ (fun g x => norm g x j) (funext fun k => e_block m c t k) (funext fun k => point_step m c t r k)

/-- The result. -/
theorem kernel_out : (dats m 0 c).arrAt 11 cfg0.N = normAll (steppedAll m c) (eA m c) := by
  refine (dats m 0 c).arrAt_eq_of_covers 11 _ (by decide +kernel) fun t hf y => ?_
  have idx := (indices t).2.2.2.2.2.2.2.2.2.2.2
  have hy2 : (y 2).val < 1024 := (y 2).isLt
  have hy1 : (y 1).val < 512 := (y 1).isLt
  have hy0 : (y 0).val < 1 := (y 0).isLt
  blk_simp
  rw [after0_11, block_out]
  refine Eq.trans ?_ ((point_norm m c t (⟨(y 1).val, hy1⟩ : Fin 512) (⟨(y 2).val, hy2⟩ : Fin 1024)).trans ?_)
  · refine Eq.trans (congrArg _ ?_) (shapeCast_ab_1ab_apply _ shapeCasts_S512x1024_S1x512x1024 (0 : Fin 1) _ _)
    funext a
    apply Fin.ext
    match a with
    | 0 => show (y 0).val = 0; omega
    | 1 => rfl
    | 2 => rfl
  · refine congrArg (normAll _ _) ?_
    funext a
    apply Fin.ext
    refine Eq.trans ?_ (Pipeline.Window.rect_emb_val win0_11 t y a).symm
    rw [idx]
    match a with
    | 0 => show t.val / 32 = t.val / 32 * 1 + (y 0).val; omega
    | 1 => show 512 * (t.val % 32) + (y 1).val = t.val % 32 * 512 + (y 1).val; omega
    | 2 => show (y 2).val = 0 * 1024 + (y 2).val; omega

end Cert.MergeK

end
-- ==== Proof.MergeReference.lean ====
module

public import proofs.«01_k».proof.Proof.Rows
public import proofs.«01_k».proof.Proof.Gen.ReferenceMergeIdeal.Read
public import Idealize.ShloMosaic.Lib.IdealHost

/-!
The reference of the last call: the branches joined, the step of every position and the final normalization.
-/

@[expose] public section

set_option maxRecDepth 16384

noncomputable section

namespace Cert.MergeRef

open Idealize.ShloMosaic Idealize.ShloMosaic.TcCoe Idealize.ShloMosaic.ValueIdx Cert.ReferenceMergeIdeal Cert.ReferenceMergeIdeal.Gen
open Cert.ReferenceMergeIdeal.Read Cert.Rows

variable (x0 : Vec Ideal S2x16384x2048 .bf16) (x1 : Vec Ideal S2x16384x1024 .bf16) (x2 : Vec Ideal S2x16384x2048 .f32)
  (x3 : Vec Ideal S2x16384x1024 .f32) (x4 : Vec Ideal S2048x1024 .f32) (x5 x6 : Vec Ideal S1024x1024 .f32)
  (x7 : Vec Ideal S1024 .f32) (x8 : Vec Ideal S1024x5632 .f32) (x9 : Vec Ideal S2816x1024 .f32) (x10 : Vec Ideal S1024 .f32)

/-- The gated sum of the two branches. -/
theorem gated_sum (b : Fin 2) (p : Fin 16384) (k : Fin 1024) : val_main_v8 (F := Ideal) x0 x1 x2 x4 x5 (ix3 b p k)
    = x2 (ix3 b p (⟨k.val, by omega⟩ : Fin 2048)) * (∑ i, x0 (ix3 b p i) * x4 (ix2 i k))
      + x2 (ix3 b p (⟨1024 + k.val, by omega⟩ : Fin 2048)) * ∑ i, x1 (ix3 b p i) * x5 (ix2 i k) := by
  rw [val_main_v8_apply, val_main_v7_apply, val_main_v4_apply, val_main_v3_apply, val_main_v6_apply, val_main_v0_apply,
    val_main_v1_apply]
  refine congrArg₂ (fun a b : EReal => a + b) (congrArg₂ (fun a b : EReal => a * b) (congrArg x2 ?_)
    (Finset.sum_congr rfl fun i _ => congrArg₂ (fun a b : EReal => a * b) (congrArg x0 ?_) (congrArg x4 ?_)))
    (congrArg₂ (fun a b : EReal => a * b) (congrArg x2 ?_)
    (Finset.sum_congr rfl fun i _ => congrArg₂ (fun a b : EReal => a * b) (congrArg x1 ?_) (congrArg x5 ?_)))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · funext a
    match a with
    | ⟨0, _⟩ => rfl
    | ⟨1, _⟩ => rfl

/-- The branches joined. -/
theorem joined : val_main_v10 (F := Ideal) x0 x1 x2 x3 x4 x5 x6 = mergeAll x0 x1 x2 x3 x4 x5 x6 := by
  funext y
  rw [val_main_v10_apply, val_main_v9_apply]
  unfold mergeAll merge
  refine congrArg₂ (fun a b : EReal => a + b) (congrArg x3 (stream_ix y).symm) (Finset.sum_congr rfl fun k _ =>
    congrArg₂ (fun a b : EReal => a * b) (Eq.trans (congrArg _ ?_) (gated_sum x0 x1 x2 x4 x5 (y 0) (y 1) k)) (congrArg x6 ?_))
  · funext a
    match a with
    | ⟨0, _⟩ => rfl
    | ⟨1, _⟩ => rfl
    | ⟨2, _⟩ => rfl
  · funext a
    match a with
    | ⟨0, _⟩ => rfl
    | ⟨1, _⟩ => rfl

/-- The first normalization. -/
theorem first_norm : val_main_v23 (F := Ideal) x0 x1 x2 x3 x4 x5 x6 x7 = normAll (mergeAll x0 x1 x2 x3 x4 x5 x6) x7 := by
  funext y
  rw [val_main_v23_apply, val_main_v20_apply, val_main_v19_apply, val_main_v18_apply, val_main_v17_apply, val_main_v16_apply,
    val_main_v15_apply, val_main_v14_apply, val_main_v13_apply, val_main_v22_apply, val_main_v21_apply, val_main_v12_apply,
    val_main_cst_apply, val_main_cst_0_apply, val_main_cst_1_apply]
  simp only [val_main_v11_apply, joined]
  refine normAll_of (mergeAll x0 x1 x2 x3 x4 x5 x6) x7 y _ (fun k => ?_) _ ?_
  · funext a
    match a with
    | ⟨0, _⟩ => rfl
    | ⟨1, _⟩ => rfl
    | ⟨2, _⟩ => rfl
  · funext a
    match a with
    | ⟨0, _⟩ => rfl

/-- The gated hidden columns. -/
theorem gated_apply (b : Fin 2) (p : Fin 16384) (f : Fin 2816) : val_main_v28 (F := Ideal) x0 x1 x2 x3 x4 x5 x6 x7 x8 (ix3 b p f)
    = hidden (fun k => normAll (mergeAll x0 x1 x2 x3 x4 x5 x6) x7 (ix3 b p k)) (fun k f => x8 (ix2 k f)) f := by
  have dot : ∀ i : S2x16384x5632.Idx, val_main_v24 (F := Ideal) x0 x1 x2 x3 x4 x5 x6 x7 x8 i
      = ∑ k, normAll (mergeAll x0 x1 x2 x3 x4 x5 x6) x7 (ix3 (i 0) (i 1) k) * x8 (ix2 k (i 2)) := fun i => by
    rw [val_main_v24_apply, first_norm]
    refine Finset.sum_congr rfl fun k _ => congrArg₂ (fun a b : EReal => a * b) (congrArg _ ?_) (congrArg x8 ?_)
    · funext a
      match a with
      | ⟨0, _⟩ => rfl
      | ⟨1, _⟩ => rfl
      | ⟨2, _⟩ => rfl
    · funext a
      match a with
      | ⟨0, _⟩ => rfl
      | ⟨1, _⟩ => rfl
  rw [val_main_v28_apply, val_main_v27_apply, val_main_call0_v5_apply, val_main_call0_v4_apply, val_main_call0_cst_0_apply,
    val_main_call0_v3_apply, val_main_call0_v2_apply, val_main_call0_cst_apply, val_main_call0_v1_apply,
    val_main_call0_v0_apply, val_main_v25_apply, val_main_v26_apply, dot, dot]
  rw [show (FloatOps.ofBits .f32 0x3F800000#32 : Ideal .f32) = (1 : EReal) from Ideal.ofBits_one_f32]
  rfl

/-- The step of every position. -/
theorem stepped : val_main_v32 (F := Ideal) x0 x1 x2 x3 x4 x5 x6 x7 x8 x9 = stepAll (mergeAll x0 x1 x2 x3 x4 x5 x6) x7 x8 x9 := by
  funext y
  rw [val_main_v32_apply, val_main_v31_apply, val_main_v30_apply, val_main_cst_2_apply, val_main_v29_apply, joined]
  unfold stepAll step ffn
  refine congrArg₂ (fun a b : EReal => a + b) (congrArg (mergeAll x0 x1 x2 x3 x4 x5 x6) (stream_ix y).symm) (congrArg (fun b : EReal => Ideal.ofBits .f32 0x3F000000#32 * b) ?_)
  refine Finset.sum_congr rfl fun f _ => congrArg₂ (fun a b : EReal => a * b) (Eq.trans (congrArg _ ?_)
    (gated_apply x0 x1 x2 x3 x4 x5 x6 x7 x8 (y 0) (y 1) f)) (congrArg x9 ?_)
  · funext a
    match a with
    | ⟨0, _⟩ => rfl
    | ⟨1, _⟩ => rfl
    | ⟨2, _⟩ => rfl
  · funext a
    match a with
    | ⟨0, _⟩ => rfl
    | ⟨1, _⟩ => rfl

/-- The result. -/
theorem result : val_main_v45 (F := Ideal) x0 x1 x2 x3 x4 x5 x6 x7 x8 x9 x10 = normAll (stepAll (mergeAll x0 x1 x2 x3 x4 x5 x6) x7 x8 x9) x10 := by
  funext y
  rw [val_main_v45_apply, val_main_v42_apply, val_main_v41_apply, val_main_v40_apply, val_main_v39_apply,
    val_main_v38_apply, val_main_v37_apply, val_main_v36_apply, val_main_v35_apply, val_main_v44_apply, val_main_v43_apply,
    val_main_v34_apply, val_main_cst_3_apply, val_main_cst_4_apply, val_main_cst_5_apply]
  simp only [val_main_v33_apply, stepped]
  refine normAll_of (stepAll (mergeAll x0 x1 x2 x3 x4 x5 x6) x7 x8 x9) x10 y _ (fun k => ?_) _ ?_
  · funext a
    match a with
    | ⟨0, _⟩ => rfl
    | ⟨1, _⟩ => rfl
    | ⟨2, _⟩ => rfl
  · funext a
    match a with
    | ⟨0, _⟩ => rfl

end Cert.MergeRef

end
-- ==== Proof.MergeSampleBlock.lean ====
module

public import proofs.«01_k».proof.Proof.MergeBlock
public import proofs.«01_k».proof.Proof.Gen.KernelMergeSampleIdeal.Frame

/-!
The last kernel for the shorter sequences has the body of the one for the longer ones, so that a grid point leaves the same
result block.
-/

@[expose] public section

set_option maxRecDepth 16384

noncomputable section

namespace Cert.MergeSampleK

open Idealize.ShloMosaic Idealize.ShloMosaic.TcCoe Idealize.ShloMosaic.ValueIdx Cert.KernelMergeSampleIdeal Cert.KernelMergeSampleIdeal.Gen Cert.Rows
open Idealize.ShloMosaic.Tactic

variable {F : FTy → Type} [FloatOps F]
variable (x0 : Vec F S1x512x2048 .bf16) (x1 : Vec F S1x512x1024 .bf16) (x2 : Vec F S1x512x2048 .f32) (x3 : Vec F S1x512x1024 .f32)
  (x4 : Vec F S2048x1024 .bf16) (x5 : Vec F S1024x1024 .bf16) (x6 : Vec F S1024x1024 .bf16) (x7 : Vec F S1x1024 .f32)
  (x8 : Vec F S1024x5632 .bf16) (x9 : Vec F S2816x1024 .bf16) (x10 : Vec F S1x1024 .f32)

/-- The result block, in terms of the other kernel's. -/
theorem block_same : out0_11 x0 x1 x2 x3 x4 x5 x6 x7 x8 x9 x10
    = Cert.KernelMergeIdeal.Gen.out0_11 x0 x1 x2 x3 x4 x5 x6 x7 x8 x9 x10 := by
  sl_kernel_rfl

/-- The result block. -/
theorem block_out : out0_11 x0 x1 x2 x3 x4 x5 x6 x7 x8 x9 x10
    = shapeCast S1x512x1024 (normed (stepped x7 x8 x9 (Cert.MergeK.joined x0 x1 x2 x3 x4 x5 x6)) x10)
        shapeCasts_S512x1024_S1x512x1024 :=
  (block_same x0 x1 x2 x3 x4 x5 x6 x7 x8 x9 x10).trans (Cert.MergeK.block_out x0 x1 x2 x3 x4 x5 x6 x7 x8 x9 x10)

end Cert.MergeSampleK

end
-- ==== Proof.MergeSampleKernel.lean ====
module

public import proofs.«01_k».proof.Proof.MergeSampleBlock
public import Idealize.ShloMosaic.Lib.Pipeline.ValueKit.Geometry

/-!
The result of the last kernel for the shorter sequences as a function of its arguments: position by position the branches joined, half a feed-forward
step, and the final normalization.
-/

@[expose] public section

set_option maxRecDepth 16384

noncomputable section

namespace Cert.MergeSampleK

open Idealize.ShloMosaic Idealize.ShloMosaic.TcCoe Idealize.ShloMosaic.ValueIdx Cert.KernelMergeSampleIdeal Cert.KernelMergeSampleIdeal.Gen Cert.Rows
open Cert.MergeK (mat mat2 joined)

/-- The block every window shows at a grid point. -/
theorem indices : ∀ t : Fin cfg0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val / 16, t.val % 16, 0] := by
  decide +kernel

theorem point_lt (t : Fin cfg0.N) : t.val < 32 := t.isLt.trans_eq N_0

section
variable {F : FTy → Type} [FloatOps F]
variable (m : (ℓ : Loc nD τ sig) → Buf (Elt F) ℓ) (c : Dev nD)

/-- The arguments. -/
abbrev sA : Vec F S2x8192x2048 .bf16 := m ((c : Thread nD τ).loc main_arg0)
abbrev aA : Vec F S2x8192x1024 .bf16 := m ((c : Thread nD τ).loc main_arg1)
abbrev gA : Vec F S2x8192x2048 .f32 := m ((c : Thread nD τ).loc main_arg2)
abbrev hA : Vec F S2x8192x1024 .f32 := m ((c : Thread nD τ).loc main_arg3)
abbrev wsA : Vec F S2048x1024 .f32 := m ((c : Thread nD τ).loc main_arg4)
abbrev waA : Vec F S1024x1024 .f32 := m ((c : Thread nD τ).loc main_arg5)
abbrev woA : Vec F S1024x1024 .f32 := m ((c : Thread nD τ).loc main_arg6)
abbrev nA : Vec F S1024 .f32 := m ((c : Thread nD τ).loc main_arg7)
abbrev wA : Vec F S1024x5632 .f32 := m ((c : Thread nD τ).loc main_arg8)
abbrev dA : Vec F S2816x1024 .f32 := m ((c : Thread nD τ).loc main_arg9)
abbrev eA : Vec F S1024 .f32 := m ((c : Thread nD τ).loc main_arg10)

/-- What the operations before the grid leave. -/
theorem V_ws : V m c main_v0 = (truncf .bf16 (wsA m c) bitsLt_bf16_f32 : FVec F S2048x1024 .bf16) := rfl
theorem V_wa : V m c main_v1 = (truncf .bf16 (waA m c) bitsLt_bf16_f32 : FVec F S1024x1024 .bf16) := rfl
theorem V_wo : V m c main_v2 = (truncf .bf16 (woA m c) bitsLt_bf16_f32 : FVec F S1024x1024 .bf16) := rfl
theorem V_w : V m c main_v4 = (truncf .bf16 (wA m c) bitsLt_bf16_f32 : FVec F S1024x5632 .bf16) := rfl
theorem V_d : V m c main_v5 = (truncf .bf16 (dA m c) bitsLt_bf16_f32 : FVec F S2816x1024 .bf16) := rfl
theorem V_n : V m c main_v3 = (shapeCast S1x1024 (nA m c) shapeCasts_S1024_S1x1024 : Vec F S1x1024 .f32) := rfl
theorem V_e : V m c main_v6 = (shapeCast S1x1024 (eA m c) shapeCasts_S1024_S1x1024 : Vec F S1x1024 .f32) := rfl

/-- The blocks of a point, at their own shapes. -/
abbrev sB (t : Fin cfg0.N) : Vec F S1x512x2048 .bf16 := iblk m c 0 t
abbrev aB (t : Fin cfg0.N) : Vec F S1x512x1024 .bf16 := iblk m c 1 t
abbrev gB (t : Fin cfg0.N) : Vec F S1x512x2048 .f32 := iblk m c 2 t
abbrev hB (t : Fin cfg0.N) : Vec F S1x512x1024 .f32 := iblk m c 3 t
abbrev wsB (t : Fin cfg0.N) : Vec F S2048x1024 .bf16 := iblk m c 4 t
abbrev waB (t : Fin cfg0.N) : Vec F S1024x1024 .bf16 := iblk m c 5 t
abbrev woB (t : Fin cfg0.N) : Vec F S1024x1024 .bf16 := iblk m c 6 t
abbrev nB (t : Fin cfg0.N) : Vec F S1x1024 .f32 := iblk m c 7 t
abbrev wB (t : Fin cfg0.N) : Vec F S1024x5632 .bf16 := iblk m c 8 t
abbrev dB (t : Fin cfg0.N) : Vec F S2816x1024 .bf16 := iblk m c 9 t
abbrev eB (t : Fin cfg0.N) : Vec F S1x1024 .f32 := iblk m c 10 t

/-- Position `r` of the block of point `t`, as the position of the stream it is. -/
abbrev at0 (t : Fin cfg0.N) : Fin 2 := ⟨t.val / 16, by have := point_lt t; omega⟩
abbrev at1 (t : Fin cfg0.N) (r : Fin 512) : Fin 8192 := ⟨512 * (t.val % 16) + r.val, by omega⟩

theorem s_block (t : Fin cfg0.N) (r : Fin 512) (j : Fin 2048) :
    sB m c t (ix3 (0 : Fin 1) r j) = sA m c (ix3 (at0 t) (at1 t r) j) := by
  have idx := indices t
  blk_ext [iblk, V, idx]
  all_goals first | (show _ + r.val = _; omega) | (show _ + j.val = _; omega)

theorem a_block (t : Fin cfg0.N) (r : Fin 512) (j : Fin 1024) :
    aB m c t (ix3 (0 : Fin 1) r j) = aA m c (ix3 (at0 t) (at1 t r) j) := by
  have idx := indices t
  blk_ext [iblk, V, idx]
  all_goals first | (show _ + r.val = _; omega) | (show _ + j.val = _; omega)

theorem g_block (t : Fin cfg0.N) (r : Fin 512) (j : Fin 2048) :
    gB m c t (ix3 (0 : Fin 1) r j) = gA m c (ix3 (at0 t) (at1 t r) j) := by
  have idx := indices t
  blk_ext [iblk, V, idx]
  all_goals first | (show _ + r.val = _; omega) | (show _ + j.val = _; omega)

theorem h_block (t : Fin cfg0.N) (r : Fin 512) (j : Fin 1024) :
    hB m c t (ix3 (0 : Fin 1) r j) = hA m c (ix3 (at0 t) (at1 t r) j) := by
  have idx := indices t
  blk_ext [iblk, V, idx]
  all_goals first | (show _ + r.val = _; omega) | (show _ + j.val = _; omega)

theorem n_block (t : Fin cfg0.N) (j : Fin 1024) : nB m c t (ix2 (0 : Fin 1) j) = nA m c (ix1 j) := by
  have idx := indices t
  refine Eq.trans ?_ (shapeCast_a_1a_apply (nA m c) shapeCasts_S1024_S1x1024 (0 : Fin 1) j)
  rw [← V_n]
  blk_ext [iblk, idx]
  all_goals (show _ + j.val = _; omega)

theorem e_block (t : Fin cfg0.N) (j : Fin 1024) : eB m c t (ix2 (0 : Fin 1) j) = eA m c (ix1 j) := by
  have idx := indices t
  refine Eq.trans ?_ (shapeCast_a_1a_apply (eA m c) shapeCasts_S1024_S1x1024 (0 : Fin 1) j)
  rw [← V_e]
  blk_ext [iblk, idx]
  all_goals (show _ + j.val = _; omega)

end

variable (m : (ℓ : Loc nD τ sig) → Buf (Elt Ideal) ℓ) (c : Dev nD)

theorem ws_block (t : Fin cfg0.N) (i : Fin 2048) (j : Fin 1024) : wsB m c t (ix2 i j) = wsA m c (ix2 i j) := by
  have idx := indices t
  refine Eq.trans ?_ (congrFun (V_ws m c) (ix2 i j))
  blk_ext [iblk, idx]
  all_goals first | (show _ + i.val = _; omega) | (show _ + j.val = _; omega)

theorem wa_block (t : Fin cfg0.N) (i : Fin 1024) (j : Fin 1024) : waB m c t (ix2 i j) = waA m c (ix2 i j) := by
  have idx := indices t
  refine Eq.trans ?_ (congrFun (V_wa m c) (ix2 i j))
  blk_ext [iblk, idx]
  all_goals first | (show _ + i.val = _; omega) | (show _ + j.val = _; omega)

theorem wo_block (t : Fin cfg0.N) (i : Fin 1024) (j : Fin 1024) : woB m c t (ix2 i j) = woA m c (ix2 i j) := by
  have idx := indices t
  refine Eq.trans ?_ (congrFun (V_wo m c) (ix2 i j))
  blk_ext [iblk, idx]
  all_goals first | (show _ + i.val = _; omega) | (show _ + j.val = _; omega)

theorem w_block (t : Fin cfg0.N) (i : Fin 1024) (j : Fin 5632) : wB m c t (ix2 i j) = wA m c (ix2 i j) := by
  have idx := indices t
  refine Eq.trans ?_ (congrFun (V_w m c) (ix2 i j))
  blk_ext [iblk, idx]
  all_goals first | (show _ + i.val = _; omega) | (show _ + j.val = _; omega)

theorem d_block (t : Fin cfg0.N) (i : Fin 2816) (j : Fin 1024) : dB m c t (ix2 i j) = dA m c (ix2 i j) := by
  have idx := indices t
  refine Eq.trans ?_ (congrFun (V_d m c) (ix2 i j))
  blk_ext [iblk, idx]
  all_goals first | (show _ + i.val = _; omega) | (show _ + j.val = _; omega)

/-- What the kernel computes, of its arguments. -/
abbrev joinedAll : FVec Ideal (Stream 8192) .f32 := mergeAll (sA m c) (aA m c) (gA m c) (hA m c) (wsA m c) (waA m c) (woA m c)
abbrev steppedAll : FVec Ideal (Stream 8192) .f32 := stepAll (joinedAll m c) (nA m c) (wA m c) (dA m c)

/-- A block's joined branches, at a point. -/
abbrev jB (t : Fin cfg0.N) : FVec Ideal Blk .f32 :=
  joined (sB m c t) (aB m c t) (gB m c t) (hB m c t) (wsB m c t) (waB m c t) (woB m c t)

theorem point_joined (t : Fin cfg0.N) (r : Fin 512) (j : Fin 1024) :
    jB m c t (ix2 r j) = joinedAll m c (ix3 (at0 t) (at1 t r) j) := by
  refine (merged_apply _ _ _ _ _ _ _ _ (fun i => gB m c t (ix3 (0 : Fin 1) r i)) r j (fun k => ?_) (fun k => ?_)).trans ?_
  · refine (shapeCast_1ab_ab_apply (View.ld (gB m c t) r0_4) shapeCasts_S1x512x1024_S512x1024 r k).trans ?_
    refine congrArg (gB m c t) (funext fun a => Fin.ext ?_)
    match a with
    | 0 => rfl
    | 1 => show 0 + 1 * r.val = r.val; omega
    | 2 => show 0 + 1 * k.val = k.val; omega
  · refine (shapeCast_1ab_ab_apply (View.ld (gB m c t) r0_5) shapeCasts_S1x512x1024_S512x1024 r k).trans ?_
    refine congrArg (gB m c t) (funext fun a => Fin.ext ?_)
    match a with
    | 0 => rfl
    | 1 => show 0 + 1 * r.val = r.val; omega
    | 2 => show 1024 + 1 * k.val = 1024 + k.val; omega
  · show merge _ _ _ _ _ _ _ j = merge _ _ _ _ _ _ _ j
    have es : (fun i => mat2 (sB m c t) (ix2 r i)) = fun i => sA m c (ix3 (at0 t) (at1 t r) i) := funext fun i =>
      (shapeCast_1ab_ab_apply (sB m c t) shapeCasts_S1x512x2048_S512x2048 r i).trans (s_block m c t r i)
    have eg : (fun i => gB m c t (ix3 (0 : Fin 1) r i)) = fun i => gA m c (ix3 (at0 t) (at1 t r) i) := funext fun i =>
      g_block m c t r i
    have ea : (fun i => mat (aB m c t) (ix2 r i)) = fun i => aA m c (ix3 (at0 t) (at1 t r) i) := funext fun i =>
      (shapeCast_1ab_ab_apply (aB m c t) shapeCasts_S1x512x1024_S512x1024 r i).trans (a_block m c t r i)
    have eh : (fun i => mat (hB m c t) (ix2 r i)) = pos (hA m c) (at0 t) (at1 t r) := funext fun i =>
      (shapeCast_1ab_ab_apply (hB m c t) shapeCasts_S1x512x1024_S512x1024 r i).trans (h_block m c t r i)
    have e1 : (fun i k => wsB m c t (ix2 i k)) = fun i k => wsA m c (ix2 i k) := funext fun i => funext fun k => ws_block m c t i k
    have e2 : (fun i k => waB m c t (ix2 i k)) = fun i k => waA m c (ix2 i k) := funext fun i => funext fun k => wa_block m c t i k
    have e3 : (fun i k => woB m c t (ix2 i k)) = fun i k => woA m c (ix2 i k) := funext fun i => funext fun k => wo_block m c t i k
    rw [es, eg, ea, eh, e1, e2, e3]

/-- The step a point takes is the step of its positions. -/
theorem point_step (t : Fin cfg0.N) (r : Fin 512) (j : Fin 1024) :
    stepped (nB m c t) (wB m c t) (dB m c t) (jB m c t) (ix2 r j)
      = steppedAll m c (ix3 (at0 t) (at1 t r) j) := by
  rw [stepped_apply]
  show step _ _ _ _ j = step _ _ _ _ j
  have eg : (fun k => nB m c t (ix2 (0 : Fin 1) k)) = gain (nA m c) := funext fun k => n_block m c t k
  have ew : wide (wB m c t) = fun k f => wA m c (ix2 k f) := funext fun k => funext fun f => w_block m c t k f
  have ed : tall (dB m c t) = fun f j => dA m c (ix2 f j) := funext fun f => funext fun j => d_block m c t f j
  have ex : (fun k => jB m c t (ix2 r k)) = pos (joinedAll m c) (at0 t) (at1 t r) := funext fun k =>
    point_joined m c t r k
  rw [eg, ew, ed, ex]

theorem point_norm (t : Fin cfg0.N) (r : Fin 512) (j : Fin 1024) :
    normed (stepped (nB m c t) (wB m c t) (dB m c t) (jB m c t)) (eB m c t) (ix2 r j)
      = normAll (steppedAll m c) (eA m c) (ix3 (at0 t) (at1 t r) j) := by
  rw [normed_apply]
  show norm _ _ j = norm _ _ j
  exact congrArg₂ (fun g x => norm g x j) (funext fun k => e_block m c t k) (funext fun k => point_step m c t r k)

/-- The result. -/
theorem kernel_out : (dats m 0 c).arrAt 11 cfg0.N = normAll (steppedAll m c) (eA m c) := by
  refine (dats m 0 c).arrAt_eq_of_covers 11 _ (by decide +kernel) fun t hf y => ?_
  have idx := (indices t).2.2.2.2.2.2.2.2.2.2.2
  have hy2 : (y 2).val < 1024 := (y 2).isLt
  have hy1 : (y 1).val < 512 := (y 1).isLt
  have hy0 : (y 0).val < 1 := (y 0).isLt
  blk_simp
  rw [after0_11, block_out]
  refine Eq.trans ?_ ((point_norm m c t (⟨(y 1).val, hy1⟩ : Fin 512) (⟨(y 2).val, hy2⟩ : Fin 1024)).trans ?_)
  · refine Eq.trans (congrArg _ ?_) (shapeCast_ab_1ab_apply _ shapeCasts_S512x1024_S1x512x1024 (0 : Fin 1) _ _)
    funext a
    apply Fin.ext
    match a with
    | 0 => show (y 0).val = 0; omega
    | 1 => rfl
    | 2 => rfl
  · refine congrArg (normAll _ _) ?_
    funext a
    apply Fin.ext
    refine Eq.trans ?_ (Pipeline.Window.rect_emb_val win0_11 t y a).symm
    rw [idx]
    match a with
    | 0 => show t.val / 16 = t.val / 16 * 1 + (y 0).val; omega
    | 1 => show 512 * (t.val % 16) + (y 1).val = t.val % 16 * 512 + (y 1).val; omega
    | 2 => show (y 2).val = 0 * 1024 + (y 2).val; omega

end Cert.MergeSampleK

end
-- ==== Proof.MergeSampleReference.lean ====
module

public import proofs.«01_k».proof.Proof.Rows
public import proofs.«01_k».proof.Proof.Gen.ReferenceMergeSampleIdeal.Read
public import Idealize.ShloMosaic.Lib.IdealHost

/-!
The reference of the last call for the shorter sequences: the branches joined, the step of every position and the final normalization.
-/

@[expose] public section

set_option maxRecDepth 16384

noncomputable section

namespace Cert.MergeSampleRef

open Idealize.ShloMosaic Idealize.ShloMosaic.TcCoe Idealize.ShloMosaic.ValueIdx Cert.ReferenceMergeSampleIdeal Cert.ReferenceMergeSampleIdeal.Gen
open Cert.ReferenceMergeSampleIdeal.Read Cert.Rows

variable (x0 : Vec Ideal S2x8192x2048 .bf16) (x1 : Vec Ideal S2x8192x1024 .bf16) (x2 : Vec Ideal S2x8192x2048 .f32)
  (x3 : Vec Ideal S2x8192x1024 .f32) (x4 : Vec Ideal S2048x1024 .f32) (x5 x6 : Vec Ideal S1024x1024 .f32)
  (x7 : Vec Ideal S1024 .f32) (x8 : Vec Ideal S1024x5632 .f32) (x9 : Vec Ideal S2816x1024 .f32) (x10 : Vec Ideal S1024 .f32)

/-- The gated sum of the two branches. -/
theorem gated_sum (b : Fin 2) (p : Fin 8192) (k : Fin 1024) : val_main_v8 (F := Ideal) x0 x1 x2 x4 x5 (ix3 b p k)
    = x2 (ix3 b p (⟨k.val, by omega⟩ : Fin 2048)) * (∑ i, x0 (ix3 b p i) * x4 (ix2 i k))
      + x2 (ix3 b p (⟨1024 + k.val, by omega⟩ : Fin 2048)) * ∑ i, x1 (ix3 b p i) * x5 (ix2 i k) := by
  rw [val_main_v8_apply, val_main_v7_apply, val_main_v4_apply, val_main_v3_apply, val_main_v6_apply, val_main_v0_apply,
    val_main_v1_apply]
  refine congrArg₂ (fun a b : EReal => a + b) (congrArg₂ (fun a b : EReal => a * b) (congrArg x2 ?_)
    (Finset.sum_congr rfl fun i _ => congrArg₂ (fun a b : EReal => a * b) (congrArg x0 ?_) (congrArg x4 ?_)))
    (congrArg₂ (fun a b : EReal => a * b) (congrArg x2 ?_)
    (Finset.sum_congr rfl fun i _ => congrArg₂ (fun a b : EReal => a * b) (congrArg x1 ?_) (congrArg x5 ?_)))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · funext a
    match a with
    | ⟨0, _⟩ => rfl
    | ⟨1, _⟩ => rfl

/-- The branches joined. -/
theorem joined : val_main_v10 (F := Ideal) x0 x1 x2 x3 x4 x5 x6 = mergeAll x0 x1 x2 x3 x4 x5 x6 := by
  funext y
  rw [val_main_v10_apply, val_main_v9_apply]
  unfold mergeAll merge
  refine congrArg₂ (fun a b : EReal => a + b) (congrArg x3 (stream_ix y).symm) (Finset.sum_congr rfl fun k _ =>
    congrArg₂ (fun a b : EReal => a * b) (Eq.trans (congrArg _ ?_) (gated_sum x0 x1 x2 x4 x5 (y 0) (y 1) k)) (congrArg x6 ?_))
  · funext a
    match a with
    | ⟨0, _⟩ => rfl
    | ⟨1, _⟩ => rfl
    | ⟨2, _⟩ => rfl
  · funext a
    match a with
    | ⟨0, _⟩ => rfl
    | ⟨1, _⟩ => rfl

/-- The first normalization. -/
theorem first_norm : val_main_v23 (F := Ideal) x0 x1 x2 x3 x4 x5 x6 x7 = normAll (mergeAll x0 x1 x2 x3 x4 x5 x6) x7 := by
  funext y
  rw [val_main_v23_apply, val_main_v20_apply, val_main_v19_apply, val_main_v18_apply, val_main_v17_apply, val_main_v16_apply,
    val_main_v15_apply, val_main_v14_apply, val_main_v13_apply, val_main_v22_apply, val_main_v21_apply, val_main_v12_apply,
    val_main_cst_apply, val_main_cst_0_apply, val_main_cst_1_apply]
  simp only [val_main_v11_apply, joined]
  refine normAll_of (mergeAll x0 x1 x2 x3 x4 x5 x6) x7 y _ (fun k => ?_) _ ?_
  · funext a
    match a with
    | ⟨0, _⟩ => rfl
    | ⟨1, _⟩ => rfl
    | ⟨2, _⟩ => rfl
  · funext a
    match a with
    | ⟨0, _⟩ => rfl

/-- The gated hidden columns. -/
theorem gated_apply (b : Fin 2) (p : Fin 8192) (f : Fin 2816) : val_main_v28 (F := Ideal) x0 x1 x2 x3 x4 x5 x6 x7 x8 (ix3 b p f)
    = hidden (fun k => normAll (mergeAll x0 x1 x2 x3 x4 x5 x6) x7 (ix3 b p k)) (fun k f => x8 (ix2 k f)) f := by
  have dot : ∀ i : S2x8192x5632.Idx, val_main_v24 (F := Ideal) x0 x1 x2 x3 x4 x5 x6 x7 x8 i
      = ∑ k, normAll (mergeAll x0 x1 x2 x3 x4 x5 x6) x7 (ix3 (i 0) (i 1) k) * x8 (ix2 k (i 2)) := fun i => by
    rw [val_main_v24_apply, first_norm]
    refine Finset.sum_congr rfl fun k _ => congrArg₂ (fun a b : EReal => a * b) (congrArg _ ?_) (congrArg x8 ?_)
    · funext a
      match a with
      | ⟨0, _⟩ => rfl
      | ⟨1, _⟩ => rfl
      | ⟨2, _⟩ => rfl
    · funext a
      match a with
      | ⟨0, _⟩ => rfl
      | ⟨1, _⟩ => rfl
  rw [val_main_v28_apply, val_main_v27_apply, val_main_call0_v5_apply, val_main_call0_v4_apply, val_main_call0_cst_0_apply,
    val_main_call0_v3_apply, val_main_call0_v2_apply, val_main_call0_cst_apply, val_main_call0_v1_apply,
    val_main_call0_v0_apply, val_main_v25_apply, val_main_v26_apply, dot, dot]
  rw [show (FloatOps.ofBits .f32 0x3F800000#32 : Ideal .f32) = (1 : EReal) from Ideal.ofBits_one_f32]
  rfl

/-- The step of every position. -/
theorem stepped : val_main_v32 (F := Ideal) x0 x1 x2 x3 x4 x5 x6 x7 x8 x9 = stepAll (mergeAll x0 x1 x2 x3 x4 x5 x6) x7 x8 x9 := by
  funext y
  rw [val_main_v32_apply, val_main_v31_apply, val_main_v30_apply, val_main_cst_2_apply, val_main_v29_apply, joined]
  unfold stepAll step ffn
  refine congrArg₂ (fun a b : EReal => a + b) (congrArg (mergeAll x0 x1 x2 x3 x4 x5 x6) (stream_ix y).symm) (congrArg (fun b : EReal => Ideal.ofBits .f32 0x3F000000#32 * b) ?_)
  refine Finset.sum_congr rfl fun f _ => congrArg₂ (fun a b : EReal => a * b) (Eq.trans (congrArg _ ?_)
    (gated_apply x0 x1 x2 x3 x4 x5 x6 x7 x8 (y 0) (y 1) f)) (congrArg x9 ?_)
  · funext a
    match a with
    | ⟨0, _⟩ => rfl
    | ⟨1, _⟩ => rfl
    | ⟨2, _⟩ => rfl
  · funext a
    match a with
    | ⟨0, _⟩ => rfl
    | ⟨1, _⟩ => rfl

/-- The result. -/
theorem result : val_main_v45 (F := Ideal) x0 x1 x2 x3 x4 x5 x6 x7 x8 x9 x10 = normAll (stepAll (mergeAll x0 x1 x2 x3 x4 x5 x6) x7 x8 x9) x10 := by
  funext y
  rw [val_main_v45_apply, val_main_v42_apply, val_main_v41_apply, val_main_v40_apply, val_main_v39_apply,
    val_main_v38_apply, val_main_v37_apply, val_main_v36_apply, val_main_v35_apply, val_main_v44_apply, val_main_v43_apply,
    val_main_v34_apply, val_main_cst_3_apply, val_main_cst_4_apply, val_main_cst_5_apply]
  simp only [val_main_v33_apply, stepped]
  refine normAll_of (stepAll (mergeAll x0 x1 x2 x3 x4 x5 x6) x7 x8 x9) x10 y _ (fun k => ?_) _ ?_
  · funext a
    match a with
    | ⟨0, _⟩ => rfl
    | ⟨1, _⟩ => rfl
    | ⟨2, _⟩ => rfl
  · funext a
    match a with
    | ⟨0, _⟩ => rfl

end Cert.MergeSampleRef

end
-- ==== Proof.ProjRun.lean ====
/- The projection kernel's body run once, at any grid point: what its stores leave in each output
   block, as a list of pieces, together with the proof that running the body leaves exactly that. -/
module

public import proofs.«01_k».proof.Proof.Gen.KernelProjIdeal.Frame.Runs

@[expose] public section

-- the pieces' rectangles are checked coordinate by coordinate along the long axes
set_option maxRecDepth 16384

noncomputable section

namespace Cert.KernelProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in each of the eight outputs (last store first), and that from the
    blocks `x0 … x15` of the inputs the body ends with those pieces written and the inputs as they were. -/
noncomputable def kernelRun0_A (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) :
    Σ' (L16 : List (View.Piece (Elt F) S1x256x2048 .f32)), Σ' (L17 : List (View.Piece (Elt F) S1x256x3072 .f32)), Σ' (L18 : List (View.Piece (Elt F) S1x1024x256 .bf16)), Σ' (L19 : List (View.Piece (Elt F) S1x256x256 .bf16)), Σ' (L20 : List (View.Piece (Elt F) S1x256x256 .bf16)), Σ' (L21 : List (View.Piece (Elt F) S1x256x2048 .f32)), Σ' (L22 : List (View.Piece (Elt F) S1x256x128 .f32)), Σ' (L23 : List (View.Piece (Elt F) S1x128x256 .f32)), { LT0 : List (View.Piece (Elt F) S288x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LT0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact HS0

end Cert.KernelProjIdeal.Gen

end
-- ==== Proof.ProjFrame.lean ====
/- The projection kernel's run: the pieces cover every output block, so what each grid point leaves is a
   function of its input blocks; from that the whole run, and that the arguments end unchanged. -/
module

public import proofs.«01_k».proof.Proof.ProjRun
public import Idealize.ShloMosaic.Lib.Claim

@[expose] public section

-- the pieces' rectangles are checked coordinate by coordinate along the long axes
set_option maxRecDepth 16384

noncomputable section

namespace Cert.KernelProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces of output 16 tile its block (1 of `S1x256x2048`), so they cover it. -/
theorem cover0_A_16 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).1 S1x256x2048.size (by sl_kernel_rfl) y

/-- What the run leaves in output 16's block: its pieces read back. -/
def out0_A_16 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x256x2048 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).1)

/-- The pieces of output 17 tile its block (6 of `S1x256x512`), so they cover it. -/
theorem cover0_A_17 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x256x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.1 S1x256x512.size (by sl_kernel_rfl) y

/-- What the run leaves in output 17's block: its pieces read back. -/
def out0_A_17 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x256x3072 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.1)

/-- The pieces of output 18 tile its block (8 of `S1x128x256`), so they cover it. -/
theorem cover0_A_18 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.1 S1x128x256.size (by sl_kernel_rfl) y

/-- What the run leaves in output 18's block: its pieces read back. -/
def out0_A_18 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x1024x256 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.1)

/-- The pieces of output 19 tile its block (2 of `S1x256x128`), so they cover it. -/
theorem cover0_A_19 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.1 S1x256x128.size (by sl_kernel_rfl) y

/-- What the run leaves in output 19's block: its pieces read back. -/
def out0_A_19 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x256x256 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.1)

/-- The pieces of output 20 tile its block (1 of `S1x256x256`), so they cover it. -/
theorem cover0_A_20 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.1 S1x256x256.size (by sl_kernel_rfl) y

/-- What the run leaves in output 20's block: its pieces read back. -/
def out0_A_20 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x256x256 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.1)

/-- The pieces of output 21 tile its block (1 of `S1x256x2048`), so they cover it. -/
theorem cover0_A_21 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.1 S1x256x2048.size (by sl_kernel_rfl) y

/-- What the run leaves in output 21's block: its pieces read back. -/
def out0_A_21 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x256x2048 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.1)

/-- The pieces of output 22 tile its block (1 of `S1x256x128`), so they cover it. -/
theorem cover0_A_22 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.2.1 S1x256x128.size (by sl_kernel_rfl) y

/-- What the run leaves in output 22's block: its pieces read back. -/
def out0_A_22 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x256x128 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.2.1)

/-- The pieces of output 23 tile its block (1 of `S1x128x256`), so they cover it. -/
theorem cover0_A_23 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) (y : S1x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.2.2.1 S1x128x256.size (by sl_kernel_rfl) y

/-- What the run leaves in output 23's block: its pieces read back. -/
def out0_A_23 (c : Dev nD) (i : grid0.Coords) (arg2 : Memref sig .tc .vmem S1x256x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1024x7552 .bf16) (harg5 : arg5.IsWhole) (arg6 : Memref sig .tc .vmem S1408x1024 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S8x3072 .f32) (harg16 : arg16.IsWhole) (arg17 : Memref sig .tc .vmem S1x3072 .f32) (harg17 : arg17.IsWhole) (arg18 : Memref sig .tc .vmem S1x256x2048 .f32) (harg18 : arg18.IsWhole) (arg19 : Memref sig .tc .vmem S1x256x3072 .f32) (harg19 : arg19.IsWhole) (arg20 : Memref sig .tc .vmem S1x1024x256 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x2048 .f32) (harg23 : arg23.IsWhole) (arg24 : Memref sig .tc .vmem S1x256x128 .f32) (harg24 : arg24.IsWhole) (arg25 : Memref sig .tc .vmem S1x128x256 .f32) (harg25 : arg25.IsWhole) (arg26 : Memref sig .tc .vmem S288x3072 .f32) (harg26 : arg26.IsWhole)
    (x0 : Vec F S1x256x1024 .bf16) (x1 : Vec F S1x16x1024 .bf16) (x2 : Vec F S1x16x1024 .bf16) (x3 : Vec F S1024x7552 .bf16) (x4 : Vec F S1408x1024 .bf16) (x5 : Vec F S256x128 .f32) (x6 : Vec F S256x128 .f32) (x7 : Vec F S128x256 .f32) (x8 : Vec F S128x256 .f32) (x9 : Vec F S128x1 .f32) (x10 : Vec F S1x128 .f32) (x11 : Vec F S1x2048 .f32) (x12 : Vec F S1x128 .f32) (x13 : Vec F S128x1 .f32) (x14 : Vec F S8x3072 .f32) (x15 : Vec F S1x3072 .f32) : Vec F S1x128x256 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).2.2.2.2.2.2.2.1)

/-! ## What the outputs hold after each point -/

/-- The eight output blocks after the body at point `t`, in the order of the outputs. -/
def outsAt0 (c : Dev nD) (t : Fin cfg0.N) : Vec F S1x256x2048 .f32 × Vec F S1x256x3072 .f32 × Vec F S1x1024x256 .bf16 × Vec F S1x256x256 .bf16 × Vec F S1x256x256 .bf16 × Vec F S1x256x2048 .f32 × Vec F S1x256x128 .f32 × Vec F S1x128x256 .f32 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-! ## The pipeline's proof data -/

/-- The data of the pipeline on core `c`: each array as the host's operations left it; after the body at point
    `t` each input's buffer at its block and each output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t).1
    | ⟨17, _⟩ => (outsAt0 m c t).2.1
    | ⟨18, _⟩ => (outsAt0 m c t).2.2.1
    | ⟨19, _⟩ => (outsAt0 m c t).2.2.2.1
    | ⟨20, _⟩ => (outsAt0 m c t).2.2.2.2.1
    | ⟨21, _⟩ => (outsAt0 m c t).2.2.2.2.2.1
    | ⟨22, _⟩ => (outsAt0 m c t).2.2.2.2.2.2.1
    | ⟨23, _⟩ => (outsAt0 m c t).2.2.2.2.2.2.2
    | ⟨_ + 24, h⟩ => absurd h (Nat.not_lt.2 (Nat.le_add_left _ _))
  Φ _ := Pipeline.ΦA spec0 c
  q w := Pipeline.shareOf spec0 w
  owed _ := 0

/-- The data's arrays are what the host's operations left. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t).1 := by dsimp only [dats]
theorem after0_17 (c : Dev nD) (t : Fin cfg0.N) : (dats m 0 c).after 17 t = (outsAt0 m c t).2.1 := by dsimp only [dats]
theorem after0_18 (c : Dev nD) (t : Fin cfg0.N) : (dats m 0 c).after 18 t = (outsAt0 m c t).2.2.1 := by dsimp only [dats]
theorem after0_19 (c : Dev nD) (t : Fin cfg0.N) : (dats m 0 c).after 19 t = (outsAt0 m c t).2.2.2.1 := by dsimp only [dats]
theorem after0_20 (c : Dev nD) (t : Fin cfg0.N) : (dats m 0 c).after 20 t = (outsAt0 m c t).2.2.2.2.1 := by dsimp only [dats]
theorem after0_21 (c : Dev nD) (t : Fin cfg0.N) : (dats m 0 c).after 21 t = (outsAt0 m c t).2.2.2.2.2.1 := by dsimp only [dats]
theorem after0_22 (c : Dev nD) (t : Fin cfg0.N) : (dats m 0 c).after 22 t = (outsAt0 m c t).2.2.2.2.2.2.1 := by dsimp only [dats]
theorem after0_23 (c : Dev nD) (t : Fin cfg0.N) : (dats m 0 c).after 23 t = (outsAt0 m c t).2.2.2.2.2.2.2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: its inputs hold their blocks, so the run applies, and its pieces cover the outputs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_16 out0_A_17 out0_A_18 out0_A_19 out0_A_20 out0_A_21 out0_A_22 out0_A_23; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The pipeline's obligation about its body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole run: the final arrays as the pipeline's data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame claim: every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelProjIdeal.Gen

end
-- ==== Proof.ProjFrameWords.lean ====
/- The frame of the projection kernel as it runs on the machine's words. Its program and the program read
   at the extended reals are the same text, so the run proved for the one, which holds at any reading of the
   floats, is the run of the other. -/
module

public import proofs.«01_k».proof.Proof.Gen.KernelProj.Frame.Runs
public import proofs.«01_k».proof.Proof.ProjFrame

@[expose] public section

set_option maxRecDepth 16384

noncomputable section

namespace Cert.Proof.ProjWords

open Idealize.ShloMosaic Idealize.ShloMosaic.TcCoe Idealize.SL.Sem Idealize.ShloMosaic.Tactic

variable {F : FTy → Type} [FloatOps F]

/-- The frame claim of the program on words, at any reading of the floats. -/
def OnWords (F : FTy → Type) [FloatOps F] : Prop := ∀ (m : (ℓ : Loc Cert.KernelProj.nD Cert.KernelProj.τ Cert.KernelProj.sig) → Buf (Elt F) ℓ) (ρ : Dev Cert.KernelProj.nD → PrngReg),
    θ_run (Cert.KernelProj.defs (F := F)) (onTc (τ := Cert.KernelProj.τ) (Cert.KernelProj.main (F := F))) ⟨m, fun _ => 0, ρ⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8))
      ∧ r.2.sem = fun _ => 0)

/-- The same claim of the other text. -/
def OnReals (F : FTy → Type) [FloatOps F] : Prop := ∀ (m : (ℓ : Loc Cert.KernelProjIdeal.nD Cert.KernelProjIdeal.τ Cert.KernelProjIdeal.sig) → Buf (Elt F) ℓ) (ρ : Dev Cert.KernelProjIdeal.nD → PrngReg),
    θ_run (Cert.KernelProjIdeal.defs (F := F)) (onTc (τ := Cert.KernelProjIdeal.τ) (Cert.KernelProjIdeal.main (F := F))) ⟨m, fun _ => 0, ρ⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ r.2.sem = fun _ => 0)

/-- They are the same claim, the programs being the same. -/
theorem same : OnWords F = OnReals F := by sl_kernel_rfl

theorem frame : OnWords F := same.mpr fun m ρ => Cert.KernelProjIdeal.Gen.frame m ρ

end Cert.Proof.ProjWords

end
-- ==== Proof.ProjConv.lean ====
module

public import proofs.«01_k».proof.Proof.Gen.KernelProjIdeal.Skeleton
public import Idealize.ShloMosaic.Lib.KernelVsHost
public import Idealize.ShloMosaic.Lib.ValueLayout
public import Idealize.ShloMosaic.Lib.Pipeline.Value

/-!
The projection kernel's convolution over positions, 512 columns at a time: five taps around each position, the kernel's
shifts by one or two rows written as rotations inside groups of eight rows, then the activation.
-/

@[expose] public section

set_option maxRecDepth 16384

noncomputable section

namespace Cert.ProjK

open Idealize.ShloMosaic Idealize.ShloMosaic.TcCoe Idealize.ShloMosaic.ValueIdx Cert.KernelProjIdeal Cert.KernelProjIdeal.Gen

section Shape

variable {F : FTy → Type} [FloatOps F]

/-- The rows of a chunk in groups of eight. -/
abbrev groups (y : Vec F S288x512 .f32) : FVec F S36x8x512 .f32 := shapeCast S36x8x512 y shapeCasts_S288x512_S36x8x512

/-- One row of weights at every position. -/
abbrev weight (w : Vec F S1x512 .f32) : FVec F S32x8x512 .f32 :=
  broadcastTo S32x8x512 (shapeCast S1x1x512 (shapeCast S1x512 w shapeCasts_S1x512_S1x512) shapeCasts_S1x512_S1x1x512)
    broadcasts_S1x1x512_S32x8x512

/-- Where the row inside its group of eight is below `s`. -/
abbrev below (s : BitVec 32) : IVec S32x8x512 1 :=
  broadcastTo S32x8x512 (shapeCast S1x8x512 (cmpi .slt (iota .tc S1x8x512 32 [1] iota_S1x8x512_d1_w32) (broadcast S1x8x512 s))
    shapeCasts_S1x8x512_S1x8x512) broadcasts_S1x8x512_S32x8x512

abbrev turned (s : BitVec 32) (x : FVec F S36x8x512 .f32) : FVec F S36x8x512 .f32 := dynamicRotate 1 s none x rotates_S36x8x512_d1

/-- The rows `s` before (`s = 1, 2`) each of the 256 positions. -/
abbrev before (s : BitVec 32) (x : FVec F S36x8x512 .f32) : FVec F S32x8x512 .f32 :=
  select (below s) (extractStridedSlice S32x8x512 ![1, 0, 0] (turned s x) slices_S36x8x512_o1_0_0_S32x8x512)
    (extractStridedSlice S32x8x512 ![2, 0, 0] (turned s x) slices_S36x8x512_o2_0_0_S32x8x512)

/-- The rows `8 - s` after (`s = 7, 6`) each of the 256 positions. -/
abbrev later (s : BitVec 32) (x : FVec F S36x8x512 .f32) : FVec F S32x8x512 .f32 :=
  select (below s) (extractStridedSlice S32x8x512 ![2, 0, 0] (turned s x) slices_S36x8x512_o2_0_0_S32x8x512)
    (extractStridedSlice S32x8x512 ![3, 0, 0] (turned s x) slices_S36x8x512_o3_0_0_S32x8x512)

/-- The bias and the five taps, before the activation. -/
def taps (y : Vec F S288x512 .f32) (b w0 w1 w2 w3 w4 : Vec F S1x512 .f32) : FVec F S32x8x512 .f32 :=
  addf (addf (addf (addf (addf (addf (broadcast S32x8x512 (Scalar.ofBits .f32 0x00000000#32)) (weight b))
    (mulf (before 2#32 (groups y)) (weight w0))) (mulf (before 1#32 (groups y)) (weight w1)))
    (mulf (extractStridedSlice S32x8x512 ![2, 0, 0] (groups y) slices_S36x8x512_o2_0_0_S32x8x512) (weight w2)))
    (mulf (later 7#32 (groups y)) (weight w3))) (mulf (later 6#32 (groups y)) (weight w4))

/-- A chunk of the convolution's result. -/
def conv (y : Vec F S288x512 .f32) (b w0 w1 w2 w3 w4 : Vec F S1x512 .f32) : FVec F S1x256x512 .f32 :=
  shapeCast S1x256x512 (shapeCast S256x512 (mulf (taps y b w0 w1 w2 w3 w4) (logistic (taps y b w0 w1 w2 w3 w4)))
    shapeCasts_S32x8x512_S256x512) shapeCasts_S256x512_S1x256x512

end Shape

/-! ## Read at a position and a column -/

section Read

variable (y : Vec Ideal S288x512 .f32) (b w0 w1 w2 w3 w4 w : Vec Ideal S1x512 .f32) (g : Fin 32) (r : Fin 8) (j : Fin 512)

theorem groups_apply (g : Fin 36) : groups y (ix3 g r j) = y (ix2 ⟨8 * g.val + r.val, by omega⟩ j) :=
  shapeCast_apply y _ _ _ (by
    rw [Shape.rowMajor_val_three, Shape.rowMajor_val_two]
    show (8 * g.val + r.val) * 512 + j.val = (g.val * 8 + r.val) * 512 + j.val
    omega)

theorem weight_apply : weight w (ix3 g r j) = w (ix2 0 j) := by
  refine Eq.trans (broadcastTo_apply _ _ _ (ix3 (0 : Fin 1) (0 : Fin 1) j) fun a => ?_) ?_
  · match a with
    | ⟨0, _⟩ => rfl
    | ⟨1, _⟩ => rfl
    | ⟨2, _⟩ => rfl
  · rw [shapeCast_self]
    exact shapeCast_apply w _ _ _ (by rw [Shape.rowMajor_val_three, Shape.rowMajor_val_two]; rfl)

theorem below_apply (s : BitVec 32) : below s (ix3 g r j) = IntOp.cmpi .slt (BitVec.ofNat 32 r.val) s := by
  refine Eq.trans (broadcastTo_apply _ _ _ (ix3 (0 : Fin 1) r j) fun a => ?_) ?_
  · match a with
    | ⟨0, _⟩ => rfl
    | ⟨1, _⟩ => rfl
    | ⟨2, _⟩ => rfl
  · rw [shapeCast_self]
    show IntOp.cmpi .slt (BitVec.ofNat 32 (0 * 8 + r.val)) s = _
    rw [Nat.zero_mul, Nat.zero_add]

theorem turned_apply (s : BitVec 32) (g : Fin 36) (r r' : Fin 8) (h : r'.val = (r.val + 8 - s.toNat % 8) % 8) :
    turned s (groups y) (ix3 g r j) = y (ix2 ⟨8 * g.val + r'.val, by omega⟩ j) := by
  refine (dynamicRotate_apply (s := S36x8x512) 1 s (groups y) _ _ (ix3 g r' j) fun a => ?_).trans (groups_apply y r' j g)
  match a with
  | ⟨0, _⟩ => rfl
  | ⟨1, _⟩ => exact h
  | ⟨2, _⟩ => rfl

theorem slice_apply (o : ℕ) (x : FVec Ideal S36x8x512 .f32) (h : S36x8x512.Slices ![o, 0, 0] S32x8x512) (g' : Fin 36) (hg : g'.val = o + g.val) :
    extractStridedSlice S32x8x512 ![o, 0, 0] x h (ix3 g r j) = x (ix3 g' r j) := by
  refine congrArg x (funext fun a => Fin.ext ?_)
  match a with
  | ⟨0, _⟩ => exact hg.symm
  | ⟨1, _⟩ => exact Nat.zero_add _
  | ⟨2, _⟩ => exact Nat.zero_add _

/-- Both shifts read one row: `o` the first of the two groups the shift chooses between, `u` the row it reads. -/
theorem shift_apply (s : BitVec 32) (o : ℕ) (ho : o ≤ 2) (h₁ : S36x8x512.Slices ![o, 0, 0] S32x8x512)
    (h₂ : S36x8x512.Slices ![o + 1, 0, 0] S32x8x512) (u : Fin 288)
    (hs : ∀ r : Fin 8, IntOp.cmpi .slt (BitVec.ofNat 32 r.val) s = if r.val < s.toNat then 1 else 0) (hs8 : s.toNat < 8)
    (hu : u.val + s.toNat = 8 * g.val + r.val + 8 * o + 8) :
    select (below s) (extractStridedSlice S32x8x512 ![o, 0, 0] (turned s (groups y)) h₁)
      (extractStridedSlice S32x8x512 ![o + 1, 0, 0] (turned s (groups y)) h₂) (ix3 g r j) = y (ix2 u j) := by
  have hr := r.isLt
  show Scalar.select (below s (ix3 g r j)) _ _ = _
  rw [below_apply, hs r]
  by_cases h : r.val < s.toNat
  · rw [if_pos h, slice_apply g r j o _ h₁ ⟨o + g.val, by omega⟩ rfl,
      turned_apply y j s _ r ⟨r.val + 8 - s.toNat, by omega⟩ (by
        show r.val + 8 - s.toNat = _
        rw [Nat.mod_eq_of_lt hs8, Nat.mod_eq_of_lt (by omega)])]
    exact congrArg (fun q => y (ix2 q j)) (Fin.ext (by show 8 * (o + g.val) + (r.val + 8 - s.toNat) = u.val; omega))
  · rw [if_neg h, slice_apply g r j (o + 1) _ h₂ ⟨o + 1 + g.val, by omega⟩ rfl,
      turned_apply y j s _ r ⟨r.val - s.toNat, by omega⟩ (by
        show r.val - s.toNat = _
        rw [Nat.mod_eq_of_lt hs8, show r.val + 8 - s.toNat = (r.val - s.toNat) + 8 by omega, Nat.add_mod_right,
          Nat.mod_eq_of_lt (by omega)])]
    exact congrArg (fun q => y (ix2 q j)) (Fin.ext (by show 8 * (o + 1 + g.val) + (r.val - s.toNat) = u.val; omega))

/-- The five taps at a position, around row `16 + t`. -/
def tapsAt (y : Vec Ideal S288x512 .f32) (b w0 w1 w2 w3 w4 : Vec Ideal S1x512 .f32) (t : Fin 256) (j : Fin 512) : EReal :=
  b (ix2 0 j) + y (ix2 ⟨t.val + 14, by omega⟩ j) * w0 (ix2 0 j) + y (ix2 ⟨t.val + 15, by omega⟩ j) * w1 (ix2 0 j)
    + y (ix2 ⟨t.val + 16, by omega⟩ j) * w2 (ix2 0 j) + y (ix2 ⟨t.val + 17, by omega⟩ j) * w3 (ix2 0 j)
    + y (ix2 ⟨t.val + 18, by omega⟩ j) * w4 (ix2 0 j)

theorem taps_apply : taps y b w0 w1 w2 w3 w4 (ix3 g r j) = tapsAt y b w0 w1 w2 w3 w4 ⟨8 * g.val + r.val, by omega⟩ j := by
  have e0 : before 2#32 (groups y) (ix3 g r j) = y (ix2 ⟨8 * g.val + r.val + 14, by omega⟩ j) :=
    shift_apply y g r j 2#32 1 (by decide) _ _ _ (by decide) (by decide) (by show 8 * g.val + r.val + 14 + 2 = _; omega)
  have e1 : before 1#32 (groups y) (ix3 g r j) = y (ix2 ⟨8 * g.val + r.val + 15, by omega⟩ j) :=
    shift_apply y g r j 1#32 1 (by decide) _ _ _ (by decide) (by decide) (by show 8 * g.val + r.val + 15 + 1 = _; omega)
  have e2 : extractStridedSlice S32x8x512 ![2, 0, 0] (groups y) slices_S36x8x512_o2_0_0_S32x8x512 (ix3 g r j)
      = y (ix2 ⟨8 * g.val + r.val + 16, by omega⟩ j) := by
    rw [slice_apply g r j 2 _ _ ⟨2 + g.val, by omega⟩ rfl, groups_apply]
    exact congrArg (fun q => y (ix2 q j)) (Fin.ext (by show 8 * (2 + g.val) + r.val = 8 * g.val + r.val + 16; omega))
  have e3 : later 7#32 (groups y) (ix3 g r j) = y (ix2 ⟨8 * g.val + r.val + 17, by omega⟩ j) :=
    shift_apply y g r j 7#32 2 (by decide) _ _ _ (by decide) (by decide) (by show 8 * g.val + r.val + 17 + 7 = _; omega)
  have e4 : later 6#32 (groups y) (ix3 g r j) = y (ix2 ⟨8 * g.val + r.val + 18, by omega⟩ j) :=
    shift_apply y g r j 6#32 2 (by decide) _ _ _ (by decide) (by decide) (by show 8 * g.val + r.val + 18 + 6 = _; omega)
  show Ideal.ofBits .f32 0x00000000#32 + weight b (ix3 g r j) + before 2#32 (groups y) (ix3 g r j) * weight w0 (ix3 g r j)
    + before 1#32 (groups y) (ix3 g r j) * weight w1 (ix3 g r j)
    + extractStridedSlice S32x8x512 ![2, 0, 0] (groups y) slices_S36x8x512_o2_0_0_S32x8x512 (ix3 g r j) * weight w2 (ix3 g r j)
    + later 7#32 (groups y) (ix3 g r j) * weight w3 (ix3 g r j) + later 6#32 (groups y) (ix3 g r j) * weight w4 (ix3 g r j) = _
  rw [e0, e1, e2, e3, e4, weight_apply, weight_apply, weight_apply, weight_apply, weight_apply, weight_apply,
    Ideal.ofBits_zero_f32, zero_add]
  rfl

theorem conv_apply (t : Fin 256) : conv y b w0 w1 w2 w3 w4 (ix3 0 t j)
    = tapsAt y b w0 w1 w2 w3 w4 t j * Ideal.logistic (tapsAt y b w0 w1 w2 w3 w4 t j) := by
  have ht := t.isLt
  rw [conv, shapeCast_ab_1ab_apply]
  refine (shapeCast_apply _ _ _ (ix3 (⟨t.val / 8, by omega⟩ : Fin 32) (⟨t.val % 8, by omega⟩ : Fin 8) j) ?_).trans ?_
  · rw [Shape.rowMajor_val_three, Shape.rowMajor_val_two]
    show (t.val / 8 * 8 + t.val % 8) * 512 + j.val = t.val * 512 + j.val
    omega
  · show taps y b w0 w1 w2 w3 w4 _ * Ideal.logistic (taps y b w0 w1 w2 w3 w4 _) = _
    rw [taps_apply, show (⟨8 * (t.val / 8) + t.val % 8, by omega⟩ : Fin 256) = t from Fin.ext (by show 8 * (t.val / 8) + t.val % 8 = t.val; omega)]

end Read

end Cert.ProjK

end
-- ==== Proof.ProjRows.lean ====
module

public import Idealize.ShloMosaic.Lib.ValueLayout
public import Idealize.ShloMosaic.Lib.MatmulPlain
public import Idealize.ShloMosaic.Lib.Pipeline.Value

/-!
The scalars of the projection: one head's normalization, its 128 entries taken pair by pair or all first entries before all
second ones, the rotation of its pairs, and the step sizes.
-/

@[expose] public section

set_option maxRecDepth 16384

noncomputable section

namespace Cert.ProjRows

open Idealize.ShloMosaic

/-- The entry that comes at place `c` when the first entries of all pairs are put before the second ones. -/
def pairs (c : Fin 128) : Fin 128 := if h : c.val < 64 then ⟨2 * c.val, by omega⟩ else ⟨2 * (c.val - 64) + 1, by omega⟩

theorem pairs_bijective : Function.Bijective pairs := by
  refine Function.Injective.bijective_of_finite fun a b h => Fin.ext ?_
  have h' := congrArg Fin.val h
  unfold pairs at h'
  split at h' <;> split at h' <;> simp only at h' <;> omega

/-- The place half a head away. -/
def half (c : Fin 128) : Fin 128 := ⟨(c.val + 64) % 128, by omega⟩

/-- The normalization of one head `x` with the gain `g`. -/
def headNorm (x g : Fin 128 → EReal) (c : Fin 128) : EReal :=
  x c * Ideal.rsqrt (Ideal.div (∑ k, x k * x k) (Ideal.ofBits .f32 0x43000000#32) + Ideal.ofBits .f32 0x358637BD#32) * g c

/-- The normalization does not mind the order of the entries. -/
theorem headNorm_pairs (x g : Fin 128 → EReal) (c : Fin 128) :
    headNorm (fun k => x (pairs k)) (fun k => g (pairs k)) c = headNorm x g (pairs c) := by
  unfold headNorm
  rw [pairs_bijective.sum_comp fun k => x k * x k]

/-- The rotation of a head with the tables `a` and `b`. -/
def turn (x a b : Fin 128 → EReal) (c : Fin 128) : EReal := x c * a c + x (half c) * b c

/-- A step size: the logarithm of one plus the exponential, written so that it stays exact for large values. -/
def softplus (x : EReal) : EReal := max x 0 + Ideal.log1p (Ideal.exp (-(max x (-x))))

end Cert.ProjRows

end
-- ==== Proof.ProjHeads.lean ====
module

public import proofs.«01_k».proof.Proof.ProjRows
public import proofs.«01_k».proof.Proof.Gen.KernelProjIdeal.Skeleton
public import Idealize.ShloMosaic.Lib.KernelVsHost
public import Idealize.ShloMosaic.Lib.MatmulPlain
public import Idealize.ShloMosaic.Lib.ValueLayoutCasts

/-!
What the projection kernel computes of one head's keys and queries, of the step sizes and of the plain products, as functions
of the block of positions and the weights.
-/

@[expose] public section

set_option maxRecDepth 16384

noncomputable section

namespace Cert.ProjK

open Idealize.ShloMosaic Idealize.ShloMosaic.TcCoe Idealize.ShloMosaic.ValueIdx Cert.KernelProjIdeal Cert.KernelProjIdeal.Gen Cert.ProjRows

section Shape

variable {F : FTy → Type} [FloatOps F]

/-- The product of 256 positions with 128 columns. -/
abbrev rows (u : FVec F S256x1024 .bf16) (w : Vec F S1024x128 .bf16) : FVec F S256x128 .f32 :=
  matmul dot_S256x1024_S1024x128_S256x128_1_0_0_1_n_n none u w (constant S256x128 .f32 0x00000000#32)

/-- The product of 128 weight rows with 256 positions, positions along the columns. -/
abbrev cols (u : FVec F S256x1024 .bf16) (w : Vec F S128x1024 .bf16) : FVec F S128x256 .f32 :=
  matmul dot_S128x1024_S256x1024_S128x256_1_1_0_0_n_n none w u (constant S128x256 .f32 0x00000000#32)

abbrev rootK (s : FVec F S256x1 .f32) : FVec F S256x1 .f32 :=
  rsqrt (addf (divf s (broadcast S256x1 (Scalar.ofBits .f32 0x43000000#32))) (broadcast S256x1 (Scalar.ofBits .f32 0x358637BD#32)))

/-- A head's keys normalized. -/
def normK (y : FVec F S256x128 .f32) (g : Vec F S1x128 .f32) : FVec F S256x128 .f32 :=
  mulf (mulf y (broadcastTo S256x128 (rootK (shapeCast S256x1
      (multiReduction .add [1] S256 (mulf y y) 0x00000000#32 reduces_S256x128_S256 (.inl rfl) rfl) shapeCasts_S256_S256x1))
    broadcasts_S256x1_S256x128)) (broadcastTo S256x128 g broadcasts_S1x128_S256x128)

/-- A head's keys. -/
def headK (u : FVec F S256x1024 .bf16) (a b : Vec F S256x128 .f32) (w : Vec F S1024x128 .bf16) (g : Vec F S1x128 .f32) : FVec F S1x256x128 .bf16 :=
  shapeCast S1x256x128 (truncf .bf16 (addf (mulf (normK (rows u w) g) a)
    (mulf (dynamicRotate 1 64#32 none (normK (rows u w) g) rotates_S256x128_d1) b)) bitsLt_bf16_f32) shapeCasts_S256x128_S1x256x128

abbrev rootQ (s : FVec F S1x256 .f32) : FVec F S1x256 .f32 :=
  rsqrt (addf (divf s (broadcast S1x256 (Scalar.ofBits .f32 0x43000000#32))) (broadcast S1x256 (Scalar.ofBits .f32 0x358637BD#32)))

/-- A head's queries normalized, positions along the columns. -/
def normQ (y : FVec F S128x256 .f32) (g : Vec F S128x1 .f32) : FVec F S128x256 .f32 :=
  mulf (mulf y (broadcastTo S128x256 (rootQ (shapeCast S1x256
      (multiReduction .add [0] S256 (mulf y y) 0x00000000#32 reduces_S128x256_S256 (.inl rfl) rfl) shapeCasts_S256_S1x256))
    broadcasts_S1x256_S128x256)) (broadcastTo S128x256 g broadcasts_S128x1_S128x256)

abbrev swapQ (y : FVec F S128x256 .f32) : FVec F S128x256 .f32 :=
  concatenate S128x256 0 [⟨S64x256, extractStridedSlice S64x256 ![64, 0] y slices_S128x256_o64_0_S64x256⟩,
    ⟨S64x256, extractStridedSlice S64x256 ![0, 0] y slices_S128x256_o0_0_S64x256⟩] concatenates_S64x256_S64x256_S128x256_d0

/-- A head's queries. -/
def headQ (u : FVec F S256x1024 .bf16) (a b : Vec F S128x256 .f32) (w : Vec F S128x1024 .bf16) (g : Vec F S128x1 .f32) : FVec F S1x128x256 .bf16 :=
  shapeCast S1x128x256 (truncf .bf16 (mulf (addf (mulf (normQ (cols u w) g) a) (mulf (swapQ (normQ (cols u w) g)) b))
    (broadcast S128x256 (Scalar.ofBits .f32 0x3E0293EE#32))) bitsLt_bf16_f32) shapeCasts_S128x256_S1x128x256

/-- The step sizes of a matrix. -/
abbrev steps {s : Shape} (x : FVec F s .f32) : FVec F s .f32 :=
  addf (maximumf x (broadcast s (Scalar.ofBits .f32 0x00000000#32)))
    (log1p (exp (subf (broadcast s (Scalar.ofBits .f32 0x00000000#32)) (absf x))))

/-- The step sizes, positions along the rows. -/
def stepRows (u : FVec F S256x1024 .bf16) (w : Vec F S1024x128 .bf16) (b : Vec F S1x128 .f32) : FVec F S1x256x128 .f32 :=
  shapeCast S1x256x128 (steps (addf (rows u w) (broadcastTo S256x128 b broadcasts_S1x128_S256x128))) shapeCasts_S256x128_S1x256x128

/-- The step sizes, positions along the columns. -/
def stepCols (u : FVec F S256x1024 .bf16) (w : Vec F S128x1024 .bf16) (b : Vec F S128x1 .f32) : FVec F S1x128x256 .f32 :=
  shapeCast S1x128x256 (steps (addf (cols u w) (broadcastTo S128x256 b broadcasts_S128x1_S128x256))) shapeCasts_S128x256_S1x128x256

/-- The product of 256 positions with 2048 columns. -/
abbrev wide (u : FVec F S256x1024 .bf16) (w : Vec F S1024x2048 .bf16) : FVec F S256x2048 .f32 :=
  matmul dot_S256x1024_S1024x2048_S256x2048_1_0_0_1_n_n none u w (constant S256x2048 .f32 0x00000000#32)

def plainRows (u : FVec F S256x1024 .bf16) (w : Vec F S1024x2048 .bf16) : FVec F S1x256x2048 .f32 :=
  shapeCast S1x256x2048 (wide u w) shapeCasts_S256x2048_S1x256x2048

/-- The gates. -/
def gates (u : FVec F S256x1024 .bf16) (w : Vec F S1024x2048 .bf16) (b : Vec F S1x2048 .f32) : FVec F S1x256x2048 .f32 :=
  shapeCast S1x256x2048 (logistic (addf (wide u w) (broadcastTo S256x2048 b broadcasts_S1x2048_S256x2048))) shapeCasts_S256x2048_S1x256x2048

/-- The values, positions along the columns. -/
def values (u : FVec F S256x1024 .bf16) (w : Vec F S256x1024 .bf16) : FVec F S1x256x256 .bf16 :=
  shapeCast S1x256x256 (truncf .bf16 (matmul dot_S256x1024_S256x1024_S256x256_1_1_0_0_n_n none w u (constant S256x256 .f32 0x00000000#32))
    bitsLt_bf16_f32) shapeCasts_S256x256_S1x256x256

end Shape

/-! ## Read at a position and a column -/

section Read

variable (u : FVec Ideal S256x1024 .bf16)

theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

theorem rows_apply (w : Vec Ideal S1024x128 .bf16) (t : Fin 256) (c : Fin 128) :
    rows u w (ix2 t c) = ∑ k : Fin 1024, u (ix2 t k) * w (ix2 k c) := by
  refine (Ideal.matmul_plain_apply none u w _ t c).trans ?_
  show Ideal.ofBits .f32 0x00000000#32 + _ = _
  rw [Ideal.ofBits_zero_f32, zero_add]

theorem cols_apply (w : Vec Ideal S128x1024 .bf16) (c : Fin 128) (t : Fin 256) :
    cols u w (ix2 c t) = ∑ k : Fin 1024, w (ix2 c k) * u (ix2 t k) := by
  refine (Ideal.matmul_transposedRhs_apply none w u _ c t).trans ?_
  show Ideal.ofBits .f32 0x00000000#32 + _ = _
  rw [Ideal.ofBits_zero_f32, zero_add]

theorem wide_apply (w : Vec Ideal S1024x2048 .bf16) (t : Fin 256) (c : Fin 2048) :
    wide u w (ix2 t c) = ∑ k : Fin 1024, u (ix2 t k) * w (ix2 k c) := by
  refine (Ideal.matmul_plain_apply none u w _ t c).trans ?_
  show Ideal.ofBits .f32 0x00000000#32 + _ = _
  rw [Ideal.ofBits_zero_f32, zero_add]

theorem normK_apply (y : FVec Ideal S256x128 .f32) (g : Vec Ideal S1x128 .f32) (t : Fin 256) (c : Fin 128) :
    normK y g (ix2 t c) = headNorm (fun k => y (ix2 t k)) (fun k => g (ix2 0 k)) c := by
  unfold normK headNorm
  refine congrArg₂ (fun a b : EReal => a * b) (congrArg (fun b : EReal => y (ix2 t c) * b) ?_) (broadcastTo_1b_ab_apply _ _ _ _)
  refine (broadcastTo_a1_ab_apply _ _ t c).trans ?_
  refine congrArg Ideal.rsqrt (congrArg (fun s : EReal => Ideal.div s (Ideal.ofBits .f32 0x43000000#32) + Ideal.ofBits .f32 0x358637BD#32) ?_)
  refine (shapeCast_a_a1_apply _ _ t 0).trans ((Ideal.multiReduction_add_single _ _ _ _ _ _).trans (Finset.sum_congr rfl fun k _ => ?_))
  exact congrArg (fun i => y i * y i) (funext fun a => Fin.ext (by match a with | ⟨0, _⟩ => rfl | ⟨1, _⟩ => rfl))

theorem normQ_apply (y : FVec Ideal S128x256 .f32) (g : Vec Ideal S128x1 .f32) (c : Fin 128) (t : Fin 256) :
    normQ y g (ix2 c t) = headNorm (fun k => y (ix2 k t)) (fun k => g (ix2 k 0)) c := by
  unfold normQ headNorm
  refine congrArg₂ (fun a b : EReal => a * b) (congrArg (fun b : EReal => y (ix2 c t) * b) ?_) (broadcastTo_a1_ab_apply _ _ _ _)
  refine (broadcastTo_1b_ab_apply _ _ c t).trans ?_
  refine congrArg Ideal.rsqrt (congrArg (fun s : EReal => Ideal.div s (Ideal.ofBits .f32 0x43000000#32) + Ideal.ofBits .f32 0x358637BD#32) ?_)
  refine (shapeCast_a_1a_apply _ _ 0 t).trans ((Ideal.multiReduction_add_single _ _ _ _ _ _).trans (Finset.sum_congr rfl fun k _ => ?_))
  exact congrArg (fun i => y i * y i) (funext fun a => Fin.ext (by match a with | ⟨0, _⟩ => rfl | ⟨1, _⟩ => rfl))

theorem headK_apply (a b : Vec Ideal S256x128 .f32) (w : Vec Ideal S1024x128 .bf16) (g : Vec Ideal S1x128 .f32) (t : Fin 256) (c : Fin 128) :
    headK u a b w g (ix3 0 t c) = turn (headNorm (fun k => ∑ i : Fin 1024, u (ix2 t i) * w (ix2 i k)) fun k => g (ix2 0 k))
      (fun k => a (ix2 t k)) (fun k => b (ix2 t k)) c := by
  have hn : ∀ k, normK (rows u w) g (ix2 t k) = headNorm (fun k => ∑ i : Fin 1024, u (ix2 t i) * w (ix2 i k)) (fun k => g (ix2 0 k)) k := fun k => by
    rw [normK_apply]
    exact congrArg (fun x => headNorm x _ k) (funext fun k => rows_apply u w t k)
  rw [headK, shapeCast_ab_1ab_apply]
  show normK (rows u w) g (ix2 t c) * a (ix2 t c)
    + dynamicRotate (s := S256x128) 1 64#32 none (normK (rows u w) g) rotates_S256x128_d1 (ix2 t c) * b (ix2 t c) = _
  rw [dynamicRotate_apply (s := S256x128) 1 64#32 _ _ _ (ix2 t (half c)) fun ax => ?_, hn, hn]
  · rfl
  · match ax with
    | ⟨0, _⟩ => rfl
    | ⟨1, _⟩ =>
      show (c.val + 64) % 128 = (c.val + 128 - 64) % 128
      omega

theorem swapQ_apply (y : FVec Ideal S128x256 .f32) (c : Fin 128) (t : Fin 256) : swapQ y (ix2 c t) = y (ix2 (half c) t) := by
  have hc := c.isLt
  by_cases h : c.val < 64
  · refine (concatenate_apply_piece (t := S128x256) 0 _ _ (ix2 c t) 0 (by exact Nat.zero_lt_two) S64x256 _ rfl rfl 0 rfl (ix2 ⟨c.val, h⟩ t)
      (fun b hb => by match b with | ⟨0, _⟩ => exact absurd rfl hb | ⟨1, _⟩ => rfl) (Nat.zero_add _)).trans ?_
    exact congrArg y (funext fun a => Fin.ext (by
      match a with
      | ⟨0, _⟩ => show 64 + c.val = (c.val + 64) % 128; omega
      | ⟨1, _⟩ => exact Nat.zero_add _))
  · refine (concatenate_apply_piece (t := S128x256) 0 _ _ (ix2 c t) 1 (by exact Nat.one_lt_two) S64x256 _ rfl rfl 64 rfl (ix2 ⟨c.val - 64, by omega⟩ t)
      (fun b hb => by match b with | ⟨0, _⟩ => exact absurd rfl hb | ⟨1, _⟩ => rfl) (by show 64 + (c.val - 64) = c.val; omega)).trans ?_
    exact congrArg y (funext fun a => Fin.ext (by
      match a with
      | ⟨0, _⟩ => show 0 + (c.val - 64) = (c.val + 64) % 128; omega
      | ⟨1, _⟩ => exact Nat.zero_add _))

theorem headQ_apply (a b : Vec Ideal S128x256 .f32) (w : Vec Ideal S128x1024 .bf16) (g : Vec Ideal S128x1 .f32) (c : Fin 128) (t : Fin 256) :
    headQ u a b w g (ix3 0 c t) = turn (headNorm (fun k => ∑ i : Fin 1024, w (ix2 k i) * u (ix2 t i)) fun k => g (ix2 k 0))
      (fun k => a (ix2 k t)) (fun k => b (ix2 k t)) c * Ideal.ofBits .f32 0x3E0293EE#32 := by
  have hn : ∀ k, normQ (cols u w) g (ix2 k t) = headNorm (fun k => ∑ i : Fin 1024, w (ix2 k i) * u (ix2 t i)) (fun k => g (ix2 k 0)) k := fun k => by
    rw [normQ_apply]
    exact congrArg (fun x => headNorm x _ k) (funext fun k => cols_apply u w k t)
  rw [headQ, shapeCast_ab_1ab_apply]
  show (normQ (cols u w) g (ix2 c t) * a (ix2 c t) + swapQ (normQ (cols u w) g) (ix2 c t) * b (ix2 c t)) * Ideal.ofBits .f32 0x3E0293EE#32 = _
  rw [swapQ_apply, hn, hn]
  rfl

theorem steps_apply {s : Shape} (x : FVec Ideal s .f32) (i : s.Idx) : steps x i = softplus (x i) := by
  show max (x i) (Ideal.ofBits .f32 0x00000000#32)
    + Ideal.log1p (Ideal.exp (Ideal.ofBits .f32 0x00000000#32 - max (x i) (-(x i)))) = _
  rw [Ideal.ofBits_zero_f32, zero_sub]
  rfl

theorem stepRows_apply (w : Vec Ideal S1024x128 .bf16) (b : Vec Ideal S1x128 .f32) (t : Fin 256) (c : Fin 128) :
    stepRows u w b (ix3 0 t c) = softplus (∑ k : Fin 1024, u (ix2 t k) * w (ix2 k c) + b (ix2 0 c)) := by
  rw [stepRows, shapeCast_ab_1ab_apply, steps_apply]
  refine congrArg softplus ?_
  show rows u w (ix2 t c) + broadcastTo S256x128 b broadcasts_S1x128_S256x128 (ix2 t c) = _
  rw [rows_apply, broadcastTo_1b_ab_apply]

theorem stepCols_apply (w : Vec Ideal S128x1024 .bf16) (b : Vec Ideal S128x1 .f32) (c : Fin 128) (t : Fin 256) :
    stepCols u w b (ix3 0 c t) = softplus (∑ k : Fin 1024, w (ix2 c k) * u (ix2 t k) + b (ix2 c 0)) := by
  rw [stepCols, shapeCast_ab_1ab_apply, steps_apply]
  refine congrArg softplus ?_
  show cols u w (ix2 c t) + broadcastTo S128x256 b broadcasts_S128x1_S128x256 (ix2 c t) = _
  rw [cols_apply, broadcastTo_a1_ab_apply]

theorem plainRows_apply (w : Vec Ideal S1024x2048 .bf16) (t : Fin 256) (c : Fin 2048) :
    plainRows u w (ix3 0 t c) = ∑ k : Fin 1024, u (ix2 t k) * w (ix2 k c) := by
  rw [plainRows, shapeCast_ab_1ab_apply, wide_apply]

theorem gates_apply (w : Vec Ideal S1024x2048 .bf16) (b : Vec Ideal S1x2048 .f32) (t : Fin 256) (c : Fin 2048) :
    gates u w b (ix3 0 t c) = Ideal.logistic (∑ k : Fin 1024, u (ix2 t k) * w (ix2 k c) + b (ix2 0 c)) := by
  rw [gates, shapeCast_ab_1ab_apply]
  show Ideal.logistic (wide u w (ix2 t c) + broadcastTo S256x2048 b broadcasts_S1x2048_S256x2048 (ix2 t c)) = _
  rw [wide_apply, broadcastTo_1b_ab_apply]

theorem values_apply (w : Vec Ideal S256x1024 .bf16) (c t : Fin 256) :
    values u w (ix3 0 c t) = ∑ k : Fin 1024, w (ix2 c k) * u (ix2 t k) := by
  rw [values, shapeCast_ab_1ab_apply]
  show FloatOps.matmul (F := Ideal) (φ₁ := .bf16) (φ₂ := .bf16) (DotDims.transposedRhs 256 1024 256) none w u (constant S256x256 .f32 0x00000000#32) (ix2 c t) = _
  rw [Ideal.matmul_transposedRhs_apply]
  show Ideal.ofBits .f32 0x00000000#32 + _ = _
  rw [Ideal.ofBits_zero_f32, zero_add]

end Read

end Cert.ProjK

end
-- ==== Proof.ProjBlock.lean ====
module

public import proofs.«01_k».proof.Proof.ProjFrame
public import proofs.«01_k».proof.Proof.ProjConv
public import proofs.«01_k».proof.Proof.ProjHeads
public import Idealize.ShloMosaic.Lib.Pipeline.ValueKit.Geometry

/-!
What one run of the projection kernel's body leaves in each of its eight output blocks, from the blocks of its inputs.
-/

@[expose] public section

set_option maxRecDepth 16384

noncomputable section

namespace Cert.ProjK

open Idealize.ShloMosaic Idealize.ShloMosaic.TcCoe Idealize.ShloMosaic.ValueIdx Idealize.ShloMosaic.Tactic
open Cert.KernelProjIdeal Cert.KernelProjIdeal.Gen Cert.ProjRows

section Pieces

variable {F : FTy → Type} [FloatOps F]

/-- A rectangle of a buffer that holds `x`. -/
abbrev got {s : Shape} {e : EltTy} {a : Memref sig .tc .vmem s e} (h : a.IsWhole) (x : Vec F s e) (r : Rect s) : r.shape.Idx → Elt F e :=
  View.readAt (Elt F) a.view r.toLoadRect (h.unread x)

theorem inside2 {A B a b o p : ℕ} (h : o + a ≤ A) (h' : p + b ≤ B) :
    ∀ k, (![o, p] : Fin 2 → ℕ) k + (⟨2, ![a, b]⟩ : Shape).size k ≤ (⟨2, ![A, B]⟩ : Shape).size k :=
  fun k => match k with
  | 0 => h
  | 1 => h'

theorem inside3 {A B C a b c o p q : ℕ} (h : o + a ≤ A) (h' : p + b ≤ B) (h'' : q + c ≤ C) :
    ∀ k, (![o, p, q] : Fin 3 → ℕ) k + (⟨3, ![a, b, c]⟩ : Shape).size k ≤ (⟨3, ![A, B, C]⟩ : Shape).size k :=
  fun k => match k with
  | 0 => h
  | 1 => h'
  | 2 => h''

/-- The product of the block's rows, with the sixteen before and the sixteen after, and 512 columns of weights. -/
abbrev product (e : FVec F S288x1024 .bf16) (w : Vec F S1024x512 .bf16) : FVec F S288x512 .f32 :=
  matmul dot_S288x1024_S1024x512_S288x512_1_0_0_1_n_n none e (shapeCast S1024x512 w shapeCasts_S1024x512_S1024x512)
    (constant S288x512 .f32 0x00000000#32)

/-- The three stores of a product: the sixteen rows before the block, unless the block is the first; the block's; the
sixteen after, unless the block is the last. -/
def stores (i : grid0.Coords) (y : (n : ℕ) → n < 6 → FVec F S288x512 .f32) : (p : ℕ) → p ≤ 6 → List (View.Piece (Elt F) S288x3072 .f32)
  | 0, _ => []
  | n + 1, h =>
    ⟨Rect.unit (s := S288x3072) ![272, 512 * n] S16x512.size (inside2 (by norm_num) (by omega)),
      shapeCast S16x512 (Scalar.select (Scalar.cmpi .slt (BitVec.ofNat 32 (i 1).val) 63#32)
        (extractStridedSlice S16x512 ![272, 0] (y n h) slices_S288x512_o272_0_S16x512)
        (broadcast S16x512 (Scalar.ofBits .f32 0x00000000#32))) shapeCasts_S16x512_S16x512⟩
    :: ⟨Rect.unit (s := S288x3072) ![16, 512 * n] S256x512.size (inside2 (by norm_num) (by omega)),
      shapeCast S256x512 (extractStridedSlice S256x512 ![16, 0] (y n h) slices_S288x512_o16_0_S256x512) shapeCasts_S256x512_S256x512⟩
    :: ⟨Rect.unit (s := S288x3072) ![0, 512 * n] S16x512.size (inside2 (by norm_num) (by omega)),
      shapeCast S16x512 (Scalar.select (Scalar.cmpi .sgt (BitVec.ofNat 32 (i 1).val) 0#32)
        (extractStridedSlice S16x512 ![0, 0] (y n h) slices_S288x512_o0_0_S16x512)
        (broadcast S16x512 (Scalar.ofBits .f32 0x00000000#32))) shapeCasts_S16x512_S16x512⟩
    :: stores i y n (by omega)

/-- Chunks of 512 columns stored side by side. -/
def chunks (P : (n : ℕ) → n < 6 → Vec F S1x256x512 .f32) : (p : ℕ) → p ≤ 6 → List (View.Piece (Elt F) S1x256x3072 .f32)
  | 0, _ => []
  | n + 1, h => ⟨Rect.unit (s := S1x256x3072) ![0, 0, 512 * n] S1x256x512.size (inside3 (by norm_num) (by norm_num) (by omega)), P n h⟩
    :: chunks P n (by omega)

/-- Heads of 128 rows stored one below the other. -/
def heads (P : (n : ℕ) → n < 8 → Vec F S1x128x256 .bf16) : (p : ℕ) → p ≤ 8 → List (View.Piece (Elt F) S1x1024x256 .bf16)
  | 0, _ => []
  | n + 1, h => ⟨Rect.unit (s := S1x1024x256) ![0, 128 * n, 0] S1x128x256.size (inside3 (by norm_num) (by omega) (by norm_num)), P n h⟩
    :: heads P n (by omega)

/-- How many chunks are stored when chunk `n` is read back. -/
def stored (n : ℕ) : ℕ := min (n + 2) 6

variable (c : Dev nD)
  (i : grid0.Coords) (arg2 : Memref sig .tc .vmem S1x256x1024 .bf16) (harg2 : arg2.IsWhole)
  (arg3 : Memref sig .tc .vmem S1x16x1024 .bf16) (harg3 : arg3.IsWhole) (arg4 : Memref sig .tc .vmem S1x16x1024 .bf16)
  (harg4 : arg4.IsWhole) (arg5 : Memref sig .tc .vmem S1024x7552 .bf16) (harg5 : arg5.IsWhole)
  (arg6 : Memref sig .tc .vmem S1408x1024 .bf16) (harg6 : arg6.IsWhole) (arg7 : Memref sig .tc .vmem S256x128 .f32)
  (harg7 : arg7.IsWhole) (arg8 : Memref sig .tc .vmem S256x128 .f32) (harg8 : arg8.IsWhole)
  (arg9 : Memref sig .tc .vmem S128x256 .f32) (harg9 : arg9.IsWhole) (arg10 : Memref sig .tc .vmem S128x256 .f32)
  (harg10 : arg10.IsWhole) (arg11 : Memref sig .tc .vmem S128x1 .f32) (harg11 : arg11.IsWhole)
  (arg12 : Memref sig .tc .vmem S1x128 .f32) (harg12 : arg12.IsWhole) (arg13 : Memref sig .tc .vmem S1x2048 .f32)
  (harg13 : arg13.IsWhole) (arg14 : Memref sig .tc .vmem S1x128 .f32) (harg14 : arg14.IsWhole)
  (arg15 : Memref sig .tc .vmem S128x1 .f32) (harg15 : arg15.IsWhole) (arg16 : Memref sig .tc .vmem S8x3072 .f32)
  (harg16 : arg16.IsWhole) (arg17 : Memref sig .tc .vmem S1x3072 .f32) (harg17 : arg17.IsWhole)
  (arg18 : Memref sig .tc .vmem S1x256x2048 .f32) (harg18 : arg18.IsWhole)
  (arg19 : Memref sig .tc .vmem S1x256x3072 .f32) (harg19 : arg19.IsWhole)
  (arg20 : Memref sig .tc .vmem S1x1024x256 .bf16) (harg20 : arg20.IsWhole)
  (arg21 : Memref sig .tc .vmem S1x256x256 .bf16) (harg21 : arg21.IsWhole)
  (arg22 : Memref sig .tc .vmem S1x256x256 .bf16) (harg22 : arg22.IsWhole)
  (arg23 : Memref sig .tc .vmem S1x256x2048 .f32) (harg23 : arg23.IsWhole)
  (arg24 : Memref sig .tc .vmem S1x256x128 .f32) (harg24 : arg24.IsWhole)
  (arg25 : Memref sig .tc .vmem S1x128x256 .f32) (harg25 : arg25.IsWhole)
  (arg26 : Memref sig .tc .vmem S288x3072 .f32) (harg26 : arg26.IsWhole)
  (x0 : Vec F S1x256x1024 .bf16) (x1 : Vec F S1x16x1024 .bf16) (x2 : Vec F S1x16x1024 .bf16)
  (x3 : Vec F S1024x7552 .bf16) (x4 : Vec F S1408x1024 .bf16) (x5 : Vec F S256x128 .f32) (x6 : Vec F S256x128 .f32)
  (x7 : Vec F S128x256 .f32) (x8 : Vec F S128x256 .f32) (x9 : Vec F S128x1 .f32) (x10 : Vec F S1x128 .f32)
  (x11 : Vec F S1x2048 .f32) (x12 : Vec F S1x128 .f32) (x13 : Vec F S128x1 .f32) (x14 : Vec F S8x3072 .f32)
  (x15 : Vec F S1x3072 .f32)

/-- The block's positions. -/
abbrev blockU : FVec F S256x1024 .bf16 :=
  k0_pay2 (got harg2 x0 (Rect.unit (s := S1x256x1024) ![0, 0, 0] S1x256x1024.size inb_S1x256x1024_S1x256x1024_0_0_0))

/-- The block's positions with the sixteen before and the sixteen after. -/
abbrev blockE : FVec F S288x1024 .bf16 :=
  k0_pay3 (got harg2 x0 (Rect.unit (s := S1x256x1024) ![0, 0, 0] S1x256x1024.size inb_S1x256x1024_S1x256x1024_0_0_0))
    (got harg3 x1 (Rect.unit (s := S1x16x1024) ![0, 0, 0] S1x16x1024.size inb_S1x16x1024_S1x16x1024_0_0_0))
    (got harg4 x2 (Rect.unit (s := S1x16x1024) ![0, 0, 0] S1x16x1024.size inb_S1x16x1024_S1x16x1024_0_0_0))

/-- Chunk `n` of the product with the convolution's columns. -/
abbrev chunkY (n : ℕ) (h : n < 6) : FVec F S288x512 .f32 :=
  product (blockE arg2 harg2 arg3 harg3 arg4 harg4 x0 x1 x2) (got harg5 x3 (Rect.unit (s := S1024x7552) ![0, 2048 + 512 * n] S1024x512.size
    (inside2 (by norm_num) (by omega))))

/-- Row `k` of the taps, at chunk `n`. -/
abbrev tap (k : ℕ) (hk : k < 8) (n : ℕ) (h : n < 6) : Vec F S1x512 .f32 :=
  got harg16 x14 (Rect.unit (s := S8x3072) ![k, 512 * n] S1x512.size (inside2 (by omega) (by omega)))

/-- Chunk `n` as it is read back. -/
abbrev chunkR (n : ℕ) (h : n < 6) : Vec F S288x512 .f32 :=
  arg26.view.readCov (stores i (chunkY arg2 harg2 arg3 harg3 arg4 harg4 arg5 harg5 x0 x1 x2 x3) (stored n) (Nat.min_le_right _ _))
    (Rect.unit (s := S288x3072) ![0, 512 * n] S288x512.size (inside2 (by norm_num) (by omega))).toLoadRect

/-- Chunk `n` of the convolution. -/
abbrev chunkC (n : ℕ) (h : n < 6) : Vec F S1x256x512 .f32 :=
  conv (chunkR i arg2 harg2 arg3 harg3 arg4 harg4 arg5 harg5 arg26 x0 x1 x2 x3 n h)
    (got harg17 x15 (Rect.unit (s := S1x3072) ![0, 512 * n] S1x512.size (inside2 (by norm_num) (by omega))))
    (tap arg16 harg16 x14 0 (by norm_num) n h) (tap arg16 harg16 x14 1 (by norm_num) n h) (tap arg16 harg16 x14 2 (by norm_num) n h)
    (tap arg16 harg16 x14 3 (by norm_num) n h) (tap arg16 harg16 x14 4 (by norm_num) n h)

/-- The convolution is its six chunks. -/
theorem run17 : out0_A_17
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_17.read (Elt F) (VO0_17.writes (Elt F) VO0_17.junk (chunks (chunkC i arg2 harg2 arg3 harg3 arg4 harg4 arg5 harg5 arg16 harg16 arg17 harg17 arg26 x0 x1 x2 x3 x14 x15) 6 le_rfl)) := by
  sl_kernel_rfl

/-- The plain columns. -/
theorem run16 : out0_A_16
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_16.read (Elt F) (VO0_16.writes (Elt F) VO0_16.junk [⟨Rect.unit (s := S1x256x2048) ![0, 0, 0] S1x256x2048.size inb_S1x256x2048_S1x256x2048_0_0_0,
      plainRows (blockU arg2 harg2 x0) (shapeCast S1024x2048 (got harg5 x3 (Rect.unit (s := S1024x7552) ![0, 0] S1024x2048.size inb_S1024x7552_S1024x2048_0_0)) shapeCasts_S1024x2048_S1024x2048)⟩]) := by
  sl_kernel_rfl

/-- The gates. -/
theorem run21 : out0_A_21
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_21.read (Elt F) (VO0_21.writes (Elt F) VO0_21.junk [⟨Rect.unit (s := S1x256x2048) ![0, 0, 0] S1x256x2048.size inb_S1x256x2048_S1x256x2048_0_0_0,
      gates (blockU arg2 harg2 x0) (shapeCast S1024x2048 (got harg5 x3 (Rect.unit (s := S1024x7552) ![0, 5376] S1024x2048.size inb_S1024x7552_S1024x2048_0_5376)) shapeCasts_S1024x2048_S1024x2048)
        (shapeCast S1x2048 (got harg13 x11 (Rect.unit (s := S1x2048) ![0, 0] S1x2048.size inb_S1x2048_S1x2048_0_0)) shapeCasts_S1x2048_S1x2048)⟩]) := by
  sl_kernel_rfl

/-- The values. -/
theorem run20 : out0_A_20
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_20.read (Elt F) (VO0_20.writes (Elt F) VO0_20.junk [⟨Rect.unit (s := S1x256x256) ![0, 0, 0] S1x256x256.size inb_S1x256x256_S1x256x256_0_0_0,
      values (blockU arg2 harg2 x0) (shapeCast S256x1024 (got harg6 x4 (Rect.unit (s := S1408x1024) ![1024, 0] S256x1024.size inb_S1408x1024_S256x1024_1024_0)) shapeCasts_S256x1024_S256x1024)⟩]) := by
  sl_kernel_rfl

/-- The step sizes, positions along the rows. -/
theorem run22 : out0_A_22
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_22.read (Elt F) (VO0_22.writes (Elt F) VO0_22.junk [⟨Rect.unit (s := S1x256x128) ![0, 0, 0] S1x256x128.size inb_S1x256x128_S1x256x128_0_0_0,
      stepRows (blockU arg2 harg2 x0) (shapeCast S1024x128 (got harg5 x3 (Rect.unit (s := S1024x7552) ![0, 7424] S1024x128.size inb_S1024x7552_S1024x128_0_7424)) shapeCasts_S1024x128_S1024x128)
        (shapeCast S1x128 (got harg14 x12 (Rect.unit (s := S1x128) ![0, 0] S1x128.size inb_S1x128_S1x128_0_0)) shapeCasts_S1x128_S1x128)⟩]) := by
  sl_kernel_rfl

/-- The step sizes, positions along the columns. -/
theorem run23 : out0_A_23
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_23.read (Elt F) (VO0_23.writes (Elt F) VO0_23.junk [⟨Rect.unit (s := S1x128x256) ![0, 0, 0] S1x128x256.size inb_S1x128x256_S1x128x256_0_0_0,
      stepCols (blockU arg2 harg2 x0) (shapeCast S128x1024 (got harg6 x4 (Rect.unit (s := S1408x1024) ![1280, 0] S128x1024.size inb_S1408x1024_S128x1024_1280_0)) shapeCasts_S128x1024_S128x1024)
        (shapeCast S128x1 (got harg15 x13 (Rect.unit (s := S128x1) ![0, 0] S128x1.size inb_S128x1_S128x1_0_0)) shapeCasts_S128x1_S128x1)⟩]) := by
  sl_kernel_rfl

/-- The keys of the two heads. -/
theorem run19 : out0_A_19
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_19.read (Elt F) (VO0_19.writes (Elt F) VO0_19.junk [⟨Rect.unit (s := S1x256x256) ![0, 0, 128] S1x256x128.size inb_S1x256x256_S1x256x128_0_0_128,
      headK (blockU arg2 harg2 x0) (shapeCast S256x128 (got harg7 x5 (Rect.unit (s := S256x128) ![0, 0] S256x128.size inb_S256x128_S256x128_0_0)) shapeCasts_S256x128_S256x128)
        (shapeCast S256x128 (got harg8 x6 (Rect.unit (s := S256x128) ![0, 0] S256x128.size inb_S256x128_S256x128_0_0)) shapeCasts_S256x128_S256x128)
        (shapeCast S1024x128 (got harg5 x3 (Rect.unit (s := S1024x7552) ![0, 5248] S1024x128.size inb_S1024x7552_S1024x128_0_5248)) shapeCasts_S1024x128_S1024x128)
        (shapeCast S1x128 (got harg12 x10 (Rect.unit (s := S1x128) ![0, 0] S1x128.size inb_S1x128_S1x128_0_0)) shapeCasts_S1x128_S1x128)⟩,
      ⟨Rect.unit (s := S1x256x256) ![0, 0, 0] S1x256x128.size inb_S1x256x256_S1x256x128_0_0_0,
      headK (blockU arg2 harg2 x0) (shapeCast S256x128 (got harg7 x5 (Rect.unit (s := S256x128) ![0, 0] S256x128.size inb_S256x128_S256x128_0_0)) shapeCasts_S256x128_S256x128)
        (shapeCast S256x128 (got harg8 x6 (Rect.unit (s := S256x128) ![0, 0] S256x128.size inb_S256x128_S256x128_0_0)) shapeCasts_S256x128_S256x128)
        (shapeCast S1024x128 (got harg5 x3 (Rect.unit (s := S1024x7552) ![0, 5120] S1024x128.size inb_S1024x7552_S1024x128_0_5120)) shapeCasts_S1024x128_S1024x128)
        (shapeCast S1x128 (got harg12 x10 (Rect.unit (s := S1x128) ![0, 0] S1x128.size inb_S1x128_S1x128_0_0)) shapeCasts_S1x128_S1x128)⟩]) := by
  sl_kernel_rfl

/-- The queries of the eight heads. -/
theorem run18 : out0_A_18
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    = VO0_18.read (Elt F) (VO0_18.writes (Elt F) VO0_18.junk (heads (fun n h => headQ (blockU arg2 harg2 x0)
        (shapeCast S128x256 (got harg9 x7 (Rect.unit (s := S128x256) ![0, 0] S128x256.size inb_S128x256_S128x256_0_0)) shapeCasts_S128x256_S128x256)
        (shapeCast S128x256 (got harg10 x8 (Rect.unit (s := S128x256) ![0, 0] S128x256.size inb_S128x256_S128x256_0_0)) shapeCasts_S128x256_S128x256)
        (shapeCast S128x1024 (got harg6 x4 (Rect.unit (s := S1408x1024) ![128 * n, 0] S128x1024.size (inside2 (by omega) (by norm_num)))) shapeCasts_S128x1024_S128x1024)
        (shapeCast S128x1 (got harg11 x9 (Rect.unit (s := S128x1) ![0, 0] S128x1.size inb_S128x1_S128x1_0_0)) shapeCasts_S128x1_S128x1)) 8 le_rfl)) := by
  sl_kernel_rfl

end Pieces

end Cert.ProjK

end
-- ==== Proof.ProjReading.lean ====
module

public import proofs.«01_k».proof.Proof.ProjBlock
public import Idealize.ShloMosaic.Lib.WritesUnit
public import Idealize.ShloMosaic.Lib.Pipeline.ValueKit.Tiles

/-!
What the loads and stores of the projection kernel's body hold, entry by entry.
-/

@[expose] public section

set_option maxRecDepth 16384

noncomputable section

namespace Cert.ProjK

open Idealize.ShloMosaic Idealize.ShloMosaic.TcCoe Idealize.ShloMosaic.ValueIdx Idealize.ShloMosaic.Tactic
open Cert.KernelProjIdeal Cert.KernelProjIdeal.Gen Cert.ProjRows

/-- A load reads the buffer's contents at its place. -/
theorem got_apply {s : Shape} {e : EltTy} {a : Memref sig .tc .vmem s e} (h : a.IsWhole) (x : Vec Ideal s e)
    {off size : Fin s.rank → ℕ} (inb : ∀ k, off k + size k ≤ s.size k) (y : (Rect.unit off size inb).shape.Idx) (i : s.Idx)
    (hi : ∀ k, (i k).val = off k + (y k).val) : got h x (Rect.unit off size inb) y = x i := by
  show View.readAt (Elt Ideal) a.view (Rect.unit off size inb).toLoadRect (h.unread x) y = x i
  rw [View.readAt_apply, h.read_unread]
  exact congrArg x (funext fun k => Fin.ext ((Rect.idx_unit_val off size inb y k).trans (hi k).symm))

/-- What the body keeps of a row beyond the block's ends: nothing where the sequence itself ends. -/
def cut (n r : ℕ) (z : EReal) : EReal :=
  if r < 16 then (if n = 0 then 0 else z) else if r < 272 then z else (if n = 63 then 0 else z)

theorem first_point : ∀ n : Fin 64, Scalar.cmpi .sgt (BitVec.ofNat 32 n.val) 0#32 = if n.val = 0 then 0#1 else 1#1 := by decide

theorem last_point : ∀ n : Fin 64, Scalar.cmpi .slt (BitVec.ofNat 32 n.val) 63#32 = if n.val = 63 then 0#1 else 1#1 := by decide

theorem stores_read {κ : Kind} {sp : Space} (v : View sig κ sp S288x3072 .f32) (f : v.ty.Contents (Elt Ideal)) (i : grid0.Coords)
    (y : (n : ℕ) → n < 6 → FVec Ideal S288x512 .f32) (n : ℕ) (hn : n < 6) (r : Fin 288) (j : Fin 512) :
    ∀ (p : ℕ) (hp : p ≤ 6) (_ : n < p), v.read (Elt Ideal) (v.writes (Elt Ideal) f (stores i y p hp))
      (ix2 r (⟨512 * n + j.val, by omega⟩ : Fin 3072)) = cut (i 1).val r.val (y n hn (ix2 r j))
  | 0, _, h => absurd h (Nat.not_lt_zero _)
  | p + 1, hp, h => by
    have hr := r.isLt
    have hj := j.isLt
    by_cases hnp : n = p
    · subst hnp
      unfold stores cut
      by_cases h1 : r.val < 16
      · rw [if_pos h1]
        refine (View.read_writes_cons_unit_of_not_mem v f _ _ _ _ rfl 0 (Or.inl (show r.val < 272 by omega))).trans ?_
        refine (View.read_writes_cons_unit_of_not_mem v f _ _ _ _ rfl 0 (Or.inl (show r.val < 16 by omega))).trans ?_
        refine (View.read_writes_cons_unit_of_mem v f _ _ _ _ (ix2 (⟨r.val, h1⟩ : Fin 16) j) rfl fun a => ?_).trans ?_
        · match a with
          | 0 => exact (Nat.zero_add _).symm
          | 1 => rfl
        rw [shapeCast_self, first_point (i 1)]
        split
        · exact Ideal.ofBits_zero_f32
        · refine congrArg (y n hn) (funext fun a => Fin.ext ?_)
          match a with
          | 0 => exact Nat.zero_add _
          | 1 => exact Nat.zero_add _
      rw [if_neg h1]
      by_cases h2 : r.val < 272
      · rw [if_pos h2]
        refine (View.read_writes_cons_unit_of_not_mem v f _ _ _ _ rfl 0 (Or.inl (show r.val < 272 by omega))).trans ?_
        refine (View.read_writes_cons_unit_of_mem v f _ _ _ _ (ix2 (⟨r.val - 16, by omega⟩ : Fin 256) j) rfl fun a => ?_).trans ?_
        · match a with
          | 0 => show r.val = 16 + (r.val - 16); omega
          | 1 => rfl
        rw [shapeCast_self]
        refine congrArg (y n hn) (funext fun a => Fin.ext ?_)
        match a with
        | 0 => show 16 + (r.val - 16) = r.val; omega
        | 1 => exact Nat.zero_add _
      · rw [if_neg h2]
        refine (View.read_writes_cons_unit_of_mem v f _ _ _ _ (ix2 (⟨r.val - 272, by omega⟩ : Fin 16) j) rfl fun a => ?_).trans ?_
        · match a with
          | 0 => show r.val = 272 + (r.val - 272); omega
          | 1 => rfl
        rw [shapeCast_self, last_point (i 1)]
        split
        · exact Ideal.ofBits_zero_f32
        · refine congrArg (y n hn) (funext fun a => Fin.ext ?_)
          match a with
          | 0 => show 272 + (r.val - 272) = r.val; omega
          | 1 => exact Nat.zero_add _
    · unfold stores
      have below : 512 * n + j.val < 512 * p := by omega
      refine (View.read_writes_cons_unit_of_not_mem v f _ _ _ _ rfl 1 (Or.inl below)).trans ?_
      refine (View.read_writes_cons_unit_of_not_mem v f _ _ _ _ rfl 1 (Or.inl below)).trans ?_
      refine (View.read_writes_cons_unit_of_not_mem v f _ _ _ _ rfl 1 (Or.inl below)).trans ?_
      exact stores_read v f i y n hn r j p (by omega) (by omega)

theorem chunks_read {κ : Kind} {sp : Space} (v : View sig κ sp S1x256x3072 .f32) (f : v.ty.Contents (Elt Ideal))
    (P : (n : ℕ) → n < 6 → Vec Ideal S1x256x512 .f32) (n : ℕ) (hn : n < 6) (t : Fin 256) (j : Fin 512) :
    ∀ (p : ℕ) (hp : p ≤ 6) (_ : n < p), v.read (Elt Ideal) (v.writes (Elt Ideal) f (chunks P p hp))
      (ix3 (0 : Fin 1) t (⟨512 * n + j.val, by omega⟩ : Fin 3072)) = P n hn (ix3 (0 : Fin 1) t j)
  | 0, _, h => absurd h (Nat.not_lt_zero _)
  | p + 1, hp, h => by
    have hj := j.isLt
    unfold chunks
    by_cases hnp : n = p
    · subst hnp
      refine View.read_writes_cons_unit_of_mem v f _ _ _ _ (ix3 (0 : Fin 1) t j) rfl fun a => ?_
      match a with
      | 0 => rfl
      | 1 => exact (Nat.zero_add _).symm
      | 2 => rfl
    · refine (View.read_writes_cons_unit_of_not_mem v f _ _ _ _ rfl 2 (Or.inl (show 512 * n + j.val < 512 * p by omega))).trans ?_
      exact chunks_read v f P n hn t j p (by omega) (by omega)

theorem heads_read {κ : Kind} {sp : Space} (v : View sig κ sp S1x1024x256 .bf16) (f : v.ty.Contents (Elt Ideal))
    (P : (n : ℕ) → n < 8 → Vec Ideal S1x128x256 .bf16) (n : ℕ) (hn : n < 8) (j : Fin 128) (t : Fin 256) :
    ∀ (p : ℕ) (hp : p ≤ 8) (_ : n < p), v.read (Elt Ideal) (v.writes (Elt Ideal) f (heads P p hp))
      (ix3 (0 : Fin 1) (⟨128 * n + j.val, by omega⟩ : Fin 1024) t) = P n hn (ix3 (0 : Fin 1) j t)
  | 0, _, h => absurd h (Nat.not_lt_zero _)
  | p + 1, hp, h => by
    have hj := j.isLt
    unfold heads
    by_cases hnp : n = p
    · subst hnp
      refine View.read_writes_cons_unit_of_mem v f _ _ _ _ (ix3 (0 : Fin 1) j t) rfl fun a => ?_
      match a with
      | 0 => rfl
      | 1 => rfl
      | 2 => exact (Nat.zero_add _).symm
    · refine (View.read_writes_cons_unit_of_not_mem v f _ _ _ _ rfl 1 (Or.inl (show 128 * n + j.val < 128 * p by omega))).trans ?_
      exact heads_read v f P n hn j t p (by omega) (by omega)

/-- The rows of the block with the sixteen before and the sixteen after. -/
theorem pay3_apply (u : Vec Ideal S1x256x1024 .bf16) (a b : Vec Ideal S1x16x1024 .bf16) (r : Fin 288) (k : Fin 1024) :
    k0_pay3 (F := Ideal) u a b (ix2 r k) = if h : r.val < 16 then a (ix3 0 ⟨r.val, h⟩ k)
      else if h' : r.val < 272 then u (ix3 0 ⟨r.val - 16, by omega⟩ k) else b (ix3 0 ⟨r.val - 272, by omega⟩ k) := by
  have hr := r.isLt
  unfold k0_pay3
  by_cases h1 : r.val < 16
  · rw [dif_pos h1]
    refine (concatenate_apply_piece (t := S288x1024) 0 _ _ (ix2 r k) 0 (by exact Nat.zero_lt_succ _) S16x1024 _ rfl rfl 0 rfl (ix2 ⟨r.val, h1⟩ k)
      (fun b hb => by match b with | ⟨0, _⟩ => exact absurd rfl hb | ⟨1, _⟩ => rfl) (Nat.zero_add _)).trans ?_
    exact shapeCast_1ab_ab_apply _ _ _ _
  rw [dif_neg h1]
  by_cases h2 : r.val < 272
  · rw [dif_pos h2]
    refine (concatenate_apply_piece (t := S288x1024) 0 _ _ (ix2 r k) 1 (by exact Nat.succ_lt_succ (Nat.zero_lt_succ _)) S256x1024 _ rfl rfl 16 rfl
      (ix2 ⟨r.val - 16, by omega⟩ k) (fun b hb => by match b with | ⟨0, _⟩ => exact absurd rfl hb | ⟨1, _⟩ => rfl)
      (show 16 + (r.val - 16) = r.val by omega)).trans ?_
    exact shapeCast_1ab_ab_apply _ _ _ _
  · rw [dif_neg h2]
    refine (concatenate_apply_piece (t := S288x1024) 0 _ _ (ix2 r k) 2 (by exact Nat.lt_succ_self 2) S16x1024 _ rfl rfl 272 rfl
      (ix2 ⟨r.val - 272, by omega⟩ k) (fun b hb => by match b with | ⟨0, _⟩ => exact absurd rfl hb | ⟨1, _⟩ => rfl)
      (show 272 + (r.val - 272) = r.val by omega)).trans ?_
    exact shapeCast_1ab_ab_apply _ _ _ _

theorem product_apply (e : FVec Ideal S288x1024 .bf16) (w : Vec Ideal S1024x512 .bf16) (r : Fin 288) (j : Fin 512) :
    product e w (ix2 r j) = ∑ k : Fin 1024, e (ix2 r k) * w (ix2 k j) := by
  show matmul dot_S288x1024_S1024x512_S288x512_1_0_0_1_n_n none e (shapeCast S1024x512 w shapeCasts_S1024x512_S1024x512) (constant S288x512 .f32 0x00000000#32) (ix2 r j) = _
  rw [shapeCast_self]
  show FloatOps.matmul (F := Ideal) (φ₁ := .bf16) (φ₂ := .bf16) (DotDims.plain 288 1024 512) none e w (constant S288x512 .f32 0x00000000#32) (ix2 r j) = _
  rw [Ideal.matmul_plain_apply]
  exact (congrArg (· + _) Ideal.ofBits_zero_f32).trans (zero_add _)

end Cert.ProjK

end
-- ==== Proof.ProjPoint.lean ====
module

public import proofs.«01_k».proof.Proof.ProjReading

/-!
What one point of the projection's grid leaves in its eight output blocks, entry by entry, in terms of its input blocks.
-/

@[expose] public section

set_option maxRecDepth 16384

noncomputable section

namespace Cert.ProjK

open Idealize.ShloMosaic Idealize.ShloMosaic.TcCoe Idealize.ShloMosaic.ValueIdx Cert.KernelProjIdeal Cert.KernelProjIdeal.Gen Cert.ProjRows

/-- A block stored whole reads back as it was stored. -/
theorem whole_read {κ : Kind} {sp : Space} {A B : ℕ} {e : EltTy} (v : View sig κ sp ⟨3, ![1, A, B]⟩ e) (f : v.ty.Contents (Elt Ideal))
    (inb : ∀ k, (![0, 0, 0] : Fin 3 → ℕ) k + (⟨3, ![1, A, B]⟩ : Shape).size k ≤ (⟨3, ![1, A, B]⟩ : Shape).size k)
    (p : Vec Ideal ⟨3, ![1, A, B]⟩ e) (a : Fin A) (b : Fin B) :
    v.read (Elt Ideal) (v.writes (Elt Ideal) f [⟨Rect.unit (s := ⟨3, ![1, A, B]⟩) ![0, 0, 0] (⟨3, ![1, A, B]⟩ : Shape).size inb, p⟩]) (ix3 (0 : Fin 1) a b)
      = p (ix3 (0 : Fin 1) a b) :=
  View.read_writes_cons_unit_of_mem v f _ _ _ _ (ix3 (0 : Fin 1) a b) rfl fun k => by
    match k with
    | 0 => rfl
    | 1 => exact (Nat.zero_add _).symm
    | 2 => exact (Nat.zero_add _).symm

/-- A row of the block with the sixteen rows before it and the sixteen after. -/
def edge (x0 : Vec Ideal S1x256x1024 .bf16) (x1 x2 : Vec Ideal S1x16x1024 .bf16) (r : Fin 288) (k : Fin 1024) : EReal :=
  if h : r.val < 16 then x1 (ix3 0 ⟨r.val, h⟩ k)
  else if h' : r.val < 272 then x0 (ix3 0 ⟨r.val - 16, by omega⟩ k) else x2 (ix3 0 ⟨r.val - 272, by omega⟩ k)

/-- Such a row's product with a column of the convolution, cut off where there is no neighbour. -/
def rowX (n : ℕ) (x0 : Vec Ideal S1x256x1024 .bf16) (x1 x2 : Vec Ideal S1x16x1024 .bf16) (x3 : Vec Ideal S1024x7552 .bf16) (r : Fin 288) (j : Fin 3072) : EReal :=
  cut n r.val (∑ k : Fin 1024, edge x0 x1 x2 r k * x3 (ix2 k ⟨2048 + j.val, by omega⟩))

/-- The convolution at a row of the block. -/
def rowS (n : ℕ) (x0 : Vec Ideal S1x256x1024 .bf16) (x1 x2 : Vec Ideal S1x16x1024 .bf16) (x3 : Vec Ideal S1024x7552 .bf16)
    (x14 : Vec Ideal S8x3072 .f32) (x15 : Vec Ideal S1x3072 .f32) (t : Fin 256) (j : Fin 3072) : EReal :=
  x15 (ix2 0 j) + rowX n x0 x1 x2 x3 ⟨t.val + 14, by omega⟩ j * x14 (ix2 0 j) + rowX n x0 x1 x2 x3 ⟨t.val + 15, by omega⟩ j * x14 (ix2 1 j)
    + rowX n x0 x1 x2 x3 ⟨t.val + 16, by omega⟩ j * x14 (ix2 2 j) + rowX n x0 x1 x2 x3 ⟨t.val + 17, by omega⟩ j * x14 (ix2 3 j)
    + rowX n x0 x1 x2 x3 ⟨t.val + 18, by omega⟩ j * x14 (ix2 4 j)

/-- A rectangle of a table, read at its own entries. -/
theorem got2 {A B a b : ℕ} {e : EltTy} {M : Memref sig .tc .vmem ⟨2, ![A, B]⟩ e} (h : M.IsWhole) (x : Vec Ideal ⟨2, ![A, B]⟩ e) (o p : ℕ)
    (inb : ∀ k, (![o, p] : Fin 2 → ℕ) k + (⟨2, ![a, b]⟩ : Shape).size k ≤ (⟨2, ![A, B]⟩ : Shape).size k) (r : Fin a) (j : Fin b)
    (r' : Fin A) (j' : Fin B) (hr : r'.val = o + r.val) (hj : j'.val = p + j.val) :
    got h x (Rect.unit (s := ⟨2, ![A, B]⟩) ![o, p] (⟨2, ![a, b]⟩ : Shape).size inb) (ix2 r j) = x (ix2 r' j') :=
  got_apply h x inb (ix2 r j) (ix2 r' j') fun k => by
    match k with
    | 0 => exact hr
    | 1 => exact hj

theorem cast2 {A B a b : ℕ} {e : EltTy} {M : Memref sig .tc .vmem ⟨2, ![A, B]⟩ e} (h : M.IsWhole) (x : Vec Ideal ⟨2, ![A, B]⟩ e) (o p : ℕ)
    (inb : ∀ k, (![o, p] : Fin 2 → ℕ) k + (⟨2, ![a, b]⟩ : Shape).size k ≤ (⟨2, ![A, B]⟩ : Shape).size k) (r : Fin a) (j : Fin b)
    (r' : Fin A) (j' : Fin B) (hr : r'.val = o + r.val) (hj : j'.val = p + j.val) {hc : (⟨2, ![a, b]⟩ : Shape).ShapeCasts ⟨2, ![a, b]⟩} :
    shapeCast ⟨2, ![a, b]⟩ (got h x (Rect.unit (s := ⟨2, ![A, B]⟩) ![o, p] (⟨2, ![a, b]⟩ : Shape).size inb)) hc (ix2 r j) = x (ix2 r' j') :=
  (congrFun (shapeCast_self (s := ⟨2, ![a, b]⟩) _ hc) (ix2 r j)).trans (got2 h x o p inb r j r' j' hr hj)

theorem got3 {A B : ℕ} {e : EltTy} {M : Memref sig .tc .vmem ⟨3, ![1, A, B]⟩ e} (h : M.IsWhole) (x : Vec Ideal ⟨3, ![1, A, B]⟩ e)
    (inb : ∀ k, (![0, 0, 0] : Fin 3 → ℕ) k + (⟨3, ![1, A, B]⟩ : Shape).size k ≤ (⟨3, ![1, A, B]⟩ : Shape).size k) (r : Fin A) (j : Fin B) :
    got h x (Rect.unit (s := ⟨3, ![1, A, B]⟩) ![0, 0, 0] (⟨3, ![1, A, B]⟩ : Shape).size inb) (ix3 0 r j) = x (ix3 0 r j) :=
  got_apply h x inb (ix3 0 r j) (ix3 0 r j) fun k => by
    match k with
    | 0 => rfl
    | 1 => exact (Nat.zero_add _).symm
    | 2 => exact (Nat.zero_add _).symm

section Blocks

variable (c : Dev nD)
  (i : grid0.Coords) (arg2 : Memref sig .tc .vmem S1x256x1024 .bf16) (harg2 : arg2.IsWhole)
  (arg3 : Memref sig .tc .vmem S1x16x1024 .bf16) (harg3 : arg3.IsWhole) (arg4 : Memref sig .tc .vmem S1x16x1024 .bf16)
  (harg4 : arg4.IsWhole) (arg5 : Memref sig .tc .vmem S1024x7552 .bf16) (harg5 : arg5.IsWhole)
  (arg6 : Memref sig .tc .vmem S1408x1024 .bf16) (harg6 : arg6.IsWhole) (arg7 : Memref sig .tc .vmem S256x128 .f32)
  (harg7 : arg7.IsWhole) (arg8 : Memref sig .tc .vmem S256x128 .f32) (harg8 : arg8.IsWhole)
  (arg9 : Memref sig .tc .vmem S128x256 .f32) (harg9 : arg9.IsWhole) (arg10 : Memref sig .tc .vmem S128x256 .f32)
  (harg10 : arg10.IsWhole) (arg11 : Memref sig .tc .vmem S128x1 .f32) (harg11 : arg11.IsWhole)
  (arg12 : Memref sig .tc .vmem S1x128 .f32) (harg12 : arg12.IsWhole) (arg13 : Memref sig .tc .vmem S1x2048 .f32)
  (harg13 : arg13.IsWhole) (arg14 : Memref sig .tc .vmem S1x128 .f32) (harg14 : arg14.IsWhole)
  (arg15 : Memref sig .tc .vmem S128x1 .f32) (harg15 : arg15.IsWhole) (arg16 : Memref sig .tc .vmem S8x3072 .f32)
  (harg16 : arg16.IsWhole) (arg17 : Memref sig .tc .vmem S1x3072 .f32) (harg17 : arg17.IsWhole)
  (arg18 : Memref sig .tc .vmem S1x256x2048 .f32) (harg18 : arg18.IsWhole)
  (arg19 : Memref sig .tc .vmem S1x256x3072 .f32) (harg19 : arg19.IsWhole)
  (arg20 : Memref sig .tc .vmem S1x1024x256 .bf16) (harg20 : arg20.IsWhole)
  (arg21 : Memref sig .tc .vmem S1x256x256 .bf16) (harg21 : arg21.IsWhole)
  (arg22 : Memref sig .tc .vmem S1x256x256 .bf16) (harg22 : arg22.IsWhole)
  (arg23 : Memref sig .tc .vmem S1x256x2048 .f32) (harg23 : arg23.IsWhole)
  (arg24 : Memref sig .tc .vmem S1x256x128 .f32) (harg24 : arg24.IsWhole)
  (arg25 : Memref sig .tc .vmem S1x128x256 .f32) (harg25 : arg25.IsWhole)
  (arg26 : Memref sig .tc .vmem S288x3072 .f32) (harg26 : arg26.IsWhole)
  (x0 : Vec Ideal S1x256x1024 .bf16) (x1 : Vec Ideal S1x16x1024 .bf16) (x2 : Vec Ideal S1x16x1024 .bf16)
  (x3 : Vec Ideal S1024x7552 .bf16) (x4 : Vec Ideal S1408x1024 .bf16) (x5 : Vec Ideal S256x128 .f32) (x6 : Vec Ideal S256x128 .f32)
  (x7 : Vec Ideal S128x256 .f32) (x8 : Vec Ideal S128x256 .f32) (x9 : Vec Ideal S128x1 .f32) (x10 : Vec Ideal S1x128 .f32)
  (x11 : Vec Ideal S1x2048 .f32) (x12 : Vec Ideal S1x128 .f32) (x13 : Vec Ideal S128x1 .f32) (x14 : Vec Ideal S8x3072 .f32)
  (x15 : Vec Ideal S1x3072 .f32)

theorem blockU_apply (t : Fin 256) (k : Fin 1024) : blockU arg2 harg2 x0 (ix2 t k) = x0 (ix3 0 t k) :=
  (shapeCast_1ab_ab_apply _ shapeCasts_S1x256x1024_S256x1024 t k).trans (got3 harg2 x0 inb_S1x256x1024_S1x256x1024_0_0_0 t k)

theorem blockE_apply (r : Fin 288) (k : Fin 1024) : blockE arg2 harg2 arg3 harg3 arg4 harg4 x0 x1 x2 (ix2 r k) = edge x0 x1 x2 r k := by
  refine (pay3_apply _ _ _ r k).trans ?_
  unfold edge
  split
  · exact got3 harg3 x1 inb_S1x16x1024_S1x16x1024_0_0_0 _ k
  · split
    · exact got3 harg2 x0 inb_S1x256x1024_S1x256x1024_0_0_0 _ k
    · exact got3 harg4 x2 inb_S1x16x1024_S1x16x1024_0_0_0 _ k

theorem chunkR_apply (n : ℕ) (h : n < 6) (r : Fin 288) (j : Fin 512) :
    chunkR i arg2 harg2 arg3 harg3 arg4 harg4 arg5 harg5 arg26 x0 x1 x2 x3 n h (ix2 r j)
      = rowX (i 1).val x0 x1 x2 x3 r ⟨512 * n + j.val, by omega⟩ := by
  have back : chunkR i arg2 harg2 arg3 harg3 arg4 harg4 arg5 harg5 arg26 x0 x1 x2 x3 n h (ix2 r j)
      = arg26.view.read (Elt Ideal) (arg26.view.writes (Elt Ideal) arg26.view.junk
        (stores i (chunkY arg2 harg2 arg3 harg3 arg4 harg4 arg5 harg5 x0 x1 x2 x3) (stored n) (Nat.min_le_right _ _)))
        (ix2 r (⟨512 * n + j.val, by omega⟩ : Fin 3072)) := by
    refine (View.readAt_apply ..).trans (congrArg _ (funext fun a => Fin.ext ((Rect.idx_unit_val _ _ _ _ a).trans ?_)))
    match a with
    | 0 => exact Nat.zero_add _
    | 1 => rfl
  rw [back, stores_read arg26.view _ i _ n h r j (stored n) (Nat.min_le_right _ _) (by unfold stored; omega)]
  unfold rowX
  refine congrArg (cut (i 1).val r.val) ((product_apply _ _ r j).trans (Finset.sum_congr rfl fun k _ => ?_))
  rw [blockE_apply]
  refine congrArg (fun z : EReal => _ * z) ?_
  refine got2 harg5 x3 0 (2048 + 512 * n) _ k j k _ (Nat.zero_add _).symm ?_
  show 2048 + (512 * n + j.val) = 2048 + 512 * n + j.val
  omega

/-- The convolution's block. -/
theorem block17 (n : ℕ) (h : n < 6) (t : Fin 256) (j : Fin 512) : out0_A_17
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 t ⟨512 * n + j.val, by omega⟩)
    = rowS (i 1).val x0 x1 x2 x3 x14 x15 t ⟨512 * n + j.val, by omega⟩
      * Ideal.logistic (rowS (i 1).val x0 x1 x2 x3 x14 x15 t ⟨512 * n + j.val, by omega⟩) := by
  rw [run17, chunks_read _ _ _ n h t j 6 le_rfl h]
  refine (conv_apply _ _ _ _ _ _ _ _ _).trans ?_
  have e : tapsAt (chunkR i arg2 harg2 arg3 harg3 arg4 harg4 arg5 harg5 arg26 x0 x1 x2 x3 n h)
      (got harg17 x15 (Rect.unit (s := S1x3072) ![0, 512 * n] S1x512.size (inside2 (by norm_num) (by omega))))
      (tap arg16 harg16 x14 0 (by norm_num) n h) (tap arg16 harg16 x14 1 (by norm_num) n h) (tap arg16 harg16 x14 2 (by norm_num) n h)
      (tap arg16 harg16 x14 3 (by norm_num) n h) (tap arg16 harg16 x14 4 (by norm_num) n h) t j
      = rowS (i 1).val x0 x1 x2 x3 x14 x15 t ⟨512 * n + j.val, by omega⟩ := by
    have et : ∀ (k : Fin 8), tap arg16 harg16 x14 k.val k.isLt n h (ix2 0 j) = x14 (ix2 k (⟨512 * n + j.val, by omega⟩ : Fin 3072)) := fun k =>
      got2 harg16 x14 k.val (512 * n) _ 0 j k _ rfl rfl
    unfold tapsAt rowS
    rw [chunkR_apply, chunkR_apply, chunkR_apply, chunkR_apply, chunkR_apply]
    rw [← et 0, ← et 1, ← et 2, ← et 3, ← et 4]
    refine congrArg (fun z : EReal => z + _ + _ + _ + _ + _) ?_
    exact got2 harg17 x15 0 (512 * n) _ 0 j 0 _ rfl rfl
  rw [e]

/-- The plain columns' block. -/
theorem block16 (t : Fin 256) (j : Fin 2048) : out0_A_16
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 t j) = ∑ k : Fin 1024, x0 (ix3 0 t k) * x3 (ix2 k ⟨j.val, by omega⟩) := by
  rw [run16]
  refine (whole_read _ _ _ _ t j).trans ((plainRows_apply _ _ t j).trans (Finset.sum_congr rfl fun k _ => ?_))
  rw [blockU_apply]
  exact congrArg (fun z : EReal => _ * z) (cast2 harg5 x3 0 0 _ k j k _ (Nat.zero_add _).symm (Nat.zero_add _).symm)

/-- The gates' block. -/
theorem block21 (t : Fin 256) (j : Fin 2048) : out0_A_21
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 t j) = Ideal.logistic (∑ k : Fin 1024, x0 (ix3 0 t k) * x3 (ix2 k ⟨5376 + j.val, by omega⟩) + x11 (ix2 0 j)) := by
  rw [run21]
  refine (whole_read _ _ _ _ t j).trans ((gates_apply _ _ _ t j).trans (congrArg Ideal.logistic ?_))
  refine congrArg₂ (fun a b : EReal => a + b) (Finset.sum_congr rfl fun k _ => ?_) (cast2 harg13 x11 0 0 _ 0 j 0 _ rfl (Nat.zero_add _).symm)
  rw [blockU_apply]
  exact congrArg (fun z : EReal => _ * z) (cast2 harg5 x3 0 5376 _ k j k _ (Nat.zero_add _).symm rfl)

/-- The values' block. -/
theorem block20 (j : Fin 256) (t : Fin 256) : out0_A_20
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 j t) = ∑ k : Fin 1024, x0 (ix3 0 t k) * x4 (ix2 ⟨1024 + j.val, by omega⟩ k) := by
  rw [run20]
  refine (whole_read _ _ _ _ j t).trans ((values_apply _ _ j t).trans (Finset.sum_congr rfl fun k _ => ?_))
  rw [blockU_apply]
  exact (congrArg (fun z : EReal => z * _) (cast2 harg6 x4 1024 0 _ j k _ k rfl (Nat.zero_add _).symm)).trans (mul_comm _ _)

/-- The step sizes' block, positions along the rows. -/
theorem block22 (t : Fin 256) (j : Fin 128) : out0_A_22
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 t j) = softplus (∑ k : Fin 1024, x0 (ix3 0 t k) * x3 (ix2 k ⟨7424 + j.val, by omega⟩) + x12 (ix2 0 j)) := by
  rw [run22]
  refine (whole_read _ _ _ _ t j).trans ((stepRows_apply _ _ _ t j).trans (congrArg softplus ?_))
  refine congrArg₂ (fun a b : EReal => a + b) (Finset.sum_congr rfl fun k _ => ?_) (cast2 harg14 x12 0 0 _ 0 j 0 _ rfl (Nat.zero_add _).symm)
  rw [blockU_apply]
  exact congrArg (fun z : EReal => _ * z) (cast2 harg5 x3 0 7424 _ k j k _ (Nat.zero_add _).symm rfl)

/-- The step sizes' block, positions along the columns. -/
theorem block23 (j : Fin 128) (t : Fin 256) : out0_A_23
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 j t) = softplus (∑ k : Fin 1024, x0 (ix3 0 t k) * x4 (ix2 ⟨1280 + j.val, by omega⟩ k) + x13 (ix2 j 0)) := by
  rw [run23]
  refine (whole_read _ _ _ _ j t).trans ((stepCols_apply _ _ _ j t).trans (congrArg softplus ?_))
  refine congrArg₂ (fun a b : EReal => a + b) (Finset.sum_congr rfl fun k _ => ?_) (cast2 harg15 x13 0 0 _ j 0 j 0 (Nat.zero_add _).symm rfl)
  rw [blockU_apply]
  exact (congrArg (fun z : EReal => z * _) (cast2 harg6 x4 1280 0 _ j k _ k rfl (Nat.zero_add _).symm)).trans (mul_comm _ _)

/-- One key head of the block. -/
theorem headK_block (o : ℕ) (ho : o + 128 ≤ 7552) (inb : ∀ k, (![0, o] : Fin 2 → ℕ) k + S1024x128.size k ≤ S1024x7552.size k) (t : Fin 256) (j : Fin 128) :
    headK (blockU arg2 harg2 x0) (shapeCast S256x128 (got harg7 x5 (Rect.unit (s := S256x128) ![0, 0] S256x128.size inb_S256x128_S256x128_0_0)) shapeCasts_S256x128_S256x128)
        (shapeCast S256x128 (got harg8 x6 (Rect.unit (s := S256x128) ![0, 0] S256x128.size inb_S256x128_S256x128_0_0)) shapeCasts_S256x128_S256x128)
        (shapeCast S1024x128 (got harg5 x3 (Rect.unit (s := S1024x7552) ![0, o] S1024x128.size inb)) shapeCasts_S1024x128_S1024x128)
        (shapeCast S1x128 (got harg12 x10 (Rect.unit (s := S1x128) ![0, 0] S1x128.size inb_S1x128_S1x128_0_0)) shapeCasts_S1x128_S1x128) (ix3 0 t j)
      = turn (headNorm (fun k => ∑ l : Fin 1024, x0 (ix3 0 t l) * x3 (ix2 l ⟨o + k.val, by omega⟩)) fun k => x10 (ix2 0 k))
        (fun k => x5 (ix2 t k)) (fun k => x6 (ix2 t k)) j := by
  refine (headK_apply _ _ _ _ _ t j).trans ?_
  have e1 : (fun k : Fin 128 => ∑ l : Fin 1024, blockU arg2 harg2 x0 (ix2 t l) * shapeCast S1024x128 (got harg5 x3 (Rect.unit (s := S1024x7552) ![0, o] S1024x128.size inb)) shapeCasts_S1024x128_S1024x128 (ix2 l k))
      = fun k => ∑ l : Fin 1024, x0 (ix3 0 t l) * x3 (ix2 l ⟨o + k.val, by omega⟩) := funext fun k => Finset.sum_congr rfl fun l _ => by
    rw [blockU_apply]
    exact congrArg (fun z : EReal => _ * z) (cast2 harg5 x3 0 o _ l k l _ (Nat.zero_add _).symm rfl)
  have e2 : (fun k : Fin 128 => shapeCast S1x128 (got harg12 x10 (Rect.unit (s := S1x128) ![0, 0] S1x128.size inb_S1x128_S1x128_0_0)) shapeCasts_S1x128_S1x128 (ix2 0 k)) = fun k => x10 (ix2 0 k) :=
    funext fun k => cast2 harg12 x10 0 0 _ 0 k 0 k rfl (Nat.zero_add _).symm
  have e3 : (fun k : Fin 128 => shapeCast S256x128 (got harg7 x5 (Rect.unit (s := S256x128) ![0, 0] S256x128.size inb_S256x128_S256x128_0_0)) shapeCasts_S256x128_S256x128 (ix2 t k)) = fun k => x5 (ix2 t k) :=
    funext fun k => cast2 harg7 x5 0 0 _ t k t k (Nat.zero_add _).symm (Nat.zero_add _).symm
  have e4 : (fun k : Fin 128 => shapeCast S256x128 (got harg8 x6 (Rect.unit (s := S256x128) ![0, 0] S256x128.size inb_S256x128_S256x128_0_0)) shapeCasts_S256x128_S256x128 (ix2 t k)) = fun k => x6 (ix2 t k) :=
    funext fun k => cast2 harg8 x6 0 0 _ t k t k (Nat.zero_add _).symm (Nat.zero_add _).symm
  exact congrFun (congrArg₂ (fun f (g : (Fin 128 → EReal) × (Fin 128 → EReal)) => turn f g.1 g.2)
    (congrArg₂ headNorm e1 e2) (congrArg₂ Prod.mk e3 e4)) j

/-- The keys' block. -/
theorem block19 (t : Fin 256) (n : ℕ) (hn : n < 2) (j : Fin 128) : out0_A_19
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 t ⟨128 * n + j.val, by omega⟩)
    = turn (headNorm (fun k => ∑ l : Fin 1024, x0 (ix3 0 t l) * x3 (ix2 l ⟨5120 + 128 * n + k.val, by omega⟩)) fun k => x10 (ix2 0 k))
        (fun k => x5 (ix2 t k)) (fun k => x6 (ix2 t k)) j := by
  rw [run19]
  obtain rfl | rfl : n = 0 ∨ n = 1 := by omega
  · refine (View.read_writes_cons_unit_of_not_mem _ _ _ _ _ _ rfl 2 (Or.inl (show 128 * 0 + j.val < 128 by omega))).trans ?_
    refine (View.read_writes_cons_unit_of_mem _ _ _ _ _ _ (ix3 (0 : Fin 1) t j) rfl fun a => ?_).trans ?_
    · match a with
      | 0 => rfl
      | 1 => exact (Nat.zero_add _).symm
      | 2 => rfl
    · exact headK_block arg2 harg2 arg5 harg5 arg7 harg7 arg8 harg8 arg12 harg12 x0 x3 x5 x6 x10 5120 (by norm_num) _ t j
  · refine (View.read_writes_cons_unit_of_mem _ _ _ _ _ _ (ix3 (0 : Fin 1) t j) rfl fun a => ?_).trans ?_
    · match a with
      | 0 => rfl
      | 1 => exact (Nat.zero_add _).symm
      | 2 => rfl
    · exact headK_block arg2 harg2 arg5 harg5 arg7 harg7 arg8 harg8 arg12 harg12 x0 x3 x5 x6 x10 5248 (by norm_num) _ t j

/-- The queries' block. -/
theorem block18 (n : ℕ) (h : n < 8) (j : Fin 128) (t : Fin 256) : out0_A_18
    c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 x0 x1 x2 x3 x4 x5 x6
    x7 x8 x9 x10 x11 x12 x13 x14 x15
    (ix3 0 ⟨128 * n + j.val, by omega⟩ t)
    = turn (headNorm (fun k => ∑ l : Fin 1024, x0 (ix3 0 t l) * x4 (ix2 ⟨128 * n + k.val, by omega⟩ l)) fun k => x9 (ix2 k 0))
        (fun k => x7 (ix2 k t)) (fun k => x8 (ix2 k t)) j * Ideal.ofBits .f32 0x3E0293EE#32 := by
  rw [run18, heads_read _ _ _ n h j t 8 le_rfl h]
  refine (headQ_apply _ _ _ _ _ j t).trans ?_
  have e1 : (fun k : Fin 128 => ∑ l : Fin 1024, shapeCast S128x1024 (got harg6 x4 (Rect.unit (s := S1408x1024) ![128 * n, 0] S128x1024.size (inside2 (by omega) (by norm_num)))) shapeCasts_S128x1024_S128x1024 (ix2 k l)
        * blockU arg2 harg2 x0 (ix2 t l))
      = fun k => ∑ l : Fin 1024, x0 (ix3 0 t l) * x4 (ix2 ⟨128 * n + k.val, by omega⟩ l) := funext fun k => Finset.sum_congr rfl fun l _ => by
    rw [blockU_apply]
    exact (congrArg (fun z : EReal => z * _) (cast2 harg6 x4 (128 * n) 0 _ k l _ l rfl (Nat.zero_add _).symm)).trans (mul_comm _ _)
  have e2 : (fun k : Fin 128 => shapeCast S128x1 (got harg11 x9 (Rect.unit (s := S128x1) ![0, 0] S128x1.size inb_S128x1_S128x1_0_0)) shapeCasts_S128x1_S128x1 (ix2 k 0)) = fun k => x9 (ix2 k 0) :=
    funext fun k => cast2 harg11 x9 0 0 _ k 0 k 0 (Nat.zero_add _).symm rfl
  have e3 : (fun k : Fin 128 => shapeCast S128x256 (got harg9 x7 (Rect.unit (s := S128x256) ![0, 0] S128x256.size inb_S128x256_S128x256_0_0)) shapeCasts_S128x256_S128x256 (ix2 k t)) = fun k => x7 (ix2 k t) :=
    funext fun k => cast2 harg9 x7 0 0 _ k t k t (Nat.zero_add _).symm (Nat.zero_add _).symm
  have e4 : (fun k : Fin 128 => shapeCast S128x256 (got harg10 x8 (Rect.unit (s := S128x256) ![0, 0] S128x256.size inb_S128x256_S128x256_0_0)) shapeCasts_S128x256_S128x256 (ix2 k t)) = fun k => x8 (ix2 k t) :=
    funext fun k => cast2 harg10 x8 0 0 _ k t k t (Nat.zero_add _).symm (Nat.zero_add _).symm
  exact congrArg (fun z : EReal => z * _) (congrFun (congrArg₂ (fun f (g : (Fin 128 → EReal) × (Fin 128 → EReal)) => turn f g.1 g.2)
    (congrArg₂ headNorm e1 e2) (congrArg₂ Prod.mk e3 e4)) j)

end Blocks

end Cert.ProjK

end
-- ==== Proof.ProjValue.lean ====
/- The projection kernel's run with its eight result arrays named. -/
module

public import proofs.«01_k».proof.Proof.ProjFrame
public import Idealize.ShloMosaic.Lib.Pipeline.Value

@[expose] public section

noncomputable section

namespace Cert.KernelProjIdeal.Value

open Cert.KernelProjIdeal Cert.KernelProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run, window 16's array is the one its blocks make. -/
theorem post16 (r : PUnit × MemSt nD τ sig (Elt F)) (h : Pipeline.FramePost cfgs (dats m) 0 (V m) r) (c : Dev nD) :
    r.2.mem ((c : Thread nD τ).loc main_v82_0) = (dats m 0 c).arrAt 16 cfg0.N :=
  (h c).1 16

/-- After the run, window 17's array is the one its blocks make. -/
theorem post17 (r : PUnit × MemSt nD τ sig (Elt F)) (h : Pipeline.FramePost cfgs (dats m) 0 (V m) r) (c : Dev nD) :
    r.2.mem ((c : Thread nD τ).loc main_v82_1) = (dats m 0 c).arrAt 17 cfg0.N :=
  (h c).1 17

/-- After the run, window 18's array is the one its blocks make. -/
theorem post18 (r : PUnit × MemSt nD τ sig (Elt F)) (h : Pipeline.FramePost cfgs (dats m) 0 (V m) r) (c : Dev nD) :
    r.2.mem ((c : Thread nD τ).loc main_v82_2) = (dats m 0 c).arrAt 18 cfg0.N :=
  (h c).1 18

/-- After the run, window 19's array is the one its blocks make. -/
theorem post19 (r : PUnit × MemSt nD τ sig (Elt F)) (h : Pipeline.FramePost cfgs (dats m) 0 (V m) r) (c : Dev nD) :
    r.2.mem ((c : Thread nD τ).loc main_v82_3) = (dats m 0 c).arrAt 19 cfg0.N :=
  (h c).1 19

/-- After the run, window 20's array is the one its blocks make. -/
theorem post20 (r : PUnit × MemSt nD τ sig (Elt F)) (h : Pipeline.FramePost cfgs (dats m) 0 (V m) r) (c : Dev nD) :
    r.2.mem ((c : Thread nD τ).loc main_v82_4) = (dats m 0 c).arrAt 20 cfg0.N :=
  (h c).1 20

/-- After the run, window 21's array is the one its blocks make. -/
theorem post21 (r : PUnit × MemSt nD τ sig (Elt F)) (h : Pipeline.FramePost cfgs (dats m) 0 (V m) r) (c : Dev nD) :
    r.2.mem ((c : Thread nD τ).loc main_v82_5) = (dats m 0 c).arrAt 21 cfg0.N :=
  (h c).1 21

/-- After the run, window 22's array is the one its blocks make. -/
theorem post22 (r : PUnit × MemSt nD τ sig (Elt F)) (h : Pipeline.FramePost cfgs (dats m) 0 (V m) r) (c : Dev nD) :
    r.2.mem ((c : Thread nD τ).loc main_v82_6) = (dats m 0 c).arrAt 22 cfg0.N :=
  (h c).1 22

/-- After the run, window 23's array is the one its blocks make. -/
theorem post23 (r : PUnit × MemSt nD τ sig (Elt F)) (h : Pipeline.FramePost cfgs (dats m) 0 (V m) r) (c : Dev nD) :
    r.2.mem ((c : Thread nD τ).loc main_v82_7) = (dats m 0 c).arrAt 23 cfg0.N :=
  (h c).1 23

/-- After the run, argument `main_arg0` is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the run, argument `main_arg1` is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run, argument `main_arg2` is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, argument `main_arg3` is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run, argument `main_arg4` is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run, argument `main_arg5` is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run, argument `main_arg6` is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run, argument `main_arg7` is as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run, argument `main_arg8` is as it was. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 280180 in
/-- The whole run: the eight results are the arrays the output windows leave, and the arguments are kept. -/
theorem run_blocks : θ_run defs (onTc (τ := τ) (main (F := F))) ⟨m, fun _ => 0, ρ⟩ fun r => ∀ c : Dev nD,
      r.2.mem ((c : Thread nD τ).loc main_v82_0) = (dats m 0 c).arrAt 16 cfg0.N
      ∧ r.2.mem ((c : Thread nD τ).loc main_v82_1) = (dats m 0 c).arrAt 17 cfg0.N
      ∧ r.2.mem ((c : Thread nD τ).loc main_v82_2) = (dats m 0 c).arrAt 18 cfg0.N
      ∧ r.2.mem ((c : Thread nD τ).loc main_v82_3) = (dats m 0 c).arrAt 19 cfg0.N
      ∧ r.2.mem ((c : Thread nD τ).loc main_v82_4) = (dats m 0 c).arrAt 20 cfg0.N
      ∧ r.2.mem ((c : Thread nD τ).loc main_v82_5) = (dats m 0 c).arrAt 21 cfg0.N
      ∧ r.2.mem ((c : Thread nD τ).loc main_v82_6) = (dats m 0 c).arrAt 22 cfg0.N
      ∧ r.2.mem ((c : Thread nD τ).loc main_v82_7) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post16 m r h c,
      post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelProjIdeal.Value

end
-- ==== Proof.ProjHost.lean ====
module

public import proofs.«01_k».proof.Proof.ProjReading
public import proofs.«01_k».proof.Proof.ProjValue
public import Idealize.ShloMosaic.Lib.Pipeline.ValueKit.Geometry
public import Idealize.ShloMosaic.Lib.KernelVsHost
public import Idealize.ShloMosaic.Lib.IdealHost
public import Idealize.ShloMosaic.Lib.Routing.OpsSet

/-!
What the operations before the projection's grid leave in their arrays: the weights put side by side with the heads' columns
taken pair by pair, the gains and biases likewise, and the tables of the rotation.
-/

@[expose] public section

set_option maxRecDepth 16384

noncomputable section

namespace Cert.ProjK

open Idealize.ShloMosaic Idealize.ShloMosaic.Tactic Idealize.ShloMosaic.TcCoe Idealize.ShloMosaic.ValueIdx Cert.KernelProjIdeal Cert.KernelProjIdeal.Gen Cert.ProjRows

/-- Taking columns out of a table: entry `(y, c)` of the result is the table's entry in row `y` of the column named at `c`. -/
theorem gather_col {α : Type} {A N n : ℕ} (d : GatherDims ⟨2, ![A, N]⟩ ⟨2, ![n, 1]⟩ ⟨2, ![A, n]⟩) (hoff : d.offsetDims = [0])
    (hcoll : d.collapsedSliceDims = [1]) (hob : d.operandBatchingDims = []) (hsim : d.startIndexMap = [1])
    (hivd : d.indexVectorDim = 1) (x : (⟨2, ![A, N]⟩ : Shape).Idx → α) (idx : IVec ⟨2, ![n, 1]⟩ 32) (y : Fin A) (c : Fin n)
    (b : Fin N) (hb : idx (ix2 c (0 : Fin 1)) = BitVec.ofNat 32 b.val) (hN : N < 2 ^ 31) :
    Host.gather d x idx (ix2 y c) = x (ix2 y b) := by
  unfold Host.gather
  refine congrArg x (funext fun a => Fin.ext ?_)
  have none : ∀ a', a' ∉ d.operandBatchingDims := fun a' => by rw [hob]; exact List.not_mem_nil
  have first : ∀ k ∈ d.offsetDims, k = (0 : Fin 2) := fun k hk => by rw [hoff] at hk; exact List.mem_singleton.1 hk
  have second : ∀ k ∈ d.batchDims, k = (1 : Fin 2) := fun k hk => by
    have out : k ∉ d.offsetDims := of_decide_eq_true (List.mem_filter.1 hk).2
    rw [hoff] at out
    have h1 : k.val ≠ 0 := fun e => out (List.mem_singleton.2 (Fin.ext e))
    have h2 : k.val < 2 := k.isLt
    exact Fin.ext (by show k.val = 1; omega)
  have row : ∀ X : Fin 2, X = 0 → (ix2 y c X).val = y.val := fun X h => by subst h; rfl
  have col : ∀ X : Fin 2, X = 1 → (ix2 y c X).val = c.val := fun X h => by subst h; rfl
  match a with
  | ⟨1, _⟩ =>
    have gone : (1 : Fin 2) ∉ d.sKept := fun h => ((d.mem_sKept 1).1 h).1 (by rw [hcoll]; exact List.mem_singleton.2 rfl)
    have mapped : (1 : Fin 2) ∈ d.startIndexMap := by rw [hsim]; exact List.mem_singleton.2 rfl
    have one : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (none 1), d.offCoord_eq_zero _ _ gone]
    simp only [Nat.add_zero]
    unfold GatherDims.start
    rw [dif_pos mapped]
    have place : d.siIdx (ix2 y c) ⟨d.startIndexMap.idxOf 1, List.idxOf_lt_length_iff.2 mapped⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact col _ (second _ (List.getElem_mem _))
      | ⟨1, _⟩ =>
        unfold GatherDims.siIdx
        rw [dif_pos (by rw [hivd])]
        show List.idxOf (1 : Fin 2) d.startIndexMap = 0
        rw [hsim]; simp
    have lt := b.isLt
    rw [place, hb, one, StableHlo.Predicate.toInt_ofNat_small _ (by omega)]
    show min ((b.val : Int)).toNat (N - 1) = b.val
    omega
  | ⟨0, _⟩ =>
    have kept : (0 : Fin 2) ∈ d.sKept := (d.mem_sKept 0).2 ⟨by rw [hcoll]; exact fun h => absurd (congrArg Fin.val (List.mem_singleton.1 h)) Nat.zero_ne_one, none 0⟩
    have free : (0 : Fin 2) ∉ d.startIndexMap := by rw [hsim]; exact fun h => absurd (congrArg Fin.val (List.mem_singleton.1 h)) Nat.zero_ne_one
    show d.start (ix2 y c) idx 0 + d.batchCoord (ix2 y c) 0 + d.offCoord (ix2 y c) 0 = y.val
    rw [d.batchCoord_eq_zero _ _ (none 0), Nat.add_zero]
    unfold GatherDims.start GatherDims.offCoord
    rw [dif_neg free, dif_pos kept, Nat.zero_add]
    exact row _ (first _ (List.getElem_mem _))

theorem order0 : ∀ c : Fin 256, lit0 c = BitVec.ofNat 32 (128 * (c.val / 128) + (pairs ⟨c.val % 128, by omega⟩).val) := by
  decide +kernel
theorem order1 : ∀ c : Fin 1024, lit1 c = BitVec.ofNat 32 (128 * (c.val / 128) + (pairs ⟨c.val % 128, by omega⟩).val) := by
  decide +kernel
theorem order2 : ∀ c : Fin 128, lit2 c = BitVec.ofNat 32 (pairs c).val := by decide +kernel

section
variable {F : FTy → Type} [FloatOps F]
variable (m : (ℓ : Loc nD τ sig) → Buf (Elt F) ℓ) (c : Dev nD)

/-- The arguments. -/
abbrev uA : Vec F S2x16384x1024 .bf16 := m ((c : Thread nD τ).loc main_arg0)
abbrev wA : Vec F S1024x8768 .f32 := m ((c : Thread nD τ).loc main_arg1)
abbrev cwA : Vec F S5x3072 .f32 := m ((c : Thread nD τ).loc main_arg2)
abbrev cbA : Vec F S3072 .f32 := m ((c : Thread nD τ).loc main_arg3)
abbrev bfA : Vec F S32 .f32 := m ((c : Thread nD τ).loc main_arg4)
abbrev bbA : Vec F S32 .f32 := m ((c : Thread nD τ).loc main_arg5)
abbrev qnA : Vec F S128 .f32 := m ((c : Thread nD τ).loc main_arg6)
abbrev knA : Vec F S128 .f32 := m ((c : Thread nD τ).loc main_arg7)
abbrev bgA : Vec F S2048 .f32 := m ((c : Thread nD τ).loc main_arg8)

/-- The pieces of the weight. -/
abbrev w0 : Vec F S1024x2048 .f32 := extractStridedSlice S1024x2048 ![0, 0] (wA m c) slices_S1024x8768_S1024x2048_0_0
abbrev w1 : Vec F S1024x3072 .f32 := extractStridedSlice S1024x3072 ![0, 2048] (wA m c) slices_S1024x8768_S1024x3072_0_2048
abbrev w2 : Vec F S1024x32 .f32 := extractStridedSlice S1024x32 ![0, 5120] (wA m c) slices_S1024x8768_S1024x32_0_5120
abbrev w3 : Vec F S1024x32 .f32 := extractStridedSlice S1024x32 ![0, 5152] (wA m c) slices_S1024x8768_S1024x32_0_5152
abbrev w4 : Vec F S1024x1024 .f32 := extractStridedSlice S1024x1024 ![0, 5184] (wA m c) slices_S1024x8768_S1024x1024_0_5184
abbrev w5 : Vec F S1024x256 .f32 := extractStridedSlice S1024x256 ![0, 6208] (wA m c) slices_S1024x8768_S1024x256_0_6208
abbrev w6 : Vec F S1024x256 .f32 := extractStridedSlice S1024x256 ![0, 6464] (wA m c) slices_S1024x8768_S1024x256_0_6464
abbrev w7 : Vec F S1024x2048 .f32 := extractStridedSlice S1024x2048 ![0, 6720] (wA m c) slices_S1024x8768_S1024x2048_0_6720

/-- The orders in which the columns are taken. -/
abbrev i0 : IVec S256x1 32 := broadcastInDim S256x1 ![0] bcast_S256_S256x1_0 (fun i => lit0 (S256.rowMajor i))
abbrev i1 : IVec S1024x1 32 := broadcastInDim S1024x1 ![0] bcast_S1024_S1024x1_0 (fun i => lit1 (S1024.rowMajor i))
abbrev i2 : IVec S128x1 32 := broadcastInDim S128x1 ![0] bcast_S128_S128x1_0 (fun i => lit2 (S128.rowMajor i))

abbrev steps4 : Vec F S1024x128 .f32 :=
  concatenate S1024x128 1 [⟨S1024x32, w2 m c⟩, ⟨S1024x32, w2 m c⟩, ⟨S1024x32, w3 m c⟩, ⟨S1024x32, w3 m c⟩]
    concatenates_S1024x32_S1024x32_S1024x32_S1024x32_S1024x128_d1

abbrev steps3 : Vec F S1024x128 .f32 :=
  concatenate S1024x128 1 [⟨S1024x32, w2 m c⟩, ⟨S1024x32, w3 m c⟩, ⟨S1024x64, broadcastInDim S1024x64 ![] bcast_S_S1024x64 (constant S_ .f32 0x00000000#32)⟩]
    concatenates_S1024x32_S1024x32_S1024x64_S1024x128_d1

abbrev colsK : Vec F S1024x256 .f32 := Host.gather gather_S1024x256_S256x1_S1024x256_0_1_n_n_1_1_10241 (w5 m c) i0
abbrev colsQ : Vec F S1024x1024 .f32 := Host.gather gather_S1024x1024_S1024x1_S1024x1024_0_1_n_n_1_1_10241 (w4 m c) i1

theorem V_wide : V m c main_v25 = (truncf .bf16 (concatenate S1024x7552 1
      [⟨S1024x2048, w0 m c⟩, ⟨S1024x3072, w1 m c⟩, ⟨S1024x256, colsK m c⟩, ⟨S1024x2048, w7 m c⟩, ⟨S1024x128, steps4 m c⟩]
      concatenates_S1024x2048_S1024x3072_S1024x256_S1024x2048_S1024x128_S1024x7552_d1) bitsLt_bf16_f32 : FVec F S1024x7552 .bf16) := by sl_kernel_rfl

theorem V_tall : V m c main_v26 = (truncf .bf16 (transpose S1408x1024 [1, 0] (concatenate S1024x1408 1
      [⟨S1024x1024, colsQ m c⟩, ⟨S1024x256, w6 m c⟩, ⟨S1024x128, steps3 m c⟩]
      concatenates_S1024x1024_S1024x256_S1024x128_S1024x1408_d1) transposes_S1024x1408_S1408x1024_1_0) bitsLt_bf16_f32 : FVec F S1408x1024 .bf16) := by sl_kernel_rfl

theorem V_cw : V m c main_v28 = (concatenate S8x3072 0 [⟨S5x3072, cwA m c⟩, ⟨S3x3072, broadcastInDim S3x3072 ![] bcast_S_S3x3072 (constant S_ .f32 0x00000000#32)⟩]
    concatenates_S5x3072_S3x3072_S8x3072_d0 : FVec F S8x3072 .f32) := by sl_kernel_rfl
theorem V_cb : V m c main_v29 = (shapeCast S1x3072 (cbA m c) shapeCasts_S3072_S1x3072 : Vec F S1x3072 .f32) := by sl_kernel_rfl
theorem V_b4 : V m c main_v31 = (shapeCast S1x128 (concatenate S128 0 [⟨S32, bfA m c⟩, ⟨S32, bfA m c⟩, ⟨S32, bbA m c⟩, ⟨S32, bbA m c⟩]
    concatenates_S32_S32_S32_S32_S128_d0) shapeCasts_S128_S1x128 : Vec F S1x128 .f32) := by sl_kernel_rfl
theorem V_b3 : V m c main_v33 = (shapeCast S128x1 (concatenate S128 0 [⟨S32, bfA m c⟩, ⟨S32, bbA m c⟩, ⟨S64, broadcastInDim S64 ![] bcast_S_S64 (constant S_ .f32 0x00000000#32)⟩]
    concatenates_S32_S32_S64_S128_d0) shapeCasts_S128_S128x1 : Vec F S128x1 .f32) := by sl_kernel_rfl
theorem V_qn : V m c main_v39 = (shapeCast S128x1 (Host.gather gather_S128_S128x1_S128_n_0_n_n_0_1_1 (qnA m c) i2) shapeCasts_S128_S128x1 : Vec F S128x1 .f32) := by sl_kernel_rfl
theorem V_kn : V m c main_v45 = (shapeCast S1x128 (Host.gather gather_S128_S128x1_S128_n_0_n_n_0_1_1 (knA m c) i2) shapeCasts_S128_S1x128 : Vec F S1x128 .f32) := by sl_kernel_rfl
theorem V_bg : V m c main_v46 = (shapeCast S1x2048 (bgA m c) shapeCasts_S2048_S1x2048 : Vec F S1x2048 .f32) := by sl_kernel_rfl

/-- The tables of the rotation. -/
abbrev csA : FVec F S16384x64 .f32 := V m c main_v75
abbrev snA : FVec F S16384x64 .f32 := V m c main_v76
theorem V_ta : V m c main_v77 = (concatenate S16384x128 1 [⟨S16384x64, csA m c⟩, ⟨S16384x64, csA m c⟩] concatenates_S16384x64_S16384x64_S16384x128_d1 : FVec F S16384x128 .f32) := by sl_kernel_rfl
theorem V_tb : V m c main_v79 = (concatenate S16384x128 1 [⟨S16384x64, Host.negf (snA m c)⟩, ⟨S16384x64, snA m c⟩] concatenates_S16384x64_S16384x64_S16384x128_d1 : FVec F S16384x128 .f32) := by sl_kernel_rfl
theorem V_tat : V m c main_v80 = (transpose S128x16384 [1, 0] (V m c main_v77 : FVec F S16384x128 .f32) transposes_S16384x128_S128x16384_1_0 : FVec F S128x16384 .f32) := by sl_kernel_rfl
theorem V_tbt : V m c main_v81 = (transpose S128x16384 [1, 0] (V m c main_v79 : FVec F S16384x128 .f32) transposes_S16384x128_S128x16384_1_0 : FVec F S128x16384 .f32) := by sl_kernel_rfl

end

end Cert.ProjK

end
-- ==== Proof.ProjSpec.lean ====
module

public import proofs.«01_k».proof.Proof.ProjRows
public import Idealize.ShloMosaic.Lib.ValueIdx

/-!
The projection's eight results in closed form: at every position the products of the stream with the columns of the weight, and
what each of the eight makes of them.
-/

@[expose] public section

set_option maxRecDepth 16384

noncomputable section

namespace Cert.ProjSpec

open Idealize.ShloMosaic Idealize.ShloMosaic.ValueIdx Cert.ProjRows

/-- A result given entry by entry. -/
def arr3 {A B C : ℕ} (f : Fin A → Fin B → Fin C → EReal) : (⟨3, ![A, B, C]⟩ : Shape).Idx → EReal := fun y => f (y 0) (y 1) (y 2)

section
variable (u : (⟨3, ![2, 16384, 1024]⟩ : Shape).Idx → EReal) (w : (⟨2, ![1024, 8768]⟩ : Shape).Idx → EReal)
variable (cw : (⟨2, ![5, 3072]⟩ : Shape).Idx → EReal) (cb : (⟨1, ![3072]⟩ : Shape).Idx → EReal)
variable (bf bb : (⟨1, ![32]⟩ : Shape).Idx → EReal) (gain : (⟨1, ![128]⟩ : Shape).Idx → EReal)
variable (bg : (⟨1, ![2048]⟩ : Shape).Idx → EReal) (cs sn : (⟨2, ![16384, 64]⟩ : Shape).Idx → EReal)

/-- The stream at a position times a column of the weight. -/
def pre (b : Fin 2) (p : Fin 16384) (j : Fin 8768) : EReal := ∑ k : Fin 1024, u (ix3 b p k) * w (ix2 k j)

def zAt (b : Fin 2) (p : Fin 16384) (c : Fin 2048) : EReal := pre u w b p ⟨c.val, by omega⟩

/-- What the convolution reads: two zeros before the first position, the columns of the stream, two zeros after the last. -/
def xAt (b : Fin 2) (q : ℕ) (c : Fin 3072) : EReal :=
  if h : 2 ≤ q ∧ q < 16386 then pre u w b ⟨q - 2, by omega⟩ ⟨2048 + c.val, by omega⟩ else 0

/-- The convolution over five positions. -/
def sAt (b : Fin 2) (p : Fin 16384) (c : Fin 3072) : EReal :=
  cb (ix1 c) + xAt u w b p.val c * cw (ix2 0 c) + xAt u w b (p.val + 1) c * cw (ix2 1 c) + xAt u w b (p.val + 2) c * cw (ix2 2 c)
    + xAt u w b (p.val + 3) c * cw (ix2 3 c) + xAt u w b (p.val + 4) c * cw (ix2 4 c)

def cAt (b : Fin 2) (p : Fin 16384) (c : Fin 3072) : EReal := sAt u w cw cb b p c * Ideal.logistic (sAt u w cw cb b p c)

def gAt (b : Fin 2) (p : Fin 16384) (c : Fin 2048) : EReal := Ideal.logistic (pre u w b p ⟨6720 + c.val, by omega⟩ + bg (ix1 c))

/-- The rotation's tables, over the first entries of the pairs and then over the second ones. -/
def ta (p : Fin 16384) (k : Fin 128) : EReal := cs (ix2 p ⟨k.val % 64, by omega⟩)
def tb (p : Fin 16384) (k : Fin 128) : EReal :=
  if h : k.val < 64 then -(sn (ix2 p ⟨k.val, h⟩)) else sn (ix2 p ⟨k.val - 64, by omega⟩)

/-- A head, normalized and rotated, the first entries of its pairs before the second ones. -/
def head (b : Fin 2) (p : Fin 16384) (base : ℕ) (hbase : base + 128 ≤ 8768) (c : Fin 128) : EReal :=
  turn (fun k => headNorm (fun i => pre u w b p ⟨base + i.val, by omega⟩) (fun i => gain (ix1 i)) (pairs k)) (ta cs p) (tb sn p) c

def kAt (b : Fin 2) (p : Fin 16384) (c : Fin 256) : EReal :=
  head u w gain cs sn b p (6208 + 128 * (c.val / 128)) (by omega) ⟨c.val % 128, by omega⟩

def qAt (b : Fin 2) (c : Fin 1024) (p : Fin 16384) : EReal :=
  head u w gain cs sn b p (5184 + 128 * (c.val / 128)) (by omega) ⟨c.val % 128, by omega⟩ * Ideal.ofBits .f32 0x3E0293EE#32

def vAt (b : Fin 2) (c : Fin 256) (p : Fin 16384) : EReal := pre u w b p ⟨6464 + c.val, by omega⟩

/-- The step size of one of the two directions. -/
def stepF (b : Fin 2) (p : Fin 16384) (c : Fin 32) : EReal := softplus (pre u w b p ⟨5120 + c.val, by omega⟩ + bf (ix1 c))
def stepB (b : Fin 2) (p : Fin 16384) (c : Fin 32) : EReal := softplus (pre u w b p ⟨5152 + c.val, by omega⟩ + bb (ix1 c))

/-- The step sizes, those of each direction twice. -/
def dAt (b : Fin 2) (p : Fin 16384) (c : Fin 128) : EReal :=
  if c.val < 64 then stepF u w bf b p ⟨c.val % 32, by omega⟩ else stepB u w bb b p ⟨c.val % 32, by omega⟩

/-- The step sizes of both directions once, followed by those of a zero column. -/
def eAt (b : Fin 2) (c : Fin 128) (p : Fin 16384) : EReal :=
  if c.val < 64 then (if c.val < 32 then stepF u w bf b p ⟨c.val % 32, by omega⟩ else stepB u w bb b p ⟨c.val % 32, by omega⟩)
  else softplus 0

end

end Cert.ProjSpec

end
-- ==== Proof.ProjWeights.lean ====
module

public import proofs.«01_k».proof.Proof.ProjHost
public import proofs.«01_k».proof.Proof.ProjSpec
public import Idealize.ShloMosaic.Lib.ValueLayoutCasts

/-!
The projection's weights, gains, biases and tables at the places where the grid reads them, in terms of the arguments.
-/

@[expose] public section

set_option maxRecDepth 16384

noncomputable section

namespace Cert.ProjK

open Idealize.ShloMosaic Idealize.ShloMosaic.TcCoe Idealize.ShloMosaic.ValueIdx Cert.KernelProjIdeal Cert.KernelProjIdeal.Gen Cert.ProjRows
  Cert.ProjSpec

section
variable (m : (ℓ : Loc nD τ sig) → Buf (Elt Ideal) ℓ) (c : Dev nD)

/-- The arrays the grid reads. -/
abbrev wideW : FVec Ideal S1024x7552 .bf16 := V m c main_v25
abbrev tallW : FVec Ideal S1408x1024 .bf16 := V m c main_v26

/-- A block of columns of the weight. -/
theorem piece_apply {n : ℕ} (x : S1024x8768.Idx → EReal) (off : ℕ) (h : S1024x8768.Slices ![0, off] ⟨2, ![1024, n]⟩) (k : Fin 1024) (j : Fin n)
    (hj : off + j.val < 8768) :
    extractStridedSlice ⟨2, ![1024, n]⟩ ![0, off] x h (ix2 k j) = x (ix2 k ⟨off + j.val, hj⟩) :=
  extractStridedSlice_apply _ _ _ _ _ fun a => by
    match a with
    | ⟨0, _⟩ => exact (Nat.zero_add _).symm
    | ⟨1, _⟩ => rfl

/-- A piece of a table whose columns are put side by side. -/
theorem beside {A n : ℕ} {xs : List ((s : Shape) × (s.Idx → EReal))} {h} (p : ℕ) (hp : p < xs.length) {q : ℕ} (x : (⟨2, ![A, q]⟩ : Shape).Idx → EReal)
    (hx : xs[p] = ⟨⟨2, ![A, q]⟩, x⟩) (pre : ℕ)
    (hpre : (((xs.take p).map (·.1)).map fun s => if h : s.rank = 2 then s.size ((1 : Fin 2).cast h.symm) else 0).sum = pre)
    (k : Fin A) (j : Fin q) (hj : pre + j.val < n) :
    concatenate (⟨2, ![A, n]⟩ : Shape) 1 xs h (ix2 k ⟨pre + j.val, hj⟩) = x (ix2 k j) :=
  concatenate_apply_piece (t := ⟨2, ![A, n]⟩) 1 xs h _ p hp ⟨2, ![A, q]⟩ x hx rfl pre hpre (ix2 k j)
    (fun b hb => by match b with | ⟨0, _⟩ => rfl | ⟨1, _⟩ => exact absurd rfl hb) rfl

theorem index0 (n : Fin 256) : i0 (ix2 n 0) = BitVec.ofNat 32 (128 * (n.val / 128) + (pairs ⟨n.val % 128, by omega⟩).val) :=
  (congrArg lit0 (Fin.ext (by show (S256.rowMajor _).val = n.val; rw [Shape.rowMajor_val_one]; rfl))).trans (order0 n)
theorem index1 (n : Fin 1024) : i1 (ix2 n 0) = BitVec.ofNat 32 (128 * (n.val / 128) + (pairs ⟨n.val % 128, by omega⟩).val) :=
  (congrArg lit1 (Fin.ext (by show (S1024.rowMajor _).val = n.val; rw [Shape.rowMajor_val_one]; rfl))).trans (order1 n)
theorem index2 (n : Fin 128) : i2 (ix2 n 0) = BitVec.ofNat 32 (pairs n).val :=
  (congrArg lit2 (Fin.ext (by show (S128.rowMajor _).val = n.val; rw [Shape.rowMajor_val_one]; rfl))).trans (order2 n)

theorem colsK_apply (k : Fin 1024) (n : Fin 256) :
    colsK m c (ix2 k n) = wA m c (ix2 k ⟨6208 + (128 * (n.val / 128) + (pairs ⟨n.val % 128, by omega⟩).val), by omega⟩) :=
  (gather_col gather_S1024x256_S256x1_S1024x256_0_1_n_n_1_1_10241 rfl rfl rfl rfl rfl (w5 m c) i0 k n
    ⟨128 * (n.val / 128) + (pairs ⟨n.val % 128, by omega⟩).val, by omega⟩ (index0 n) (by decide)).trans (piece_apply _ _ _ _ _ _)

theorem colsQ_apply (k : Fin 1024) (n : Fin 1024) :
    colsQ m c (ix2 k n) = wA m c (ix2 k ⟨5184 + (128 * (n.val / 128) + (pairs ⟨n.val % 128, by omega⟩).val), by omega⟩) :=
  (gather_col gather_S1024x1024_S1024x1_S1024x1024_0_1_n_n_1_1_10241 rfl rfl rfl rfl rfl (w4 m c) i1 k n
    ⟨128 * (n.val / 128) + (pairs ⟨n.val % 128, by omega⟩).val, by omega⟩ (index1 n) (by decide)).trans (piece_apply _ _ _ _ _ _)

theorem gain_apply (g : Vec Ideal S128 .f32) (n : Fin 128) :
    Host.gather gather_S128_S128x1_S128_n_0_n_n_0_1_1 g i2 (ix1 n) = g (ix1 (pairs n)) :=
  Routing.gather_take1 gather_S128_S128x1_S128_n_0_n_n_0_1_1 rfl rfl rfl rfl g i2 n (pairs n) (index2 n) (by decide)

theorem steps4_apply (k : Fin 1024) (n : Fin 128) :
    steps4 m c (ix2 k n) = if n.val < 64 then wA m c (ix2 k ⟨5120 + n.val % 32, by omega⟩) else wA m c (ix2 k ⟨5152 + n.val % 32, by omega⟩) := by
  obtain ⟨n, hn⟩ := n
  split <;> rename_i h <;> simp only at h
  · by_cases h' : n < 32
    · obtain ⟨j, rfl⟩ : ∃ j, n = 0 + j := ⟨n, (Nat.zero_add _).symm⟩
      refine (beside 0 (by exact Nat.succ_pos _) (w2 m c) rfl 0 rfl k ⟨j, by omega⟩ hn).trans ((piece_apply _ _ _ _ _ (by omega)).trans ?_)
      refine congrArg (fun j => wA m c (ix2 k j)) (Fin.ext ?_); show _ + j = _ + (0 + j) % 32; omega
    · obtain ⟨j, rfl⟩ : ∃ j, n = 32 + j := ⟨n - 32, by omega⟩
      refine (beside 1 (by exact Nat.succ_lt_succ (Nat.succ_pos _)) (w2 m c) rfl 32 rfl k ⟨j, by omega⟩ hn).trans ((piece_apply _ _ _ _ _ (by omega)).trans ?_)
      refine congrArg (fun j => wA m c (ix2 k j)) (Fin.ext ?_); show _ + j = _ + (32 + j) % 32; omega
  · by_cases h' : n < 96
    · obtain ⟨j, rfl⟩ : ∃ j, n = 64 + j := ⟨n - 64, by omega⟩
      refine (beside 2 (by exact Nat.succ_lt_succ (Nat.succ_lt_succ (Nat.succ_pos _))) (w3 m c) rfl 64 rfl k ⟨j, by omega⟩ hn).trans ((piece_apply _ _ _ _ _ (by omega)).trans ?_)
      refine congrArg (fun j => wA m c (ix2 k j)) (Fin.ext ?_); show _ + j = _ + (64 + j) % 32; omega
    · obtain ⟨j, rfl⟩ : ∃ j, n = 96 + j := ⟨n - 96, by omega⟩
      refine (beside 3 (by exact Nat.lt_succ_self _) (w3 m c) rfl 96 rfl k ⟨j, by omega⟩ hn).trans ((piece_apply _ _ _ _ _ (by omega)).trans ?_)
      refine congrArg (fun j => wA m c (ix2 k j)) (Fin.ext ?_); show _ + j = _ + (96 + j) % 32; omega

theorem steps3_apply (k : Fin 1024) (n : Fin 128) :
    steps3 m c (ix2 k n) = if h : n.val < 64 then wA m c (ix2 k ⟨5120 + n.val, by omega⟩) else 0 := by
  obtain ⟨n, hn⟩ := n
  split <;> rename_i h <;> simp only at h
  · by_cases h' : n < 32
    · obtain ⟨j, rfl⟩ : ∃ j, n = 0 + j := ⟨n, (Nat.zero_add _).symm⟩
      refine (beside 0 (by exact Nat.succ_pos _) (w2 m c) rfl 0 rfl k ⟨j, by omega⟩ hn).trans ((piece_apply _ _ _ _ _ (by omega)).trans ?_)
      refine congrArg (fun j => wA m c (ix2 k j)) (Fin.ext ?_); show _ + j = _ + (0 + j); omega
    · obtain ⟨j, rfl⟩ : ∃ j, n = 32 + j := ⟨n - 32, by omega⟩
      refine (beside 1 (by exact Nat.succ_lt_succ (Nat.succ_pos _)) (w3 m c) rfl 32 rfl k ⟨j, by omega⟩ hn).trans ((piece_apply _ _ _ _ _ (by omega)).trans ?_)
      refine congrArg (fun j => wA m c (ix2 k j)) (Fin.ext ?_); show _ + j = _ + (32 + j); omega
  · obtain ⟨j, rfl⟩ : ∃ j, n = 64 + j := ⟨n - 64, by omega⟩
    refine (beside 2 (by exact Nat.lt_succ_self _) (broadcastInDim S1024x64 ![] bcast_S_S1024x64 (constant (F := Ideal) S_ .f32 0x00000000#32))
      rfl 64 rfl k ⟨j, by omega⟩ hn).trans ?_
    exact Ideal.ofBits_zero_f32

theorem wideW_apply (k : Fin 1024) (n : Fin 7552) : wideW m c (ix2 k n) = concatenate S1024x7552 1
      [⟨S1024x2048, w0 m c⟩, ⟨S1024x3072, w1 m c⟩, ⟨S1024x256, colsK m c⟩, ⟨S1024x2048, w7 m c⟩, ⟨S1024x128, steps4 m c⟩]
      concatenates_S1024x2048_S1024x3072_S1024x256_S1024x2048_S1024x128_S1024x7552_d1 (ix2 k n) :=
  congrFun (V_wide m c) _

theorem wide_z (k : Fin 1024) (j : Fin 2048) : wideW m c (ix2 k ⟨j.val, by omega⟩) = wA m c (ix2 k ⟨j.val, by omega⟩) := by
  refine (wideW_apply m c k _).trans ?_
  rw [show (⟨j.val, by omega⟩ : Fin 7552) = ⟨0 + j.val, by omega⟩ from Fin.ext (Nat.zero_add _).symm]
  refine (beside 0 (by exact Nat.succ_pos _) (w0 m c) rfl 0 rfl k j (by omega)).trans ((piece_apply _ _ _ _ _ (by omega)).trans ?_)
  exact congrArg (fun j => wA m c (ix2 k j)) (Fin.ext (Nat.zero_add _))

theorem wide_x (k : Fin 1024) (j : Fin 3072) : wideW m c (ix2 k ⟨2048 + j.val, by omega⟩) = wA m c (ix2 k ⟨2048 + j.val, by omega⟩) :=
  (wideW_apply m c k _).trans ((beside 1 (by exact Nat.succ_lt_succ (Nat.succ_pos _)) (w1 m c) rfl 2048 rfl k j _).trans (piece_apply _ _ _ _ _ _))

theorem wide_k (k : Fin 1024) (j : Fin 256) : wideW m c (ix2 k ⟨5120 + j.val, by omega⟩)
    = wA m c (ix2 k ⟨6208 + (128 * (j.val / 128) + (pairs ⟨j.val % 128, by omega⟩).val), by omega⟩) :=
  (wideW_apply m c k _).trans ((beside 2 (by exact Nat.succ_lt_succ (Nat.succ_lt_succ (Nat.succ_pos _))) (colsK m c) rfl 5120 rfl k j _).trans (colsK_apply m c k j))

theorem wide_g (k : Fin 1024) (j : Fin 2048) : wideW m c (ix2 k ⟨5376 + j.val, by omega⟩) = wA m c (ix2 k ⟨6720 + j.val, by omega⟩) :=
  (wideW_apply m c k _).trans ((beside 3 (by exact Nat.succ_lt_succ (Nat.succ_lt_succ (Nat.succ_lt_succ (Nat.succ_pos _)))) (w7 m c) rfl 5376 rfl k j _).trans (piece_apply _ _ _ _ _ _))

theorem wide_d (k : Fin 1024) (j : Fin 128) : wideW m c (ix2 k ⟨7424 + j.val, by omega⟩)
    = if j.val < 64 then wA m c (ix2 k ⟨5120 + j.val % 32, by omega⟩) else wA m c (ix2 k ⟨5152 + j.val % 32, by omega⟩) :=
  (wideW_apply m c k _).trans ((beside 4 (by exact Nat.lt_succ_self _) (steps4 m c) rfl 7424 rfl k j _).trans (steps4_apply m c k j))

/-- The second weight before it is transposed. -/
abbrev tallT : FVec Ideal S1024x1408 .f32 := concatenate S1024x1408 1
  [⟨S1024x1024, colsQ m c⟩, ⟨S1024x256, w6 m c⟩, ⟨S1024x128, steps3 m c⟩]
  concatenates_S1024x1024_S1024x256_S1024x128_S1024x1408_d1

theorem tall_apply (n : Fin 1408) (k : Fin 1024) : tallW m c (ix2 n k) = tallT m c (ix2 k n) := by
  refine (congrFun (V_tall m c) _).trans ?_
  exact transpose_ix2_apply (tallT m c) transposes_S1024x1408_S1408x1024_1_0 n k

theorem tall_q (n : Fin 1024) (k : Fin 1024) : tallW m c (ix2 ⟨n.val, by omega⟩ k)
    = wA m c (ix2 k ⟨5184 + (128 * (n.val / 128) + (pairs ⟨n.val % 128, by omega⟩).val), by omega⟩) := by
  refine (tall_apply m c _ k).trans ?_
  rw [show (⟨n.val, by omega⟩ : Fin 1408) = ⟨0 + n.val, by omega⟩ from Fin.ext (Nat.zero_add _).symm]
  exact (beside 0 (by exact Nat.succ_pos _) (colsQ m c) rfl 0 rfl k n (by omega)).trans (colsQ_apply m c k n)

theorem tall_v (n : Fin 256) (k : Fin 1024) : tallW m c (ix2 ⟨1024 + n.val, by omega⟩ k) = wA m c (ix2 k ⟨6464 + n.val, by omega⟩) :=
  (tall_apply m c _ k).trans ((beside 1 (by exact Nat.succ_lt_succ (Nat.succ_pos _)) (w6 m c) rfl 1024 rfl k n _).trans (piece_apply _ _ _ _ _ _))

theorem tall_d (n : Fin 128) (k : Fin 1024) : tallW m c (ix2 ⟨1280 + n.val, by omega⟩ k)
    = if h : n.val < 64 then wA m c (ix2 k ⟨5120 + n.val, by omega⟩) else 0 :=
  (tall_apply m c _ k).trans ((beside 2 (by exact Nat.lt_succ_self _) (steps3 m c) rfl 1280 rfl k n _).trans (steps3_apply m c k n))

theorem qn_apply (n : Fin 128) : (V m c main_v39 : Vec Ideal S128x1 .f32) (ix2 n 0) = qnA m c (ix1 (pairs n)) :=
  (congrFun (V_qn m c) _).trans ((shapeCast_a_a1_apply _ _ _ _).trans (gain_apply _ n))
theorem kn_apply (n : Fin 128) : (V m c main_v45 : Vec Ideal S1x128 .f32) (ix2 0 n) = knA m c (ix1 (pairs n)) :=
  (congrFun (V_kn m c) _).trans ((shapeCast_a_1a_apply _ _ _ _).trans (gain_apply _ n))
theorem bg_apply (n : Fin 2048) : (V m c main_v46 : Vec Ideal S1x2048 .f32) (ix2 0 n) = bgA m c (ix1 n) :=
  (congrFun (V_bg m c) _).trans (shapeCast_a_1a_apply _ _ _ _)
theorem cb_apply (n : Fin 3072) : (V m c main_v29 : Vec Ideal S1x3072 .f32) (ix2 0 n) = cbA m c (ix1 n) :=
  (congrFun (V_cb m c) _).trans (shapeCast_a_1a_apply _ _ _ _)

/-- A piece of a list put together end to end. -/
theorem along {n : ℕ} {xs : List ((s : Shape) × (s.Idx → EReal))} {h} (p : ℕ) (hp : p < xs.length) {q : ℕ} (x : (⟨1, ![q]⟩ : Shape).Idx → EReal)
    (hx : xs[p] = ⟨⟨1, ![q]⟩, x⟩) (pre : ℕ)
    (hpre : (((xs.take p).map (·.1)).map fun s => if h : s.rank = 1 then s.size ((0 : Fin 1).cast h.symm) else 0).sum = pre)
    (j : Fin q) (r : Fin n) (hr : r.val = pre + j.val) :
    concatenate (⟨1, ![n]⟩ : Shape) 0 xs h (ix1 r) = x (ix1 j) :=
  concatenate_apply_piece (t := ⟨1, ![n]⟩) 0 xs h _ p hp ⟨1, ![q]⟩ x hx rfl pre hpre (ix1 j)
    (fun b hb => by match b with | ⟨0, _⟩ => exact absurd rfl hb) hr.symm

theorem b4_apply (n : Fin 128) : (V m c main_v31 : Vec Ideal S1x128 .f32) (ix2 0 n)
    = if n.val < 64 then bfA m c (ix1 ⟨n.val % 32, by omega⟩) else bbA m c (ix1 ⟨n.val % 32, by omega⟩) := by
  refine (congrFun (V_b4 m c) _).trans ((shapeCast_a_1a_apply _ _ _ _).trans ?_)
  split <;> rename_i h
  · by_cases h' : n.val < 32
    · exact along 0 (by exact Nat.succ_pos _) (bfA m c) rfl 0 rfl _ n (by show n.val = 0 + n.val % 32; omega)
    · exact along 1 (by exact Nat.succ_lt_succ (Nat.succ_pos _)) (bfA m c) rfl 32 rfl _ n (by show n.val = 32 + n.val % 32; omega)
  · by_cases h' : n.val < 96
    · exact along 2 (by exact Nat.succ_lt_succ (Nat.succ_lt_succ (Nat.succ_pos _))) (bbA m c) rfl 64 rfl _ n (by show n.val = 64 + n.val % 32; omega)
    · exact along 3 (by exact Nat.lt_succ_self _) (bbA m c) rfl 96 rfl _ n (by show n.val = 96 + n.val % 32; omega)

theorem b3_apply (n : Fin 128) : (V m c main_v33 : Vec Ideal S128x1 .f32) (ix2 n 0)
    = if n.val < 64 then (if n.val < 32 then bfA m c (ix1 ⟨n.val % 32, by omega⟩) else bbA m c (ix1 ⟨n.val % 32, by omega⟩)) else 0 := by
  refine (congrFun (V_b3 m c) _).trans ((shapeCast_a_a1_apply _ _ _ _).trans ?_)
  split <;> rename_i h
  · split <;> rename_i h'
    · exact along 0 (by exact Nat.succ_pos _) (bfA m c) rfl 0 rfl _ n (by show n.val = 0 + n.val % 32; omega)
    · exact along 1 (by exact Nat.succ_lt_succ (Nat.succ_pos _)) (bbA m c) rfl 32 rfl _ n (by show n.val = 32 + n.val % 32; omega)
  · refine (along 2 (by exact Nat.lt_succ_self _) (broadcastInDim S64 ![] bcast_S_S64 (constant (F := Ideal) S_ .f32 0x00000000#32)) rfl 64 rfl
      ⟨n.val - 64, by omega⟩ n (by show n.val = 64 + (n.val - 64); omega)).trans ?_
    exact Ideal.ofBits_zero_f32

theorem cw_apply (r : Fin 8) (hr : r.val < 5) (n : Fin 3072) : (V m c main_v28 : Vec Ideal S8x3072 .f32) (ix2 r n) = cwA m c (ix2 ⟨r.val, hr⟩ n) :=
  (congrFun (V_cw m c) _).trans (concatenate_apply_piece (t := S8x3072) 0 _ _ (ix2 r n) 0 (by exact Nat.succ_pos _) S5x3072 (cwA m c) rfl rfl 0 rfl
    (ix2 ⟨r.val, hr⟩ n) (fun b hb => by match b with | ⟨0, _⟩ => exact absurd rfl hb | ⟨1, _⟩ => rfl) (Nat.zero_add _))

theorem ta_apply (p : Fin 16384) (k : Fin 128) : (V m c main_v77 : FVec Ideal S16384x128 .f32) (ix2 p k) = ta (csA m c) p k := by
  refine (congrFun (V_ta m c) _).trans ?_
  unfold ta
  obtain ⟨k, hk⟩ := k
  by_cases h : k < 64
  · obtain ⟨j, rfl⟩ : ∃ j, k = 0 + j := ⟨k, (Nat.zero_add _).symm⟩
    refine (beside 0 (by exact Nat.succ_pos _) (csA m c) rfl 0 rfl p ⟨j, by omega⟩ hk).trans ?_
    refine congrArg (fun j => csA m c (ix2 p j)) (Fin.ext ?_); show j = (0 + j) % 64; omega
  · obtain ⟨j, rfl⟩ : ∃ j, k = 64 + j := ⟨k - 64, by omega⟩
    refine (beside 1 (by exact Nat.lt_succ_self _) (csA m c) rfl 64 rfl p ⟨j, by omega⟩ hk).trans ?_
    refine congrArg (fun j => csA m c (ix2 p j)) (Fin.ext ?_); show j = (64 + j) % 64; omega

theorem tb_apply (p : Fin 16384) (k : Fin 128) : (V m c main_v79 : FVec Ideal S16384x128 .f32) (ix2 p k) = tb (snA m c) p k := by
  refine (congrFun (V_tb m c) _).trans ?_
  unfold tb
  obtain ⟨k, hk⟩ := k
  split <;> rename_i h <;> simp only at h
  · obtain ⟨j, rfl⟩ : ∃ j, k = 0 + j := ⟨k, (Nat.zero_add _).symm⟩
    refine (beside 0 (by exact Nat.succ_pos _) (Host.negf (snA m c)) rfl 0 rfl p ⟨j, by omega⟩ hk).trans ?_
    show -(snA m c (ix2 p ⟨j, _⟩)) = _
    exact congrArg (fun j => -(snA m c (ix2 p j))) (Fin.ext (Nat.zero_add _).symm)
  · obtain ⟨j, rfl⟩ : ∃ j, k = 64 + j := ⟨k - 64, by omega⟩
    refine (beside 1 (by exact Nat.lt_succ_self _) (snA m c) rfl 64 rfl p ⟨j, by omega⟩ hk).trans ?_
    refine congrArg (fun j => snA m c (ix2 p j)) (Fin.ext ?_); show j = 64 + j - 64; omega

theorem tat_apply (p : Fin 16384) (k : Fin 128) : (V m c main_v80 : FVec Ideal S128x16384 .f32) (ix2 k p) = ta (csA m c) p k :=
  (congrFun (V_tat m c) _).trans ((transpose_ix2_apply _ _ k p).trans (ta_apply m c p k))
theorem tbt_apply (p : Fin 16384) (k : Fin 128) : (V m c main_v81 : FVec Ideal S128x16384 .f32) (ix2 k p) = tb (snA m c) p k :=
  (congrFun (V_tbt m c) _).trans ((transpose_ix2_apply _ _ k p).trans (tb_apply m c p k))

end

end Cert.ProjK

end
-- ==== Proof.ProjKernel.lean ====
module

public import proofs.«01_k».proof.Proof.ProjPoint
public import proofs.«01_k».proof.Proof.ProjWeights

/-!
The eight results of the projection's kernel as functions of its arguments.
-/

@[expose] public section

set_option maxRecDepth 16384

noncomputable section

namespace Cert.ProjK

open Idealize.ShloMosaic Idealize.ShloMosaic.Tactic Idealize.ShloMosaic.TcCoe Idealize.ShloMosaic.ValueIdx Cert.KernelProjIdeal Cert.KernelProjIdeal.Gen Cert.ProjRows
  Cert.ProjSpec

theorem point_lt (t : Fin cfg0.N) : t.val < 128 := t.isLt.trans_eq N_0

/-- The blocks the windows show at a grid point. -/
theorem shown_in : ∀ t : Fin cfg0.N,
    win0_0.index t = ![t.val / 64, t.val % 64, 0] ∧ win0_1.index t = ![t.val / 64, 16 * (t.val % 64) - 1, 0]
    ∧ win0_2.index t = ![t.val / 64, min (16 * (t.val % 64 + 1)) 1023, 0] ∧ win0_3.index t = ![0, 0] ∧ win0_4.index t = ![0, 0]
    ∧ win0_5.index t = ![t.val % 64, 0] ∧ win0_6.index t = ![t.val % 64, 0]
    ∧ win0_7.index t = ![0, t.val % 64] ∧ win0_8.index t = ![0, t.val % 64]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] := by
  decide +kernel

theorem shown_out : ∀ t : Fin cfg0.N,
    win0_16.index t = ![t.val / 64, t.val % 64, 0] ∧ win0_17.index t = ![t.val / 64, t.val % 64, 0]
    ∧ win0_18.index t = ![t.val / 64, 0, t.val % 64] ∧ win0_19.index t = ![t.val / 64, t.val % 64, 0]
    ∧ win0_20.index t = ![t.val / 64, 0, t.val % 64] ∧ win0_21.index t = ![t.val / 64, t.val % 64, 0]
    ∧ win0_22.index t = ![t.val / 64, t.val % 64, 0] ∧ win0_23.index t = ![t.val / 64, 0, t.val % 64] := by
  decide +kernel

theorem coord : ∀ t : Fin cfg0.N, (grid0.coords t 1).val = t.val % 64 := by decide +kernel

/-- Position `r` of the block of point `t`, as the position of the stream it is. -/
abbrev at0 (t : Fin cfg0.N) : Fin 2 := ⟨t.val / 64, by have := point_lt t; omega⟩
abbrev at1 (t : Fin cfg0.N) (r : Fin 256) : Fin 16384 := ⟨256 * (t.val % 64) + r.val, by omega⟩

/-- An entry of a result that is given entry by entry. -/
theorem arr3_at {A B C : ℕ} (f : Fin A → Fin B → Fin C → EReal) (a : Fin A) (b : Fin B) (d : Fin C) (i : (⟨3, ![A, B, C]⟩ : Shape).Idx)
    (h0 : (i 0).val = a.val) (h1 : (i 1).val = b.val) (h2 : (i 2).val = d.val) : f a b d = arr3 f i := by
  unfold arr3
  rw [show i 0 = a from Fin.ext h0, show i 1 = b from Fin.ext h1, show i 2 = d from Fin.ext h2]

variable (m : (ℓ : Loc nD τ sig) → Buf (Elt Ideal) ℓ) (c : Dev nD)

/-- The blocks of a point, at their own shapes. -/
abbrev b0 (t : Fin cfg0.N) : Vec Ideal S1x256x1024 .bf16 := iblk m c 0 t
abbrev b1 (t : Fin cfg0.N) : Vec Ideal S1x16x1024 .bf16 := iblk m c 1 t
abbrev b2 (t : Fin cfg0.N) : Vec Ideal S1x16x1024 .bf16 := iblk m c 2 t
abbrev b3 (t : Fin cfg0.N) : Vec Ideal S1024x7552 .bf16 := iblk m c 3 t
abbrev b4 (t : Fin cfg0.N) : Vec Ideal S1408x1024 .bf16 := iblk m c 4 t
abbrev b5 (t : Fin cfg0.N) : Vec Ideal S256x128 .f32 := iblk m c 5 t
abbrev b6 (t : Fin cfg0.N) : Vec Ideal S256x128 .f32 := iblk m c 6 t
abbrev b7 (t : Fin cfg0.N) : Vec Ideal S128x256 .f32 := iblk m c 7 t
abbrev b8 (t : Fin cfg0.N) : Vec Ideal S128x256 .f32 := iblk m c 8 t
abbrev b9 (t : Fin cfg0.N) : Vec Ideal S128x1 .f32 := iblk m c 9 t
abbrev b10 (t : Fin cfg0.N) : Vec Ideal S1x128 .f32 := iblk m c 10 t
abbrev b11 (t : Fin cfg0.N) : Vec Ideal S1x2048 .f32 := iblk m c 11 t
abbrev b12 (t : Fin cfg0.N) : Vec Ideal S1x128 .f32 := iblk m c 12 t
abbrev b13 (t : Fin cfg0.N) : Vec Ideal S128x1 .f32 := iblk m c 13 t
abbrev b14 (t : Fin cfg0.N) : Vec Ideal S8x3072 .f32 := iblk m c 14 t
abbrev b15 (t : Fin cfg0.N) : Vec Ideal S1x3072 .f32 := iblk m c 15 t

theorem block_u (t : Fin cfg0.N) (r : Fin 256) (k : Fin 1024) : b0 m c t (ix3 0 r k) = uA m c (ix3 (at0 t) (at1 t r) k) := by
  have idx := shown_in t
  blk_ext [iblk, V, idx]
  all_goals first | (show _ + r.val = _; omega) | (show _ + k.val = _; omega)

theorem block_before (t : Fin cfg0.N) (r : Fin 16) (k : Fin 1024) (p : Fin 16384) (hp : p.val = 16 * (16 * (t.val % 64) - 1) + r.val) :
    b1 m c t (ix3 0 r k) = uA m c (ix3 (at0 t) p k) := by
  have idx := shown_in t
  blk_ext [iblk, V, idx]
  all_goals first | (show _ + r.val = p.val; omega) | (show _ + k.val = _; omega)

theorem block_after (t : Fin cfg0.N) (r : Fin 16) (k : Fin 1024) (p : Fin 16384) (hp : p.val = 16 * min (16 * (t.val % 64 + 1)) 1023 + r.val) :
    b2 m c t (ix3 0 r k) = uA m c (ix3 (at0 t) p k) := by
  have idx := shown_in t
  blk_ext [iblk, V, idx]
  all_goals first | (show _ + r.val = p.val; omega) | (show _ + k.val = _; omega)

theorem block_wide (t : Fin cfg0.N) (r : Fin 1024) (k : Fin 7552) : b3 m c t (ix2 r k) = (V m c main_v25 : Vec Ideal S1024x7552 .bf16) (ix2 r k) := by
  have idx := shown_in t
  blk_ext [iblk, idx]
  all_goals first | (show _ + r.val = _; omega) | (show _ + k.val = _; omega)

theorem block_tall (t : Fin cfg0.N) (r : Fin 1408) (k : Fin 1024) : b4 m c t (ix2 r k) = (V m c main_v26 : Vec Ideal S1408x1024 .bf16) (ix2 r k) := by
  have idx := shown_in t
  blk_ext [iblk, idx]
  all_goals first | (show _ + r.val = _; omega) | (show _ + k.val = _; omega)

theorem block_ta (t : Fin cfg0.N) (r : Fin 256) (k : Fin 128) : b5 m c t (ix2 r k) = (V m c main_v77 : Vec Ideal S16384x128 .f32) (ix2 (at1 t r) k) := by
  have idx := shown_in t
  blk_ext [iblk, idx]
  all_goals first | (show _ + r.val = _; omega) | (show _ + k.val = _; omega)

theorem block_tb (t : Fin cfg0.N) (r : Fin 256) (k : Fin 128) : b6 m c t (ix2 r k) = (V m c main_v79 : Vec Ideal S16384x128 .f32) (ix2 (at1 t r) k) := by
  have idx := shown_in t
  blk_ext [iblk, idx]
  all_goals first | (show _ + r.val = _; omega) | (show _ + k.val = _; omega)

theorem block_tat (t : Fin cfg0.N) (r : Fin 128) (k : Fin 256) : b7 m c t (ix2 r k) = (V m c main_v80 : Vec Ideal S128x16384 .f32) (ix2 r (at1 t k)) := by
  have idx := shown_in t
  blk_ext [iblk, idx]
  all_goals first | (show _ + r.val = _; omega) | (show _ + k.val = _; omega)

theorem block_tbt (t : Fin cfg0.N) (r : Fin 128) (k : Fin 256) : b8 m c t (ix2 r k) = (V m c main_v81 : Vec Ideal S128x16384 .f32) (ix2 r (at1 t k)) := by
  have idx := shown_in t
  blk_ext [iblk, idx]
  all_goals first | (show _ + r.val = _; omega) | (show _ + k.val = _; omega)

theorem block_qn (t : Fin cfg0.N) (r : Fin 128) (k : Fin 1) : b9 m c t (ix2 r k) = (V m c main_v39 : Vec Ideal S128x1 .f32) (ix2 r k) := by
  have idx := shown_in t
  blk_ext [iblk, idx]
  all_goals first | (show _ + r.val = _; omega) | (show _ + k.val = _; omega)

theorem block_kn (t : Fin cfg0.N) (r : Fin 1) (k : Fin 128) : b10 m c t (ix2 r k) = (V m c main_v45 : Vec Ideal S1x128 .f32) (ix2 r k) := by
  have idx := shown_in t
  blk_ext [iblk, idx]
  all_goals first | (show _ + r.val = _; omega) | (show _ + k.val = _; omega)

theorem block_bg (t : Fin cfg0.N) (r : Fin 1) (k : Fin 2048) : b11 m c t (ix2 r k) = (V m c main_v46 : Vec Ideal S1x2048 .f32) (ix2 r k) := by
  have idx := shown_in t
  blk_ext [iblk, idx]
  all_goals first | (show _ + r.val = _; omega) | (show _ + k.val = _; omega)

theorem block_b4 (t : Fin cfg0.N) (r : Fin 1) (k : Fin 128) : b12 m c t (ix2 r k) = (V m c main_v31 : Vec Ideal S1x128 .f32) (ix2 r k) := by
  have idx := shown_in t
  blk_ext [iblk, idx]
  all_goals first | (show _ + r.val = _; omega) | (show _ + k.val = _; omega)

theorem block_b3 (t : Fin cfg0.N) (r : Fin 128) (k : Fin 1) : b13 m c t (ix2 r k) = (V m c main_v33 : Vec Ideal S128x1 .f32) (ix2 r k) := by
  have idx := shown_in t
  blk_ext [iblk, idx]
  all_goals first | (show _ + r.val = _; omega) | (show _ + k.val = _; omega)

theorem block_cw (t : Fin cfg0.N) (r : Fin 8) (k : Fin 3072) : b14 m c t (ix2 r k) = (V m c main_v28 : Vec Ideal S8x3072 .f32) (ix2 r k) := by
  have idx := shown_in t
  blk_ext [iblk, idx]
  all_goals first | (show _ + r.val = _; omega) | (show _ + k.val = _; omega)

theorem block_cb (t : Fin cfg0.N) (r : Fin 1) (k : Fin 3072) : b15 m c t (ix2 r k) = (V m c main_v29 : Vec Ideal S1x3072 .f32) (ix2 r k) := by
  have idx := shown_in t
  blk_ext [iblk, idx]
  all_goals first | (show _ + r.val = _; omega) | (show _ + k.val = _; omega)

/-! What a point leaves, output by output. -/

theorem left16 (t : Fin cfg0.N) : (outsAt0 m c t).1 = out0_A_16 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left17 (t : Fin cfg0.N) : (outsAt0 m c t).2.1 = out0_A_17 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left18 (t : Fin cfg0.N) : (outsAt0 m c t).2.2.1 = out0_A_18 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left19 (t : Fin cfg0.N) : (outsAt0 m c t).2.2.2.1 = out0_A_19 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left20 (t : Fin cfg0.N) : (outsAt0 m c t).2.2.2.2.1 = out0_A_20 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left21 (t : Fin cfg0.N) : (outsAt0 m c t).2.2.2.2.2.1 = out0_A_21 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left22 (t : Fin cfg0.N) : (outsAt0 m c t).2.2.2.2.2.2.1 = out0_A_22 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

theorem left23 (t : Fin cfg0.N) : (outsAt0 m c t).2.2.2.2.2.2.2 = out0_A_23 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t) := by
  sl_kernel_rfl

/-- A row of a block times a column of the weight, wherever the grid keeps that column. -/
theorem row_pre (t : Fin cfg0.N) (r : Fin 256) (v : Fin 1024 → EReal) (j : Fin 8768) (h : ∀ k, v k = wA m c (ix2 k j)) :
    ∑ k : Fin 1024, b0 m c t (ix3 0 r k) * v k = pre (uA m c) (wA m c) (at0 t) (at1 t r) j :=
  Finset.sum_congr rfl fun k _ => congrArg₂ (fun a b : EReal => a * b) (block_u m c t r k) (h k)

theorem point16 (t : Fin cfg0.N) (r : Fin 256) (j : Fin 2048) :
    (outsAt0 m c t).1 (ix3 0 r j) = zAt (uA m c) (wA m c) (at0 t) (at1 t r) j :=
  ((congrFun (left16 m c t) _).trans (block16 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    r j)).trans (row_pre m c t r _ _ fun k => (block_wide m c t k _).trans (wide_z m c k j))

theorem point21 (t : Fin cfg0.N) (r : Fin 256) (j : Fin 2048) :
    (outsAt0 m c t).2.2.2.2.2.1 (ix3 0 r j) = gAt (uA m c) (wA m c) (bgA m c) (at0 t) (at1 t r) j :=
  ((congrFun (left21 m c t) _).trans (block21 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    r j)).trans (congrArg Ideal.logistic (congrArg₂ (fun a b : EReal => a + b)
    (row_pre m c t r _ _ fun k => (block_wide m c t k _).trans (wide_g m c k j)) ((block_bg m c t 0 j).trans (bg_apply m c j))))

theorem point20 (t : Fin cfg0.N) (j : Fin 256) (r : Fin 256) :
    (outsAt0 m c t).2.2.2.2.1 (ix3 0 j r) = vAt (uA m c) (wA m c) (at0 t) j (at1 t r) :=
  ((congrFun (left20 m c t) _).trans (block20 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    j r)).trans (row_pre m c t r _ _ fun k => (block_tall m c t _ k).trans (tall_v m c j k))

theorem point22 (t : Fin cfg0.N) (r : Fin 256) (j : Fin 128) :
    (outsAt0 m c t).2.2.2.2.2.2.1 (ix3 0 r j) = dAt (uA m c) (wA m c) (bfA m c) (bbA m c) (at0 t) (at1 t r) j := by
  refine ((congrFun (left22 m c t) _).trans (block22 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    r j)).trans ?_
  have eb := (block_b4 m c t 0 j).trans (b4_apply m c j)
  have ew := fun k => (block_wide m c t k _).trans (wide_d m c k j)
  unfold dAt
  split <;> rename_i h
  · exact congrArg softplus (congrArg₂ (fun a b : EReal => a + b)
      (row_pre m c t r _ _ fun k => (ew k).trans (if_pos h)) (eb.trans (if_pos h)))
  · exact congrArg softplus (congrArg₂ (fun a b : EReal => a + b)
      (row_pre m c t r _ _ fun k => (ew k).trans (if_neg h)) (eb.trans (if_neg h)))

theorem point23 (t : Fin cfg0.N) (j : Fin 128) (r : Fin 256) :
    (outsAt0 m c t).2.2.2.2.2.2.2 (ix3 0 j r) = eAt (uA m c) (wA m c) (bfA m c) (bbA m c) (at0 t) j (at1 t r) := by
  refine ((congrFun (left23 m c t) _).trans (block23 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    j r)).trans ?_
  have eb := (block_b3 m c t j 0).trans (b3_apply m c j)
  have ew := fun k => (block_tall m c t _ k).trans (tall_d m c j k)
  unfold eAt
  split <;> rename_i h
  · split <;> rename_i h'
    · refine congrArg softplus (congrArg₂ (fun a b : EReal => a + b)
        (row_pre m c t r _ ⟨5120 + j.val % 32, by omega⟩ fun k => (ew k).trans ((dif_pos h).trans ?_)) (eb.trans ((if_pos h).trans (if_pos h'))))
      exact congrArg (fun j => wA m c (ix2 k j)) (Fin.ext (show 5120 + j.val = 5120 + j.val % 32 by omega))
    · refine congrArg softplus (congrArg₂ (fun a b : EReal => a + b)
        (row_pre m c t r _ ⟨5152 + j.val % 32, by omega⟩ fun k => (ew k).trans ((dif_pos h).trans ?_)) (eb.trans ((if_pos h).trans (if_neg h'))))
      exact congrArg (fun j => wA m c (ix2 k j)) (Fin.ext (show 5120 + j.val = 5152 + j.val % 32 by omega))
  · refine congrArg softplus ((congrArg₂ (fun a b : EReal => a + b) (Finset.sum_eq_zero fun k _ => ?_) (eb.trans (if_neg h))).trans (zero_add 0))
    exact (congrArg (fun z : EReal => _ * z) ((ew k).trans (dif_neg h))).trans (mul_zero _)

/-- A normalized head whose columns are taken pair by pair. -/
theorem head_eq (t : Fin cfg0.N) (r : Fin 256) (v : Fin 1024 → Fin 128 → EReal) (g a b : Fin 128 → EReal) (gain : Vec Ideal S128 .f32)
    (base : ℕ) (hbase : base + 128 ≤ 8768) (j : Fin 128)
    (hv : ∀ i k, v i k = wA m c (ix2 i ⟨base + (pairs k).val, by omega⟩)) (hg : ∀ k, g k = gain (ix1 (pairs k)))
    (ha : ∀ k, a k = ta (csA m c) (at1 t r) k) (hb : ∀ k, b k = tb (snA m c) (at1 t r) k) :
    turn (headNorm (fun k => ∑ i : Fin 1024, b0 m c t (ix3 0 r i) * v i k) g) a b j
      = head (uA m c) (wA m c) gain (csA m c) (snA m c) (at0 t) (at1 t r) base hbase j := by
  unfold head
  have e1 : headNorm (fun k => ∑ i : Fin 1024, b0 m c t (ix3 0 r i) * v i k) g
      = fun k => headNorm (fun i => pre (uA m c) (wA m c) (at0 t) (at1 t r) ⟨base + i.val, by omega⟩) (fun i => gain (ix1 i)) (pairs k) := by
    rw [show (fun k => ∑ i : Fin 1024, b0 m c t (ix3 0 r i) * v i k)
        = fun k => pre (uA m c) (wA m c) (at0 t) (at1 t r) ⟨base + (pairs k).val, by omega⟩ from
      funext fun k => row_pre m c t r _ _ fun i => hv i k, show g = fun k => gain (ix1 (pairs k)) from funext hg]
    exact funext fun k => headNorm_pairs (fun i => pre (uA m c) (wA m c) (at0 t) (at1 t r) ⟨base + i.val, by omega⟩) (fun i => gain (ix1 i)) k
  rw [e1, show a = ta (csA m c) (at1 t r) from funext ha, show b = tb (snA m c) (at1 t r) from funext hb]

theorem point19 (t : Fin cfg0.N) (r : Fin 256) (j : Fin 256) :
    (outsAt0 m c t).2.2.2.1 (ix3 0 r j) = kAt (uA m c) (wA m c) (knA m c) (csA m c) (snA m c) (at0 t) (at1 t r) j := by
  have hj : j = (⟨128 * (j.val / 128) + (⟨j.val % 128, by omega⟩ : Fin 128).val, by show 128 * (j.val / 128) + j.val % 128 < 256; omega⟩ : Fin 256) :=
    Fin.ext (by show j.val = 128 * (j.val / 128) + j.val % 128; omega)
  refine (congrArg (fun j => (outsAt0 m c t).2.2.2.1 (ix3 0 r j)) hj).trans ?_
  refine ((congrFun (left19 m c t) _).trans (block19 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    r (j.val / 128) (by omega) ⟨j.val % 128, by omega⟩)).trans ?_
  refine head_eq m c t r _ _ _ _ (knA m c) (6208 + 128 * (j.val / 128)) (by omega) ⟨j.val % 128, by omega⟩ (fun i k => ?_)
    (fun k => (block_kn m c t 0 k).trans (kn_apply m c k)) (fun k => (block_ta m c t r k).trans (ta_apply m c _ k))
    (fun k => (block_tb m c t r k).trans (tb_apply m c _ k))
  have hk := k.isLt
  refine (block_wide m c t i _).trans ((congrArg (fun j => wideW m c (ix2 i j)) (Fin.ext ?_)).trans ((wide_k m c i ⟨128 * (j.val / 128) + k.val, by omega⟩).trans ?_))
  · show 5120 + 128 * (j.val / 128) + k.val = 5120 + (128 * (j.val / 128) + k.val); omega
  · refine congrArg (fun j => wA m c (ix2 i j)) (Fin.ext ?_)
    have e : (⟨(128 * (j.val / 128) + k.val) % 128, by omega⟩ : Fin 128) = k := Fin.ext (by show (128 * (j.val / 128) + k.val) % 128 = k.val; omega)
    show 6208 + (128 * ((128 * (j.val / 128) + k.val) / 128) + (pairs ⟨(128 * (j.val / 128) + k.val) % 128, _⟩).val) = 6208 + 128 * (j.val / 128) + (pairs k).val
    rw [e]; omega

theorem point18 (t : Fin cfg0.N) (j : Fin 1024) (r : Fin 256) :
    (outsAt0 m c t).2.2.1 (ix3 0 j r) = qAt (uA m c) (wA m c) (qnA m c) (csA m c) (snA m c) (at0 t) j (at1 t r) := by
  have hj : j = (⟨128 * (j.val / 128) + (⟨j.val % 128, by omega⟩ : Fin 128).val, by show 128 * (j.val / 128) + j.val % 128 < 1024; omega⟩ : Fin 1024) :=
    Fin.ext (by show j.val = 128 * (j.val / 128) + j.val % 128; omega)
  refine (congrArg (fun j => (outsAt0 m c t).2.2.1 (ix3 0 j r)) hj).trans ?_
  refine ((congrFun (left18 m c t) _).trans (block18 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    (j.val / 128) (by omega) ⟨j.val % 128, by omega⟩ r)).trans ?_
  refine congrArg (fun z : EReal => z * _) ?_
  refine head_eq m c t r (fun i k => b4 m c t (ix2 ⟨128 * (j.val / 128) + k.val, by omega⟩ i)) _ _ _ (qnA m c) (5184 + 128 * (j.val / 128)) (by omega) ⟨j.val % 128, by omega⟩ (fun i k => ?_)
    (fun k => (block_qn m c t k 0).trans (qn_apply m c k)) (fun k => (block_tat m c t k r).trans (tat_apply m c _ k))
    (fun k => (block_tbt m c t k r).trans (tbt_apply m c _ k))
  have hk := k.isLt
  refine (block_tall m c t _ i).trans ((tall_q m c ⟨128 * (j.val / 128) + k.val, by omega⟩ i).trans ?_)
  refine congrArg (fun j => wA m c (ix2 i j)) (Fin.ext ?_)
  have e : (⟨(128 * (j.val / 128) + k.val) % 128, by omega⟩ : Fin 128) = k := Fin.ext (by show (128 * (j.val / 128) + k.val) % 128 = k.val; omega)
  show 5184 + (128 * ((128 * (j.val / 128) + k.val) / 128) + (pairs ⟨(128 * (j.val / 128) + k.val) % 128, _⟩).val) = 5184 + 128 * (j.val / 128) + (pairs k).val
  rw [e]; omega

/-- A row of the block or next to it, as the convolution reads it. -/
theorem row_x (t : Fin cfg0.N) (r : Fin 288) (j : Fin 3072) (q : ℕ) (hq : q + 14 = 256 * (t.val % 64) + r.val) :
    rowX (grid0.coords t 1).val (b0 m c t) (b1 m c t) (b2 m c t) (b3 m c t) r j = xAt (uA m c) (wA m c) (at0 t) q j := by
  have hr := r.isLt
  have ew : ∀ k, b3 m c t (ix2 k ⟨2048 + j.val, by omega⟩) = wA m c (ix2 k ⟨2048 + j.val, by omega⟩) := fun k =>
    (block_wide m c t k _).trans (wide_x m c k j)
  have some : ∀ h : 2 ≤ q ∧ q < 16386, (∀ k, edge (b0 m c t) (b1 m c t) (b2 m c t) r k = uA m c (ix3 (at0 t) ⟨q - 2, by omega⟩ k)) →
      ∑ k : Fin 1024, edge (b0 m c t) (b1 m c t) (b2 m c t) r k * b3 m c t (ix2 k ⟨2048 + j.val, by omega⟩) = xAt (uA m c) (wA m c) (at0 t) q j := fun h he => by
    rw [xAt, dif_pos h]
    exact Finset.sum_congr rfl fun k _ => congrArg₂ (fun a b : EReal => a * b) (he k) (ew k)
  unfold rowX cut
  rw [coord]
  by_cases h1 : r.val < 16
  · rw [if_pos h1]
    by_cases h0 : t.val % 64 = 0
    · rw [if_pos h0, xAt, dif_neg (by omega)]
    · rw [if_neg h0]
      refine some (by omega) fun k => ?_
      rw [edge, dif_pos h1]
      exact block_before m c t _ k _ (by show q - 2 = 16 * (16 * (t.val % 64) - 1) + r.val; omega)
  · rw [if_neg h1]
    by_cases h2 : r.val < 272
    · rw [if_pos h2]
      refine some (by omega) fun k => ?_
      rw [edge, dif_neg h1, dif_pos h2]
      refine (block_u m c t _ k).trans (congrArg (fun p => uA m c (ix3 (at0 t) p k)) (Fin.ext ?_))
      show 256 * (t.val % 64) + (r.val - 16) = q - 2; omega
    · rw [if_neg h2]
      by_cases h3 : t.val % 64 = 63
      · rw [if_pos h3, xAt, dif_neg (by omega)]
      · rw [if_neg h3]
        refine some (by omega) fun k => ?_
        rw [edge, dif_neg h1, dif_neg h2]
        exact block_after m c t _ k _ (by show q - 2 = 16 * min (16 * (t.val % 64 + 1)) 1023 + (r.val - 272); omega)

theorem row_s (t : Fin cfg0.N) (r : Fin 256) (j : Fin 3072) :
    rowS (grid0.coords t 1).val (b0 m c t) (b1 m c t) (b2 m c t) (b3 m c t) (b14 m c t) (b15 m c t) r j
      = sAt (uA m c) (wA m c) (cwA m c) (cbA m c) (at0 t) (at1 t r) j := by
  unfold rowS sAt
  have ec : ∀ (k : Fin 8) (hk : k.val < 5), b14 m c t (ix2 k j) = cwA m c (ix2 ⟨k.val, hk⟩ j) := fun k hk =>
    (block_cw m c t k j).trans (cw_apply m c k hk j)
  rw [(block_cb m c t 0 j).trans (cb_apply m c j), ec 0 (by decide), ec 1 (by decide), ec 2 (by decide), ec 3 (by decide), ec 4 (by decide),
    row_x m c t _ j (at1 t r).val (by show 256 * (t.val % 64) + r.val + 14 = _ + (r.val + 14); omega),
    row_x m c t _ j ((at1 t r).val + 1) (by show 256 * (t.val % 64) + r.val + 1 + 14 = _ + (r.val + 15); omega),
    row_x m c t _ j ((at1 t r).val + 2) (by show 256 * (t.val % 64) + r.val + 2 + 14 = _ + (r.val + 16); omega),
    row_x m c t _ j ((at1 t r).val + 3) (by show 256 * (t.val % 64) + r.val + 3 + 14 = _ + (r.val + 17); omega),
    row_x m c t _ j ((at1 t r).val + 4) (by show 256 * (t.val % 64) + r.val + 4 + 14 = _ + (r.val + 18); omega)]
  rfl

theorem point17 (t : Fin cfg0.N) (r : Fin 256) (j : Fin 3072) :
    (outsAt0 m c t).2.1 (ix3 0 r j) = cAt (uA m c) (wA m c) (cwA m c) (cbA m c) (at0 t) (at1 t r) j := by
  have hj : j = (⟨512 * (j.val / 512) + (⟨j.val % 512, by omega⟩ : Fin 512).val, by show 512 * (j.val / 512) + j.val % 512 < 3072; omega⟩ : Fin 3072) :=
    Fin.ext (by show j.val = 512 * (j.val / 512) + j.val % 512; omega)
  refine (congrArg (fun j => (outsAt0 m c t).2.1 (ix3 0 r j)) hj).trans ?_
  refine ((congrFun (left17 m c t) _).trans (block17 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk
    m c 13 t) (iblk m c 14 t) (iblk m c 15 t)
    (j.val / 512) (by omega) r ⟨j.val % 512, by omega⟩)).trans ?_
  rw [← hj]
  unfold cAt
  rw [← row_s m c t r j]

/-- An entry of a block, by its coordinates. -/
theorem entry {B C : ℕ} (y : (⟨3, ![1, B, C]⟩ : Shape).Idx) (h0 : (y 0).val < 1) (h1 : (y 1).val < B) (h2 : (y 2).val < C) :
    y = ix3 (0 : Fin 1) (⟨(y 1).val, h1⟩ : Fin B) (⟨(y 2).val, h2⟩ : Fin C) := by
  funext a
  apply Fin.ext
  match a with
  | 0 => show (y 0).val = 0; omega
  | 1 => rfl
  | 2 => rfl

/-! The results. -/

theorem out16 : (dats m 0 c).arrAt 16 cfg0.N = (arr3 (zAt (uA m c) (wA m c)) : FVec Ideal S2x16384x2048 .f32) := by
  refine (dats m 0 c).arrAt_eq_of_covers 16 _ (by decide +kernel) fun t hf y => ?_
  have idx := (shown_out t).1
  have hy2 : (y 2).val < 2048 := (y 2).isLt
  have hy1 : (y 1).val < 256 := (y 1).isLt
  have hy0 : (y 0).val < 1 := (y 0).isLt
  blk_simp
  rw [after0_16]
  refine Eq.trans (congrArg (outsAt0 m c t).1 (entry y hy0 hy1 hy2)) ((point16 m c t ⟨(y 1).val, hy1⟩ ⟨(y 2).val, hy2⟩).trans ?_)
  exact arr3_at (zAt (uA m c) (wA m c)) _ _ _ _ ((Pipeline.Window.rect_emb_val win0_16 t y 0).trans (by rw [idx]; show t.val / 64 * 1 + (y 0).val = t.val / 64; omega))
    ((Pipeline.Window.rect_emb_val win0_16 t y 1).trans (by rw [idx]; show t.val % 64 * 256 + (y 1).val = 256 * (t.val % 64) + (y 1).val; omega)) ((Pipeline.Window.rect_emb_val win0_16 t y 2).trans (by rw [idx]; show 0 * 2048 + (y 2).val = (y 2).val; omega))

theorem out17 : (dats m 0 c).arrAt 17 cfg0.N = (arr3 (cAt (uA m c) (wA m c) (cwA m c) (cbA m c)) : FVec Ideal S2x16384x3072 .f32) := by
  refine (dats m 0 c).arrAt_eq_of_covers 17 _ (by decide +kernel) fun t hf y => ?_
  have idx := (shown_out t).2.1
  have hy2 : (y 2).val < 3072 := (y 2).isLt
  have hy1 : (y 1).val < 256 := (y 1).isLt
  have hy0 : (y 0).val < 1 := (y 0).isLt
  blk_simp
  rw [after0_17]
  refine Eq.trans (congrArg (outsAt0 m c t).2.1 (entry y hy0 hy1 hy2)) ((point17 m c t ⟨(y 1).val, hy1⟩ ⟨(y 2).val, hy2⟩).trans ?_)
  exact arr3_at (cAt (uA m c) (wA m c) (cwA m c) (cbA m c)) _ _ _ _ ((Pipeline.Window.rect_emb_val win0_17 t y 0).trans (by rw [idx]; show t.val / 64 * 1 + (y 0).val = t.val / 64; omega))
    ((Pipeline.Window.rect_emb_val win0_17 t y 1).trans (by rw [idx]; show t.val % 64 * 256 + (y 1).val = 256 * (t.val % 64) + (y 1).val; omega)) ((Pipeline.Window.rect_emb_val win0_17 t y 2).trans (by rw [idx]; show 0 * 3072 + (y 2).val = (y 2).val; omega))

theorem out18 : (dats m 0 c).arrAt 18 cfg0.N = (arr3 (qAt (uA m c) (wA m c) (qnA m c) (csA m c) (snA m c)) : FVec Ideal S2x1024x16384 .bf16) := by
  refine (dats m 0 c).arrAt_eq_of_covers 18 _ (by decide +kernel) fun t hf y => ?_
  have idx := (shown_out t).2.2.1
  have hy2 : (y 2).val < 256 := (y 2).isLt
  have hy1 : (y 1).val < 1024 := (y 1).isLt
  have hy0 : (y 0).val < 1 := (y 0).isLt
  blk_simp
  rw [after0_18]
  refine Eq.trans (congrArg (outsAt0 m c t).2.2.1 (entry y hy0 hy1 hy2)) ((point18 m c t ⟨(y 1).val, hy1⟩ ⟨(y 2).val, hy2⟩).trans ?_)
  exact arr3_at (qAt (uA m c) (wA m c) (qnA m c) (csA m c) (snA m c)) _ _ _ _ ((Pipeline.Window.rect_emb_val win0_18 t y 0).trans (by rw [idx]; show t.val / 64 * 1 + (y 0).val = t.val / 64; omega))
    ((Pipeline.Window.rect_emb_val win0_18 t y 1).trans (by rw [idx]; show 0 * 1024 + (y 1).val = (y 1).val; omega)) ((Pipeline.Window.rect_emb_val win0_18 t y 2).trans (by rw [idx]; show t.val % 64 * 256 + (y 2).val = 256 * (t.val % 64) + (y 2).val; omega))

theorem out19 : (dats m 0 c).arrAt 19 cfg0.N = (arr3 (kAt (uA m c) (wA m c) (knA m c) (csA m c) (snA m c)) : FVec Ideal S2x16384x256 .bf16) := by
  refine (dats m 0 c).arrAt_eq_of_covers 19 _ (by decide +kernel) fun t hf y => ?_
  have idx := (shown_out t).2.2.2.1
  have hy2 : (y 2).val < 256 := (y 2).isLt
  have hy1 : (y 1).val < 256 := (y 1).isLt
  have hy0 : (y 0).val < 1 := (y 0).isLt
  blk_simp
  rw [after0_19]
  refine Eq.trans (congrArg (outsAt0 m c t).2.2.2.1 (entry y hy0 hy1 hy2)) ((point19 m c t ⟨(y 1).val, hy1⟩ ⟨(y 2).val, hy2⟩).trans ?_)
  exact arr3_at (kAt (uA m c) (wA m c) (knA m c) (csA m c) (snA m c)) _ _ _ _ ((Pipeline.Window.rect_emb_val win0_19 t y 0).trans (by rw [idx]; show t.val / 64 * 1 + (y 0).val = t.val / 64; omega))
    ((Pipeline.Window.rect_emb_val win0_19 t y 1).trans (by rw [idx]; show t.val % 64 * 256 + (y 1).val = 256 * (t.val % 64) + (y 1).val; omega)) ((Pipeline.Window.rect_emb_val win0_19 t y 2).trans (by rw [idx]; show 0 * 256 + (y 2).val = (y 2).val; omega))

theorem out20 : (dats m 0 c).arrAt 20 cfg0.N = (arr3 (vAt (uA m c) (wA m c)) : FVec Ideal S2x256x16384 .bf16) := by
  refine (dats m 0 c).arrAt_eq_of_covers 20 _ (by decide +kernel) fun t hf y => ?_
  have idx := (shown_out t).2.2.2.2.1
  have hy2 : (y 2).val < 256 := (y 2).isLt
  have hy1 : (y 1).val < 256 := (y 1).isLt
  have hy0 : (y 0).val < 1 := (y 0).isLt
  blk_simp
  rw [after0_20]
  refine Eq.trans (congrArg (outsAt0 m c t).2.2.2.2.1 (entry y hy0 hy1 hy2)) ((point20 m c t ⟨(y 1).val, hy1⟩ ⟨(y 2).val, hy2⟩).trans ?_)
  exact arr3_at (vAt (uA m c) (wA m c)) _ _ _ _ ((Pipeline.Window.rect_emb_val win0_20 t y 0).trans (by rw [idx]; show t.val / 64 * 1 + (y 0).val = t.val / 64; omega))
    ((Pipeline.Window.rect_emb_val win0_20 t y 1).trans (by rw [idx]; show 0 * 256 + (y 1).val = (y 1).val; omega)) ((Pipeline.Window.rect_emb_val win0_20 t y 2).trans (by rw [idx]; show t.val % 64 * 256 + (y 2).val = 256 * (t.val % 64) + (y 2).val; omega))

theorem out21 : (dats m 0 c).arrAt 21 cfg0.N = (arr3 (gAt (uA m c) (wA m c) (bgA m c)) : FVec Ideal S2x16384x2048 .f32) := by
  refine (dats m 0 c).arrAt_eq_of_covers 21 _ (by decide +kernel) fun t hf y => ?_
  have idx := (shown_out t).2.2.2.2.2.1
  have hy2 : (y 2).val < 2048 := (y 2).isLt
  have hy1 : (y 1).val < 256 := (y 1).isLt
  have hy0 : (y 0).val < 1 := (y 0).isLt
  blk_simp
  rw [after0_21]
  refine Eq.trans (congrArg (outsAt0 m c t).2.2.2.2.2.1 (entry y hy0 hy1 hy2)) ((point21 m c t ⟨(y 1).val, hy1⟩ ⟨(y 2).val, hy2⟩).trans ?_)
  exact arr3_at (gAt (uA m c) (wA m c) (bgA m c)) _ _ _ _ ((Pipeline.Window.rect_emb_val win0_21 t y 0).trans (by rw [idx]; show t.val / 64 * 1 + (y 0).val = t.val / 64; omega))
    ((Pipeline.Window.rect_emb_val win0_21 t y 1).trans (by rw [idx]; show t.val % 64 * 256 + (y 1).val = 256 * (t.val % 64) + (y 1).val; omega)) ((Pipeline.Window.rect_emb_val win0_21 t y 2).trans (by rw [idx]; show 0 * 2048 + (y 2).val = (y 2).val; omega))

theorem out22 : (dats m 0 c).arrAt 22 cfg0.N = (arr3 (dAt (uA m c) (wA m c) (bfA m c) (bbA m c)) : FVec Ideal S2x16384x128 .f32) := by
  refine (dats m 0 c).arrAt_eq_of_covers 22 _ (by decide +kernel) fun t hf y => ?_
  have idx := (shown_out t).2.2.2.2.2.2.1
  have hy2 : (y 2).val < 128 := (y 2).isLt
  have hy1 : (y 1).val < 256 := (y 1).isLt
  have hy0 : (y 0).val < 1 := (y 0).isLt
  blk_simp
  rw [after0_22]
  refine Eq.trans (congrArg (outsAt0 m c t).2.2.2.2.2.2.1 (entry y hy0 hy1 hy2)) ((point22 m c t ⟨(y 1).val, hy1⟩ ⟨(y 2).val, hy2⟩).trans ?_)
  exact arr3_at (dAt (uA m c) (wA m c) (bfA m c) (bbA m c)) _ _ _ _ ((Pipeline.Window.rect_emb_val win0_22 t y 0).trans (by rw [idx]; show t.val / 64 * 1 + (y 0).val = t.val / 64; omega))
    ((Pipeline.Window.rect_emb_val win0_22 t y 1).trans (by rw [idx]; show t.val % 64 * 256 + (y 1).val = 256 * (t.val % 64) + (y 1).val; omega)) ((Pipeline.Window.rect_emb_val win0_22 t y 2).trans (by rw [idx]; show 0 * 128 + (y 2).val = (y 2).val; omega))

theorem out23 : (dats m 0 c).arrAt 23 cfg0.N = (arr3 (eAt (uA m c) (wA m c) (bfA m c) (bbA m c)) : FVec Ideal S2x128x16384 .f32) := by
  refine (dats m 0 c).arrAt_eq_of_covers 23 _ (by decide +kernel) fun t hf y => ?_
  have idx := (shown_out t).2.2.2.2.2.2.2
  have hy2 : (y 2).val < 256 := (y 2).isLt
  have hy1 : (y 1).val < 128 := (y 1).isLt
  have hy0 : (y 0).val < 1 := (y 0).isLt
  blk_simp
  rw [after0_23]
  refine Eq.trans (congrArg (outsAt0 m c t).2.2.2.2.2.2.2 (entry y hy0 hy1 hy2)) ((point23 m c t ⟨(y 1).val, hy1⟩ ⟨(y 2).val, hy2⟩).trans ?_)
  exact arr3_at (eAt (uA m c) (wA m c) (bfA m c) (bbA m c)) _ _ _ _ ((Pipeline.Window.rect_emb_val win0_23 t y 0).trans (by rw [idx]; show t.val / 64 * 1 + (y 0).val = t.val / 64; omega))
    ((Pipeline.Window.rect_emb_val win0_23 t y 1).trans (by rw [idx]; show 0 * 128 + (y 1).val = (y 1).val; omega)) ((Pipeline.Window.rect_emb_val win0_23 t y 2).trans (by rw [idx]; show t.val % 64 * 256 + (y 2).val = 256 * (t.val % 64) + (y 2).val; omega))

end Cert.ProjK

end
-- ==== Proof.ProjReference.lean ====
module

public import proofs.«01_k».proof.Proof.ProjSpec
public import proofs.«01_k».proof.Proof.Gen.ReferenceProjIdeal.Read
public import Idealize.ShloMosaic.Lib.IdealHost
public import Idealize.ShloMosaic.Lib.KernelVsHost

/-!
The reference projection entry by entry: the product with the weight's columns, the convolution with its gate, the step sizes
and the sigmoid gates. The heads are in the next module.
-/

@[expose] public section

set_option maxRecDepth 16384

noncomputable section

namespace Cert.ProjReference

open Idealize.ShloMosaic Idealize.ShloMosaic.TcCoe Idealize.ShloMosaic.ValueIdx Idealize.ShloMosaic.Tactic
open Cert.ReferenceProjIdeal Cert.ReferenceProjIdeal.Read Cert.ProjSpec Cert.ProjRows

theorem ix1_of {A : ℕ} (i : (⟨1, ![A]⟩ : Shape).Idx) (a : Fin A) (h0 : (i 0).val = a.val) : i = ix1 a :=
  funext fun x => by match x with | ⟨0, _⟩ => exact Fin.ext h0

theorem ix2_of {A B : ℕ} (i : (⟨2, ![A, B]⟩ : Shape).Idx) (a : Fin A) (b : Fin B) (h0 : (i 0).val = a.val) (h1 : (i 1).val = b.val) :
    i = ix2 a b :=
  funext fun x => by
    match x with
    | ⟨0, _⟩ => exact Fin.ext h0
    | ⟨1, _⟩ => exact Fin.ext h1

theorem ix3_of {A B C : ℕ} (i : (⟨3, ![A, B, C]⟩ : Shape).Idx) (a : Fin A) (b : Fin B) (c : Fin C) (h0 : (i 0).val = a.val)
    (h1 : (i 1).val = b.val) (h2 : (i 2).val = c.val) : i = ix3 a b c :=
  funext fun x => by
    match x with
    | ⟨0, _⟩ => exact Fin.ext h0
    | ⟨1, _⟩ => exact Fin.ext h1
    | ⟨2, _⟩ => exact Fin.ext h2

theorem arr3_of {A B C : ℕ} (x : (⟨3, ![A, B, C]⟩ : Shape).Idx → EReal) (f : Fin A → Fin B → Fin C → EReal)
    (h : ∀ a b c, x (ix3 a b c) = f a b c) : x = arr3 f :=
  funext fun y => (congrArg x (ix3_of y (y 0) (y 1) (y 2) rfl rfl rfl)).trans (h (y 0) (y 1) (y 2))

/-- A part of a table whose rows are put one after the other. -/
theorem lined {A B n q : ℕ} {xs : List ((s : Shape) × (s.Idx → EReal))} {h} (p : ℕ) (hp : p < xs.length)
    (x : (⟨3, ![A, B, q]⟩ : Shape).Idx → EReal) (hx : xs[p] = ⟨⟨3, ![A, B, q]⟩, x⟩) (pre : ℕ)
    (hpre : (((xs.take p).map (·.1)).map fun s => if h : s.rank = 3 then s.size ((2 : Fin 3).cast h.symm) else 0).sum = pre)
    (a : Fin A) (b : Fin B) (j : Fin q) (c : Fin n) (hj : pre + j.val = c.val) :
    concatenate (⟨3, ![A, B, n]⟩ : Shape) 2 xs h (ix3 a b c) = x (ix3 a b j) :=
  concatenate_apply_piece (t := ⟨3, ![A, B, n]⟩) 2 xs h _ p hp ⟨3, ![A, B, q]⟩ x hx rfl pre hpre (ix3 a b j)
    (fun b hb => by match b with | ⟨0, _⟩ => rfl | ⟨1, _⟩ => rfl | ⟨2, _⟩ => exact absurd rfl hb) hj

variable (x0 : FVec Ideal S2x16384x1024 .bf16) (x1 : FVec Ideal S1024x8768 .f32) (x2 : FVec Ideal S5x3072 .f32)
variable (x3 : FVec Ideal S3072 .f32) (x4 x5 : FVec Ideal S32 .f32) (x8 : FVec Ideal S2048 .f32)

theorem product (b : Fin 2) (p : Fin 16384) (j : Fin 8768) : val_main_v1 (F := Ideal) x0 x1 (ix3 b p j) = pre x0 x1 b p j :=
  (val_main_v1_apply x0 x1 _).trans (Finset.sum_congr rfl fun k _ =>
    congrArg₂ (· * ·) (congrArg x0 (ix3_of _ b p k rfl rfl rfl)) (congrArg x1 (ix2_of _ k j rfl rfl)))

/-- An entry of a slice of the product's columns. -/
theorem column (i : S2x16384x8768.Idx) (b : Fin 2) (p : Fin 16384) (j : Fin 8768) (h0 : (i 0).val = b.val) (h1 : (i 1).val = p.val)
    (h2 : (i 2).val = j.val) : val_main_v1 (F := Ideal) x0 x1 i = pre x0 x1 b p j :=
  (congrArg (val_main_v1 (F := Ideal) x0 x1) (ix3_of i b p j h0 h1 h2)).trans (product x0 x1 b p j)

theorem z_value : val_main_v2 (F := Ideal) x0 x1 = arr3 (zAt x0 x1) :=
  arr3_of _ _ fun b p c => by rw [val_main_v2_apply]; exact column x0 x1 _ b p _ rfl rfl rfl

theorem v_value : val_main_v180 (F := Ideal) x0 x1 = arr3 (vAt x0 x1) :=
  arr3_of _ _ fun b c p => by
    rw [val_main_v180_apply, val_main_v179_apply, val_main_v8_apply]; exact column x0 x1 _ b p _ rfl rfl rfl

theorem gate_pre (b : Fin 2) (p : Fin 16384) (c : Fin 2048) :
    val_main_v167 (F := Ideal) x0 x1 x8 (ix3 b p c) = pre x0 x1 b p ⟨6720 + c.val, by omega⟩ + x8 (ix1 c) := by
  rw [val_main_v167_apply, val_main_v9_apply, val_main_v166_apply, val_main_v165_apply]
  exact congrArg₂ (· + ·) (column x0 x1 _ b p _ rfl rfl rfl) (congrArg x8 (ix1_of _ c rfl))

/-- The host's one divided by one and an exponential is the logistic function. -/
theorem one_over (v : EReal) :
    Ideal.div (Ideal.ofBits .f32 0x3F800000#32) (Ideal.ofBits .f32 0x3F800000#32 + Ideal.exp (-v)) = Ideal.logistic v := by
  rw [Ideal.ofBits_one_f32]; rfl

theorem g_value : val_main_v173 (F := Ideal) x0 x1 x8 = arr3 (gAt x0 x1 x8) :=
  arr3_of _ _ fun b p c => (show _ = Ideal.div (Ideal.ofBits .f32 0x3F800000#32)
      (Ideal.ofBits .f32 0x3F800000#32 + Ideal.exp (-(val_main_v167 (F := Ideal) x0 x1 x8 (ix3 b p c)))) from rfl).trans
    ((one_over _).trans (congrArg Ideal.logistic (gate_pre x0 x1 x8 b p c)))

/-- The stream's columns with two zeros on either side. -/
theorem padded (b : Fin 2) (q : Fin 16388) (c : Fin 3072) : val_main_v10 (F := Ideal) x0 x1 (ix3 b q c) = xAt x0 x1 b q.val c := by
  unfold val_main_v10 xAt
  by_cases h : 2 ≤ q.val ∧ q.val < 16386
  · rw [dif_pos h]
    exact (pad_apply_of_inside _ _ _ _ _ _ _ _ (ix3 b ⟨q.val - 2, by omega⟩ c) fun a => by
      match a with
      | ⟨0, _⟩ => show b.val = 0 + b.val * (0 + 1); omega
      | ⟨1, _⟩ => show q.val = 2 + (q.val - 2) * (0 + 1); omega
      | ⟨2, _⟩ => show c.val = 0 + c.val * (0 + 1); omega).trans
      (by rw [val_main_v3_apply]; exact column x0 x1 _ b _ _ rfl rfl rfl)
  · rw [dif_neg h]
    refine (pad_apply_of_not_inside _ _ _ _ _ _ _ _ (1 : Fin 3) fun hin => h ?_).trans
      (show (((0x00000000#32 : BitVec 32).toInt : ℝ) : EReal) = 0 by simp)
    have e : 2 ≤ q.val := hin.1
    have e' : (q.val - 2) / (0 + 1) < 16384 := hin.2.2
    omega

theorem shifted (i : S2x16388x3072.Idx) (b : Fin 2) (q : ℕ) (c : Fin 3072) (h0 : (i 0).val = b.val) (h1 : (i 1).val = q)
    (h2 : (i 2).val = c.val) : val_main_v10 (F := Ideal) x0 x1 i = xAt x0 x1 b q c := by
  subst h1
  exact (congrArg (val_main_v10 (F := Ideal) x0 x1) (ix3_of i b (i 1) c h0 rfl h2)).trans (padded x0 x1 b (i 1) c)

theorem tap0 (b : Fin 2) (p : Fin 16384) (c : Fin 3072) :
    val_main_v16 (F := Ideal) x0 x1 x2 (ix3 b p c) = xAt x0 x1 b p.val c * x2 (ix2 0 c) := by
  rw [val_main_v16_apply, val_main_v11_apply, val_main_v15_apply, val_main_v14_apply, val_main_v13_apply, val_main_v12_apply]
  exact congrArg₂ (· * ·) (shifted x0 x1 _ b _ c rfl rfl rfl) (congrArg x2 (ix2_of _ 0 c rfl (Nat.mod_eq_of_lt c.isLt)))

theorem tap1 (b : Fin 2) (p : Fin 16384) (c : Fin 3072) :
    val_main_v24 (F := Ideal) x0 x1 x2 (ix3 b p c) = xAt x0 x1 b (p.val + 1) c * x2 (ix2 1 c) := by
  rw [val_main_v24_apply, val_main_v19_apply, val_main_v23_apply, val_main_v22_apply, val_main_v21_apply, val_main_v20_apply]
  exact congrArg₂ (· * ·) (shifted x0 x1 _ b _ c rfl (Nat.add_comm 1 _) rfl) (congrArg x2 (ix2_of _ 1 c rfl (Nat.mod_eq_of_lt c.isLt)))

theorem tap2 (b : Fin 2) (p : Fin 16384) (c : Fin 3072) :
    val_main_v31 (F := Ideal) x0 x1 x2 (ix3 b p c) = xAt x0 x1 b (p.val + 2) c * x2 (ix2 2 c) := by
  rw [val_main_v31_apply, val_main_v26_apply, val_main_v30_apply, val_main_v29_apply, val_main_v28_apply, val_main_v27_apply]
  exact congrArg₂ (· * ·) (shifted x0 x1 _ b _ c rfl (Nat.add_comm 2 _) rfl) (congrArg x2 (ix2_of _ 2 c rfl (Nat.mod_eq_of_lt c.isLt)))

theorem tap3 (b : Fin 2) (p : Fin 16384) (c : Fin 3072) :
    val_main_v38 (F := Ideal) x0 x1 x2 (ix3 b p c) = xAt x0 x1 b (p.val + 3) c * x2 (ix2 3 c) := by
  rw [val_main_v38_apply, val_main_v33_apply, val_main_v37_apply, val_main_v36_apply, val_main_v35_apply, val_main_v34_apply]
  exact congrArg₂ (· * ·) (shifted x0 x1 _ b _ c rfl (Nat.add_comm 3 _) rfl) (congrArg x2 (ix2_of _ 3 c rfl (Nat.mod_eq_of_lt c.isLt)))

theorem tap4 (b : Fin 2) (p : Fin 16384) (c : Fin 3072) :
    val_main_v45 (F := Ideal) x0 x1 x2 (ix3 b p c) = xAt x0 x1 b (p.val + 4) c * x2 (ix2 4 c) := by
  rw [val_main_v45_apply, val_main_v40_apply, val_main_v44_apply, val_main_v43_apply, val_main_v42_apply, val_main_v41_apply]
  exact congrArg₂ (· * ·) (shifted x0 x1 _ b _ c rfl (Nat.add_comm 4 _) rfl) (congrArg x2 (ix2_of _ 4 c rfl (Nat.mod_eq_of_lt c.isLt)))

theorem bias_conv (b : Fin 2) (p : Fin 16384) (c : Fin 3072) : val_main_v48 (F := Ideal) x3 (ix3 b p c) = x3 (ix1 c) := by
  rw [val_main_v48_apply, val_main_v47_apply]; exact congrArg x3 (ix1_of _ c rfl)

/-- Five terms added to a zero and the bias last are the bias and the five terms. -/
theorem bias_first (z a b c d e v : EReal) (hz : z = 0) : z + a + b + c + d + e + v = v + a + b + c + d + e := by
  rw [hz, zero_add, add_comm _ v]; simp only [← add_assoc]

theorem conv (b : Fin 2) (p : Fin 16384) (c : Fin 3072) :
    val_main_v49 (F := Ideal) x0 x1 x2 x3 (ix3 b p c) = sAt x0 x1 x2 x3 b p c := by
  have e : val_main_v49 (F := Ideal) x0 x1 x2 x3 (ix3 b p c)
      = Ideal.ofBits .f32 0x00000000#32 + val_main_v16 (F := Ideal) x0 x1 x2 (ix3 b p c) + val_main_v24 (F := Ideal) x0 x1 x2 (ix3 b p c)
        + val_main_v31 (F := Ideal) x0 x1 x2 (ix3 b p c) + val_main_v38 (F := Ideal) x0 x1 x2 (ix3 b p c)
        + val_main_v45 (F := Ideal) x0 x1 x2 (ix3 b p c) + val_main_v48 (F := Ideal) x3 (ix3 b p c) := rfl
  rw [e, tap0, tap1, tap2, tap3, tap4, bias_conv]
  exact bias_first _ _ _ _ _ _ _ Ideal.ofBits_zero_f32

theorem c_value : val_main_v50 (F := Ideal) x0 x1 x2 x3 = arr3 (cAt x0 x1 x2 x3) :=
  arr3_of _ _ fun b p c => (show _ = val_main_v49 (F := Ideal) x0 x1 x2 x3 (ix3 b p c) * Ideal.div (Ideal.ofBits .f32 0x3F800000#32)
      (Ideal.ofBits .f32 0x3F800000#32 + Ideal.exp (-(val_main_v49 (F := Ideal) x0 x1 x2 x3 (ix3 b p c)))) from rfl).trans
    (by rw [one_over, conv x0 x1 x2 x3 b p c]; rfl)

/-- The host's smooth positive part: what it tests for never differs from itself, and the zero it subtracts changes nothing. -/
theorem smooth (s : EReal) :
    Scalar.select (Ideal.cmp .une (s - Ideal.ofBits .f32 0x00000000#32) (s - Ideal.ofBits .f32 0x00000000#32))
        (s + Ideal.ofBits .f32 0x00000000#32)
        (max s (Ideal.ofBits .f32 0x00000000#32) + Ideal.log1p (Ideal.exp (-(max (s - Ideal.ofBits .f32 0x00000000#32)
          (-(s - Ideal.ofBits .f32 0x00000000#32)))))) = softplus s := by
  rw [Ideal.ofBits_zero_f32, sub_zero]
  simp [Scalar.select, Ideal.cmp, softplus]

theorem bias_step (i : S2x16384x32.Idx) (x : FVec Ideal S32 .f32) (c : Fin 32) (h : (i 2).val = c.val) :
    val_main_v52 (F := Ideal) x i = x (ix1 c) := by
  rw [val_main_v52_apply, val_main_v51_apply]; exact congrArg x (ix1_of _ c h)

theorem step_first (b : Fin 2) (p : Fin 16384) (c : Fin 32) :
    val_main_v54 (F := Ideal) x0 x1 x4 (ix3 b p c) = stepF x0 x1 x4 b p c :=
  (smooth (val_main_v53 (F := Ideal) x0 x1 x4 (ix3 b p c))).trans (congrArg softplus (congrArg₂ (· + ·)
    (by rw [val_main_v4_apply]; exact column x0 x1 _ b p _ rfl rfl rfl) (bias_step _ x4 c rfl)))

theorem step_second (b : Fin 2) (p : Fin 16384) (c : Fin 32) :
    val_main_v58 (F := Ideal) x0 x1 x5 (ix3 b p c) = stepB x0 x1 x5 b p c :=
  (smooth (val_main_v57 (F := Ideal) x0 x1 x5 (ix3 b p c))).trans (congrArg softplus (congrArg₂ (· + ·)
    (by rw [val_main_v5_apply]; exact column x0 x1 _ b p _ rfl rfl rfl) (bias_step _ x5 c rfl)))

theorem step_zero (i : S2x16384x64.Idx) : val_main_v175 (F := Ideal) i = softplus 0 := by
  rw [val_main_v175_apply]
  exact (smooth (Ideal.ofBits .f32 0x00000000#32)).trans (congrArg softplus Ideal.ofBits_zero_f32)

theorem d_value : val_main_v181 (F := Ideal) x0 x1 x4 x5 = arr3 (dAt x0 x1 x4 x5) :=
  arr3_of _ _ fun b p c => by
    unfold val_main_v181 dAt
    by_cases h : c.val < 64
    · rw [if_pos h]
      refine Eq.trans ?_ (step_first x0 x1 x4 b p ⟨c.val % 32, by omega⟩)
      by_cases h' : c.val < 32
      · exact lined 0 (by exact Nat.succ_pos _) _ rfl 0 rfl b p _ c (by show 0 + c.val % 32 = c.val; omega)
      · exact lined 1 (by exact Nat.succ_lt_succ (Nat.succ_pos _)) _ rfl 32 rfl b p _ c (by show 32 + c.val % 32 = c.val; omega)
    · rw [if_neg h]
      refine Eq.trans ?_ (step_second x0 x1 x5 b p ⟨c.val % 32, by omega⟩)
      by_cases h' : c.val < 96
      · exact lined 2 (by exact Nat.succ_lt_succ (Nat.succ_lt_succ (Nat.succ_pos _))) _ rfl 64 rfl b p _ c (by show 64 + c.val % 32 = c.val; omega)
      · exact lined 3 (by exact Nat.lt_succ_self _) _ rfl 96 rfl b p _ c (by show 96 + c.val % 32 = c.val; omega)

theorem e_value : val_main_v183 (F := Ideal) x0 x1 x4 x5 = arr3 (eAt x0 x1 x4 x5) :=
  arr3_of _ _ fun b c p => by
    rw [val_main_v183_apply]
    exact (congrArg (val_main_v182 (F := Ideal) x0 x1 x4 x5) (ix3_of _ b p c rfl rfl rfl)).trans (by
      unfold val_main_v182 eAt
      by_cases h : c.val < 64
      · rw [if_pos h]
        by_cases h' : c.val < 32
        · rw [if_pos h']
          exact (lined 0 (by exact Nat.succ_pos _) _ rfl 0 rfl b p _ c (by show 0 + c.val % 32 = c.val; omega)).trans
            (step_first x0 x1 x4 b p ⟨c.val % 32, by omega⟩)
        · rw [if_neg h']
          exact (lined 1 (by exact Nat.succ_lt_succ (Nat.succ_pos _)) _ rfl 32 rfl b p _ c (by show 32 + c.val % 32 = c.val; omega)).trans
            (step_second x0 x1 x5 b p ⟨c.val % 32, by omega⟩)
      · rw [if_neg h]
        exact (lined 2 (by exact Nat.lt_succ_self _) _ rfl 64 rfl b p ⟨c.val - 64, by omega⟩ c
          (by show 64 + (c.val - 64) = c.val; omega)).trans (step_zero _))

end Cert.ProjReference

end
-- ==== Proof.ProjReferenceHeads.lean ====
module

public import proofs.«01_k».proof.Proof.ProjReference

/-!
The reference projection's attention heads entry by entry: normalized over their 128 entries, rotated pair by pair, the first
entries of the pairs put before the second ones.
-/

@[expose] public section

set_option maxRecDepth 16384

noncomputable section

namespace Cert.ProjReference

open Idealize.ShloMosaic Idealize.ShloMosaic.TcCoe Idealize.ShloMosaic.ValueIdx Idealize.ShloMosaic.Tactic
open Cert.ReferenceProjIdeal Cert.ReferenceProjIdeal.Read Cert.ProjSpec Cert.ProjRows

theorem ix4_of {A B C D : ℕ} (i : (⟨4, ![A, B, C, D]⟩ : Shape).Idx) (a : Fin A) (b : Fin B) (c : Fin C) (d : Fin D)
    (h0 : (i 0).val = a.val) (h1 : (i 1).val = b.val) (h2 : (i 2).val = c.val) (h3 : (i 3).val = d.val) : i = ix4 a b c d :=
  funext fun x => by
    match x with
    | ⟨0, _⟩ => exact Fin.ext h0
    | ⟨1, _⟩ => exact Fin.ext h1
    | ⟨2, _⟩ => exact Fin.ext h2
    | ⟨3, _⟩ => exact Fin.ext h3

/-- Two halves of every head put one after the other. -/
theorem halves {A B H : ℕ} {xs : List ((s : Shape) × (s.Idx → EReal))} {h} (p : ℕ) (hp : p < xs.length)
    (x : (⟨4, ![A, B, H, 64]⟩ : Shape).Idx → EReal) (hx : xs[p] = ⟨⟨4, ![A, B, H, 64]⟩, x⟩) (pre : ℕ)
    (hpre : (((xs.take p).map (·.1)).map fun s => if h : s.rank = 4 then s.size ((3 : Fin 4).cast h.symm) else 0).sum = pre)
    (a : Fin A) (b : Fin B) (e : Fin H) (j : Fin 64) (c : Fin 128) (hj : pre + j.val = c.val) :
    concatenate (⟨4, ![A, B, H, 128]⟩ : Shape) 3 xs h (ix4 a b e c) = x (ix4 a b e j) :=
  concatenate_apply_piece (t := ⟨4, ![A, B, H, 128]⟩) 3 xs h _ p hp ⟨4, ![A, B, H, 64]⟩ x hx rfl pre hpre (ix4 a b e j)
    (fun b hb => by match b with | ⟨0, _⟩ => rfl | ⟨1, _⟩ => rfl | ⟨2, _⟩ => rfl | ⟨3, _⟩ => exact absurd rfl hb) hj

/-- A rotated head in its first half and in its second half. -/
theorem turn_first (N : Fin 128 → EReal) (cs sn : (⟨2, ![16384, 64]⟩ : Shape).Idx → EReal) (p : Fin 16384) (c : Fin 128)
    (h : c.val < 64) :
    turn (fun k => N (pairs k)) (ta cs p) (tb sn p) c
      = N ⟨2 * c.val, by omega⟩ * cs (ix2 p ⟨c.val, h⟩) - N ⟨2 * c.val + 1, by omega⟩ * sn (ix2 p ⟨c.val, h⟩) := by
  have e0 : pairs c = ⟨2 * c.val, by omega⟩ := Fin.ext (by unfold pairs; simp [h])
  have e1 : pairs (half c) = ⟨2 * c.val + 1, by omega⟩ := Fin.ext (by
    have hh : (half c).val = c.val + 64 := by show (c.val + 64) % 128 = _; omega
    unfold pairs; simp [hh])
  have e2 : ta cs p c = cs (ix2 p ⟨c.val, h⟩) := congrArg cs (ix2_of _ p _ rfl (Nat.mod_eq_of_lt h))
  have e3 : tb sn p c = -(sn (ix2 p ⟨c.val, h⟩)) := dif_pos h
  show N (pairs c) * ta cs p c + N (pairs (half c)) * tb sn p c = _
  rw [e0, e1, e2, e3, mul_neg, sub_eq_add_neg]

theorem turn_second (N : Fin 128 → EReal) (cs sn : (⟨2, ![16384, 64]⟩ : Shape).Idx → EReal) (p : Fin 16384) (c : Fin 128)
    (h : ¬c.val < 64) :
    turn (fun k => N (pairs k)) (ta cs p) (tb sn p) c
      = N ⟨2 * (c.val - 64), by omega⟩ * sn (ix2 p ⟨c.val - 64, by omega⟩)
        + N ⟨2 * (c.val - 64) + 1, by omega⟩ * cs (ix2 p ⟨c.val - 64, by omega⟩) := by
  have e0 : pairs c = ⟨2 * (c.val - 64) + 1, by omega⟩ := Fin.ext (by unfold pairs; simp [h])
  have e1 : pairs (half c) = ⟨2 * (c.val - 64), by omega⟩ := Fin.ext (by
    have hh : (half c).val = c.val - 64 := by show (c.val + 64) % 128 = _; omega
    have hl : c.val - 64 < 64 := by omega
    unfold pairs; simp [hh, hl])
  have e2 : ta cs p c = cs (ix2 p ⟨c.val - 64, by omega⟩) :=
    congrArg cs (ix2_of _ p _ rfl (by show c.val % 64 = c.val - 64; omega))
  have e3 : tb sn p c = sn (ix2 p ⟨c.val - 64, by omega⟩) := dif_neg h
  show N (pairs c) * ta cs p c + N (pairs (half c)) * tb sn p c = _
  rw [e0, e1, e2, e3, add_comm]

variable (x0 : FVec Ideal S2x16384x1024 .bf16) (x1 : FVec Ideal S1024x8768 .f32) (x6 x7 : FVec Ideal S128 .f32)

theorem row_q (b : Fin 2) (p : Fin 16384) (e : Fin 8) (j : Fin 128) :
    val_main_v89 (F := Ideal) x0 x1 (ix4 b p e j) = pre x0 x1 b p ⟨5184 + 128 * e.val + j.val, by omega⟩ := by
  rw [val_main_v89_apply, val_main_v6_apply]
  exact column x0 x1 _ b p _ (by show (((b.val * 16384 + p.val) * 8 + e.val) * 128 + j.val) / 16777216 = b.val; omega)
    (by show (((b.val * 16384 + p.val) * 8 + e.val) * 128 + j.val) / 1024 % 16384 = p.val; omega)
    (by show 5184 + (((b.val * 16384 + p.val) * 8 + e.val) * 128 + j.val) % 1024 = 5184 + 128 * e.val + j.val; omega)

/-- The head, normalized. -/
def norm_q (b : Fin 2) (p : Fin 16384) (e : Fin 8) (j : Fin 128) : EReal :=
  headNorm (fun i => pre x0 x1 b p ⟨5184 + 128 * e.val + i.val, by omega⟩) (fun i => x6 (ix1 i)) j

theorem normed_q (b : Fin 2) (p : Fin 16384) (e : Fin 8) (j : Fin 128) :
    val_main_v102 (F := Ideal) x0 x1 x6 (ix4 b p e j) = norm_q x0 x1 x6 b p e j := by
  rw [val_main_v102_apply, val_main_v101_apply, val_main_v100_apply, val_main_v99_apply, val_main_v98_apply,
    val_main_v97_apply, val_main_v96_apply, val_main_v95_apply, val_main_cst_6_apply, val_main_v94_apply, val_main_v93_apply,
    val_main_cst_5_apply, val_main_v92_apply, val_main_v91_apply, val_main_cst_4_apply, row_q x0 x1 b p e j,
    show (x6 (idx_main_v100 (idx_main_v101 (ix4 b p e j)))) = x6 (ix1 j) from congrArg x6 (ix1_of _ j rfl)]
  have hs : ∀ i : Fin 128, val_main_v90 (F := Ideal) x0 x1 (idx_main_v91 (idx_main_v92 (idx_main_v98 (ix4 b p e j))) i)
      = pre x0 x1 b p ⟨5184 + 128 * e.val + i.val, by omega⟩ * pre x0 x1 b p ⟨5184 + 128 * e.val + i.val, by omega⟩ := fun i => by
    rw [val_main_v90_apply, show idx_main_v91 (idx_main_v92 (idx_main_v98 (ix4 b p e j))) i = ix4 b p e i from ix4_of _ b p e i rfl rfl rfl rfl,
      row_q x0 x1 b p e i]
    rfl
  rw [Finset.sum_congr rfl fun i _ => hs i,
    show (FloatOps.ofBits .f32 0x00000000#32 : Ideal .f32) = (0 : EReal) from Ideal.ofBits_zero_f32, zero_add]
  rfl

/-- The first entries of the pairs and the second ones. -/
theorem even_q (b : Fin 2) (p : Fin 16384) (e : Fin 8) (k : Fin 64) :
    val_main_v105 (F := Ideal) x0 x1 x6 (ix4 b p e k) = norm_q x0 x1 x6 b p e ⟨2 * k.val, by omega⟩ := by
  rw [val_main_v105_apply, val_main_v104_apply, val_main_v103_apply]
  refine (congrArg (val_main_v102 (F := Ideal) x0 x1 x6) (ix4_of _ b p e ⟨2 * k.val, by omega⟩ ?_ ?_ ?_ ?_)).trans (normed_q x0 x1 x6 b p e _)
  all_goals have a0 : (((b.val * 16384 + p.val) * 8 + e.val) * 64 + k.val) / 8388608 = b.val := by omega
  all_goals have a1 : (((b.val * 16384 + p.val) * 8 + e.val) * 64 + k.val) / 512 % 16384 = p.val := by omega
  all_goals have a2 : (((b.val * 16384 + p.val) * 8 + e.val) * 64 + k.val) / 64 % 8 = e.val := by omega
  all_goals have a3 : (((b.val * 16384 + p.val) * 8 + e.val) * 64 + k.val) / 1 % 64 = k.val := by omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 0) / 16777216 = b.val; rw [a0, a1, a2, a3]; omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 0) / 1024 % 16384 = p.val; rw [a0, a1, a2, a3]; omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 0) / 128 % 8 = e.val; rw [a0, a1, a2, a3]; omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 0) % 128 = 2 * k.val; rw [a0, a1, a2, a3]; omega

theorem odd_q (b : Fin 2) (p : Fin 16384) (e : Fin 8) (k : Fin 64) :
    val_main_v107 (F := Ideal) x0 x1 x6 (ix4 b p e k) = norm_q x0 x1 x6 b p e ⟨2 * k.val + 1, by omega⟩ := by
  rw [val_main_v107_apply, val_main_v106_apply, val_main_v103_apply]
  refine (congrArg (val_main_v102 (F := Ideal) x0 x1 x6) (ix4_of _ b p e ⟨2 * k.val + 1, by omega⟩ ?_ ?_ ?_ ?_)).trans (normed_q x0 x1 x6 b p e _)
  all_goals have a0 : (((b.val * 16384 + p.val) * 8 + e.val) * 64 + k.val) / 8388608 = b.val := by omega
  all_goals have a1 : (((b.val * 16384 + p.val) * 8 + e.val) * 64 + k.val) / 512 % 16384 = p.val := by omega
  all_goals have a2 : (((b.val * 16384 + p.val) * 8 + e.val) * 64 + k.val) / 64 % 8 = e.val := by omega
  all_goals have a3 : (((b.val * 16384 + p.val) * 8 + e.val) * 64 + k.val) / 1 % 64 = k.val := by omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 1) / 16777216 = b.val; rw [a0, a1, a2, a3]; omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 1) / 1024 % 16384 = p.val; rw [a0, a1, a2, a3]; omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 1) / 128 % 8 = e.val; rw [a0, a1, a2, a3]; omega
  · show (((((((b.val * 16384 + p.val) * 8 + e.val) * 64 + k.val) / 8388608 * 16384 + (((b.val * 16384 + p.val) * 8 + e.val) * 64 + k.val) / 512 % 16384) * 8 + (((b.val * 16384 + p.val) * 8 + e.val) * 64 + k.val) / 64 % 8) * 64 + (((b.val * 16384 + p.val) * 8 + e.val) * 64 + k.val) / 1 % 64) * 2 + 1) % 128 = 2 * k.val + 1; rw [a0, a1, a2, a3]; omega

theorem low_q (b : Fin 2) (p : Fin 16384) (e : Fin 8) (k : Fin 64) :
    val_main_v116 (F := Ideal) x0 x1 x6 (ix4 b p e k)
      = norm_q x0 x1 x6 b p e ⟨2 * k.val, by omega⟩ * val_main_v87 (F := Ideal) (ix2 p k)
        - norm_q x0 x1 x6 b p e ⟨2 * k.val + 1, by omega⟩ * val_main_v88 (F := Ideal) (ix2 p k) := by
  rw [val_main_v116_apply, val_main_v112_apply, val_main_v115_apply, even_q x0 x1 x6 b p e k, odd_q x0 x1 x6 b p e k,
    val_main_v111_apply, val_main_v110_apply, val_main_v108_apply, val_main_v114_apply, val_main_v113_apply, val_main_v109_apply]
  exact congrArg₂ (· - ·) (congrArg (_ * ·) (congrArg (val_main_v87 (F := Ideal)) (ix2_of _ p k rfl rfl)))
    (congrArg (_ * ·) (congrArg (val_main_v88 (F := Ideal)) (ix2_of _ p k rfl rfl)))

theorem high_q (b : Fin 2) (p : Fin 16384) (e : Fin 8) (k : Fin 64) :
    val_main_v123 (F := Ideal) x0 x1 x6 (ix4 b p e k)
      = norm_q x0 x1 x6 b p e ⟨2 * k.val, by omega⟩ * val_main_v88 (F := Ideal) (ix2 p k)
        + norm_q x0 x1 x6 b p e ⟨2 * k.val + 1, by omega⟩ * val_main_v87 (F := Ideal) (ix2 p k) := by
  rw [val_main_v123_apply, val_main_v119_apply, val_main_v122_apply, even_q x0 x1 x6 b p e k, odd_q x0 x1 x6 b p e k,
    val_main_v118_apply, val_main_v117_apply, val_main_v109_apply, val_main_v121_apply, val_main_v120_apply, val_main_v108_apply]
  exact congrArg₂ (· + ·) (congrArg (_ * ·) (congrArg (val_main_v88 (F := Ideal)) (ix2_of _ p k rfl rfl)))
    (congrArg (_ * ·) (congrArg (val_main_v87 (F := Ideal)) (ix2_of _ p k rfl rfl)))

theorem rotated_q (b : Fin 2) (p : Fin 16384) (e : Fin 8) (c : Fin 128) :
    val_main_v124 (F := Ideal) x0 x1 x6 (ix4 b p e c)
      = turn (fun k => norm_q x0 x1 x6 b p e (pairs k)) (ta (val_main_v87 (F := Ideal)) p) (tb (val_main_v88 (F := Ideal)) p) c := by
  unfold val_main_v124
  by_cases h : c.val < 64
  · rw [turn_first _ _ _ p c h, ← low_q x0 x1 x6 b p e ⟨c.val, h⟩]
    exact halves 0 (by exact Nat.succ_pos _) _ rfl 0 rfl b p e ⟨c.val, h⟩ c (Nat.zero_add _)
  · rw [turn_second _ _ _ p c h, ← high_q x0 x1 x6 b p e ⟨c.val - 64, by omega⟩]
    exact halves 1 (by exact Nat.lt_succ_self _) _ rfl 64 rfl b p e ⟨c.val - 64, by omega⟩ c (by show 64 + (c.val - 64) = c.val; omega)

theorem heads_q (b : Fin 2) (p : Fin 16384) (c : Fin 1024) :
    val_main_v125 (F := Ideal) x0 x1 x6 (ix3 b p c) = head x0 x1 x6 (val_main_v87 (F := Ideal)) (val_main_v88 (F := Ideal)) b p
      (5184 + 128 * (c.val / 128)) (by omega) ⟨c.val % 128, by omega⟩ := by
  rw [val_main_v125_apply]
  refine (congrArg (val_main_v124 (F := Ideal) x0 x1 x6) (ix4_of _ b p ⟨c.val / 128, by omega⟩ ⟨c.val % 128, by omega⟩ ?_ ?_ ?_ ?_)).trans
    (rotated_q x0 x1 x6 b p _ _)
  · show ((b.val * 16384 + p.val) * 1024 + c.val) / 16777216 = b.val; omega
  · show ((b.val * 16384 + p.val) * 1024 + c.val) / 1024 % 16384 = p.val; omega
  · show ((b.val * 16384 + p.val) * 1024 + c.val) / 128 % 8 = c.val / 128; omega
  · show ((b.val * 16384 + p.val) * 1024 + c.val) % 128 = c.val % 128; omega

theorem row_k (b : Fin 2) (p : Fin 16384) (e : Fin 2) (j : Fin 128) :
    val_main_v126 (F := Ideal) x0 x1 (ix4 b p e j) = pre x0 x1 b p ⟨6208 + 128 * e.val + j.val, by omega⟩ := by
  rw [val_main_v126_apply, val_main_v7_apply]
  exact column x0 x1 _ b p _ (by show (((b.val * 16384 + p.val) * 2 + e.val) * 128 + j.val) / 4194304 = b.val; omega)
    (by show (((b.val * 16384 + p.val) * 2 + e.val) * 128 + j.val) / 256 % 16384 = p.val; omega)
    (by show 6208 + (((b.val * 16384 + p.val) * 2 + e.val) * 128 + j.val) % 256 = 6208 + 128 * e.val + j.val; omega)

/-- The head, normalized. -/
def norm_k (b : Fin 2) (p : Fin 16384) (e : Fin 2) (j : Fin 128) : EReal :=
  headNorm (fun i => pre x0 x1 b p ⟨6208 + 128 * e.val + i.val, by omega⟩) (fun i => x7 (ix1 i)) j

theorem normed_k (b : Fin 2) (p : Fin 16384) (e : Fin 2) (j : Fin 128) :
    val_main_v139 (F := Ideal) x0 x1 x7 (ix4 b p e j) = norm_k x0 x1 x7 b p e j := by
  rw [val_main_v139_apply, val_main_v138_apply, val_main_v137_apply, val_main_v136_apply, val_main_v135_apply,
    val_main_v134_apply, val_main_v133_apply, val_main_v132_apply, val_main_cst_9_apply, val_main_v131_apply, val_main_v130_apply,
    val_main_cst_8_apply, val_main_v129_apply, val_main_v128_apply, val_main_cst_7_apply, row_k x0 x1 b p e j,
    show (x7 (idx_main_v137 (idx_main_v138 (ix4 b p e j)))) = x7 (ix1 j) from congrArg x7 (ix1_of _ j rfl)]
  have hs : ∀ i : Fin 128, val_main_v127 (F := Ideal) x0 x1 (idx_main_v128 (idx_main_v129 (idx_main_v135 (ix4 b p e j))) i)
      = pre x0 x1 b p ⟨6208 + 128 * e.val + i.val, by omega⟩ * pre x0 x1 b p ⟨6208 + 128 * e.val + i.val, by omega⟩ := fun i => by
    rw [val_main_v127_apply, show idx_main_v128 (idx_main_v129 (idx_main_v135 (ix4 b p e j))) i = ix4 b p e i from ix4_of _ b p e i rfl rfl rfl rfl,
      row_k x0 x1 b p e i]
    rfl
  rw [Finset.sum_congr rfl fun i _ => hs i,
    show (FloatOps.ofBits .f32 0x00000000#32 : Ideal .f32) = (0 : EReal) from Ideal.ofBits_zero_f32, zero_add]
  rfl

/-- The first entries of the pairs and the second ones. -/
theorem even_k (b : Fin 2) (p : Fin 16384) (e : Fin 2) (k : Fin 64) :
    val_main_v142 (F := Ideal) x0 x1 x7 (ix4 b p e k) = norm_k x0 x1 x7 b p e ⟨2 * k.val, by omega⟩ := by
  rw [val_main_v142_apply, val_main_v141_apply, val_main_v140_apply]
  refine (congrArg (val_main_v139 (F := Ideal) x0 x1 x7) (ix4_of _ b p e ⟨2 * k.val, by omega⟩ ?_ ?_ ?_ ?_)).trans (normed_k x0 x1 x7 b p e _)
  all_goals have a0 : (((b.val * 16384 + p.val) * 2 + e.val) * 64 + k.val) / 2097152 = b.val := by omega
  all_goals have a1 : (((b.val * 16384 + p.val) * 2 + e.val) * 64 + k.val) / 128 % 16384 = p.val := by omega
  all_goals have a2 : (((b.val * 16384 + p.val) * 2 + e.val) * 64 + k.val) / 64 % 2 = e.val := by omega
  all_goals have a3 : (((b.val * 16384 + p.val) * 2 + e.val) * 64 + k.val) / 1 % 64 = k.val := by omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 0) / 4194304 = b.val; rw [a0, a1, a2, a3]; omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 0) / 256 % 16384 = p.val; rw [a0, a1, a2, a3]; omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 0) / 128 % 2 = e.val; rw [a0, a1, a2, a3]; omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 0) % 128 = 2 * k.val; rw [a0, a1, a2, a3]; omega

theorem odd_k (b : Fin 2) (p : Fin 16384) (e : Fin 2) (k : Fin 64) :
    val_main_v144 (F := Ideal) x0 x1 x7 (ix4 b p e k) = norm_k x0 x1 x7 b p e ⟨2 * k.val + 1, by omega⟩ := by
  rw [val_main_v144_apply, val_main_v143_apply, val_main_v140_apply]
  refine (congrArg (val_main_v139 (F := Ideal) x0 x1 x7) (ix4_of _ b p e ⟨2 * k.val + 1, by omega⟩ ?_ ?_ ?_ ?_)).trans (normed_k x0 x1 x7 b p e _)
  all_goals have a0 : (((b.val * 16384 + p.val) * 2 + e.val) * 64 + k.val) / 2097152 = b.val := by omega
  all_goals have a1 : (((b.val * 16384 + p.val) * 2 + e.val) * 64 + k.val) / 128 % 16384 = p.val := by omega
  all_goals have a2 : (((b.val * 16384 + p.val) * 2 + e.val) * 64 + k.val) / 64 % 2 = e.val := by omega
  all_goals have a3 : (((b.val * 16384 + p.val) * 2 + e.val) * 64 + k.val) / 1 % 64 = k.val := by omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 1) / 4194304 = b.val; rw [a0, a1, a2, a3]; omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 1) / 256 % 16384 = p.val; rw [a0, a1, a2, a3]; omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 1) / 128 % 2 = e.val; rw [a0, a1, a2, a3]; omega
  · show (((((((b.val * 16384 + p.val) * 2 + e.val) * 64 + k.val) / 2097152 * 16384 + (((b.val * 16384 + p.val) * 2 + e.val) * 64 + k.val) / 128 % 16384) * 2 + (((b.val * 16384 + p.val) * 2 + e.val) * 64 + k.val) / 64 % 2) * 64 + (((b.val * 16384 + p.val) * 2 + e.val) * 64 + k.val) / 1 % 64) * 2 + 1) % 128 = 2 * k.val + 1; rw [a0, a1, a2, a3]; omega

theorem low_k (b : Fin 2) (p : Fin 16384) (e : Fin 2) (k : Fin 64) :
    val_main_v153 (F := Ideal) x0 x1 x7 (ix4 b p e k)
      = norm_k x0 x1 x7 b p e ⟨2 * k.val, by omega⟩ * val_main_v87 (F := Ideal) (ix2 p k)
        - norm_k x0 x1 x7 b p e ⟨2 * k.val + 1, by omega⟩ * val_main_v88 (F := Ideal) (ix2 p k) := by
  rw [val_main_v153_apply, val_main_v149_apply, val_main_v152_apply, even_k x0 x1 x7 b p e k, odd_k x0 x1 x7 b p e k,
    val_main_v148_apply, val_main_v147_apply, val_main_v145_apply, val_main_v151_apply, val_main_v150_apply, val_main_v146_apply]
  exact congrArg₂ (· - ·) (congrArg (_ * ·) (congrArg (val_main_v87 (F := Ideal)) (ix2_of _ p k rfl rfl)))
    (congrArg (_ * ·) (congrArg (val_main_v88 (F := Ideal)) (ix2_of _ p k rfl rfl)))

theorem high_k (b : Fin 2) (p : Fin 16384) (e : Fin 2) (k : Fin 64) :
    val_main_v160 (F := Ideal) x0 x1 x7 (ix4 b p e k)
      = norm_k x0 x1 x7 b p e ⟨2 * k.val, by omega⟩ * val_main_v88 (F := Ideal) (ix2 p k)
        + norm_k x0 x1 x7 b p e ⟨2 * k.val + 1, by omega⟩ * val_main_v87 (F := Ideal) (ix2 p k) := by
  rw [val_main_v160_apply, val_main_v156_apply, val_main_v159_apply, even_k x0 x1 x7 b p e k, odd_k x0 x1 x7 b p e k,
    val_main_v155_apply, val_main_v154_apply, val_main_v146_apply, val_main_v158_apply, val_main_v157_apply, val_main_v145_apply]
  exact congrArg₂ (· + ·) (congrArg (_ * ·) (congrArg (val_main_v88 (F := Ideal)) (ix2_of _ p k rfl rfl)))
    (congrArg (_ * ·) (congrArg (val_main_v87 (F := Ideal)) (ix2_of _ p k rfl rfl)))

theorem rotated_k (b : Fin 2) (p : Fin 16384) (e : Fin 2) (c : Fin 128) :
    val_main_v161 (F := Ideal) x0 x1 x7 (ix4 b p e c)
      = turn (fun k => norm_k x0 x1 x7 b p e (pairs k)) (ta (val_main_v87 (F := Ideal)) p) (tb (val_main_v88 (F := Ideal)) p) c := by
  unfold val_main_v161
  by_cases h : c.val < 64
  · rw [turn_first _ _ _ p c h, ← low_k x0 x1 x7 b p e ⟨c.val, h⟩]
    exact halves 0 (by exact Nat.succ_pos _) _ rfl 0 rfl b p e ⟨c.val, h⟩ c (Nat.zero_add _)
  · rw [turn_second _ _ _ p c h, ← high_k x0 x1 x7 b p e ⟨c.val - 64, by omega⟩]
    exact halves 1 (by exact Nat.lt_succ_self _) _ rfl 64 rfl b p e ⟨c.val - 64, by omega⟩ c (by show 64 + (c.val - 64) = c.val; omega)

theorem heads_k (b : Fin 2) (p : Fin 16384) (c : Fin 256) :
    val_main_v162 (F := Ideal) x0 x1 x7 (ix3 b p c) = head x0 x1 x7 (val_main_v87 (F := Ideal)) (val_main_v88 (F := Ideal)) b p
      (6208 + 128 * (c.val / 128)) (by omega) ⟨c.val % 128, by omega⟩ := by
  rw [val_main_v162_apply]
  refine (congrArg (val_main_v161 (F := Ideal) x0 x1 x7) (ix4_of _ b p ⟨c.val / 128, by omega⟩ ⟨c.val % 128, by omega⟩ ?_ ?_ ?_ ?_)).trans
    (rotated_k x0 x1 x7 b p _ _)
  · show ((b.val * 16384 + p.val) * 256 + c.val) / 4194304 = b.val; omega
  · show ((b.val * 16384 + p.val) * 256 + c.val) / 256 % 16384 = p.val; omega
  · show ((b.val * 16384 + p.val) * 256 + c.val) / 128 % 2 = c.val / 128; omega
  · show ((b.val * 16384 + p.val) * 256 + c.val) % 128 = c.val % 128; omega

theorem q_value : val_main_v177 (F := Ideal) x0 x1 x6 = arr3 (qAt x0 x1 x6 (val_main_v87 (F := Ideal)) (val_main_v88 (F := Ideal))) :=
  arr3_of _ _ fun b c p => by
    rw [val_main_v177_apply, val_main_v176_apply, val_main_v164_apply, val_main_v163_apply]
    exact congrArg (· * _) ((congrArg (val_main_v125 (F := Ideal) x0 x1 x6) (ix3_of _ b p c rfl rfl rfl)).trans (heads_q x0 x1 x6 b p c))

theorem k_value : val_main_v178 (F := Ideal) x0 x1 x7 = arr3 (kAt x0 x1 x7 (val_main_v87 (F := Ideal)) (val_main_v88 (F := Ideal))) :=
  arr3_of _ _ fun b p c => by rw [val_main_v178_apply]; exact heads_k x0 x1 x7 b p c

end Cert.ProjReference

end
-- ==== Proof.lean ====
/- Six kernels of the layer, each beside its reference: the programs run and leave their arguments alone, and over the
   extended reals kernel and reference compute the same arrays — both branches of the attention when the queries and the keys
   are finite, the first feed-forward, the input projection and the last call (branches joined, second feed-forward, final
   normalization; once for sequences of 16384 positions and once for 8192) for any arguments. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceFfnIdeal.Run
public import proofs.«01_k».proof.Proof.Gen.ReferenceFfnIdeal.Read
public import proofs.«01_k».proof.Proof.Gen.ReferenceMergeIdeal.Run
public import proofs.«01_k».proof.Proof.Gen.ReferenceMergeIdeal.Read
public import proofs.«01_k».proof.Proof.Gen.KernelMergeSample.Frame
public import proofs.«01_k».proof.Proof.Gen.KernelMergeSampleIdeal.Frame
public import proofs.«01_k».proof.Proof.Gen.KernelMergeSampleIdeal.Value
public import proofs.«01_k».proof.Proof.Gen.ReferenceMergeSampleIdeal.Run
public import proofs.«01_k».proof.Proof.Gen.ReferenceMergeSampleIdeal.Read
public import proofs.«01_k».proof.Proof.Gen.KernelOnline.Frame
public import proofs.«01_k».proof.Proof.Gen.KernelOnlineIdeal.Frame
public import proofs.«01_k».proof.Proof.Gen.KernelOnlineIdeal.Value
public import proofs.«01_k».proof.Proof.Finite
public import proofs.«01_k».proof.Proof.Equal
public import proofs.«01_k».proof.Proof.OnlineWhole
public import proofs.«01_k».proof.Proof.FfnKernel
public import proofs.«01_k».proof.Proof.FfnReference
public import proofs.«01_k».proof.Proof.MergeKernel
public import proofs.«01_k».proof.Proof.MergeReference
public import proofs.«01_k».proof.Proof.MergeSampleKernel
public import proofs.«01_k».proof.Proof.MergeSampleReference
public import proofs.«01_k».proof.Proof.ProjFrameWords
public import proofs.«01_k».proof.Proof.ProjKernel
public import proofs.«01_k».proof.Proof.ProjReferenceHeads
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.Tactic

/-- The reference runs, leaves its arguments alone and uses no semaphore. -/
theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- From memories that agree on finite arguments the kernel and the reference end with one array. -/
theorem equal : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.Attn.attn (Cert.Attn.qA m c) (Cert.Attn.kA m c) (Cert.Attn.vA m c),
    (θ_run _ _ _).mono (fun r h c => ⟨(h c).1.trans (Cert.Attn.kernel_out m c), (h c).2⟩)
      (Cert.KernelIdeal.Value.run_blocks m g), ?_⟩
  refine (θ_run _ _ _).mono (fun r h c => ⟨(h c).1.trans ?_, (h c).2⟩) (Cert.ReferenceIdeal.Value.run m' g')
  obtain ⟨hq, hk⟩ := Cert.Finite.real_entries _ _ _ (hpre c)
  refine (Cert.ReferenceIdeal.Read.val_main_v24_eq _ _ _).trans ?_
  rw [(hargs c).1, (hargs c).2.1, (hargs c).2.2]
  exact Cert.Ref.attn_eq _ _ _ hq hk

/-- A sum of products of reals is a real, so every score of finite queries and keys is. -/
theorem score_real (Q : Vec Ideal Cert.KernelIdeal.S2x1024x16384 .bf16) (K : Vec Ideal Cert.KernelIdeal.S2x16384x256 .bf16)
    (hq : ∃ f : Cert.KernelIdeal.S2x1024x16384.Idx → ℝ, ∀ i, Q i = ((f i : ℝ) : EReal))
    (hk : ∃ f : Cert.KernelIdeal.S2x16384x256.Idx → ℝ, ∀ i, K i = ((f i : ℝ) : EReal)) :
    ∃ σ : Fin 2 → Fin 8 → Fin 16384 → Fin 16384 → ℝ, ∀ b hd q s, Cert.Attn.score Q K b hd q s = ((σ b hd q s : ℝ) : EReal) := by
  obtain ⟨f0, h0⟩ := hq
  obtain ⟨f1, h1⟩ := hk
  have h : ∀ b hd q s, ∃ r : ℝ, Cert.Attn.score Q K b hd q s = ((r : ℝ) : EReal) := fun b hd q s => by
    unfold Cert.Attn.score
    simp only [h0, h1, ← EReal.coe_mul, Softmax.coe_sum]
    exact ⟨_, rfl⟩
  exact ⟨fun b hd q s => (h b hd q s).choose, fun b hd q s => (h b hd q s).choose_spec⟩

/-- The branch with running maxima ends with that same array. -/
theorem equal_online : algebraic_KernelOnlineIdeal_ReferenceIdeal_pre_finite (hKernelOnlineIdeal := Cert.KernelOnlineIdeal.Gen.facts)
    (hReferenceIdeal := Cert.ReferenceIdeal.Gen.facts) (hPre_finite := Cert.Pre_finite.Gen.facts) := by
  intro m g m' g' hpre hargs
  have out : ∀ c, (Cert.KernelOnlineIdeal.Gen.dats m 0 c).arrAt 3 Cert.KernelOnlineIdeal.cfg0.N
      = Cert.Attn.attn (Cert.Online.qA m c) (Cert.Online.kA m c) (Cert.Online.vA m c) := fun c => by
    obtain ⟨hq, hk⟩ := Cert.Finite.real_entries _ _ _ (hpre c)
    obtain ⟨σ, hσ⟩ := score_real (Cert.Online.qA m c) (Cert.Online.kA m c) hq hk
    exact Cert.Online.kernel_out m c σ hσ
  refine ⟨fun c => Cert.Attn.attn (Cert.Online.qA m c) (Cert.Online.kA m c) (Cert.Online.vA m c),
    (θ_run _ _ _).mono (fun r h c => ⟨(h c).1.trans (out c), (h c).2⟩) (Cert.KernelOnlineIdeal.Value.run_blocks m g), ?_⟩
  refine (θ_run _ _ _).mono (fun r h c => ⟨(h c).1.trans ?_, (h c).2⟩) (Cert.ReferenceIdeal.Value.run m' g')
  obtain ⟨hq, hk⟩ := Cert.Finite.real_entries _ _ _ (hpre c)
  refine (Cert.ReferenceIdeal.Read.val_main_v24_eq _ _ _).trans ?_
  rw [(hargs c).1, (hargs c).2.1, (hargs c).2.2]
  exact Cert.Ref.attn_eq _ _ _ hq hk

theorem ffn_frame : quiescent_ReferenceFfnIdeal (hReferenceFfnIdeal := Cert.ReferenceFfnIdeal.Gen.facts) := fun m g _ =>
  (θ_run _ _ _).mono (fun r h => ⟨fun c => (h c).2.2, sem_eq_zero_of_no_sems (by decide) r.2⟩)
    (Cert.ReferenceFfnIdeal.Value.run m g)

theorem merge_frame : quiescent_ReferenceMergeIdeal (hReferenceMergeIdeal := Cert.ReferenceMergeIdeal.Gen.facts) := fun m g _ =>
  (θ_run _ _ _).mono (fun r h => ⟨fun c => (h c).2, sem_eq_zero_of_no_sems (by decide) r.2⟩)
    (Cert.ReferenceMergeIdeal.Value.run m g)

theorem merge_sample_frame : quiescent_ReferenceMergeSampleIdeal (hReferenceMergeSampleIdeal := Cert.ReferenceMergeSampleIdeal.Gen.facts) := fun m g _ =>
  (θ_run _ _ _).mono (fun r h => ⟨fun c => (h c).2, sem_eq_zero_of_no_sems (by decide) r.2⟩)
    (Cert.ReferenceMergeSampleIdeal.Value.run m g)

theorem proj_frame : quiescent_ReferenceProjIdeal (hReferenceProjIdeal := Cert.ReferenceProjIdeal.Gen.facts) := fun m g _ =>
  (θ_run _ _ _).mono (fun r h => ⟨fun c => (h c).2.2.2.2.2.2.2.2, sem_eq_zero_of_no_sems (by decide) r.2⟩)
    (Cert.ReferenceProjIdeal.Value.run m g)

/-- From memories that agree on the arguments the first feed-forward kernel and its reference end with the same two arrays. -/
theorem ffn_equal : algebraic_KernelFfnIdeal_ReferenceFfnIdeal (hKernelFfnIdeal := Cert.KernelFfnIdeal.Gen.facts)
    (hReferenceFfnIdeal := Cert.ReferenceFfnIdeal.Gen.facts) := by
  intro m g m' g' _ hargs
  refine ⟨fun c => Cert.Rows.stepAll (Cert.FfnK.xA m c) (Cert.FfnK.gA m c) (Cert.FfnK.wA m c) (Cert.FfnK.dA m c),
    fun c => Cert.Rows.normAll (Cert.Rows.stepAll (Cert.FfnK.xA m c) (Cert.FfnK.gA m c) (Cert.FfnK.wA m c) (Cert.FfnK.dA m c))
      (Cert.FfnK.eA m c),
    (θ_run _ _ _).mono (fun r h c => ⟨(h c).1.trans (Cert.FfnK.kernel_h m c), (h c).2.1.trans (Cert.FfnK.kernel_u m c), (h c).2.2⟩)
      (Cert.KernelFfnIdeal.Value.run_blocks m g), ?_⟩
  refine (θ_run _ _ _).mono (fun r h c => ⟨(h c).1.trans ?_, (h c).2.1.trans ?_, (h c).2.2⟩)
    (Cert.ReferenceFfnIdeal.Value.run m' g')
  · obtain ⟨e0, e1, e2, e3, e4⟩ := hargs c
    refine (Cert.ReferenceFfnIdeal.Read.val_main_v21_eq _ _ _ _).trans ?_
    rw [e0, e1, e2, e3]
    exact Cert.FfnRef.result_h _ _ _ _
  · obtain ⟨e0, e1, e2, e3, e4⟩ := hargs c
    refine (Cert.ReferenceFfnIdeal.Read.val_main_v35_eq m' c).trans ?_
    rw [e0, e1, e2, e3, e4]
    exact Cert.FfnRef.result_u _ _ _ _ _

/-- And so do the last kernel and its reference, with one array. -/
theorem merge_equal : algebraic_KernelMergeIdeal_ReferenceMergeIdeal (hKernelMergeIdeal := Cert.KernelMergeIdeal.Gen.facts)
    (hReferenceMergeIdeal := Cert.ReferenceMergeIdeal.Gen.facts) := by
  intro m g m' g' _ hargs
  refine ⟨fun c => Cert.Rows.normAll (Cert.MergeK.steppedAll m c) (Cert.MergeK.eA m c),
    (θ_run _ _ _).mono (fun r h c => ⟨(h c).1.trans (Cert.MergeK.kernel_out m c), (h c).2⟩)
      (Cert.KernelMergeIdeal.Value.run_blocks m g), ?_⟩
  refine (θ_run _ _ _).mono (fun r h c => ⟨(h c).1.trans ?_, (h c).2⟩) (Cert.ReferenceMergeIdeal.Value.run m' g')
  obtain ⟨e0, e1, e2, e3, e4, e5, e6, e7, e8, e9, e10⟩ := hargs c
  refine (Cert.ReferenceMergeIdeal.Read.val_main_v45_eq m' c).trans ?_
  rw [e0, e1, e2, e3, e4, e5, e6, e7, e8, e9, e10]
  exact Cert.MergeRef.result _ _ _ _ _ _ _ _ _ _ _

/-- And so do these two for the shorter sequences. -/
theorem merge_sample_equal : algebraic_KernelMergeSampleIdeal_ReferenceMergeSampleIdeal (hKernelMergeSampleIdeal := Cert.KernelMergeSampleIdeal.Gen.facts)
    (hReferenceMergeSampleIdeal := Cert.ReferenceMergeSampleIdeal.Gen.facts) := by
  intro m g m' g' _ hargs
  refine ⟨fun c => Cert.Rows.normAll (Cert.MergeSampleK.steppedAll m c) (Cert.MergeSampleK.eA m c),
    (θ_run _ _ _).mono (fun r h c => ⟨(h c).1.trans (Cert.MergeSampleK.kernel_out m c), (h c).2⟩)
      (Cert.KernelMergeSampleIdeal.Value.run_blocks m g), ?_⟩
  refine (θ_run _ _ _).mono (fun r h c => ⟨(h c).1.trans ?_, (h c).2⟩) (Cert.ReferenceMergeSampleIdeal.Value.run m' g')
  obtain ⟨e0, e1, e2, e3, e4, e5, e6, e7, e8, e9, e10⟩ := hargs c
  refine (Cert.ReferenceMergeSampleIdeal.Read.val_main_v45_eq m' c).trans ?_
  rw [e0, e1, e2, e3, e4, e5, e6, e7, e8, e9, e10]
  exact Cert.MergeSampleRef.result _ _ _ _ _ _ _ _ _ _ _

/-- The cosines and the sines of the rotation are one pair of tables in both programs. -/
theorem proj_cos (m : (ℓ : Loc Cert.KernelProjIdeal.nD Cert.KernelProjIdeal.τ Cert.KernelProjIdeal.sig) → Buf (Elt Ideal) ℓ)
    (c : Dev Cert.KernelProjIdeal.nD) : Cert.ProjK.csA m c = Cert.ReferenceProjIdeal.Read.val_main_v87 (F := Ideal) := by
  sl_kernel_rfl

theorem proj_sin (m : (ℓ : Loc Cert.KernelProjIdeal.nD Cert.KernelProjIdeal.τ Cert.KernelProjIdeal.sig) → Buf (Elt Ideal) ℓ)
    (c : Dev Cert.KernelProjIdeal.nD) : Cert.ProjK.snA m c = Cert.ReferenceProjIdeal.Read.val_main_v88 (F := Ideal) := by
  sl_kernel_rfl

open Cert.ProjSpec in
set_option maxHeartbeats 2000000 in
/-- The input projection's kernel and its reference end with the same eight arrays. -/
theorem proj_equal : algebraic_KernelProjIdeal_ReferenceProjIdeal (hKernelProjIdeal := Cert.KernelProjIdeal.Gen.facts)
    (hReferenceProjIdeal := Cert.ReferenceProjIdeal.Gen.facts) := by
  intro m g m' g' _ hargs
  refine ⟨fun c => arr3 (zAt (Cert.ProjK.uA m c) (Cert.ProjK.wA m c)),
    fun c => arr3 (cAt (Cert.ProjK.uA m c) (Cert.ProjK.wA m c) (Cert.ProjK.cwA m c) (Cert.ProjK.cbA m c)),
    fun c => arr3 (qAt (Cert.ProjK.uA m c) (Cert.ProjK.wA m c) (Cert.ProjK.qnA m c) (Cert.ProjK.csA m c) (Cert.ProjK.snA m c)),
    fun c => arr3 (kAt (Cert.ProjK.uA m c) (Cert.ProjK.wA m c) (Cert.ProjK.knA m c) (Cert.ProjK.csA m c) (Cert.ProjK.snA m c)),
    fun c => arr3 (vAt (Cert.ProjK.uA m c) (Cert.ProjK.wA m c)),
    fun c => arr3 (gAt (Cert.ProjK.uA m c) (Cert.ProjK.wA m c) (Cert.ProjK.bgA m c)),
    fun c => arr3 (dAt (Cert.ProjK.uA m c) (Cert.ProjK.wA m c) (Cert.ProjK.bfA m c) (Cert.ProjK.bbA m c)),
    fun c => arr3 (eAt (Cert.ProjK.uA m c) (Cert.ProjK.wA m c) (Cert.ProjK.bfA m c) (Cert.ProjK.bbA m c)),
    (θ_run _ _ _).mono (fun r h c => ⟨(h c).1.trans (Cert.ProjK.out16 m c), (h c).2.1.trans (Cert.ProjK.out17 m c), (h c).2.2.1.trans (Cert.ProjK.out18 m c), (h c).2.2.2.1.trans (Cert.ProjK.out19 m c), (h c).2.2.2.2.1.trans (Cert.ProjK.out20 m c), (h c).2.2.2.2.2.1.trans (Cert.ProjK.out21 m c), (h c).2.2.2.2.2.2.1.trans (Cert.ProjK.out22 m c), (h c).2.2.2.2.2.2.2.1.trans (Cert.ProjK.out23 m c), (h c).2.2.2.2.2.2.2.2⟩)
      (Cert.KernelProjIdeal.Value.run_blocks m g), ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
    (Cert.ReferenceProjIdeal.Value.run m' g')
  · obtain ⟨e0, e1, e2, e3, e4, e5, e6, e7, e8⟩ := hargs c
    refine (Cert.ReferenceProjIdeal.Read.val_main_v2_eq (StableHlo.launchContents m' c)).trans ?_
    rw [StableHlo.launchContents_devRef, e0, StableHlo.launchContents_devRef, e1]
    exact Cert.ProjReference.z_value (Cert.ProjK.uA m c) (Cert.ProjK.wA m c)
  · obtain ⟨e0, e1, e2, e3, e4, e5, e6, e7, e8⟩ := hargs c
    refine (Cert.ReferenceProjIdeal.Read.val_main_v50_eq (StableHlo.launchContents m' c)).trans ?_
    rw [StableHlo.launchContents_devRef, e0, StableHlo.launchContents_devRef, e1, StableHlo.launchContents_devRef, e2, StableHlo.launchContents_devRef, e3]
    exact Cert.ProjReference.c_value (Cert.ProjK.uA m c) (Cert.ProjK.wA m c) (Cert.ProjK.cwA m c) (Cert.ProjK.cbA m c)
  · obtain ⟨e0, e1, e2, e3, e4, e5, e6, e7, e8⟩ := hargs c
    refine (Cert.ReferenceProjIdeal.Read.val_main_v177_eq (StableHlo.launchContents m' c)).trans ?_
    rw [StableHlo.launchContents_devRef, e0, StableHlo.launchContents_devRef, e1, StableHlo.launchContents_devRef, e6]
    refine (Cert.ProjReference.q_value (Cert.ProjK.uA m c) (Cert.ProjK.wA m c) (Cert.ProjK.qnA m c)).trans ?_
    rw [← proj_cos m c, ← proj_sin m c]
  · obtain ⟨e0, e1, e2, e3, e4, e5, e6, e7, e8⟩ := hargs c
    refine (Cert.ReferenceProjIdeal.Read.val_main_v178_eq (StableHlo.launchContents m' c)).trans ?_
    rw [StableHlo.launchContents_devRef, e0, StableHlo.launchContents_devRef, e1, StableHlo.launchContents_devRef, e7]
    refine (Cert.ProjReference.k_value (Cert.ProjK.uA m c) (Cert.ProjK.wA m c) (Cert.ProjK.knA m c)).trans ?_
    rw [← proj_cos m c, ← proj_sin m c]
  · obtain ⟨e0, e1, e2, e3, e4, e5, e6, e7, e8⟩ := hargs c
    refine (Cert.ReferenceProjIdeal.Read.val_main_v180_eq (StableHlo.launchContents m' c)).trans ?_
    rw [StableHlo.launchContents_devRef, e0, StableHlo.launchContents_devRef, e1]
    exact Cert.ProjReference.v_value (Cert.ProjK.uA m c) (Cert.ProjK.wA m c)
  · obtain ⟨e0, e1, e2, e3, e4, e5, e6, e7, e8⟩ := hargs c
    refine (Cert.ReferenceProjIdeal.Read.val_main_v173_eq (StableHlo.launchContents m' c)).trans ?_
    rw [StableHlo.launchContents_devRef, e0, StableHlo.launchContents_devRef, e1, StableHlo.launchContents_devRef, e8]
    exact Cert.ProjReference.g_value (Cert.ProjK.uA m c) (Cert.ProjK.wA m c) (Cert.ProjK.bgA m c)
  · obtain ⟨e0, e1, e2, e3, e4, e5, e6, e7, e8⟩ := hargs c
    refine (Cert.ReferenceProjIdeal.Read.val_main_v181_eq (StableHlo.launchContents m' c)).trans ?_
    rw [StableHlo.launchContents_devRef, e0, StableHlo.launchContents_devRef, e1, StableHlo.launchContents_devRef, e4, StableHlo.launchContents_devRef, e5]
    exact Cert.ProjReference.d_value (Cert.ProjK.uA m c) (Cert.ProjK.wA m c) (Cert.ProjK.bfA m c) (Cert.ProjK.bbA m c)
  · obtain ⟨e0, e1, e2, e3, e4, e5, e6, e7, e8⟩ := hargs c
    refine (Cert.ReferenceProjIdeal.Read.val_main_v183_eq (StableHlo.launchContents m' c)).trans ?_
    rw [StableHlo.launchContents_devRef, e0, StableHlo.launchContents_devRef, e1, StableHlo.launchContents_devRef, e4, StableHlo.launchContents_devRef, e5]
    exact Cert.ProjReference.e_value (Cert.ProjK.uA m c) (Cert.ProjK.wA m c) (Cert.ProjK.bfA m c) (Cert.ProjK.bbA m c)

theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelMerge.Gen.facts, Cert.KernelMergeIdeal.Gen.facts, Cert.ReferenceMergeIdeal.Gen.facts,
  Cert.KernelProj.Gen.facts, Cert.KernelProjIdeal.Gen.facts, Cert.ReferenceProjIdeal.Gen.facts,
  Cert.KernelOnline.Gen.facts, Cert.KernelOnlineIdeal.Gen.facts,
  Cert.KernelMergeSample.Gen.facts, Cert.KernelMergeSampleIdeal.Gen.facts, Cert.ReferenceMergeSampleIdeal.Gen.facts,
  Cert.Pre_finite.Gen.facts, fun m g _ => Cert.Kernel.Gen.frame m g, fun m g _ => Cert.KernelIdeal.Gen.frame m g,
  fun m g _ => Cert.KernelIdeal.Gen.frame m g, reference_frame,
  fun m g _ => reference_frame m g trivial,
  fun m g _ => Cert.KernelFfn.Gen.frame m g, fun m g _ => Cert.KernelFfnIdeal.Gen.frame m g, ffn_frame,
  fun m g _ => Cert.KernelMerge.Gen.frame m g, fun m g _ => Cert.KernelMergeIdeal.Gen.frame m g, merge_frame,
  fun m g _ => Cert.Proof.ProjWords.frame m g, fun m g _ => Cert.KernelProjIdeal.Gen.frame m g, proj_frame,
  fun m g _ => Cert.KernelOnline.Gen.frame m g, fun m g _ => Cert.KernelOnlineIdeal.Gen.frame m g,
  fun m g _ => Cert.KernelOnlineIdeal.Gen.frame m g,
  fun m g _ => Cert.KernelMergeSample.Gen.frame m g, fun m g _ => Cert.KernelMergeSampleIdeal.Gen.frame m g, merge_sample_frame,
  trivial, equal, trivial, ffn_equal, trivial, merge_equal, trivial, proj_equal, trivial, equal_online, trivial,
  merge_sample_equal⟩

end Cert.Proof

end
